-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v25_0)) (v1 : (c : Dev Cert.Kernel2Ideal.nD) → Buf (Elt Ideal) ((c.tc : Thread Cert.Kernel2Ideal.nD Cert.Kernel2Ideal.τ).loc Cert.Kernel2Ideal.main_v25_1)) (v2 : (c : Dev Cert.Kernel2Ideal.nD) → Buf (Elt Ideal) ((c.tc : Thread Cert.Kernel2Ideal.nD Cert.Kernel2Ideal.τ).loc Cert.Kernel2Ideal.main_v25_2)) (v3 : (c : Dev Cert.Kernel2Ideal.nD) → Buf (Elt Ideal) ((c.tc : Thread Cert.Kernel2Ideal.nD Cert.Kernel2Ideal.τ).loc Cert.Kernel2Ideal.main_v25_3)) (v4 : (c : Dev Cert.Kernel2Ideal.nD) → Buf (Elt Ideal) ((c.tc : Thread Cert.Kernel2Ideal.nD Cert.Kernel2Ideal.τ).loc Cert.Kernel2Ideal.main_v25_4)) (v5 : (c : Dev Cert.Kernel2Ideal.nD) → Buf (Elt Ideal) ((c.tc : Thread Cert.Kernel2Ideal.nD Cert.Kernel2Ideal.τ).loc Cert.Kernel2Ideal.main_v25_5)) (v6 : (c : Dev Cert.Kernel2Ideal.nD) → Buf (Elt Ideal) ((c.tc : Thread Cert.Kernel2Ideal.nD Cert.Kernel2Ideal.τ).loc Cert.Kernel2Ideal.main_v25_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v25_0) = v0 c
          ∧ r.2.mem ((c.tc : Thread Cert.Kernel2Ideal.nD Cert.Kernel2Ideal.τ).loc Cert.Kernel2Ideal.main_v25_1) = v1 c
          ∧ r.2.mem ((c.tc : Thread Cert.Kernel2Ideal.nD Cert.Kernel2Ideal.τ).loc Cert.Kernel2Ideal.main_v25_2) = v2 c
          ∧ r.2.mem ((c.tc : Thread Cert.Kernel2Ideal.nD Cert.Kernel2Ideal.τ).loc Cert.Kernel2Ideal.main_v25_3) = v3 c
          ∧ r.2.mem ((c.tc : Thread Cert.Kernel2Ideal.nD Cert.Kernel2Ideal.τ).loc Cert.Kernel2Ideal.main_v25_4) = v4 c
          ∧ r.2.mem ((c.tc : Thread Cert.Kernel2Ideal.nD Cert.Kernel2Ideal.τ).loc Cert.Kernel2Ideal.main_v25_5) = v5 c
          ∧ r.2.mem ((c.tc : Thread Cert.Kernel2Ideal.nD Cert.Kernel2Ideal.τ).loc Cert.Kernel2Ideal.main_v25_6) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_v19) = v1 c
          ∧ r.2.mem ((c.tc : Thread Cert.Reference2Ideal.nD Cert.Reference2Ideal.τ).loc Cert.Reference2Ideal.main_v7) = v2 c
          ∧ r.2.mem ((c.tc : Thread Cert.Reference2Ideal.nD Cert.Reference2Ideal.τ).loc Cert.Reference2Ideal.main_v8) = v3 c
          ∧ r.2.mem ((c.tc : Thread Cert.Reference2Ideal.nD Cert.Reference2Ideal.τ).loc Cert.Reference2Ideal.main_v20) = v4 c
          ∧ r.2.mem ((c.tc : Thread Cert.Reference2Ideal.nD Cert.Reference2Ideal.τ).loc Cert.Reference2Ideal.main_v21) = v5 c
          ∧ r.2.mem ((c.tc : Thread Cert.Reference2Ideal.nD Cert.Reference2Ideal.τ).loc Cert.Reference2Ideal.main_v22) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v1) = v0 c
          ∧ r.2.mem ((c.tc : Thread Cert.Reference3Ideal.nD Cert.Reference3Ideal.τ).loc Cert.Reference3Ideal.main_v2) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v30) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v24_0)) (v1 : (c : Dev Cert.Kernel5Ideal.nD) → Buf (Elt Ideal) ((c.tc : Thread Cert.Kernel5Ideal.nD Cert.Kernel5Ideal.τ).loc Cert.Kernel5Ideal.main_v24_1)) (v2 : (c : Dev Cert.Kernel5Ideal.nD) → Buf (Elt Ideal) ((c.tc : Thread Cert.Kernel5Ideal.nD Cert.Kernel5Ideal.τ).loc Cert.Kernel5Ideal.main_v24_2)) (v3 : (c : Dev Cert.Kernel5Ideal.nD) → Buf (Elt Ideal) ((c.tc : Thread Cert.Kernel5Ideal.nD Cert.Kernel5Ideal.τ).loc Cert.Kernel5Ideal.main_v24_3)) (v4 : (c : Dev Cert.Kernel5Ideal.nD) → Buf (Elt Ideal) ((c.tc : Thread Cert.Kernel5Ideal.nD Cert.Kernel5Ideal.τ).loc Cert.Kernel5Ideal.main_v24_4)) (v5 : (c : Dev Cert.Kernel5Ideal.nD) → Buf (Elt Ideal) ((c.tc : Thread Cert.Kernel5Ideal.nD Cert.Kernel5Ideal.τ).loc Cert.Kernel5Ideal.main_v24_5)) (v6 : (c : Dev Cert.Kernel5Ideal.nD) → Buf (Elt Ideal) ((c.tc : Thread Cert.Kernel5Ideal.nD Cert.Kernel5Ideal.τ).loc Cert.Kernel5Ideal.main_v24_6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v24_0) = v0 c
          ∧ r.2.mem ((c.tc : Thread Cert.Kernel5Ideal.nD Cert.Kernel5Ideal.τ).loc Cert.Kernel5Ideal.main_v24_1) = v1 c
          ∧ r.2.mem ((c.tc : Thread Cert.Kernel5Ideal.nD Cert.Kernel5Ideal.τ).loc Cert.Kernel5Ideal.main_v24_2) = v2 c
          ∧ r.2.mem ((c.tc : Thread Cert.Kernel5Ideal.nD Cert.Kernel5Ideal.τ).loc Cert.Kernel5Ideal.main_v24_3) = v3 c
          ∧ r.2.mem ((c.tc : Thread Cert.Kernel5Ideal.nD Cert.Kernel5Ideal.τ).loc Cert.Kernel5Ideal.main_v24_4) = v4 c
          ∧ r.2.mem ((c.tc : Thread Cert.Kernel5Ideal.nD Cert.Kernel5Ideal.τ).loc Cert.Kernel5Ideal.main_v24_5) = v5 c
          ∧ r.2.mem ((c.tc : Thread Cert.Kernel5Ideal.nD Cert.Kernel5Ideal.τ).loc Cert.Kernel5Ideal.main_v24_6) = v6 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v18) = v0 c
          ∧ r.2.mem ((c.tc : Thread Cert.Reference5Ideal.nD Cert.Reference5Ideal.τ).loc Cert.Reference5Ideal.main_v19) = v1 c
          ∧ r.2.mem ((c.tc : Thread Cert.Reference5Ideal.nD Cert.Reference5Ideal.τ).loc Cert.Reference5Ideal.main_v7) = v2 c
          ∧ r.2.mem ((c.tc : Thread Cert.Reference5Ideal.nD Cert.Reference5Ideal.τ).loc Cert.Reference5Ideal.main_v8) = v3 c
          ∧ r.2.mem ((c.tc : Thread Cert.Reference5Ideal.nD Cert.Reference5Ideal.τ).loc Cert.Reference5Ideal.main_v20) = v4 c
          ∧ r.2.mem ((c.tc : Thread Cert.Reference5Ideal.nD Cert.Reference5Ideal.τ).loc Cert.Reference5Ideal.main_v7) = v5 c
          ∧ r.2.mem ((c.tc : Thread Cert.Reference5Ideal.nD Cert.Reference5Ideal.τ).loc Cert.Reference5Ideal.main_v8) = v6 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_v2) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  IdealRules.named_const.Statement Cert.Kernel7Ideal.κ "mask" .f32 0xF149F2CA#32 ⊥

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v10)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v10) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v64) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v28) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)) →
    ∃ (v0 : (c : Dev Cert.Kernel9Ideal.nD) → Buf (Elt Ideal) ((c.tc : Thread Cert.Kernel9Ideal.nD Cert.Kernel9Ideal.τ).loc Cert.Kernel9Ideal.main_v31_0)) (v1 : (c : Dev Cert.Kernel9Ideal.nD) → Buf (Elt Ideal) ((c.tc : Thread Cert.Kernel9Ideal.nD Cert.Kernel9Ideal.τ).loc Cert.Kernel9Ideal.main_v31_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v31_0) = v0 c
          ∧ r.2.mem ((c.tc : Thread Cert.Kernel9Ideal.nD Cert.Kernel9Ideal.τ).loc Cert.Kernel9Ideal.main_v31_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v147) = v0 c
          ∧ r.2.mem ((c.tc : Thread Cert.Reference9Ideal.nD Cert.Reference9Ideal.τ).loc Cert.Reference9Ideal.main_v149) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Kernel.lean ====
abbrev S32768x1024 : Shape := ⟨2, ![32768, 1024]⟩
abbrev S1024x16 : Shape := ⟨2, ![1024, 16]⟩
abbrev S16 : Shape := ⟨1, ![16]⟩
abbrev S16x1024x512 : Shape := ⟨3, ![16, 1024, 512]⟩
abbrev S16x512x1024 : Shape := ⟨3, ![16, 512, 1024]⟩
abbrev S1024 : Shape := ⟨1, ![1024]⟩
abbrev S_ : Shape := ⟨0, ![]⟩
abbrev S1x128 : Shape := ⟨2, ![1, 128]⟩
abbrev S1 : Shape := ⟨1, ![1]⟩
abbrev S2 : Shape := ⟨1, ![2]⟩
abbrev S128x1 : Shape := ⟨2, ![128, 1]⟩
abbrev S128x128 : Shape := ⟨2, ![128, 128]⟩
abbrev S16x1024 : Shape := ⟨2, ![16, 1024]⟩
abbrev S1x1024 : Shape := ⟨2, ![1, 1024]⟩
abbrev S1024x1024 : Shape := ⟨2, ![1024, 1024]⟩
abbrev S4x1024x512 : Shape := ⟨3, ![4, 1024, 512]⟩
abbrev S4x512x1024 : Shape := ⟨3, ![4, 512, 1024]⟩
abbrev S4x8x1024 : Shape := ⟨3, ![4, 8, 1024]⟩
abbrev S16x1 : Shape := ⟨2, ![16, 1]⟩
abbrev S4x1024 : Shape := ⟨2, ![4, 1024]⟩
abbrev S8x1024 : Shape := ⟨2, ![8, 1024]⟩
abbrev S2x1024 : Shape := ⟨2, ![2, 1024]⟩
abbrev S1x8x1024 : Shape := ⟨3, ![1, 8, 1024]⟩
abbrev S1x1x1024 : Shape := ⟨3, ![1, 1, 1024]⟩
abbrev S1x1x1 : Shape := ⟨3, ![1, 1, 1]⟩
abbrev S288x1024 : Shape := ⟨2, ![288, 1024]⟩
abbrev S288 : Shape := ⟨1, ![288]⟩
abbrev S288x1 : Shape := ⟨2, ![288, 1]⟩
abbrev S1x1024x512 : Shape := ⟨3, ![1, 1024, 512]⟩
abbrev S1024x512 : Shape := ⟨2, ![1024, 512]⟩
abbrev S288x512 : Shape := ⟨2, ![288, 512]⟩
abbrev S1x512x1024 : Shape := ⟨3, ![1, 512, 1024]⟩
abbrev S512x1024 : Shape := ⟨2, ![512, 1024]⟩
abbrev S64x1024 : Shape := ⟨2, ![64, 1024]⟩
abbrev S64 : Shape := ⟨1, ![64]⟩
abbrev S64x1 : Shape := ⟨2, ![64, 1]⟩
abbrev S64x512 : Shape := ⟨2, ![64, 512]⟩
abbrev S1024x1 : Shape := ⟨2, ![1024, 1]⟩

abbrev nBuf : Space → Nat
  | .hbm => 36
  | .vmem => 16
  | .smem => 0
  | _ => 0

abbrev bufTy : (tb : Table) → Fin (tcTables nBuf tb) → BufTy
  | .hbm, ⟨0, _⟩ => ⟨S32768x1024, .f32⟩
  | .hbm, ⟨1, _⟩ => ⟨S1024x16, .f32⟩
  | .hbm, ⟨2, _⟩ => ⟨S16, .f32⟩
  | .hbm, ⟨3, _⟩ => ⟨S16x1024x512, .f32⟩
  | .hbm, ⟨4, _⟩ => ⟨S16x1024x512, .f32⟩
  | .hbm, ⟨5, _⟩ => ⟨S16x512x1024, .f32⟩
  | .hbm, ⟨6, _⟩ => ⟨S1024, .f32⟩
  | .hbm, ⟨7, _⟩ => ⟨S1024, .f32⟩
  | .hbm, ⟨8, _⟩ => ⟨S_, .f32⟩
  | .hbm, ⟨9, _⟩ => ⟨S1x128, .f32⟩
  | .hbm, ⟨10, _⟩ => ⟨S_, .i32⟩
  | .hbm, ⟨11, _⟩ => ⟨S1, .i32⟩
  | .hbm, ⟨12, _⟩ => ⟨S_, .i32⟩
  | .hbm, ⟨13, _⟩ => ⟨S1, .i32⟩
  | .hbm, ⟨14, _⟩ => ⟨S2, .i32⟩
  | .hbm, ⟨15, _⟩ => ⟨S1x128, .f32⟩
  | .hbm, ⟨16, _⟩ => ⟨S128x1, .f32⟩
  | .hbm, ⟨17, _⟩ => ⟨S128x128, .f32⟩
  | .hbm, ⟨18, _⟩ => ⟨S16x1024, .f32⟩
  | .hbm, ⟨19, _⟩ => ⟨S16x1024x512, .bf16⟩
  | .hbm, ⟨20, _⟩ => ⟨S16x1024x512, .bf16⟩
  | .hbm, ⟨21, _⟩ => ⟨S16x512x1024, .bf16⟩
  | .hbm, ⟨22, _⟩ => ⟨S1x1024, .f32⟩
  | .hbm, ⟨23, _⟩ => ⟨S1x1024, .f32⟩
  | .hbm, ⟨24, _⟩ => ⟨S_, .bf16⟩
  | .hbm, ⟨25, _⟩ => ⟨S1024x1024, .bf16⟩
  | .hbm, ⟨26, _⟩ => ⟨S1024x1024, .i32⟩
  | .hbm, ⟨27, _⟩ => ⟨S_, .i32⟩
  | .hbm, ⟨28, _⟩ => ⟨S1024x1024, .i32⟩
  | .hbm, ⟨29, _⟩ => ⟨S1024x1024, .i32⟩
  | .hbm, ⟨30, _⟩ => ⟨S1024x1024, .i32⟩
  | .hbm, ⟨31, _⟩ => ⟨S1024x1024, .i1⟩
  | .hbm, ⟨32, _⟩ => ⟨S_, .bf16⟩
  | .hbm, ⟨33, _⟩ => ⟨S1024x1024, .bf16⟩
  | .hbm, ⟨34, _⟩ => ⟨S1024x1024, .bf16⟩
  | .hbm, ⟨35, _⟩ => ⟨S32768x1024, .f32⟩
  | .local _ .vmem, ⟨0, _⟩ => ⟨S16x1024, .f32⟩
  | .local _ .vmem, ⟨1, _⟩ => ⟨S128x128, .f32⟩
  | .local _ .vmem, ⟨2, _⟩ => ⟨S1024x1024, .bf16⟩
  | .local _ .vmem, ⟨3, _⟩ => ⟨S1024x1024, .f32⟩
  | .local _ .vmem, ⟨4, _⟩ => ⟨S4x1024x512, .bf16⟩
  | .local _ .vmem, ⟨5, _⟩ => ⟨S4x1024x512, .bf16⟩
  | .local _ .vmem, ⟨6, _⟩ => ⟨S4x1024x512, .bf16⟩
  | .local _ .vmem, ⟨7, _⟩ => ⟨S4x1024x512, .bf16⟩
  | .local _ .vmem, ⟨8, _⟩ => ⟨S4x512x1024, .bf16⟩
  | .local _ .vmem, ⟨9, _⟩ => ⟨S4x512x1024, .bf16⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .bf16⟩
  | .local _ .vmem, ⟨14, _⟩ => ⟨S4x8x1024, .f32⟩
  | .local _ .vmem, ⟨15, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_call0_v0 : Ref sig .tc := ⟨.hbm, 26, rfl⟩
abbrev main_call0_c : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_cst : Ref sig .tc := ⟨.hbm, 32, rfl⟩
abbrev main_call0_v5 : Ref sig .tc := ⟨.hbm, 33, rfl⟩
abbrev main_v14 : Ref sig .tc := ⟨.hbm, 34, rfl⟩
abbrev main_v15 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12

abbrev nD : Nat := 1
abbrev τ : Topo := Topo.v7x

variable {F : FTy → Type} [FloatOps F]

abbrev grid0 : Pipeline.Grid := ⟨2, ![32, 4], ![false, false]⟩

def k0_off1 (i : grid0.Coords) : Fin 3 → Nat :=
  let arg1 : BitVec 32 := BitVec.ofNat 32 (i 1).val
  let v3 : Index := Scalar.indexCast arg1
  let c0 : Index := 0#32
  let c0_1 : Index := 0#32
  ![v3.toNat, 0, 0]
@[reducible] def k0_t1_loop (v18 : BitVec 32) : Scf.Loop 32 :=
  let c0_i32_12 : BitVec 32 := 0#32
  let c0_i32_5 : BitVec 32 := 0#32
  let v20 : BitVec 1 := Scalar.cmpi .sgt v18 c0_i32_5
  let v21 : BitVec 32 := Scalar.extui v20
  let c0_i32_6 : BitVec 32 := 0#32
  let v22 : BitVec 1 := Scalar.cmpi .slt v18 c0_i32_6
  let v23 : BitVec 32 := Scalar.extui v22
  let v24 : BitVec 32 := Scalar.subi v21 v23
  let c288_i32 : BitVec 32 := 288#32
  let c0_i32_7 : BitVec 32 := 0#32
  let v25 : BitVec 1 := Scalar.cmpi .sgt c288_i32 c0_i32_7
  let v26 : BitVec 32 := Scalar.extui v25
  let c0_i32_8 : BitVec 32 := 0#32
  let v27 : BitVec 1 := Scalar.cmpi .slt c288_i32 c0_i32_8
  let v28 : BitVec 32 := Scalar.extui v27
  let v29 : BitVec 32 := Scalar.subi v26 v28
  let v30 : BitVec 1 := Scalar.cmpi .ne v24 v29
  let v31 : BitVec 32 := Scalar.remsi v18 c288_i32
  let c0_i32_9 : BitVec 32 := 0#32
  let v32 : BitVec 1 := Scalar.cmpi .ne v31 c0_i32_9
  let v33 : BitVec 1 := Scalar.andi v30 v32
  let v19 : BitVec 32 := Scalar.divsi v18 c288_i32
  let c1_i32 : BitVec 32 := 1#32
  let v34 : BitVec 32 := Scalar.subi v19 c1_i32
  let v35 : BitVec 32 := Scalar.select v33 v34 v19
  let v38 : BitVec 32 := Scalar.subi v35 c0_i32_12
  let c1_i32_13 : BitVec 32 := 1#32
  let v40 : BitVec 32 := Scalar.divsi v38 c1_i32_13
  let v41 : BitVec 32 := Scalar.muli v40 c1_i32_13
  let v42 : BitVec 32 := Scalar.addi c0_i32_12 v41
  let c1_i32_14 : BitVec 32 := 1#32
  ⟨c0_i32_12, v42, c1_i32_14⟩

@[reducible] def k0_t2_loop (v18 : BitVec 32) : Scf.Loop 32 :=
  let c0_i32_12 : BitVec 32 := 0#32
  let c0_i32_5 : BitVec 32 := 0#32
  let v20 : BitVec 1 := Scalar.cmpi .sgt v18 c0_i32_5
  let v21 : BitVec 32 := Scalar.extui v20
  let c0_i32_6 : BitVec 32 := 0#32
  let v22 : BitVec 1 := Scalar.cmpi .slt v18 c0_i32_6
  let v23 : BitVec 32 := Scalar.extui v22
  let v24 : BitVec 32 := Scalar.subi v21 v23
  let c288_i32 : BitVec 32 := 288#32
  let c0_i32_7 : BitVec 32 := 0#32
  let v25 : BitVec 1 := Scalar.cmpi .sgt c288_i32 c0_i32_7
  let v26 : BitVec 32 := Scalar.extui v25
  let c0_i32_8 : BitVec 32 := 0#32
  let v27 : BitVec 1 := Scalar.cmpi .slt c288_i32 c0_i32_8
  let v28 : BitVec 32 := Scalar.extui v27
  let v29 : BitVec 32 := Scalar.subi v26 v28
  let v30 : BitVec 1 := Scalar.cmpi .ne v24 v29
  let v31 : BitVec 32 := Scalar.remsi v18 c288_i32
  let c0_i32_9 : BitVec 32 := 0#32
  let v32 : BitVec 1 := Scalar.cmpi .ne v31 c0_i32_9
  let v33 : BitVec 1 := Scalar.andi v30 v32
  let v19 : BitVec 32 := Scalar.divsi v18 c288_i32
  let c1_i32 : BitVec 32 := 1#32
  let v34 : BitVec 32 := Scalar.subi v19 c1_i32
  let v35 : BitVec 32 := Scalar.select v33 v34 v19
  let v38 : BitVec 32 := Scalar.subi v35 c0_i32_12
  let c1_i32_13 : BitVec 32 := 1#32
  let v40 : BitVec 32 := Scalar.divsi v38 c1_i32_13
  let v41 : BitVec 32 := Scalar.muli v40 c1_i32_13
  let v42 : BitVec 32 := Scalar.addi c0_i32_12 v41
  let v39 : BitVec 32 := Scalar.addi c0_i32_12 v38
  let c1_i32_15 : BitVec 32 := 1#32
  ⟨v42, v39, c1_i32_15⟩

def k0_chk1 (v18 : BitVec 32) : Prop :=
  ((k0_t1_loop v18).OK) ∧
  ((k0_t2_loop v18).OK)
theorem k0_t1_ok : ∀ (v18 : BitVec 32) (k0_hw1 : k0_chk1 v18), (k0_t1_loop v18).OK := fun v18 k0_hw1 => k0_hw1.1
theorem k0_t2_ok : ∀ (v18 : BitVec 32) (k0_hw1 : k0_chk1 v18), (k0_t2_loop v18).OK := fun v18 k0_hw1 => k0_hw1.2

def k0_cond4 (i : grid0.Coords) : BitVec 1 :=
  let arg1 : BitVec 32 := BitVec.ofNat 32 (i 1).val
  let c3_i32 : BitVec 32 := 3#32
  let v51 : BitVec 1 := Scalar.cmpi .eq arg1 c3_i32
  let v52 : BitVec 32 := Scalar.extui v51
  let c0_i32_20 : BitVec 32 := 0#32
  let v53 : BitVec 1 := Scalar.cmpi .ne v52 c0_i32_20
  v53

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S4x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S4x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]
-- ==== ReferenceIdeal.lean ====
abbrev S32768x1024 : Shape := ⟨2, ![32768, 1024]⟩
abbrev S1024x16 : Shape := ⟨2, ![1024, 16]⟩
abbrev S16 : Shape := ⟨1, ![16]⟩
abbrev S16x1024x512 : Shape := ⟨3, ![16, 1024, 512]⟩
abbrev S16x512x1024 : Shape := ⟨3, ![16, 512, 1024]⟩
abbrev S1024 : Shape := ⟨1, ![1024]⟩
abbrev S32768x16 : Shape := ⟨2, ![32768, 16]⟩
abbrev S_ : Shape := ⟨0, ![]⟩
abbrev S1x16 : Shape := ⟨2, ![1, 16]⟩
abbrev S32768x4x4 : Shape := ⟨3, ![32768, 4, 4]⟩
abbrev S32768x4x2 : Shape := ⟨3, ![32768, 4, 2]⟩
abbrev S32768x4 : Shape := ⟨2, ![32768, 4]⟩
abbrev S32768x1 : Shape := ⟨2, ![32768, 1]⟩
abbrev S32768x4x2x1 : Shape := ⟨4, ![32768, 4, 2, 1]⟩
abbrev S1x1x1x4 : Shape := ⟨4, ![1, 1, 1, 4]⟩
abbrev S32768x4x2x4 : Shape := ⟨4, ![32768, 4, 2, 4]⟩
abbrev S32768 : Shape := ⟨1, ![32768]⟩
abbrev S1x4 : Shape := ⟨2, ![1, 4]⟩
abbrev S32768x4x1 : Shape := ⟨3, ![32768, 4, 1]⟩
abbrev S32768x1x1 : Shape := ⟨3, ![32768, 1, 1]⟩
abbrev S16x512x32768 : Shape := ⟨3, ![16, 512, 32768]⟩
abbrev S16x32768x512 : Shape := ⟨3, ![16, 32768, 512]⟩
abbrev S16x32768 : Shape := ⟨2, ![16, 32768]⟩
abbrev S16x32768x1 : Shape := ⟨3, ![16, 32768, 1]⟩
abbrev S16x32768x1024 : Shape := ⟨3, ![16, 32768, 1024]⟩
abbrev S1x1024 : Shape := ⟨2, ![1, 1024]⟩

abbrev nBuf : Space → Nat
  | .hbm => 109
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x16, .f32⟩
  | .hbm, ⟨2, _⟩ => ⟨S16, .f32⟩
  | .hbm, ⟨3, _⟩ => ⟨S16x1024x512, .f32⟩
  | .hbm, ⟨4, _⟩ => ⟨S16x1024x512, .f32⟩
  | .hbm, ⟨5, _⟩ => ⟨S16x512x1024, .f32⟩
  | .hbm, ⟨6, _⟩ => ⟨S1024, .f32⟩
  | .hbm, ⟨7, _⟩ => ⟨S1024, .f32⟩
  | .hbm, ⟨8, _⟩ => ⟨S32768x16, .f32⟩
  | .hbm, ⟨9, _⟩ => ⟨S32768x16, .f32⟩
  | .hbm, ⟨10, _⟩ => ⟨S32768x16, .f32⟩
  | .hbm, ⟨11, _⟩ => ⟨S_, .f32⟩
  | .hbm, ⟨12, _⟩ => ⟨S32768x16, .f32⟩
  | .hbm, ⟨13, _⟩ => ⟨S32768x16, .f32⟩
  | .hbm, ⟨14, _⟩ => ⟨S_, .f32⟩
  | .hbm, ⟨15, _⟩ => ⟨S32768x16, .f32⟩
  | .hbm, ⟨16, _⟩ => ⟨S32768x16, .f32⟩
  | .hbm, ⟨17, _⟩ => ⟨S1x16, .f32⟩
  | .hbm, ⟨18, _⟩ => ⟨S32768x16, .f32⟩
  | .hbm, ⟨19, _⟩ => ⟨S32768x16, .f32⟩
  | .hbm, ⟨20, _⟩ => ⟨S32768x4x4, .f32⟩
  | .hbm, ⟨21, _⟩ => ⟨S32768x4x2, .f32⟩
  | .hbm, ⟨22, _⟩ => ⟨S32768x4x2, .i32⟩
  | .hbm, ⟨23, _⟩ => ⟨S_, .f32⟩
  | .hbm, ⟨24, _⟩ => ⟨S32768x4, .f32⟩
  | .hbm, ⟨25, _⟩ => ⟨S32768x1, .f32⟩
  | .hbm, ⟨26, _⟩ => ⟨S32768x1, .i32⟩
  | .hbm, ⟨27, _⟩ => ⟨S32768x4x2x1, .i32⟩
  | .hbm, ⟨28, _⟩ => ⟨S1x1x1x4, .i32⟩
  | .hbm, ⟨29, _⟩ => ⟨S32768x4x2x4, .i32⟩
  | .hbm, ⟨30, _⟩ => ⟨S32768x4x2x4, .i32⟩
  | .hbm, ⟨31, _⟩ => ⟨S32768x4x2x4, .i1⟩
  | .hbm, ⟨32, _⟩ => ⟨S32768x4x2x4, .f32⟩
  | .hbm, ⟨33, _⟩ => ⟨S_, .f32⟩
  | .hbm, ⟨34, _⟩ => ⟨S32768x4x4, .f32⟩
  | .hbm, ⟨35, _⟩ => ⟨S32768, .i32⟩
  | .hbm, ⟨36, _⟩ => ⟨S32768x1, .i32⟩
  | .hbm, ⟨37, _⟩ => ⟨S1x4, .i32⟩
  | .hbm, ⟨38, _⟩ => ⟨S32768x4, .i32⟩
  | .hbm, ⟨39, _⟩ => ⟨S32768x4, .i32⟩
  | .hbm, ⟨40, _⟩ => ⟨S32768x4, .i1⟩
  | .hbm, ⟨41, _⟩ => ⟨S32768x4, .f32⟩
  | .hbm, ⟨42, _⟩ => ⟨S32768x4x1, .f32⟩
  | .hbm, ⟨43, _⟩ => ⟨S32768x4x4, .f32⟩
  | .hbm, ⟨44, _⟩ => ⟨S32768x4x4, .f32⟩
  | .hbm, ⟨45, _⟩ => ⟨S32768x4x4, .f32⟩
  | .hbm, ⟨46, _⟩ => ⟨S32768x4x4, .f32⟩
  | .hbm, ⟨47, _⟩ => ⟨S_, .f32⟩
  | .hbm, ⟨48, _⟩ => ⟨S32768, .f32⟩
  | .hbm, ⟨49, _⟩ => ⟨S32768x1x1, .f32⟩
  | .hbm, ⟨50, _⟩ => ⟨S32768x4x4, .f32⟩
  | .hbm, ⟨51, _⟩ => ⟨S32768x4x4, .f32⟩
  | .hbm, ⟨52, _⟩ => ⟨S32768x4x4, .f32⟩
  | .hbm, ⟨53, _⟩ => ⟨S32768x4x4, .f32⟩
  | .hbm, ⟨54, _⟩ => ⟨S32768x16, .f32⟩
  | .hbm, ⟨55, _⟩ => ⟨S16x512x32768, .f32⟩
  | .hbm, ⟨56, _⟩ => ⟨S16x32768x512, .f32⟩
  | .hbm, ⟨57, _⟩ => ⟨S16x32768x512, .f32⟩
  | .hbm, ⟨58, _⟩ => ⟨S16x32768x512, .f32⟩
  | .hbm, ⟨59, _⟩ => ⟨S_, .f32⟩
  | .hbm, ⟨60, _⟩ => ⟨S16x32768x512, .f32⟩
  | .hbm, ⟨61, _⟩ => ⟨S16x32768x512, .f32⟩
  | .hbm, ⟨62, _⟩ => ⟨S_, .f32⟩
  | .hbm, ⟨63, _⟩ => ⟨S16x32768x512, .f32⟩
  | .hbm, ⟨64, _⟩ => ⟨S16x32768x512, .f32⟩
  | .hbm, ⟨65, _⟩ => ⟨S16x32768x512, .f32⟩
  | .hbm, ⟨66, _⟩ => ⟨S16x512x32768, .f32⟩
  | .hbm, ⟨67, _⟩ => ⟨S16x32768x512, .f32⟩
  | .hbm, ⟨68, _⟩ => ⟨S16x32768x512, .f32⟩
  | .hbm, ⟨69, _⟩ => ⟨S16x32768, .f32⟩
  | .hbm, ⟨70, _⟩ => ⟨S16x32768x1, .f32⟩
  | .hbm, ⟨71, _⟩ => ⟨S16x32768x1024, .f32⟩
  | .hbm, ⟨72, _⟩ => ⟨S16x32768x1024, .f32⟩
  | .hbm, ⟨73, _⟩ => ⟨S16x32768x1024, .f32⟩
  | .hbm, ⟨74, _⟩ => ⟨S_, .f32⟩
  | .hbm, ⟨75, _⟩ => ⟨S32768x1024, .f32⟩
  | .hbm, ⟨76, _⟩ => ⟨S_, .f32⟩
  | .hbm, ⟨77, _⟩ => ⟨S32768x1024, .f32⟩
  | .hbm, ⟨78, _⟩ => ⟨S32768x1024, .f32⟩
  | .hbm, ⟨79, _⟩ => ⟨S32768x1024, .f32⟩
  | .hbm, ⟨80, _⟩ => ⟨S_, .f32⟩
  | .hbm, ⟨81, _⟩ => ⟨S32768, .f32⟩
  | .hbm, ⟨82, _⟩ => ⟨S32768x1, .f32⟩
  | .hbm, ⟨83, _⟩ => ⟨S_, .f32⟩
  | .hbm, ⟨84, _⟩ => ⟨S32768x1, .f32⟩
  | .hbm, ⟨85, _⟩ => ⟨S32768x1, .f32⟩
  | .hbm, ⟨86, _⟩ => ⟨S32768x1024, .f32⟩
  | .hbm, ⟨87, _⟩ => ⟨S32768x1024, .f32⟩
  | .hbm, ⟨88, _⟩ => ⟨S32768x1024, .f32⟩
  | .hbm, ⟨89, _⟩ => ⟨S_, .f32⟩
  | .hbm, ⟨90, _⟩ => ⟨S32768, .f32⟩
  | .hbm, ⟨91, _⟩ => ⟨S32768x1, .f32⟩
  | .hbm, ⟨92, _⟩ => ⟨S_, .f32⟩
  | .hbm, ⟨93, _⟩ => ⟨S32768x1, .f32⟩
  | .hbm, ⟨94, _⟩ => ⟨S32768x1, .f32⟩
  | .hbm, ⟨95, _⟩ => ⟨S32768x1024, .f32⟩
  | .hbm, ⟨96, _⟩ => ⟨S32768x1024, .f32⟩
  | .hbm, ⟨97, _⟩ => ⟨S_, .f32⟩
  | .hbm, ⟨98, _⟩ => ⟨S32768x1, .f32⟩
  | .hbm, ⟨99, _⟩ => ⟨S32768x1, .f32⟩
  | .hbm, ⟨100, _⟩ => ⟨S32768x1, .f32⟩
  | .hbm, ⟨101, _⟩ => ⟨S32768x1024, .f32⟩
  | .hbm, ⟨102, _⟩ => ⟨S32768x1024, .f32⟩
  | .hbm, ⟨103, _⟩ => ⟨S1x1024, .f32⟩
  | .hbm, ⟨104, _⟩ => ⟨S32768x1024, .f32⟩
  | .hbm, ⟨105, _⟩ => ⟨S32768x1024, .f32⟩
  | .hbm, ⟨106, _⟩ => ⟨S1x1024, .f32⟩
  | .hbm, ⟨107, _⟩ => ⟨S32768x1024, .f32⟩
  | .hbm, ⟨108, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_values : Ref sig .tc := ⟨.hbm, 21, rfl⟩
abbrev main_indices : Ref sig .tc := ⟨.hbm, 22, rfl⟩
abbrev main_cst_1 : Ref sig .tc := ⟨.hbm, 23, rfl⟩
abbrev main_v11 : Ref sig .tc := ⟨.hbm, 24, rfl⟩
abbrev main_values_2 : Ref sig .tc := ⟨.hbm, 25, rfl⟩
abbrev main_indices_3 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v12 : Ref sig .tc := ⟨.hbm, 32, rfl⟩
abbrev main_cst_4 : Ref sig .tc := ⟨.hbm, 33, rfl⟩
abbrev main_v13 : Ref sig .tc := ⟨.hbm, 34, rfl⟩
abbrev main_v14 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_cst_5 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_call2_v0 : Ref sig .tc := ⟨.hbm, 57, rfl⟩
abbrev main_call2_v1 : Ref sig .tc := ⟨.hbm, 58, rfl⟩
abbrev main_call2_cst : Ref sig .tc := ⟨.hbm, 59, rfl⟩
abbrev main_call2_v2 : Ref sig .tc := ⟨.hbm, 60, rfl⟩
abbrev main_call2_v3 : Ref sig .tc := ⟨.hbm, 61, rfl⟩
abbrev main_call2_cst_0 : Ref sig .tc := ⟨.hbm, 62, rfl⟩
abbrev main_call2_v4 : Ref sig .tc := ⟨.hbm, 63, rfl⟩
abbrev main_call2_v5 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_cst_6 : Ref sig .tc := ⟨.hbm, 74, rfl⟩
abbrev main_v39 : Ref sig .tc := ⟨.hbm, 75, rfl⟩
abbrev main_cst_7 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_cst_8 : Ref sig .tc := ⟨.hbm, 80, rfl⟩
abbrev main_v43 : Ref sig .tc := ⟨.hbm, 81, rfl⟩
abbrev main_v44 : Ref sig .tc := ⟨.hbm, 82, rfl⟩
abbrev main_cst_9 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_cst_10 : Ref sig .tc := ⟨.hbm, 89, rfl⟩
abbrev main_v50 : Ref sig .tc := ⟨.hbm, 90, rfl⟩
abbrev main_v51 : Ref sig .tc := ⟨.hbm, 91, rfl⟩
abbrev main_cst_11 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_cst_12 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩

abbrev nD : Nat := 1
abbrev τ : Topo := Topo.v7x

variable {F : FTy → Type} [FloatOps F]
-- ==== Kernel2.lean ====
abbrev S32768x1024 : Shape := ⟨2, ![32768, 1024]⟩
abbrev S1024x4176 : Shape := ⟨2, ![1024, 4176]⟩
abbrev S8 : Shape := ⟨1, ![8]⟩
abbrev S_ : Shape := ⟨0, ![]⟩
abbrev S1024x128 : Shape := ⟨2, ![1024, 128]⟩
abbrev S1024x64 : Shape := ⟨2, ![1024, 64]⟩
abbrev S1 : Shape := ⟨1, ![1]⟩
abbrev S1024x8 : Shape := ⟨2, ![1024, 8]⟩
abbrev S1024x512 : Shape := ⟨2, ![1024, 512]⟩
abbrev S1024x4224 : Shape := ⟨2, ![1024, 4224]⟩
abbrev S1x128 : Shape := ⟨2, ![1, 128]⟩
abbrev S2 : Shape := ⟨1, ![2]⟩
abbrev S32768x2048 : Shape := ⟨2, ![32768, 2048]⟩
abbrev S32768x512 : Shape := ⟨2, ![32768, 512]⟩
abbrev S32768x128 : Shape := ⟨2, ![32768, 128]⟩
abbrev S256x1024 : Shape := ⟨2, ![256, 1024]⟩
abbrev S256x2048 : Shape := ⟨2, ![256, 2048]⟩
abbrev S256x512 : Shape := ⟨2, ![256, 512]⟩
abbrev S256x128 : Shape := ⟨2, ![256, 128]⟩
abbrev S1024x1024 : Shape := ⟨2, ![1024, 1024]⟩

abbrev nBuf : Space → Nat
  | .hbm => 42
  | .vmem => 18
  | .smem => 0
  | _ => 0

abbrev bufTy : (tb : Table) → Fin (tcTables nBuf tb) → BufTy
  | .hbm, ⟨0, _⟩ => ⟨S32768x1024, .f32⟩
  | .hbm, ⟨1, _⟩ => ⟨S1024x4176, .f32⟩
  | .hbm, ⟨2, _⟩ => ⟨S8, .f32⟩
  | .hbm, ⟨3, _⟩ => ⟨S_, .f32⟩
  | .hbm, ⟨4, _⟩ => ⟨S1024x128, .f32⟩
  | .hbm, ⟨5, _⟩ => ⟨S1024x64, .f32⟩
  | .hbm, ⟨6, _⟩ => ⟨S_, .i32⟩
  | .hbm, ⟨7, _⟩ => ⟨S1, .i32⟩
  | .hbm, ⟨8, _⟩ => ⟨S1024x128, .f32⟩
  | .hbm, ⟨9, _⟩ => ⟨S1024x8, .f32⟩
  | .hbm, ⟨10, _⟩ => ⟨S_, .i32⟩
  | .hbm, ⟨11, _⟩ => ⟨S1, .i32⟩
  | .hbm, ⟨12, _⟩ => ⟨S1024x128, .f32⟩
  | .hbm, ⟨13, _⟩ => ⟨S1024x8, .f32⟩
  | .hbm, ⟨14, _⟩ => ⟨S_, .i32⟩
  | .hbm, ⟨15, _⟩ => ⟨S1, .i32⟩
  | .hbm, ⟨16, _⟩ => ⟨S1024x128, .f32⟩
  | .hbm, ⟨17, _⟩ => ⟨S1024x512, .f32⟩
  | .hbm, ⟨18, _⟩ => ⟨S1024x512, .f32⟩
  | .hbm, ⟨19, _⟩ => ⟨S1024x512, .f32⟩
  | .hbm, ⟨20, _⟩ => ⟨S1024x512, .f32⟩
  | .hbm, ⟨21, _⟩ => ⟨S1024x512, .f32⟩
  | .hbm, ⟨22, _⟩ => ⟨S1024x512, .f32⟩
  | .hbm, ⟨23, _⟩ => ⟨S1024x512, .f32⟩
  | .hbm, ⟨24, _⟩ => ⟨S1024x512, .f32⟩
  | .hbm, ⟨25, _⟩ => ⟨S1024x4224, .f32⟩
  | .hbm, ⟨26, _⟩ => ⟨S_, .f32⟩
  | .hbm, ⟨27, _⟩ => ⟨S1x128, .f32⟩
  | .hbm, ⟨28, _⟩ => ⟨S_, .i32⟩
  | .hbm, ⟨29, _⟩ => ⟨S1, .i32⟩
  | .hbm, ⟨30, _⟩ => ⟨S_, .i32⟩
  | .hbm, ⟨31, _⟩ => ⟨S1, .i32⟩
  | .hbm, ⟨32, _⟩ => ⟨S2, .i32⟩
  | .hbm, ⟨33, _⟩ => ⟨S1x128, .f32⟩
  | .hbm, ⟨34, _⟩ => ⟨S1024x4224, .bf16⟩
  | .hbm, ⟨35, _⟩ => ⟨S32768x2048, .f32⟩
  | .hbm, ⟨36, _⟩ => ⟨S32768x1024, .f32⟩
  | .hbm, ⟨37, _⟩ => ⟨S32768x512, .f32⟩
  | .hbm, ⟨38, _⟩ => ⟨S32768x512, .f32⟩
  | .hbm, ⟨39, _⟩ => ⟨S32768x128, .f32⟩
  | .hbm, ⟨40, _⟩ => ⟨S32768x512, .bf16⟩
  | .hbm, ⟨41, _⟩ => ⟨S32768x512, .bf16⟩
  | .local _ .vmem, ⟨0, _⟩ => ⟨S256x1024, .f32⟩
  | .local _ .vmem, ⟨1, _⟩ => ⟨S256x1024, .f32⟩
  | .local _ .vmem, ⟨2, _⟩ => ⟨S1024x4224, .bf16⟩
  | .local _ .vmem, ⟨3, _⟩ => ⟨S1x128, .f32⟩
  | .local _ .vmem, ⟨4, _⟩ => ⟨S256x2048, .f32⟩
  | .local _ .vmem, ⟨5, _⟩ => ⟨S256x2048, .f32⟩
  | .local _ .vmem, ⟨6, _⟩ => ⟨S256x1024, .f32⟩
  | .local _ .vmem, ⟨7, _⟩ => ⟨S256x1024, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x128, .f32⟩
  | .local _ .vmem, ⟨13, _⟩ => ⟨S256x128, .f32⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_c_3 : Ref sig .tc := ⟨.hbm, 28, rfl⟩
abbrev main_v20 : Ref sig .tc := ⟨.hbm, 29, rfl⟩
abbrev main_c_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25_0 : Ref sig .tc := ⟨.hbm, 35, rfl⟩
abbrev main_v25_1 : Ref sig .tc := ⟨.hbm, 36, rfl⟩
abbrev main_v25_2 : Ref sig .tc := ⟨.hbm, 37, rfl⟩
abbrev main_v25_3 : Ref sig .tc := ⟨.hbm, 38, rfl⟩
abbrev main_v25_4 : Ref sig .tc := ⟨.hbm, 39, rfl⟩
abbrev main_v25_5 : Ref sig .tc := ⟨.hbm, 40, rfl⟩
abbrev main_v25_6 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4224 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S32768x1024 : Shape := ⟨2, ![32768, 1024]⟩
abbrev S1024x4176 : Shape := ⟨2, ![1024, 4176]⟩
abbrev S8 : Shape := ⟨1, ![8]⟩
abbrev S32768x4176 : Shape := ⟨2, ![32768, 4176]⟩
abbrev S32768x512 : Shape := ⟨2, ![32768, 512]⟩
abbrev S32768x8 : Shape := ⟨2, ![32768, 8]⟩
abbrev S32768x64 : Shape := ⟨2, ![32768, 64]⟩
abbrev S_ : Shape := ⟨0, ![]⟩
abbrev S1x8 : Shape := ⟨2, ![1, 8]⟩
abbrev S32768x48 : Shape := ⟨2, ![32768, 48]⟩
abbrev S32768x2048 : Shape := ⟨2, ![32768, 2048]⟩
abbrev S32768x128 : Shape := ⟨2, ![32768, 128]⟩

abbrev nBuf : Space → Nat
  | .hbm => 28
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x4176, .f32⟩
  | .hbm, ⟨2, _⟩ => ⟨S8, .f32⟩
  | .hbm, ⟨3, _⟩ => ⟨S32768x4176, .f32⟩
  | .hbm, ⟨4, _⟩ => ⟨S32768x512, .f32⟩
  | .hbm, ⟨5, _⟩ => ⟨S32768x512, .f32⟩
  | .hbm, ⟨6, _⟩ => ⟨S32768x512, .f32⟩
  | .hbm, ⟨7, _⟩ => ⟨S32768x512, .f32⟩
  | .hbm, ⟨8, _⟩ => ⟨S32768x8, .f32⟩
  | .hbm, ⟨9, _⟩ => ⟨S32768x512, .f32⟩
  | .hbm, ⟨10, _⟩ => ⟨S32768x512, .f32⟩
  | .hbm, ⟨11, _⟩ => ⟨S32768x512, .f32⟩
  | .hbm, ⟨12, _⟩ => ⟨S32768x512, .f32⟩
  | .hbm, ⟨13, _⟩ => ⟨S32768x64, .f32⟩
  | .hbm, ⟨14, _⟩ => ⟨S32768x8, .f32⟩
  | .hbm, ⟨15, _⟩ => ⟨S_, .f32⟩
  | .hbm, ⟨16, _⟩ => ⟨S32768x512, .f32⟩
  | .hbm, ⟨17, _⟩ => ⟨S32768x512, .f32⟩
  | .hbm, ⟨18, _⟩ => ⟨S1x8, .f32⟩
  | .hbm, ⟨19, _⟩ => ⟨S32768x8, .f32⟩
  | .hbm, ⟨20, _⟩ => ⟨S32768x8, .f32⟩
  | .hbm, ⟨21, _⟩ => ⟨S_, .f32⟩
  | .hbm, ⟨22, _⟩ => ⟨S32768x48, .f32⟩
  | .hbm, ⟨23, _⟩ => ⟨S32768x2048, .f32⟩
  | .hbm, ⟨24, _⟩ => ⟨S32768x1024, .f32⟩
  | .hbm, ⟨25, _⟩ => ⟨S32768x128, .f32⟩
  | .hbm, ⟨26, _⟩ => ⟨S32768x512, .bf16⟩
  | .hbm, ⟨27, _⟩ => ⟨S32768x512, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩

abbrev nD : Nat := 1
abbrev τ : Topo := Topo.v7x

variable {F : FTy → Type} [FloatOps F]
-- ==== Kernel3.lean ====
abbrev S32768x1024 : Shape := ⟨2, ![32768, 1024]⟩
abbrev S1024x3072 : Shape := ⟨2, ![1024, 3072]⟩
abbrev S32768x2048 : Shape := ⟨2, ![32768, 2048]⟩
abbrev S256x1024 : Shape := ⟨2, ![256, 1024]⟩
abbrev S256x2048 : Shape := ⟨2, ![256, 2048]⟩
abbrev S1024x1024 : Shape := ⟨2, ![1024, 1024]⟩
abbrev S1024x2048 : Shape := ⟨2, ![1024, 2048]⟩

abbrev nBuf : Space → Nat
  | .hbm => 5
  | .vmem => 7
  | .smem => 0
  | _ => 0

abbrev bufTy : (tb : Table) → Fin (tcTables nBuf tb) → BufTy
  | .hbm, ⟨0, _⟩ => ⟨S32768x1024, .f32⟩
  | .hbm, ⟨1, _⟩ => ⟨S1024x3072, .f32⟩
  | .hbm, ⟨2, _⟩ => ⟨S1024x3072, .bf16⟩
  | .hbm, ⟨3, _⟩ => ⟨S32768x1024, .f32⟩
  | .hbm, ⟨4, _⟩ => ⟨S32768x2048, .f32⟩
  | .local _ .vmem, ⟨0, _⟩ => ⟨S256x1024, .f32⟩
  | .local _ .vmem, ⟨1, _⟩ => ⟨S256x1024, .f32⟩
  | .local _ .vmem, ⟨2, _⟩ => ⟨S1024x3072, .bf16⟩
  | .local _ .vmem, ⟨3, _⟩ => ⟨S256x1024, .f32⟩
  | .local _ .vmem, ⟨4, _⟩ => ⟨S256x1024, .f32⟩
  | .local _ .vmem, ⟨5, _⟩ => ⟨S256x2048, .f32⟩
  | .local _ .vmem, ⟨6, _⟩ => ⟨S256x2048, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S32768x1024 : Shape := ⟨2, ![32768, 1024]⟩
abbrev S1024x3072 : Shape := ⟨2, ![1024, 3072]⟩
abbrev S32768x3072 : Shape := ⟨2, ![32768, 3072]⟩
abbrev S32768x2048 : Shape := ⟨2, ![32768, 2048]⟩

abbrev nBuf : Space → Nat
  | .hbm => 5
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x3072, .f32⟩
  | .hbm, ⟨2, _⟩ => ⟨S32768x3072, .f32⟩
  | .hbm, ⟨3, _⟩ => ⟨S32768x1024, .f32⟩
  | .hbm, ⟨4, _⟩ => ⟨S32768x2048, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel4.lean ====
abbrev S32768x512 : Shape := ⟨2, ![32768, 512]⟩
abbrev S1024x1024 : Shape := ⟨2, ![1024, 1024]⟩
abbrev S32768x1024 : Shape := ⟨2, ![32768, 1024]⟩
abbrev S1024 : Shape := ⟨1, ![1024]⟩
abbrev S1x1024 : Shape := ⟨2, ![1, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S1024x1024, .f32⟩
  | .hbm, ⟨3, _⟩ => ⟨S32768x1024, .f32⟩
  | .hbm, ⟨4, _⟩ => ⟨S1024, .f32⟩
  | .hbm, ⟨5, _⟩ => ⟨S1024, .f32⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S32768x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S32768x512 : Shape := ⟨2, ![32768, 512]⟩
abbrev S1024x1024 : Shape := ⟨2, ![1024, 1024]⟩
abbrev S32768x1024 : Shape := ⟨2, ![32768, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S1024x1024, .f32⟩
  | .hbm, ⟨3, _⟩ => ⟨S32768x1024, .f32⟩
  | .hbm, ⟨4, _⟩ => ⟨S1024, .f32⟩
  | .hbm, ⟨5, _⟩ => ⟨S1024, .f32⟩
  | .hbm, ⟨6, _⟩ => ⟨S32768x512, .f32⟩
  | .hbm, ⟨7, _⟩ => ⟨S32768x512, .f32⟩
  | .hbm, ⟨8, _⟩ => ⟨S32768x1024, .f32⟩
  | .hbm, ⟨9, _⟩ => ⟨S32768x1024, .f32⟩
  | .hbm, ⟨10, _⟩ => ⟨S_, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S_, .f32⟩
  | .hbm, ⟨15, _⟩ => ⟨S32768, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S_, .f32⟩
  | .hbm, ⟨24, _⟩ => ⟨S32768, .f32⟩
  | .hbm, ⟨25, _⟩ => ⟨S32768x1, .f32⟩
  | .hbm, ⟨26, _⟩ => ⟨S_, .f32⟩
  | .hbm, ⟨27, _⟩ => ⟨S32768x1, .f32⟩
  | .hbm, ⟨28, _⟩ => ⟨S32768x1, .f32⟩
  | .hbm, ⟨29, _⟩ => ⟨S32768x1024, .f32⟩
  | .hbm, ⟨30, _⟩ => ⟨S32768x1024, .f32⟩
  | .hbm, ⟨31, _⟩ => ⟨S_, .f32⟩
  | .hbm, ⟨32, _⟩ => ⟨S32768x1, .f32⟩
  | .hbm, ⟨33, _⟩ => ⟨S32768x1, .f32⟩
  | .hbm, ⟨34, _⟩ => ⟨S32768x1, .f32⟩
  | .hbm, ⟨35, _⟩ => ⟨S32768x1024, .f32⟩
  | .hbm, ⟨36, _⟩ => ⟨S32768x1024, .f32⟩
  | .hbm, ⟨37, _⟩ => ⟨S1x1024, .f32⟩
  | .hbm, ⟨38, _⟩ => ⟨S32768x1024, .f32⟩
  | .hbm, ⟨39, _⟩ => ⟨S32768x1024, .f32⟩
  | .hbm, ⟨40, _⟩ => ⟨S1x1024, .f32⟩
  | .hbm, ⟨41, _⟩ => ⟨S32768x1024, .f32⟩
  | .hbm, ⟨42, _⟩ => ⟨S32768x1024, .f32⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Kernel5.lean ====
abbrev S256x1024 : Shape := ⟨2, ![256, 1024]⟩
abbrev S1024x4176 : Shape := ⟨2, ![1024, 4176]⟩
abbrev S8 : Shape := ⟨1, ![8]⟩
abbrev S_ : Shape := ⟨0, ![]⟩
abbrev S1024x128 : Shape := ⟨2, ![1024, 128]⟩
abbrev S1024x64 : Shape := ⟨2, ![1024, 64]⟩
abbrev S1 : Shape := ⟨1, ![1]⟩
abbrev S1024x8 : Shape := ⟨2, ![1024, 8]⟩
abbrev S1024x512 : Shape := ⟨2, ![1024, 512]⟩
abbrev S1024x4224 : Shape := ⟨2, ![1024, 4224]⟩
abbrev S1x128 : Shape := ⟨2, ![1, 128]⟩
abbrev S2 : Shape := ⟨1, ![2]⟩
abbrev S256x2048 : Shape := ⟨2, ![256, 2048]⟩
abbrev S256x512 : Shape := ⟨2, ![256, 512]⟩
abbrev S256x128 : Shape := ⟨2, ![256, 128]⟩
abbrev S1024x1024 : Shape := ⟨2, ![1024, 1024]⟩

abbrev nBuf : Space → Nat
  | .hbm => 41
  | .vmem => 10
  | .smem => 0
  | _ => 0

abbrev bufTy : (tb : Table) → Fin (tcTables nBuf tb) → BufTy
  | .hbm, ⟨0, _⟩ => ⟨S256x1024, .f32⟩
  | .hbm, ⟨1, _⟩ => ⟨S1024x4176, .f32⟩
  | .hbm, ⟨2, _⟩ => ⟨S8, .f32⟩
  | .hbm, ⟨3, _⟩ => ⟨S_, .f32⟩
  | .hbm, ⟨4, _⟩ => ⟨S1024x128, .f32⟩
  | .hbm, ⟨5, _⟩ => ⟨S1024x64, .f32⟩
  | .hbm, ⟨6, _⟩ => ⟨S_, .i32⟩
  | .hbm, ⟨7, _⟩ => ⟨S1, .i32⟩
  | .hbm, ⟨8, _⟩ => ⟨S1024x128, .f32⟩
  | .hbm, ⟨9, _⟩ => ⟨S1024x8, .f32⟩
  | .hbm, ⟨10, _⟩ => ⟨S_, .i32⟩
  | .hbm, ⟨11, _⟩ => ⟨S1, .i32⟩
  | .hbm, ⟨12, _⟩ => ⟨S1024x128, .f32⟩
  | .hbm, ⟨13, _⟩ => ⟨S1024x8, .f32⟩
  | .hbm, ⟨14, _⟩ => ⟨S_, .i32⟩
  | .hbm, ⟨15, _⟩ => ⟨S1, .i32⟩
  | .hbm, ⟨16, _⟩ => ⟨S1024x128, .f32⟩
  | .hbm, ⟨17, _⟩ => ⟨S1024x512, .f32⟩
  | .hbm, ⟨18, _⟩ => ⟨S1024x512, .f32⟩
  | .hbm, ⟨19, _⟩ => ⟨S1024x512, .f32⟩
  | .hbm, ⟨20, _⟩ => ⟨S1024x512, .f32⟩
  | .hbm, ⟨21, _⟩ => ⟨S1024x512, .f32⟩
  | .hbm, ⟨22, _⟩ => ⟨S1024x512, .f32⟩
  | .hbm, ⟨23, _⟩ => ⟨S1024x512, .f32⟩
  | .hbm, ⟨24, _⟩ => ⟨S1024x512, .f32⟩
  | .hbm, ⟨25, _⟩ => ⟨S1024x4224, .f32⟩
  | .hbm, ⟨26, _⟩ => ⟨S_, .f32⟩
  | .hbm, ⟨27, _⟩ => ⟨S1x128, .f32⟩
  | .hbm, ⟨28, _⟩ => ⟨S_, .i32⟩
  | .hbm, ⟨29, _⟩ => ⟨S1, .i32⟩
  | .hbm, ⟨30, _⟩ => ⟨S_, .i32⟩
  | .hbm, ⟨31, _⟩ => ⟨S1, .i32⟩
  | .hbm, ⟨32, _⟩ => ⟨S2, .i32⟩
  | .hbm, ⟨33, _⟩ => ⟨S1x128, .f32⟩
  | .hbm, ⟨34, _⟩ => ⟨S256x2048, .f32⟩
  | .hbm, ⟨35, _⟩ => ⟨S256x1024, .f32⟩
  | .hbm, ⟨36, _⟩ => ⟨S256x512, .f32⟩
  | .hbm, ⟨37, _⟩ => ⟨S256x512, .f32⟩
  | .hbm, ⟨38, _⟩ => ⟨S256x128, .f32⟩
  | .hbm, ⟨39, _⟩ => ⟨S256x512, .f32⟩
  | .hbm, ⟨40, _⟩ => ⟨S256x512, .f32⟩
  | .local _ .vmem, ⟨0, _⟩ => ⟨S256x1024, .f32⟩
  | .local _ .vmem, ⟨1, _⟩ => ⟨S1024x4224, .f32⟩
  | .local _ .vmem, ⟨2, _⟩ => ⟨S1x128, .f32⟩
  | .local _ .vmem, ⟨3, _⟩ => ⟨S256x2048, .f32⟩
  | .local _ .vmem, ⟨4, _⟩ => ⟨S256x1024, .f32⟩
  | .local _ .vmem, ⟨5, _⟩ => ⟨S256x512, .f32⟩
  | .local _ .vmem, ⟨6, _⟩ => ⟨S256x512, .f32⟩
  | .local _ .vmem, ⟨7, _⟩ => ⟨S256x128, .f32⟩
  | .local _ .vmem, ⟨8, _⟩ => ⟨S256x512, .f32⟩
  | .local _ .vmem, ⟨9, _⟩ => ⟨S256x512, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_c_3 : Ref sig .tc := ⟨.hbm, 28, rfl⟩
abbrev main_v20 : Ref sig .tc := ⟨.hbm, 29, rfl⟩
abbrev main_c_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24_0 : Ref sig .tc := ⟨.hbm, 34, rfl⟩
abbrev main_v24_1 : Ref sig .tc := ⟨.hbm, 35, rfl⟩
abbrev main_v24_2 : Ref sig .tc := ⟨.hbm, 36, rfl⟩
abbrev main_v24_3 : Ref sig .tc := ⟨.hbm, 37, rfl⟩
abbrev main_v24_4 : Ref sig .tc := ⟨.hbm, 38, rfl⟩
abbrev main_v24_5 : Ref sig .tc := ⟨.hbm, 39, rfl⟩
abbrev main_v24_6 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x4224 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S256x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== Reference5Ideal.lean ====
abbrev S256x1024 : Shape := ⟨2, ![256, 1024]⟩
abbrev S1024x4176 : Shape := ⟨2, ![1024, 4176]⟩
abbrev S8 : Shape := ⟨1, ![8]⟩
abbrev S256x4176 : Shape := ⟨2, ![256, 4176]⟩
abbrev S256x512 : Shape := ⟨2, ![256, 512]⟩
abbrev S256x8 : Shape := ⟨2, ![256, 8]⟩
abbrev S256x64 : Shape := ⟨2, ![256, 64]⟩
abbrev S_ : Shape := ⟨0, ![]⟩
abbrev S1x8 : Shape := ⟨2, ![1, 8]⟩
abbrev S256x48 : Shape := ⟨2, ![256, 48]⟩
abbrev S256x2048 : Shape := ⟨2, ![256, 2048]⟩
abbrev S256x128 : Shape := ⟨2, ![256, 128]⟩

abbrev nBuf : Space → Nat
  | .hbm => 26
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x4176, .f32⟩
  | .hbm, ⟨2, _⟩ => ⟨S8, .f32⟩
  | .hbm, ⟨3, _⟩ => ⟨S256x4176, .f32⟩
  | .hbm, ⟨4, _⟩ => ⟨S256x512, .f32⟩
  | .hbm, ⟨5, _⟩ => ⟨S256x512, .f32⟩
  | .hbm, ⟨6, _⟩ => ⟨S256x512, .f32⟩
  | .hbm, ⟨7, _⟩ => ⟨S256x512, .f32⟩
  | .hbm, ⟨8, _⟩ => ⟨S256x8, .f32⟩
  | .hbm, ⟨9, _⟩ => ⟨S256x512, .f32⟩
  | .hbm, ⟨10, _⟩ => ⟨S256x512, .f32⟩
  | .hbm, ⟨11, _⟩ => ⟨S256x512, .f32⟩
  | .hbm, ⟨12, _⟩ => ⟨S256x512, .f32⟩
  | .hbm, ⟨13, _⟩ => ⟨S256x64, .f32⟩
  | .hbm, ⟨14, _⟩ => ⟨S256x8, .f32⟩
  | .hbm, ⟨15, _⟩ => ⟨S_, .f32⟩
  | .hbm, ⟨16, _⟩ => ⟨S256x512, .f32⟩
  | .hbm, ⟨17, _⟩ => ⟨S256x512, .f32⟩
  | .hbm, ⟨18, _⟩ => ⟨S1x8, .f32⟩
  | .hbm, ⟨19, _⟩ => ⟨S256x8, .f32⟩
  | .hbm, ⟨20, _⟩ => ⟨S256x8, .f32⟩
  | .hbm, ⟨21, _⟩ => ⟨S_, .f32⟩
  | .hbm, ⟨22, _⟩ => ⟨S256x48, .f32⟩
  | .hbm, ⟨23, _⟩ => ⟨S256x2048, .f32⟩
  | .hbm, ⟨24, _⟩ => ⟨S256x1024, .f32⟩
  | .hbm, ⟨25, _⟩ => ⟨S256x128, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩

abbrev nD : Nat := 1
abbrev τ : Topo := Topo.v7x

variable {F : FTy → Type} [FloatOps F]
-- ==== Kernel6.lean ====
abbrev S256x1024 : Shape := ⟨2, ![256, 1024]⟩
abbrev S1024x3072 : Shape := ⟨2, ![1024, 3072]⟩
abbrev S256x2048 : Shape := ⟨2, ![256, 2048]⟩
abbrev S1024x1024 : Shape := ⟨2, ![1024, 1024]⟩
abbrev S1024x2048 : Shape := ⟨2, ![1024, 2048]⟩

abbrev nBuf : Space → Nat
  | .hbm => 4
  | .vmem => 4
  | .smem => 0
  | _ => 0

abbrev bufTy : (tb : Table) → Fin (tcTables nBuf tb) → BufTy
  | .hbm, ⟨0, _⟩ => ⟨S256x1024, .f32⟩
  | .hbm, ⟨1, _⟩ => ⟨S1024x3072, .f32⟩
  | .hbm, ⟨2, _⟩ => ⟨S256x1024, .f32⟩
  | .hbm, ⟨3, _⟩ => ⟨S256x2048, .f32⟩
  | .local _ .vmem, ⟨0, _⟩ => ⟨S256x1024, .f32⟩
  | .local _ .vmem, ⟨1, _⟩ => ⟨S1024x3072, .f32⟩
  | .local _ .vmem, ⟨2, _⟩ => ⟨S256x1024, .f32⟩
  | .local _ .vmem, ⟨3, _⟩ => ⟨S256x2048, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== Reference6Ideal.lean ====
abbrev S256x1024 : Shape := ⟨2, ![256, 1024]⟩
abbrev S1024x3072 : Shape := ⟨2, ![1024, 3072]⟩
abbrev S256x3072 : Shape := ⟨2, ![256, 3072]⟩
abbrev S256x2048 : Shape := ⟨2, ![256, 2048]⟩

abbrev nBuf : Space → Nat
  | .hbm => 5
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x3072, .f32⟩
  | .hbm, ⟨2, _⟩ => ⟨S256x3072, .f32⟩
  | .hbm, ⟨3, _⟩ => ⟨S256x1024, .f32⟩
  | .hbm, ⟨4, _⟩ => ⟨S256x2048, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel7.lean ====
abbrev S256x1024 : Shape := ⟨2, ![256, 1024]⟩
abbrev S1024x16 : Shape := ⟨2, ![1024, 16]⟩
abbrev S16 : Shape := ⟨1, ![16]⟩
abbrev S16x1024x512 : Shape := ⟨3, ![16, 1024, 512]⟩
abbrev S16x512x1024 : Shape := ⟨3, ![16, 512, 1024]⟩
abbrev S1024 : Shape := ⟨1, ![1024]⟩
abbrev S_ : Shape := ⟨0, ![]⟩
abbrev S1024x128 : Shape := ⟨2, ![1024, 128]⟩
abbrev S1 : Shape := ⟨1, ![1]⟩
abbrev S1x128 : Shape := ⟨2, ![1, 128]⟩
abbrev S2 : Shape := ⟨1, ![2]⟩
abbrev S1x1024 : Shape := ⟨2, ![1, 1024]⟩
abbrev S1x1024x512 : Shape := ⟨3, ![1, 1024, 512]⟩
abbrev S1x512x1024 : Shape := ⟨3, ![1, 512, 1024]⟩
abbrev S256x128 : Shape := ⟨2, ![256, 128]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S512x1024 : Shape := ⟨2, ![512, 1024]⟩

abbrev nBuf : Space → Nat
  | .hbm => 24
  | .vmem => 15
  | .smem => 0
  | _ => 0

abbrev bufTy : (tb : Table) → Fin (tcTables nBuf tb) → BufTy
  | .hbm, ⟨0, _⟩ => ⟨S256x1024, .f32⟩
  | .hbm, ⟨1, _⟩ => ⟨S1024x16, .f32⟩
  | .hbm, ⟨2, _⟩ => ⟨S16, .f32⟩
  | .hbm, ⟨3, _⟩ => ⟨S16x1024x512, .f32⟩
  | .hbm, ⟨4, _⟩ => ⟨S16x1024x512, .f32⟩
  | .hbm, ⟨5, _⟩ => ⟨S16x512x1024, .f32⟩
  | .hbm, ⟨6, _⟩ => ⟨S1024, .f32⟩
  | .hbm, ⟨7, _⟩ => ⟨S1024, .f32⟩
  | .hbm, ⟨8, _⟩ => ⟨S_, .f32⟩
  | .hbm, ⟨9, _⟩ => ⟨S1024x128, .f32⟩
  | .hbm, ⟨10, _⟩ => ⟨S_, .i32⟩
  | .hbm, ⟨11, _⟩ => ⟨S1, .i32⟩
  | .hbm, ⟨12, _⟩ => ⟨S1024x128, .f32⟩
  | .hbm, ⟨13, _⟩ => ⟨S_, .f32⟩
  | .hbm, ⟨14, _⟩ => ⟨S1x128, .f32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S2, .i32⟩
  | .hbm, ⟨20, _⟩ => ⟨S1x128, .f32⟩
  | .hbm, ⟨21, _⟩ => ⟨S1x1024, .f32⟩
  | .hbm, ⟨22, _⟩ => ⟨S1x1024, .f32⟩
  | .hbm, ⟨23, _⟩ => ⟨S256x1024, .f32⟩
  | .local _ .vmem, ⟨0, _⟩ => ⟨S256x1024, .f32⟩
  | .local _ .vmem, ⟨1, _⟩ => ⟨S1024x128, .f32⟩
  | .local _ .vmem, ⟨2, _⟩ => ⟨S1x128, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x1024x512, .f32⟩
  | .local _ .vmem, ⟨7, _⟩ => ⟨S1x512x1024, .f32⟩
  | .local _ .vmem, ⟨8, _⟩ => ⟨S1x512x1024, .f32⟩
  | .local _ .vmem, ⟨9, _⟩ => ⟨S1x1024, .f32⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S256x128, .f32⟩
  | .local _ .vmem, ⟨14, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_c_1 : Ref sig .tc := ⟨.hbm, 15, rfl⟩
abbrev main_v4 : Ref sig .tc := ⟨.hbm, 16, rfl⟩
abbrev main_c_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨2, ![1, 16], ![false, false]⟩

def k0_mult1 : BitVec 32 :=
  let c0_i32_1 : BitVec 32 := 0#32
  let c256_i32 : BitVec 32 := 256#32
  let v3 : BitVec 32 := Scalar.muli c0_i32_1 c256_i32
  v3
def k0_off1 : Fin 2 → Nat :=
  let c0_i32_1 : BitVec 32 := 0#32
  let c256_i32 : BitVec 32 := 256#32
  let v3 : BitVec 32 := Scalar.muli c0_i32_1 c256_i32
  let v4 : BitVec 32 := v3
  let v5 : Index := Scalar.indexCast v4
  let c0 : Index := 0#32
  ![v5.toNat, 0]
def k0_off2 : Fin 2 → Nat :=
  let c0_i32_1 : BitVec 32 := 0#32
  let c256_i32 : BitVec 32 := 256#32
  let v3 : BitVec 32 := Scalar.muli c0_i32_1 c256_i32
  let v4 : BitVec 32 := v3
  let v19 : Index := Scalar.indexCast v4
  let c0_13 : Index := 0#32
  ![v19.toNat, 0]
def k0_cond2 (i : grid0.Coords) : BitVec 1 :=
  let arg1 : BitVec 32 := BitVec.ofNat 32 (i 1).val
  let c15_i32 : BitVec 32 := 15#32
  let v37 : BitVec 1 := Scalar.cmpi .eq arg1 c15_i32
  let v38 : BitVec 32 := Scalar.extui v37
  let c0_i32_18 : BitVec 32 := 0#32
  let v39 : BitVec 1 := Scalar.cmpi .ne v38 c0_i32_18
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]
-- ==== Kernel7Ideal.lean ====
variable {F : FTy → Type} [FloatOps F] [Named F]
def κ : String → Option EReal := fun
  | "mask" => some ⊥
  | _ => none
-- ==== Reference7Ideal.lean ====
abbrev S256x1024 : Shape := ⟨2, ![256, 1024]⟩
abbrev S1024x16 : Shape := ⟨2, ![1024, 16]⟩
abbrev S16 : Shape := ⟨1, ![16]⟩
abbrev S16x1024x512 : Shape := ⟨3, ![16, 1024, 512]⟩
abbrev S16x512x1024 : Shape := ⟨3, ![16, 512, 1024]⟩
abbrev S1024 : Shape := ⟨1, ![1024]⟩
abbrev S256x16 : Shape := ⟨2, ![256, 16]⟩
abbrev S_ : Shape := ⟨0, ![]⟩
abbrev S1x16 : Shape := ⟨2, ![1, 16]⟩
abbrev S256x4x4 : Shape := ⟨3, ![256, 4, 4]⟩
abbrev S256x4x2 : Shape := ⟨3, ![256, 4, 2]⟩
abbrev S256x4 : Shape := ⟨2, ![256, 4]⟩
abbrev S256x1 : Shape := ⟨2, ![256, 1]⟩
abbrev S256x4x2x1 : Shape := ⟨4, ![256, 4, 2, 1]⟩
abbrev S1x1x1x4 : Shape := ⟨4, ![1, 1, 1, 4]⟩
abbrev S256x4x2x4 : Shape := ⟨4, ![256, 4, 2, 4]⟩
abbrev S256 : Shape := ⟨1, ![256]⟩
abbrev S1x4 : Shape := ⟨2, ![1, 4]⟩
abbrev S256x4x1 : Shape := ⟨3, ![256, 4, 1]⟩
abbrev S256x1x1 : Shape := ⟨3, ![256, 1, 1]⟩
abbrev S16x512x256 : Shape := ⟨3, ![16, 512, 256]⟩
abbrev S16x256x512 : Shape := ⟨3, ![16, 256, 512]⟩
abbrev S16x256 : Shape := ⟨2, ![16, 256]⟩
abbrev S16x256x1 : Shape := ⟨3, ![16, 256, 1]⟩
abbrev S16x256x1024 : Shape := ⟨3, ![16, 256, 1024]⟩
abbrev S1x1024 : Shape := ⟨2, ![1, 1024]⟩

abbrev nBuf : Space → Nat
  | .hbm => 107
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x16, .f32⟩
  | .hbm, ⟨2, _⟩ => ⟨S16, .f32⟩
  | .hbm, ⟨3, _⟩ => ⟨S16x1024x512, .f32⟩
  | .hbm, ⟨4, _⟩ => ⟨S16x1024x512, .f32⟩
  | .hbm, ⟨5, _⟩ => ⟨S16x512x1024, .f32⟩
  | .hbm, ⟨6, _⟩ => ⟨S1024, .f32⟩
  | .hbm, ⟨7, _⟩ => ⟨S1024, .f32⟩
  | .hbm, ⟨8, _⟩ => ⟨S256x16, .f32⟩
  | .hbm, ⟨9, _⟩ => ⟨S256x16, .f32⟩
  | .hbm, ⟨10, _⟩ => ⟨S256x16, .f32⟩
  | .hbm, ⟨11, _⟩ => ⟨S_, .f32⟩
  | .hbm, ⟨12, _⟩ => ⟨S256x16, .f32⟩
  | .hbm, ⟨13, _⟩ => ⟨S256x16, .f32⟩
  | .hbm, ⟨14, _⟩ => ⟨S_, .f32⟩
  | .hbm, ⟨15, _⟩ => ⟨S256x16, .f32⟩
  | .hbm, ⟨16, _⟩ => ⟨S256x16, .f32⟩
  | .hbm, ⟨17, _⟩ => ⟨S1x16, .f32⟩
  | .hbm, ⟨18, _⟩ => ⟨S256x16, .f32⟩
  | .hbm, ⟨19, _⟩ => ⟨S256x16, .f32⟩
  | .hbm, ⟨20, _⟩ => ⟨S256x4x4, .f32⟩
  | .hbm, ⟨21, _⟩ => ⟨S256x4x2, .f32⟩
  | .hbm, ⟨22, _⟩ => ⟨S256x4x2, .i32⟩
  | .hbm, ⟨23, _⟩ => ⟨S_, .f32⟩
  | .hbm, ⟨24, _⟩ => ⟨S256x4, .f32⟩
  | .hbm, ⟨25, _⟩ => ⟨S256x1, .f32⟩
  | .hbm, ⟨26, _⟩ => ⟨S256x1, .i32⟩
  | .hbm, ⟨27, _⟩ => ⟨S256x4x2x1, .i32⟩
  | .hbm, ⟨28, _⟩ => ⟨S1x1x1x4, .i32⟩
  | .hbm, ⟨29, _⟩ => ⟨S256x4x2x4, .i32⟩
  | .hbm, ⟨30, _⟩ => ⟨S256x4x2x4, .i32⟩
  | .hbm, ⟨31, _⟩ => ⟨S256x4x2x4, .i1⟩
  | .hbm, ⟨32, _⟩ => ⟨S256x4x2x4, .f32⟩
  | .hbm, ⟨33, _⟩ => ⟨S_, .f32⟩
  | .hbm, ⟨34, _⟩ => ⟨S256x4x4, .f32⟩
  | .hbm, ⟨35, _⟩ => ⟨S256, .i32⟩
  | .hbm, ⟨36, _⟩ => ⟨S256x1, .i32⟩
  | .hbm, ⟨37, _⟩ => ⟨S1x4, .i32⟩
  | .hbm, ⟨38, _⟩ => ⟨S256x4, .i32⟩
  | .hbm, ⟨39, _⟩ => ⟨S256x4, .i32⟩
  | .hbm, ⟨40, _⟩ => ⟨S256x4, .i1⟩
  | .hbm, ⟨41, _⟩ => ⟨S256x4, .f32⟩
  | .hbm, ⟨42, _⟩ => ⟨S256x4x1, .f32⟩
  | .hbm, ⟨43, _⟩ => ⟨S256x4x4, .f32⟩
  | .hbm, ⟨44, _⟩ => ⟨S256x4x4, .f32⟩
  | .hbm, ⟨45, _⟩ => ⟨S256x4x4, .f32⟩
  | .hbm, ⟨46, _⟩ => ⟨S256x4x4, .f32⟩
  | .hbm, ⟨47, _⟩ => ⟨S_, .f32⟩
  | .hbm, ⟨48, _⟩ => ⟨S256, .f32⟩
  | .hbm, ⟨49, _⟩ => ⟨S256x1x1, .f32⟩
  | .hbm, ⟨50, _⟩ => ⟨S256x4x4, .f32⟩
  | .hbm, ⟨51, _⟩ => ⟨S256x4x4, .f32⟩
  | .hbm, ⟨52, _⟩ => ⟨S256x16, .f32⟩
  | .hbm, ⟨53, _⟩ => ⟨S16x512x256, .f32⟩
  | .hbm, ⟨54, _⟩ => ⟨S16x256x512, .f32⟩
  | .hbm, ⟨55, _⟩ => ⟨S16x256x512, .f32⟩
  | .hbm, ⟨56, _⟩ => ⟨S16x256x512, .f32⟩
  | .hbm, ⟨57, _⟩ => ⟨S_, .f32⟩
  | .hbm, ⟨58, _⟩ => ⟨S16x256x512, .f32⟩
  | .hbm, ⟨59, _⟩ => ⟨S16x256x512, .f32⟩
  | .hbm, ⟨60, _⟩ => ⟨S_, .f32⟩
  | .hbm, ⟨61, _⟩ => ⟨S16x256x512, .f32⟩
  | .hbm, ⟨62, _⟩ => ⟨S16x256x512, .f32⟩
  | .hbm, ⟨63, _⟩ => ⟨S16x256x512, .f32⟩
  | .hbm, ⟨64, _⟩ => ⟨S16x512x256, .f32⟩
  | .hbm, ⟨65, _⟩ => ⟨S16x256x512, .f32⟩
  | .hbm, ⟨66, _⟩ => ⟨S16x256x512, .f32⟩
  | .hbm, ⟨67, _⟩ => ⟨S16x256, .f32⟩
  | .hbm, ⟨68, _⟩ => ⟨S16x256x1, .f32⟩
  | .hbm, ⟨69, _⟩ => ⟨S16x256x1024, .f32⟩
  | .hbm, ⟨70, _⟩ => ⟨S16x256x1024, .f32⟩
  | .hbm, ⟨71, _⟩ => ⟨S16x256x1024, .f32⟩
  | .hbm, ⟨72, _⟩ => ⟨S_, .f32⟩
  | .hbm, ⟨73, _⟩ => ⟨S256x1024, .f32⟩
  | .hbm, ⟨74, _⟩ => ⟨S_, .f32⟩
  | .hbm, ⟨75, _⟩ => ⟨S256x1024, .f32⟩
  | .hbm, ⟨76, _⟩ => ⟨S256x1024, .f32⟩
  | .hbm, ⟨77, _⟩ => ⟨S256x1024, .f32⟩
  | .hbm, ⟨78, _⟩ => ⟨S_, .f32⟩
  | .hbm, ⟨79, _⟩ => ⟨S256, .f32⟩
  | .hbm, ⟨80, _⟩ => ⟨S256x1, .f32⟩
  | .hbm, ⟨81, _⟩ => ⟨S_, .f32⟩
  | .hbm, ⟨82, _⟩ => ⟨S256x1, .f32⟩
  | .hbm, ⟨83, _⟩ => ⟨S256x1, .f32⟩
  | .hbm, ⟨84, _⟩ => ⟨S256x1024, .f32⟩
  | .hbm, ⟨85, _⟩ => ⟨S256x1024, .f32⟩
  | .hbm, ⟨86, _⟩ => ⟨S256x1024, .f32⟩
  | .hbm, ⟨87, _⟩ => ⟨S_, .f32⟩
  | .hbm, ⟨88, _⟩ => ⟨S256, .f32⟩
  | .hbm, ⟨89, _⟩ => ⟨S256x1, .f32⟩
  | .hbm, ⟨90, _⟩ => ⟨S_, .f32⟩
  | .hbm, ⟨91, _⟩ => ⟨S256x1, .f32⟩
  | .hbm, ⟨92, _⟩ => ⟨S256x1, .f32⟩
  | .hbm, ⟨93, _⟩ => ⟨S256x1024, .f32⟩
  | .hbm, ⟨94, _⟩ => ⟨S256x1024, .f32⟩
  | .hbm, ⟨95, _⟩ => ⟨S_, .f32⟩
  | .hbm, ⟨96, _⟩ => ⟨S256x1, .f32⟩
  | .hbm, ⟨97, _⟩ => ⟨S256x1, .f32⟩
  | .hbm, ⟨98, _⟩ => ⟨S256x1, .f32⟩
  | .hbm, ⟨99, _⟩ => ⟨S256x1024, .f32⟩
  | .hbm, ⟨100, _⟩ => ⟨S256x1024, .f32⟩
  | .hbm, ⟨101, _⟩ => ⟨S1x1024, .f32⟩
  | .hbm, ⟨102, _⟩ => ⟨S256x1024, .f32⟩
  | .hbm, ⟨103, _⟩ => ⟨S256x1024, .f32⟩
  | .hbm, ⟨104, _⟩ => ⟨S1x1024, .f32⟩
  | .hbm, ⟨105, _⟩ => ⟨S256x1024, .f32⟩
  | .hbm, ⟨106, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_values : Ref sig .tc := ⟨.hbm, 21, rfl⟩
abbrev main_indices : Ref sig .tc := ⟨.hbm, 22, rfl⟩
abbrev main_cst_1 : Ref sig .tc := ⟨.hbm, 23, rfl⟩
abbrev main_v11 : Ref sig .tc := ⟨.hbm, 24, rfl⟩
abbrev main_values_2 : Ref sig .tc := ⟨.hbm, 25, rfl⟩
abbrev main_indices_3 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v12 : Ref sig .tc := ⟨.hbm, 32, rfl⟩
abbrev main_cst_4 : Ref sig .tc := ⟨.hbm, 33, rfl⟩
abbrev main_v13 : Ref sig .tc := ⟨.hbm, 34, rfl⟩
abbrev main_v14 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_cst_5 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_call2_v0 : Ref sig .tc := ⟨.hbm, 55, rfl⟩
abbrev main_call2_v1 : Ref sig .tc := ⟨.hbm, 56, rfl⟩
abbrev main_call2_cst : Ref sig .tc := ⟨.hbm, 57, rfl⟩
abbrev main_call2_v2 : Ref sig .tc := ⟨.hbm, 58, rfl⟩
abbrev main_call2_v3 : Ref sig .tc := ⟨.hbm, 59, rfl⟩
abbrev main_call2_cst_0 : Ref sig .tc := ⟨.hbm, 60, rfl⟩
abbrev main_call2_v4 : Ref sig .tc := ⟨.hbm, 61, rfl⟩
abbrev main_call2_v5 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_cst_6 : Ref sig .tc := ⟨.hbm, 72, rfl⟩
abbrev main_v37 : Ref sig .tc := ⟨.hbm, 73, rfl⟩
abbrev main_cst_7 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_cst_8 : Ref sig .tc := ⟨.hbm, 78, rfl⟩
abbrev main_v41 : Ref sig .tc := ⟨.hbm, 79, rfl⟩
abbrev main_v42 : Ref sig .tc := ⟨.hbm, 80, rfl⟩
abbrev main_cst_9 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_cst_10 : Ref sig .tc := ⟨.hbm, 87, rfl⟩
abbrev main_v48 : Ref sig .tc := ⟨.hbm, 88, rfl⟩
abbrev main_v49 : Ref sig .tc := ⟨.hbm, 89, rfl⟩
abbrev main_cst_11 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_cst_12 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩

abbrev nD : Nat := 1
abbrev τ : Topo := Topo.v7x

variable {F : FTy → Type} [FloatOps F]
-- ==== Kernel8.lean ====
abbrev S256x512 : Shape := ⟨2, ![256, 512]⟩
abbrev S1024x1024 : Shape := ⟨2, ![1024, 1024]⟩
abbrev S256x1024 : Shape := ⟨2, ![256, 1024]⟩
abbrev S1024 : Shape := ⟨1, ![1024]⟩
abbrev S1x1024 : Shape := ⟨2, ![1, 1024]⟩
abbrev S512x1024 : Shape := ⟨2, ![512, 1024]⟩
abbrev S256 : Shape := ⟨1, ![256]⟩
abbrev S256x1 : Shape := ⟨2, ![256, 1]⟩

abbrev nBuf : Space → Nat
  | .hbm => 9
  | .vmem => 7
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S1024x1024, .f32⟩
  | .hbm, ⟨3, _⟩ => ⟨S256x1024, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S256x1024, .f32⟩
  | .local _ .vmem, ⟨0, _⟩ => ⟨S256x512, .f32⟩
  | .local _ .vmem, ⟨1, _⟩ => ⟨S256x512, .f32⟩
  | .local _ .vmem, ⟨2, _⟩ => ⟨S1024x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S256x1024, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference8Ideal.lean ====
abbrev S256x512 : Shape := ⟨2, ![256, 512]⟩
abbrev S1024x1024 : Shape := ⟨2, ![1024, 1024]⟩
abbrev S256x1024 : Shape := ⟨2, ![256, 1024]⟩
abbrev S1024 : Shape := ⟨1, ![1024]⟩
abbrev S_ : Shape := ⟨0, ![]⟩
abbrev S256 : Shape := ⟨1, ![256]⟩
abbrev S256x1 : Shape := ⟨2, ![256, 1]⟩
abbrev S1x1024 : Shape := ⟨2, ![1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S1024x1024, .f32⟩
  | .hbm, ⟨3, _⟩ => ⟨S256x1024, .f32⟩
  | .hbm, ⟨4, _⟩ => ⟨S1024, .f32⟩
  | .hbm, ⟨5, _⟩ => ⟨S1024, .f32⟩
  | .hbm, ⟨6, _⟩ => ⟨S256x1024, .f32⟩
  | .hbm, ⟨7, _⟩ => ⟨S256x1024, .f32⟩
  | .hbm, ⟨8, _⟩ => ⟨S_, .f32⟩
  | .hbm, ⟨9, _⟩ => ⟨S256x1024, .f32⟩
  | .hbm, ⟨10, _⟩ => ⟨S256x1024, .f32⟩
  | .hbm, ⟨11, _⟩ => ⟨S256x1024, .f32⟩
  | .hbm, ⟨12, _⟩ => ⟨S_, .f32⟩
  | .hbm, ⟨13, _⟩ => ⟨S256, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S_, .f32⟩
  | .hbm, ⟨22, _⟩ => ⟨S256, .f32⟩
  | .hbm, ⟨23, _⟩ => ⟨S256x1, .f32⟩
  | .hbm, ⟨24, _⟩ => ⟨S_, .f32⟩
  | .hbm, ⟨25, _⟩ => ⟨S256x1, .f32⟩
  | .hbm, ⟨26, _⟩ => ⟨S256x1, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1, .f32⟩
  | .hbm, ⟨31, _⟩ => ⟨S256x1, .f32⟩
  | .hbm, ⟨32, _⟩ => ⟨S256x1, .f32⟩
  | .hbm, ⟨33, _⟩ => ⟨S256x1024, .f32⟩
  | .hbm, ⟨34, _⟩ => ⟨S256x1024, .f32⟩
  | .hbm, ⟨35, _⟩ => ⟨S1x1024, .f32⟩
  | .hbm, ⟨36, _⟩ => ⟨S256x1024, .f32⟩
  | .hbm, ⟨37, _⟩ => ⟨S256x1024, .f32⟩
  | .hbm, ⟨38, _⟩ => ⟨S1x1024, .f32⟩
  | .hbm, ⟨39, _⟩ => ⟨S256x1024, .f32⟩
  | .hbm, ⟨40, _⟩ => ⟨S256x1024, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Kernel9.lean ====
abbrev S256x1024 : Shape := ⟨2, ![256, 1024]⟩
abbrev S4x512 : Shape := ⟨2, ![4, 512]⟩
abbrev S512 : Shape := ⟨1, ![512]⟩
abbrev S8x64x64 : Shape := ⟨3, ![8, 64, 64]⟩
abbrev S32x3x512 : Shape := ⟨3, ![32, 3, 512]⟩
abbrev S32x512 : Shape := ⟨2, ![32, 512]⟩
abbrev S_ : Shape := ⟨0, ![]⟩
abbrev S32x8x512 : Shape := ⟨3, ![32, 8, 512]⟩
abbrev S32x1x512 : Shape := ⟨3, ![32, 1, 512]⟩
abbrev S1x512 : Shape := ⟨2, ![1, 512]⟩
abbrev S8x8 : Shape := ⟨2, ![8, 8]⟩
abbrev S8x1x8x1 : Shape := ⟨4, ![8, 1, 8, 1]⟩
abbrev S8x64x1x64 : Shape := ⟨4, ![8, 64, 1, 64]⟩
abbrev S8x64x8x64 : Shape := ⟨4, ![8, 64, 8, 64]⟩
abbrev S512x512 : Shape := ⟨2, ![512, 512]⟩
abbrev S256x512 : Shape := ⟨2, ![256, 512]⟩
abbrev S8x1024 : Shape := ⟨2, ![8, 1024]⟩
abbrev S1x8x512 : Shape := ⟨3, ![1, 8, 512]⟩
abbrev S8x512 : Shape := ⟨2, ![8, 512]⟩

abbrev nBuf : Space → Nat
  | .hbm => 47
  | .vmem => 19
  | .smem => 0
  | _ => 0

abbrev bufTy : (tb : Table) → Fin (tcTables nBuf tb) → BufTy
  | .hbm, ⟨0, _⟩ => ⟨S256x1024, .f32⟩
  | .hbm, ⟨1, _⟩ => ⟨S4x512, .f32⟩
  | .hbm, ⟨2, _⟩ => ⟨S512, .f32⟩
  | .hbm, ⟨3, _⟩ => ⟨S8x64x64, .f32⟩
  | .hbm, ⟨4, _⟩ => ⟨S512, .f32⟩
  | .hbm, ⟨5, _⟩ => ⟨S8x64x64, .f32⟩
  | .hbm, ⟨6, _⟩ => ⟨S512, .f32⟩
  | .hbm, ⟨7, _⟩ => ⟨S512, .f32⟩
  | .hbm, ⟨8, _⟩ => ⟨S32x3x512, .f32⟩
  | .hbm, ⟨9, _⟩ => ⟨S32x512, .f32⟩
  | .hbm, ⟨10, _⟩ => ⟨S_, .i32⟩
  | .hbm, ⟨11, _⟩ => ⟨S_, .f32⟩
  | .hbm, ⟨12, _⟩ => ⟨S32x8x512, .f32⟩
  | .hbm, ⟨13, _⟩ => ⟨S32x1x512, .f32⟩
  | .hbm, ⟨14, _⟩ => ⟨S32x8x512, .f32⟩
  | .hbm, ⟨15, _⟩ => ⟨S1x512, .f32⟩
  | .hbm, ⟨16, _⟩ => ⟨S8x8, .i32⟩
  | .hbm, ⟨17, _⟩ => ⟨S8x8, .i32⟩
  | .hbm, ⟨18, _⟩ => ⟨S_, .i32⟩
  | .hbm, ⟨19, _⟩ => ⟨S8x8, .i32⟩
  | .hbm, ⟨20, _⟩ => ⟨S8x8, .i32⟩
  | .hbm, ⟨21, _⟩ => ⟨S8x8, .i1⟩
  | .hbm, ⟨22, _⟩ => ⟨S8x8, .f32⟩
  | .hbm, ⟨23, _⟩ => ⟨S8x1x8x1, .f32⟩
  | .hbm, ⟨24, _⟩ => ⟨S8x64x1x64, .f32⟩
  | .hbm, ⟨25, _⟩ => ⟨S8x64x8x64, .f32⟩
  | .hbm, ⟨26, _⟩ => ⟨S8x64x8x64, .f32⟩
  | .hbm, ⟨27, _⟩ => ⟨S8x64x8x64, .f32⟩
  | .hbm, ⟨28, _⟩ => ⟨S512x512, .f32⟩
  | .hbm, ⟨29, _⟩ => ⟨S1x512, .f32⟩
  | .hbm, ⟨30, _⟩ => ⟨S8x8, .i32⟩
  | .hbm, ⟨31, _⟩ => ⟨S8x8, .i32⟩
  | .hbm, ⟨32, _⟩ => ⟨S_, .i32⟩
  | .hbm, ⟨33, _⟩ => ⟨S8x8, .i32⟩
  | .hbm, ⟨34, _⟩ => ⟨S8x8, .i32⟩
  | .hbm, ⟨35, _⟩ => ⟨S8x8, .i1⟩
  | .hbm, ⟨36, _⟩ => ⟨S8x8, .f32⟩
  | .hbm, ⟨37, _⟩ => ⟨S8x1x8x1, .f32⟩
  | .hbm, ⟨38, _⟩ => ⟨S8x64x1x64, .f32⟩
  | .hbm, ⟨39, _⟩ => ⟨S8x64x8x64, .f32⟩
  | .hbm, ⟨40, _⟩ => ⟨S8x64x8x64, .f32⟩
  | .hbm, ⟨41, _⟩ => ⟨S8x64x8x64, .f32⟩
  | .hbm, ⟨42, _⟩ => ⟨S512x512, .f32⟩
  | .hbm, ⟨43, _⟩ => ⟨S1x512, .f32⟩
  | .hbm, ⟨44, _⟩ => ⟨S1x512, .f32⟩
  | .hbm, ⟨45, _⟩ => ⟨S256x512, .f32⟩
  | .hbm, ⟨46, _⟩ => ⟨S32x8x512, .f32⟩
  | .local _ .vmem, ⟨0, _⟩ => ⟨S8x1024, .f32⟩
  | .local _ .vmem, ⟨1, _⟩ => ⟨S8x1024, .f32⟩
  | .local _ .vmem, ⟨2, _⟩ => ⟨S4x512, .f32⟩
  | .local _ .vmem, ⟨3, _⟩ => ⟨S1x512, .f32⟩
  | .local _ .vmem, ⟨4, _⟩ => ⟨S512x512, .f32⟩
  | .local _ .vmem, ⟨5, _⟩ => ⟨S1x512, .f32⟩
  | .local _ .vmem, ⟨6, _⟩ => ⟨S512x512, .f32⟩
  | .local _ .vmem, ⟨7, _⟩ => ⟨S1x512, .f32⟩
  | .local _ .vmem, ⟨8, _⟩ => ⟨S1x512, .f32⟩
  | .local _ .vmem, ⟨9, _⟩ => ⟨S1x8x512, .f32⟩
  | .local _ .vmem, ⟨10, _⟩ => ⟨S1x8x512, .f32⟩
  | .local _ .vmem, ⟨11, _⟩ => ⟨S1x8x512, .f32⟩
  | .local _ .vmem, ⟨12, _⟩ => ⟨S1x8x512, .f32⟩
  | .local _ .vmem, ⟨13, _⟩ => ⟨S8x512, .f32⟩
  | .local _ .vmem, ⟨14, _⟩ => ⟨S8x512, .f32⟩
  | .local _ .vmem, ⟨15, _⟩ => ⟨S1x8x512, .f32⟩
  | .local _ .vmem, ⟨16, _⟩ => ⟨S1x8x512, .f32⟩
  | .local _ .vmem, ⟨17, _⟩ => ⟨S8x512, .f32⟩
  | .local _ .vmem, ⟨18, _⟩ => ⟨S8x512, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31_0 : Ref sig .tc := ⟨.hbm, 45, rfl⟩
abbrev main_v31_1 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_55 : BitVec 32 := 0#32
  let v147 : BitVec 1 := Scalar.cmpi .eq arg1 c0_i32_55
  let v148 : BitVec 32 := Scalar.extui v147
  let c0_i32_56 : BitVec 32 := 0#32
  let v149 : BitVec 1 := Scalar.cmpi .ne v148 c0_i32_56
  v149

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference9Ideal.lean ====
abbrev S256x1024 : Shape := ⟨2, ![256, 1024]⟩
abbrev S4x512 : Shape := ⟨2, ![4, 512]⟩
abbrev S512 : Shape := ⟨1, ![512]⟩
abbrev S8x64x64 : Shape := ⟨3, ![8, 64, 64]⟩
abbrev S32x3x512 : Shape := ⟨3, ![32, 3, 512]⟩
abbrev S32x512 : Shape := ⟨2, ![32, 512]⟩
abbrev S256x512 : Shape := ⟨2, ![256, 512]⟩
abbrev S32x8x512 : Shape := ⟨3, ![32, 8, 512]⟩
abbrev S32x11x512 : Shape := ⟨3, ![32, 11, 512]⟩
abbrev S1x512 : Shape := ⟨2, ![1, 512]⟩
abbrev S1x1x512 : Shape := ⟨3, ![1, 1, 512]⟩
abbrev S_ : Shape := ⟨0, ![]⟩
abbrev S32x8x8x64 : Shape := ⟨4, ![32, 8, 8, 64]⟩
abbrev S8x64x32x8 : Shape := ⟨4, ![8, 64, 32, 8]⟩
abbrev S32x1x512 : Shape := ⟨3, ![32, 1, 512]⟩

abbrev nBuf : Space → Nat
  | .hbm => 184
  | .vmem => 0
  | .smem => 0
  | _ => 0

abbrev hbmTy0_0 (i : Nat) : BufTy := match i % 128 with
  | 0 => ⟨S256x1024, .f32⟩
  | 1 => ⟨S4x512, .f32⟩
  | 2 => ⟨S512, .f32⟩
  | 3 => ⟨S8x64x64, .f32⟩
  | 4 => ⟨S512, .f32⟩
  | 5 => ⟨S8x64x64, .f32⟩
  | 6 => ⟨S512, .f32⟩
  | 7 => ⟨S512, .f32⟩
  | 8 => ⟨S32x3x512, .f32⟩
  | 9 => ⟨S32x512, .f32⟩
  | 10 => ⟨S256x512, .f32⟩
  | 11 => ⟨S32x8x512, .f32⟩
  | 12 => ⟨S32x11x512, .f32⟩
  | 13 => ⟨S1x512, .f32⟩
  | 14 => ⟨S512, .f32⟩
  | 15 => ⟨S32x8x512, .f32⟩
  | 16 => ⟨S1x1x512, .f32⟩
  | 17 => ⟨S32x8x512, .f32⟩
  | 18 => ⟨S32x8x512, .f32⟩
  | 19 => ⟨S_, .f32⟩
  | 20 => ⟨S32x8x512, .f32⟩
  | 21 => ⟨S32x8x512, .f32⟩
  | 22 => ⟨S1x512, .f32⟩
  | 23 => ⟨S512, .f32⟩
  | 24 => ⟨S32x8x512, .f32⟩
  | 25 => ⟨S1x1x512, .f32⟩
  | 26 => ⟨S32x8x512, .f32⟩
  | 27 => ⟨S32x8x512, .f32⟩
  | 28 => ⟨S32x8x512, .f32⟩
  | 29 => ⟨S1x512, .f32⟩
  | 30 => ⟨S512, .f32⟩
  | 31 => ⟨S32x8x512, .f32⟩
  | 32 => ⟨S1x1x512, .f32⟩
  | 33 => ⟨S32x8x512, .f32⟩
  | 34 => ⟨S32x8x512, .f32⟩
  | 35 => ⟨S32x8x512, .f32⟩
  | 36 => ⟨S1x512, .f32⟩
  | 37 => ⟨S512, .f32⟩
  | 38 => ⟨S32x8x512, .f32⟩
  | 39 => ⟨S1x1x512, .f32⟩
  | 40 => ⟨S32x8x512, .f32⟩
  | 41 => ⟨S32x8x512, .f32⟩
  | 42 => ⟨S32x8x512, .f32⟩
  | 43 => ⟨S1x1x512, .f32⟩
  | 44 => ⟨S32x8x512, .f32⟩
  | 45 => ⟨S32x8x512, .f32⟩
  | 46 => ⟨S32x8x8x64, .f32⟩
  | 47 => ⟨S8x64x32x8, .f32⟩
  | 48 => ⟨S32x8x8x64, .f32⟩
  | 49 => ⟨S32x8x512, .f32⟩
  | 50 => ⟨S1x1x512, .f32⟩
  | 51 => ⟨S32x8x512, .f32⟩
  | 52 => ⟨S32x8x512, .f32⟩
  | 53 => ⟨S32x8x512, .f32⟩
  | 54 => ⟨S32x8x512, .f32⟩
  | 55 => ⟨S_, .f32⟩
  | 56 => ⟨S32x8x512, .f32⟩
  | 57 => ⟨S32x8x512, .f32⟩
  | 58 => ⟨S_, .f32⟩
  | 59 => ⟨S32x8x512, .f32⟩
  | 60 => ⟨S32x8x512, .f32⟩
  | 61 => ⟨S8x64x32x8, .f32⟩
  | 62 => ⟨S32x8x8x64, .f32⟩
  | 63 => ⟨S32x8x512, .f32⟩
  | 64 => ⟨S1x1x512, .f32⟩
  | 65 => ⟨S32x8x512, .f32⟩
  | 66 => ⟨S32x8x512, .f32⟩
  | 67 => ⟨S32x8x512, .f32⟩
  | 68 => ⟨S32x8x512, .f32⟩
  | 69 => ⟨S_, .f32⟩
  | 70 => ⟨S32x8x512, .f32⟩
  | 71 => ⟨S32x8x512, .f32⟩
  | 72 => ⟨S_, .f32⟩
  | 73 => ⟨S32x8x512, .f32⟩
  | 74 => ⟨S32x8x512, .f32⟩
  | 75 => ⟨S_, .f32⟩
  | 76 => ⟨S32x8x512, .f32⟩
  | 77 => ⟨S32x8x512, .f32⟩
  | 78 => ⟨S512, .f32⟩
  | 79 => ⟨S_, .f32⟩
  | 80 => ⟨S512, .f32⟩
  | 81 => ⟨S512, .f32⟩
  | 82 => ⟨S512, .f32⟩
  | 83 => ⟨S512, .f32⟩
  | 84 => ⟨S512, .i1⟩
  | 85 => ⟨S512, .f32⟩
  | 86 => ⟨S512, .f32⟩
  | 87 => ⟨S512, .f32⟩
  | 88 => ⟨S512, .f32⟩
  | 89 => ⟨S512, .f32⟩
  | 90 => ⟨S512, .f32⟩
  | 91 => ⟨S512, .f32⟩
  | 92 => ⟨S512, .f32⟩
  | 93 => ⟨S1x1x512, .f32⟩
  | 94 => ⟨S32x8x512, .f32⟩
  | 95 => ⟨S32x8x512, .f32⟩
  | 96 => ⟨S32x8x512, .f32⟩
  | 97 => ⟨S_, .f32⟩
  | 98 => ⟨S32x8x512, .f32⟩
  | 99 => ⟨S32x8x512, .f32⟩
  | 100 => ⟨S32x8x512, .f32⟩
  | 101 => ⟨S32x8x512, .f32⟩
  | 102 => ⟨S32x8x512, .f32⟩
  | 103 => ⟨S32x8x512, .f32⟩
  | 104 => ⟨S32x8x512, .f32⟩
  | 105 => ⟨S32x1x512, .f32⟩
  | 106 => ⟨S32x512, .f32⟩
  | 107 => ⟨S32x512, .f32⟩
  | 108 => ⟨S32x1x512, .f32⟩
  | 109 => ⟨S32x512, .f32⟩
  | 110 => ⟨S32x512, .f32⟩
  | 111 => ⟨S32x1x512, .f32⟩
  | 112 => ⟨S32x512, .f32⟩
  | 113 => ⟨S32x512, .f32⟩
  | 114 => ⟨S32x1x512, .f32⟩
  | 115 => ⟨S32x512, .f32⟩
  | 116 => ⟨S32x512, .f32⟩
  | 117 => ⟨S32x1x512, .f32⟩
  | 118 => ⟨S32x512, .f32⟩
  | 119 => ⟨S32x512, .f32⟩
  | 120 => ⟨S32x1x512, .f32⟩
  | 121 => ⟨S32x512, .f32⟩
  | 122 => ⟨S32x512, .f32⟩
  | 123 => ⟨S32x1x512, .f32⟩
  | 124 => ⟨S32x512, .f32⟩
  | 125 => ⟨S32x512, .f32⟩
  | 126 => ⟨S32x1x512, .f32⟩
  | 127 => ⟨S32x512, .f32⟩
  | _ => ⟨S256x1024, .f32⟩

abbrev hbmTy0_1 (i : Nat) : BufTy := match i % 128 with
  | 0 => ⟨S32x512, .f32⟩
  | 1 => ⟨S32x1x512, .f32⟩
  | 2 => ⟨S32x512, .f32⟩
  | 3 => ⟨S32x512, .f32⟩
  | 4 => ⟨S32x1x512, .f32⟩
  | 5 => ⟨S32x512, .f32⟩
  | 6 => ⟨S32x512, .f32⟩
  | 7 => ⟨S32x1x512, .f32⟩
  | 8 => ⟨S32x512, .f32⟩
  | 9 => ⟨S32x512, .f32⟩
  | 10 => ⟨S32x1x512, .f32⟩
  | 11 => ⟨S32x512, .f32⟩
  | 12 => ⟨S32x512, .f32⟩
  | 13 => ⟨S32x1x512, .f32⟩
  | 14 => ⟨S32x512, .f32⟩
  | 15 => ⟨S32x512, .f32⟩
  | 16 => ⟨S32x1x512, .f32⟩
  | 17 => ⟨S32x512, .f32⟩
  | 18 => ⟨S32x512, .f32⟩
  | 19 => ⟨S32x1x512, .f32⟩
  | 20 => ⟨S32x512, .f32⟩
  | 21 => ⟨S32x512, .f32⟩
  | 22 => ⟨S32x1x512, .f32⟩
  | 23 => ⟨S32x512, .f32⟩
  | 24 => ⟨S32x512, .f32⟩
  | 25 => ⟨S32x1x512, .f32⟩
  | 26 => ⟨S32x1x512, .f32⟩
  | 27 => ⟨S32x1x512, .f32⟩
  | 28 => ⟨S32x1x512, .f32⟩
  | 29 => ⟨S32x1x512, .f32⟩
  | 30 => ⟨S32x1x512, .f32⟩
  | 31 => ⟨S32x1x512, .f32⟩
  | 32 => ⟨S32x1x512, .f32⟩
  | 33 => ⟨S32x8x512, .f32⟩
  | 34 => ⟨S256x512, .f32⟩
  | 35 => ⟨S256x512, .f32⟩
  | 36 => ⟨S256x512, .f32⟩
  | 37 => ⟨S256x512, .f32⟩
  | 38 => ⟨S_, .f32⟩
  | 39 => ⟨S256x512, .f32⟩
  | 40 => ⟨S256x512, .f32⟩
  | 41 => ⟨S256x512, .f32⟩
  | 42 => ⟨S_, .f32⟩
  | 43 => ⟨S256x512, .f32⟩
  | 44 => ⟨S256x512, .f32⟩
  | 45 => ⟨S256x512, .f32⟩
  | 46 => ⟨S_, .f32⟩
  | 47 => ⟨S256x512, .f32⟩
  | 48 => ⟨S256x512, .f32⟩
  | 49 => ⟨S_, .f32⟩
  | 50 => ⟨S256x512, .f32⟩
  | 51 => ⟨S256x512, .f32⟩
  | 52 => ⟨S256x512, .f32⟩
  | 53 => ⟨S256x512, .f32⟩
  | 54 => ⟨S32x1x512, .f32⟩
  | 55 => ⟨S32x8x512, .f32⟩
  | _ => ⟨S256x1024, .f32⟩

abbrev hbmTy (i : Nat) : BufTy := match i / 128 with
  | 0 => hbmTy0_0 i
  | 1 => hbmTy0_1 i
  | _ => ⟨S256x1024, .f32⟩

abbrev bufTy : (tb : Table) → Fin (tcTables nBuf tb) → BufTy
  | .hbm, ⟨i, _⟩ => hbmTy i
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_0 : Ref sig .tc := ⟨.hbm, 55, rfl⟩
abbrev main_v44 : Ref sig .tc := ⟨.hbm, 56, rfl⟩
abbrev main_v45 : Ref sig .tc := ⟨.hbm, 57, rfl⟩
abbrev main_cst_1 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_2 : Ref sig .tc := ⟨.hbm, 69, rfl⟩
abbrev main_v56 : Ref sig .tc := ⟨.hbm, 70, rfl⟩
abbrev main_v57 : Ref sig .tc := ⟨.hbm, 71, rfl⟩
abbrev main_cst_3 : Ref sig .tc := ⟨.hbm, 72, rfl⟩
abbrev main_v58 : Ref sig .tc := ⟨.hbm, 73, rfl⟩
abbrev main_v59 : Ref sig .tc := ⟨.hbm, 74, rfl⟩
abbrev main_cst_4 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_call0_cst : Ref sig .tc := ⟨.hbm, 79, rfl⟩
abbrev main_call0_v0 : Ref sig .tc := ⟨.hbm, 80, rfl⟩
abbrev main_call0_v1 : Ref sig .tc := ⟨.hbm, 81, rfl⟩
abbrev main_call0_v2 : Ref sig .tc := ⟨.hbm, 82, rfl⟩
abbrev main_call0_v3 : Ref sig .tc := ⟨.hbm, 83, rfl⟩
abbrev main_call0_v4 : Ref sig .tc := ⟨.hbm, 84, rfl⟩
abbrev main_call0_v5 : Ref sig .tc := ⟨.hbm, 85, rfl⟩
abbrev main_call0_v6 : Ref sig .tc := ⟨.hbm, 86, rfl⟩
abbrev main_call0_v7 : Ref sig .tc := ⟨.hbm, 87, rfl⟩
abbrev main_call0_v8 : Ref sig .tc := ⟨.hbm, 88, rfl⟩
abbrev main_call0_v9 : Ref sig .tc := ⟨.hbm, 89, rfl⟩
abbrev main_call0_v10 : Ref sig .tc := ⟨.hbm, 90, rfl⟩
abbrev main_call0_v11 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_5 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_cst_6 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_cst_7 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_cst_8 : Ref sig .tc := ⟨.hbm, 174, rfl⟩
abbrev main_v142 : Ref sig .tc := ⟨.hbm, 175, rfl⟩
abbrev main_v143 : Ref sig .tc := ⟨.hbm, 176, rfl⟩
abbrev main_cst_9 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩

abbrev nD : Nat := 1
abbrev τ : Topo := Topo.v7x

variable {F : FTy → Type} [FloatOps F]
-- ==== Proof.WordsKernelIdeal.lean ====
module

public import proofs.«01_k».proof.Proof.Gen.KernelIdeal.Frame
public import proofs.«01_k».proof.Proof.Gen.KernelIdeal.Loops
public import Idealize.ShloMosaic.Lib.Affine

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The full tiles' loop from zero to any word in steps of one has a meaning. -/
private theorem full_ok (q : BitVec 32) :
    Scf.OK 0#32 (Scalar.addi 0#32 (Scalar.muli (Scalar.divsi (Scalar.subi q 0#32) 1#32) 1#32)) 1#32 := by
  have h0 : Affine.IsInt 0#32 (0) := Affine.ofNat _ (by omega)
  have h1 : Affine.IsInt 1#32 (1) := Affine.ofNat _ (by omega)
  have hr := Affine.word_range q
  have hq := Affine.word q
  have ha := Affine.subi hq h0 (e := q.toInt) (by omega)
  have hb := Affine.divsi_one ha h1 (e := q.toInt) (by omega)
  have hc := Affine.muli hb h1 (e := q.toInt) (by omega)
  have hd := Affine.addi h0 hc (e := q.toInt) (by omega)
  have he := Affine.addi h0 ha (e := q.toInt) (by omega)
  exact Affine.ok h0 hd h1 (by omega)

/-- The remainder copy of that loop has a meaning. -/
private theorem rest_ok (q : BitVec 32) :
    Scf.OK (Scalar.addi 0#32 (Scalar.muli (Scalar.divsi (Scalar.subi q 0#32) 1#32) 1#32))
      (Scalar.addi 0#32 (Scalar.subi q 0#32)) 1#32 := by
  have h0 : Affine.IsInt 0#32 (0) := Affine.ofNat _ (by omega)
  have h1 : Affine.IsInt 1#32 (1) := Affine.ofNat _ (by omega)
  have hr := Affine.word_range q
  have hq := Affine.word q
  have ha := Affine.subi hq h0 (e := q.toInt) (by omega)
  have hb := Affine.divsi_one ha h1 (e := q.toInt) (by omega)
  have hc := Affine.muli hb h1 (e := q.toInt) (by omega)
  have hd := Affine.addi h0 hc (e := q.toInt) (by omega)
  have he := Affine.addi h0 ha (e := q.toInt) (by omega)
  exact Affine.ok hd he h1 (by omega)

/-- The remainder copy of that loop runs no trip. -/
private theorem rest_trips (q : BitVec 32) :
    Scf.trips (Scalar.addi 0#32 (Scalar.muli (Scalar.divsi (Scalar.subi q 0#32) 1#32) 1#32))
      (Scalar.addi 0#32 (Scalar.subi q 0#32)) 1#32 = 0 := by
  have h0 : Affine.IsInt 0#32 (0) := Affine.ofNat _ (by omega)
  have h1 : Affine.IsInt 1#32 (1) := Affine.ofNat _ (by omega)
  have hr := Affine.word_range q
  have hq := Affine.word q
  have ha := Affine.subi hq h0 (e := q.toInt) (by omega)
  have hb := Affine.divsi_one ha h1 (e := q.toInt) (by omega)
  have hc := Affine.muli hb h1 (e := q.toInt) (by omega)
  have hd := Affine.addi h0 hc (e := q.toInt) (by omega)
  have he := Affine.addi h0 ha (e := q.toInt) (by omega)
  exact Affine.trips_eq hd he h1 0 (by omega)

/-- The full tiles' loop runs as many trips as the word says. -/
private theorem full_trips (q : BitVec 32) (hn : 0 ≤ q.toInt) :
    Scf.trips 0#32 (Scalar.addi 0#32 (Scalar.muli (Scalar.divsi (Scalar.subi q 0#32) 1#32) 1#32)) 1#32 = q.toInt.toNat := by
  have h0 : Affine.IsInt 0#32 (0) := Affine.ofNat _ (by omega)
  have h1 : Affine.IsInt 1#32 (1) := Affine.ofNat _ (by omega)
  have hr := Affine.word_range q
  have hq := Affine.word q
  have ha := Affine.subi hq h0 (e := q.toInt) (by omega)
  have hb := Affine.divsi_one ha h1 (e := q.toInt) (by omega)
  have hc := Affine.muli hb h1 (e := q.toInt) (by omega)
  have hd := Affine.addi h0 hc (e := q.toInt) (by omega)
  have he := Affine.addi h0 ha (e := q.toInt) (by omega)
  exact Affine.trips_eq h0 hd h1 _ (by omega)

/-- The tiles a group's count asks for in full: the count over 288, rounded down. -/
def full (v18 : BitVec 32) : BitVec 32 :=
  Scalar.select (Scalar.andi (Scalar.cmpi .ne (Scalar.subi (Scalar.extui (Scalar.cmpi .sgt v18 0#32)) (Scalar.extui (Scalar.cmpi .slt v18 0#32))) (Scalar.subi (Scalar.extui (Scalar.cmpi .sgt 288#32 0#32)) (Scalar.extui (Scalar.cmpi .slt 288#32 0#32)))) (Scalar.cmpi .ne (Scalar.remsi v18 288#32) 0#32))
    (Scalar.subi (Scalar.divsi v18 288#32) 1#32) (Scalar.divsi v18 288#32)

/-- The condition the body assumes of the count it has read holds of every word. -/
theorem chk1_all (v18 : BitVec 32) : k0_chk1 v18 := ⟨full_ok (full v18), rest_ok (full v18)⟩

/-- The loop over the full tiles runs one trip for each. -/
theorem trips1 (v18 : BitVec 32) (hn : 0 ≤ (full v18).toInt) : (k0_t1_loop v18).trips = (full v18).toInt.toNat := full_trips (full v18) hn

/-- The remainder loop runs no trip. -/
theorem trips2 (v18 : BitVec 32) : (k0_t2_loop v18).trips = 0 := rest_trips (full v18)

end Cert.KernelIdeal.Hand

end
-- ==== Proof.TilesKernelIdeal.lean ====
module

public import proofs.«01_k».proof.Proof.WordsKernelIdeal
public import Idealize.ShloMosaic.Lib.VecWindow

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- What trip `k` of the loop over the full tiles leaves in the accumulator, from what it finds there. -/
def fullTile (v5 : FVec F S8x1024 .f32) (v8 : IVec S1x1024 1) (v9 : FVec F S1x1024 .f32) (v18 : BitVec 32) (k : Fin (k0_t1_loop v18).trips) (xb : Vec F S1024x1024 .bf16) (wg wu : Vec F S4x1024x512 .bf16) (wd : Vec F S4x512x1024 .bf16) (acc : Vec F S1024x1024 .f32) : Vec F S1024x1024 .f32 :=
  k0_pay1 v5 (k0_pay116 v8 v9 v18 0#32 1#32 k) (k0_pay117 v8 v9 v18 0#32 1#32 k) (k0_pay118 v8 v9 v18 0#32 1#32 k (View.ld xb (Rect.unit (s := S1024x1024) ![0, 0] S1024x1024.size inb_S1024x1024_S1024x1024_0_0)))
    (k0_pay121 (k0_pay116 v8 v9 v18 0#32 1#32 k) (k0_pay118 v8 v9 v18 0#32 1#32 k (View.ld xb (Rect.unit (s := S1024x1024) ![0, 0] S1024x1024.size inb_S1024x1024_S1024x1024_0_0))) (k0_pay119 v5 v8 v9 v18 0#32 1#32 k (View.ld xb (Rect.unit (s := S1024x1024) ![0, 0] S1024x1024.size inb_S1024x1024_S1024x1024_0_0)) (View.ld wg (Rect.unit (s := S4x1024x512) ![0, 0, 0] S1x1024x512.size inb_S4x1024x512_S1x1024x512_0_0_0)) (View.ld wu (Rect.unit (s := S4x1024x512) ![0, 0, 0] S1x1024x512.size inb_S4x1024x512_S1x1024x512_0_0_0)) (View.ld wd (Rect.unit (s := S4x512x1024) ![0, 0, 0] S1x512x1024.size inb_S4x512x1024_S1x512x1024_0_0_0))) (k0_pay120 v5) (View.ld wg (Rect.unit (s := S4x1024x512) ![1, 0, 0] S1x1024x512.size inb_S4x1024x512_S1x1024x512_1_0_0)) (View.ld wu (Rect.unit (s := S4x1024x512) ![1, 0, 0] S1x1024x512.size inb_S4x1024x512_S1x1024x512_1_0_0)) (View.ld wd (Rect.unit (s := S4x512x1024) ![1, 0, 0] S1x512x1024.size inb_S4x512x1024_S1x512x1024_1_0_0)))
    (k0_pay122 v5 (k0_pay116 v8 v9 v18 0#32 1#32 k)) (k0_pay123 (k0_pay118 v8 v9 v18 0#32 1#32 k (View.ld xb (Rect.unit (s := S1024x1024) ![0, 0] S1024x1024.size inb_S1024x1024_S1024x1024_0_0))) (View.ld wg (Rect.unit (s := S4x1024x512) ![2, 0, 0] S1x1024x512.size inb_S4x1024x512_S1x1024x512_2_0_0)) (View.ld wu (Rect.unit (s := S4x1024x512) ![2, 0, 0] S1x1024x512.size inb_S4x1024x512_S1x1024x512_2_0_0))) (View.ld wd (Rect.unit (s := S4x512x1024) ![2, 0, 0] S1x512x1024.size inb_S4x512x1024_S1x512x1024_2_0_0)) (View.ld wg (Rect.unit (s := S4x1024x512) ![3, 0, 0] S1x1024x512.size inb_S4x1024x512_S1x1024x512_3_0_0)) (View.ld wu (Rect.unit (s := S4x1024x512) ![3, 0, 0] S1x1024x512.size inb_S4x1024x512_S1x1024x512_3_0_0)) (View.ld wd (Rect.unit (s := S4x512x1024) ![3, 0, 0] S1x512x1024.size inb_S4x512x1024_S1x512x1024_3_0_0)) (View.ld acc (Rect.unit (s := S1024x1024) ![0, 0] S1024x1024.size inb_S1024x1024_S1024x1024_0_0))

/-- What the last tile of the full height leaves in the accumulator. -/
def lastTile (v5 : FVec F S8x1024 .f32) (v8 : IVec S1x1024 1) (v9 : FVec F S1x1024 .f32) (v35 : BitVec 32) (xb : Vec F S1024x1024 .bf16) (wg wu : Vec F S4x1024x512 .bf16) (wd : Vec F S4x512x1024 .bf16) (acc : Vec F S1024x1024 .f32) : Vec F S1024x1024 .f32 :=
  k0_pay3 v5 (k0_pay132 v8 v9 v35) (k0_pay133 v8 v9 v35) (k0_pay134 v8 v9 v35 (View.ld xb (Rect.unit (s := S1024x1024) ![0, 0] S1024x1024.size inb_S1024x1024_S1024x1024_0_0)))
    (k0_pay137 (k0_pay132 v8 v9 v35) (k0_pay134 v8 v9 v35 (View.ld xb (Rect.unit (s := S1024x1024) ![0, 0] S1024x1024.size inb_S1024x1024_S1024x1024_0_0))) (k0_pay135 v5 v8 v9 v35 (View.ld xb (Rect.unit (s := S1024x1024) ![0, 0] S1024x1024.size inb_S1024x1024_S1024x1024_0_0)) (View.ld wg (Rect.unit (s := S4x1024x512) ![0, 0, 0] S1x1024x512.size inb_S4x1024x512_S1x1024x512_0_0_0)) (View.ld wu (Rect.unit (s := S4x1024x512) ![0, 0, 0] S1x1024x512.size inb_S4x1024x512_S1x1024x512_0_0_0)) (View.ld wd (Rect.unit (s := S4x512x1024) ![0, 0, 0] S1x512x1024.size inb_S4x512x1024_S1x512x1024_0_0_0))) (k0_pay136 v5) (View.ld wg (Rect.unit (s := S4x1024x512) ![1, 0, 0] S1x1024x512.size inb_S4x1024x512_S1x1024x512_1_0_0)) (View.ld wu (Rect.unit (s := S4x1024x512) ![1, 0, 0] S1x1024x512.size inb_S4x1024x512_S1x1024x512_1_0_0)) (View.ld wd (Rect.unit (s := S4x512x1024) ![1, 0, 0] S1x512x1024.size inb_S4x512x1024_S1x512x1024_1_0_0)))
    (k0_pay138 v5 (k0_pay132 v8 v9 v35)) (k0_pay139 (k0_pay134 v8 v9 v35 (View.ld xb (Rect.unit (s := S1024x1024) ![0, 0] S1024x1024.size inb_S1024x1024_S1024x1024_0_0))) (View.ld wg (Rect.unit (s := S4x1024x512) ![2, 0, 0] S1x1024x512.size inb_S4x1024x512_S1x1024x512_2_0_0)) (View.ld wu (Rect.unit (s := S4x1024x512) ![2, 0, 0] S1x1024x512.size inb_S4x1024x512_S1x1024x512_2_0_0))) (View.ld wd (Rect.unit (s := S4x512x1024) ![2, 0, 0] S1x512x1024.size inb_S4x512x1024_S1x512x1024_2_0_0)) (View.ld wg (Rect.unit (s := S4x1024x512) ![3, 0, 0] S1x1024x512.size inb_S4x1024x512_S1x1024x512_3_0_0)) (View.ld wu (Rect.unit (s := S4x1024x512) ![3, 0, 0] S1x1024x512.size inb_S4x1024x512_S1x1024x512_3_0_0)) (View.ld wd (Rect.unit (s := S4x512x1024) ![3, 0, 0] S1x512x1024.size inb_S4x512x1024_S1x512x1024_3_0_0)) (View.ld acc (Rect.unit (s := S1024x1024) ![0, 0] S1024x1024.size inb_S1024x1024_S1024x1024_0_0))

/-- What the last tile of the small height leaves in the accumulator. -/
def tailTile (v5 : FVec F S8x1024 .f32) (v8 : IVec S1x1024 1) (v9 : FVec F S1x1024 .f32) (v35 : BitVec 32) (xb : Vec F S1024x1024 .bf16) (wg wu : Vec F S4x1024x512 .bf16) (wd : Vec F S4x512x1024 .bf16) (acc : Vec F S1024x1024 .f32) : Vec F S1024x1024 .f32 :=
  k0_pay4 v5 (k0_pay140 v8 v9 v35) (k0_pay141 v8 v9 v35) (k0_pay142 v8 v9 v35 (View.ld xb (Rect.unit (s := S1024x1024) ![0, 0] S1024x1024.size inb_S1024x1024_S1024x1024_0_0)))
    (k0_pay145 (k0_pay140 v8 v9 v35) (k0_pay142 v8 v9 v35 (View.ld xb (Rect.unit (s := S1024x1024) ![0, 0] S1024x1024.size inb_S1024x1024_S1024x1024_0_0))) (k0_pay143 v5 v8 v9 v35 (View.ld xb (Rect.unit (s := S1024x1024) ![0, 0] S1024x1024.size inb_S1024x1024_S1024x1024_0_0)) (View.ld wg (Rect.unit (s := S4x1024x512) ![0, 0, 0] S1x1024x512.size inb_S4x1024x512_S1x1024x512_0_0_0)) (View.ld wu (Rect.unit (s := S4x1024x512) ![0, 0, 0] S1x1024x512.size inb_S4x1024x512_S1x1024x512_0_0_0)) (View.ld wd (Rect.unit (s := S4x512x1024) ![0, 0, 0] S1x512x1024.size inb_S4x512x1024_S1x512x1024_0_0_0))) (k0_pay144 v5) (View.ld wg (Rect.unit (s := S4x1024x512) ![1, 0, 0] S1x1024x512.size inb_S4x1024x512_S1x1024x512_1_0_0)) (View.ld wu (Rect.unit (s := S4x1024x512) ![1, 0, 0] S1x1024x512.size inb_S4x1024x512_S1x1024x512_1_0_0)) (View.ld wd (Rect.unit (s := S4x512x1024) ![1, 0, 0] S1x512x1024.size inb_S4x512x1024_S1x512x1024_1_0_0)))
    (k0_pay146 v5 (k0_pay140 v8 v9 v35)) (k0_pay147 (k0_pay142 v8 v9 v35 (View.ld xb (Rect.unit (s := S1024x1024) ![0, 0] S1024x1024.size inb_S1024x1024_S1024x1024_0_0))) (View.ld wg (Rect.unit (s := S4x1024x512) ![2, 0, 0] S1x1024x512.size inb_S4x1024x512_S1x1024x512_2_0_0)) (View.ld wu (Rect.unit (s := S4x1024x512) ![2, 0, 0] S1x1024x512.size inb_S4x1024x512_S1x1024x512_2_0_0))) (View.ld wd (Rect.unit (s := S4x512x1024) ![2, 0, 0] S1x512x1024.size inb_S4x512x1024_S1x512x1024_2_0_0)) (View.ld wg (Rect.unit (s := S4x1024x512) ![3, 0, 0] S1x1024x512.size inb_S4x1024x512_S1x1024x512_3_0_0)) (View.ld wu (Rect.unit (s := S4x1024x512) ![3, 0, 0] S1x1024x512.size inb_S4x1024x512_S1x1024x512_3_0_0)) (View.ld wd (Rect.unit (s := S4x512x1024) ![3, 0, 0] S1x512x1024.size inb_S4x512x1024_S1x512x1024_3_0_0)) (View.ld acc (Rect.unit (s := S1024x1024) ![0, 0] S1024x1024.size inb_S1024x1024_S1024x1024_0_0))

/-- The accumulator after `n` full tiles. -/
def fullTiles (v5 : FVec F S8x1024 .f32) (v8 : IVec S1x1024 1) (v9 : FVec F S1x1024 .f32) (v18 : BitVec 32) (xb : Vec F S1024x1024 .bf16) (wg wu : Vec F S4x1024x512 .bf16) (wd : Vec F S4x512x1024 .bf16) (acc : Vec F S1024x1024 .f32) : ℕ → Vec F S1024x1024 .f32
  | 0 => acc
  | n + 1 => if h : n < (k0_t1_loop v18).trips then fullTile v5 v8 v9 v18 ⟨n, h⟩ xb wg wu wd (fullTiles v5 v8 v9 v18 xb wg wu wd acc n)
      else fullTiles v5 v8 v9 v18 xb wg wu wd acc n

/-- One trip writes the accumulator whole, with the full tile's value of what it finds there. -/
theorem trip1_pieces (𝒱 : Variants) (c : Dev nD) (bd : Option 𝒱.V) (i : grid0.Coords) (arg2 : Memref sig .tc .vmem S16x1024 .f32) (harg2 : arg2.IsWhole) (arg3 : Memref sig .tc .vmem S128x128 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S4x1024x512 .bf16) (harg6 : arg6.IsWhole) (arg7 : Memref sig .tc .vmem S4x1024x512 .bf16) (harg7 : arg7.IsWhole) (arg8 : Memref sig .tc .vmem S4x512x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x1024 .bf16) (harg12 : arg12.IsWhole) (arg13 : Memref sig .tc .vmem S4x8x1024 .f32) (harg13 : arg13.IsWhole) (arg14 : Memref sig .tc .vmem S1024x1024 .f32) (harg14 : arg14.IsWhole) (v5 : FVec F S8x1024 .f32) (v8 : IVec S1x1024 1) (v9 : FVec F S1x1024 .f32) (v18 : BitVec 32) (k0_hw1 : k0_chk1 v18) (X6 : BufTy.Contents (Elt F) arg6.view.ty) (X7 : BufTy.Contents (Elt F) arg7.view.ty) (X8 : BufTy.Contents (Elt F) arg8.view.ty) (X12 : BufTy.Contents (Elt F) arg12.view.ty) (k : Fin (k0_t1_loop v18).trips) (f : BufTy.Contents (Elt F) arg14.view.ty) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v5 v8 v9 v18 k0_hw1 0#32 X6 X7 X8 X12 k).1 f
      = [⟨Rect.unit ![0, 0] ![1024, 1024] inb_S1024x1024_S1024x1024_0_0,
          fullTile v5 v8 v9 v18 k (arg12.view.read (Elt F) X12) (arg6.view.read (Elt F) X6) (arg7.view.read (Elt F) X7) (arg8.view.read (Elt F) X8) (arg14.view.read (Elt F) f)⟩] := by
  unfold trip_k0_t1
  dsimp only
  rfl

/-- After `n` trips of the loop the accumulator reads `n` full tiles over what it read before. -/
theorem pb1_read (𝒱 : Variants) (c : Dev nD) (bd : Option 𝒱.V) (i : grid0.Coords) (arg2 : Memref sig .tc .vmem S16x1024 .f32) (harg2 : arg2.IsWhole) (arg3 : Memref sig .tc .vmem S128x128 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S4x1024x512 .bf16) (harg6 : arg6.IsWhole) (arg7 : Memref sig .tc .vmem S4x1024x512 .bf16) (harg7 : arg7.IsWhole) (arg8 : Memref sig .tc .vmem S4x512x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x1024 .bf16) (harg12 : arg12.IsWhole) (arg13 : Memref sig .tc .vmem S4x8x1024 .f32) (harg13 : arg13.IsWhole) (arg14 : Memref sig .tc .vmem S1024x1024 .f32) (harg14 : arg14.IsWhole) (v5 : FVec F S8x1024 .f32) (v8 : IVec S1x1024 1) (v9 : FVec F S1x1024 .f32) (v18 : BitVec 32) (k0_hw1 : k0_chk1 v18) (X6 : BufTy.Contents (Elt F) arg6.view.ty) (X7 : BufTy.Contents (Elt F) arg7.view.ty) (X8 : BufTy.Contents (Elt F) arg8.view.ty) (X12 : BufTy.Contents (Elt F) arg12.view.ty) (G : BufTy.Contents (Elt F) arg14.view.ty) : ∀ (n : ℕ), n ≤ (k0_t1_loop v18).trips →
    arg14.view.read (Elt F) (arg14.view.writes (Elt F) G (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v5 v8 v9 v18 k0_hw1 0#32 X6 X7 X8 X12 G n))
      = fullTiles v5 v8 v9 v18 (arg12.view.read (Elt F) X12) (arg6.view.read (Elt F) X6) (arg7.view.read (Elt F) X7) (arg8.view.read (Elt F) X8) (arg14.view.read (Elt F) G) n
  | 0, _ => rfl
  | n + 1, h => by
    rw [pb_k0_t1_succ 𝒱 c bd i arg2 harg2 arg3 harg3 arg4 harg4 arg5 harg5 arg6 harg6 arg7 harg7 arg8 harg8 arg9 harg9 arg10 harg10 arg11 harg11 arg12 harg12 arg13 harg13 arg14 harg14 v5 v8 v9 v18 k0_hw1 0#32 X6 X7 X8 X12 G ⟨n, h⟩]
    unfold tripL_k0_t1
    rw [trip1_pieces, List.singleton_append]
    refine (View.read_writes_full (s := S1024x1024) arg14.view G inb_S1024x1024_S1024x1024_0_0 _ _).trans ?_
    rw [pb1_read 𝒱 c bd i arg2 harg2 arg3 harg3 arg4 harg4 arg5 harg5 arg6 harg6 arg7 harg7 arg8 harg8 arg9 harg9 arg10 harg10 arg11 harg11 arg12 harg12 arg13 harg13 arg14 harg14 v5 v8 v9 v18 k0_hw1 X6 X7 X8 X12 G n (by omega)]
    rw [fullTiles, dif_pos (show n < (k0_t1_loop v18).trips from h)]

/-- The remainder loop, having no trip, writes nothing. -/
theorem pb2_nil (𝒱 : Variants) (c : Dev nD) (bd : Option 𝒱.V) (i : grid0.Coords) (arg2 : Memref sig .tc .vmem S16x1024 .f32) (harg2 : arg2.IsWhole) (arg3 : Memref sig .tc .vmem S128x128 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S4x1024x512 .bf16) (harg6 : arg6.IsWhole) (arg7 : Memref sig .tc .vmem S4x1024x512 .bf16) (harg7 : arg7.IsWhole) (arg8 : Memref sig .tc .vmem S4x512x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x1024 .bf16) (harg12 : arg12.IsWhole) (arg13 : Memref sig .tc .vmem S4x8x1024 .f32) (harg13 : arg13.IsWhole) (arg14 : Memref sig .tc .vmem S1024x1024 .f32) (harg14 : arg14.IsWhole) (v5 : FVec F S8x1024 .f32) (v8 : IVec S1x1024 1) (v9 : FVec F S1x1024 .f32) (v18 : BitVec 32) (k0_hw1 : k0_chk1 v18) (v42 : BitVec 32) (X6 : BufTy.Contents (Elt F) arg6.view.ty) (X7 : BufTy.Contents (Elt F) arg7.view.ty) (X8 : BufTy.Contents (Elt F) arg8.view.ty) (X12 : BufTy.Contents (Elt F) arg12.view.ty) (G : BufTy.Contents (Elt F) arg14.view.ty) :
    pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 v5 v8 v9 v18 k0_hw1 v42 X6 X7 X8 X12 G (k0_t2_loop v18).trips = [] := by
  rw [trips2]; rfl

/-- After both loops the accumulator reads the full tiles over what it read before. -/
theorem loops_read (𝒱 : Variants) (c : Dev nD) (bd : Option 𝒱.V) (i : grid0.Coords) (arg2 : Memref sig .tc .vmem S16x1024 .f32) (harg2 : arg2.IsWhole) (arg3 : Memref sig .tc .vmem S128x128 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S4x1024x512 .bf16) (harg6 : arg6.IsWhole) (arg7 : Memref sig .tc .vmem S4x1024x512 .bf16) (harg7 : arg7.IsWhole) (arg8 : Memref sig .tc .vmem S4x512x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x1024 .bf16) (harg12 : arg12.IsWhole) (arg13 : Memref sig .tc .vmem S4x8x1024 .f32) (harg13 : arg13.IsWhole) (arg14 : Memref sig .tc .vmem S1024x1024 .f32) (harg14 : arg14.IsWhole) (v5 : FVec F S8x1024 .f32) (v8 : IVec S1x1024 1) (v9 : FVec F S1x1024 .f32) (v18 : BitVec 32) (k0_hw1 : k0_chk1 v18) (v42 : BitVec 32) (X6 : BufTy.Contents (Elt F) arg6.view.ty) (X7 : BufTy.Contents (Elt F) arg7.view.ty) (X8 : BufTy.Contents (Elt F) arg8.view.ty) (X12 : BufTy.Contents (Elt F) arg12.view.ty) (G G' : BufTy.Contents (Elt F) arg14.view.ty) :
    arg14.view.read (Elt F) (arg14.view.writes (Elt F) G (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 v5 v8 v9 v18 k0_hw1 v42 X6 X7 X8 X12 G' (k0_t2_loop v18).trips ++ pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v5 v8 v9 v18 k0_hw1 0#32 X6 X7 X8 X12 G (k0_t1_loop v18).trips))
      = fullTiles v5 v8 v9 v18 (arg12.view.read (Elt F) X12) (arg6.view.read (Elt F) X6) (arg7.view.read (Elt F) X7) (arg8.view.read (Elt F) X8) (arg14.view.read (Elt F) G) (k0_t1_loop v18).trips := by
  rw [pb2_nil, List.nil_append]
  exact pb1_read 𝒱 c bd i arg2 harg2 arg3 harg3 arg4 harg4 arg5 harg5 arg6 harg6 arg7 harg7 arg8 harg8 arg9 harg9 arg10 harg10 arg11 harg11 arg12 harg12 arg13 harg13 arg14 harg14 v5 v8 v9 v18 k0_hw1 X6 X7 X8 X12 G _ le_rfl

/-- After both loops the accumulator reads the full tiles over what earlier stores left. -/
theorem loops_read_over (𝒱 : Variants) (c : Dev nD) (bd : Option 𝒱.V) (i : grid0.Coords) (arg2 : Memref sig .tc .vmem S16x1024 .f32) (harg2 : arg2.IsWhole) (arg3 : Memref sig .tc .vmem S128x128 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S4x1024x512 .bf16) (harg6 : arg6.IsWhole) (arg7 : Memref sig .tc .vmem S4x1024x512 .bf16) (harg7 : arg7.IsWhole) (arg8 : Memref sig .tc .vmem S4x512x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x1024 .bf16) (harg12 : arg12.IsWhole) (arg13 : Memref sig .tc .vmem S4x8x1024 .f32) (harg13 : arg13.IsWhole) (arg14 : Memref sig .tc .vmem S1024x1024 .f32) (harg14 : arg14.IsWhole) (v5 : FVec F S8x1024 .f32) (v8 : IVec S1x1024 1) (v9 : FVec F S1x1024 .f32) (v18 : BitVec 32) (k0_hw1 : k0_chk1 v18) (v42 : BitVec 32) (X6 : BufTy.Contents (Elt F) arg6.view.ty) (X7 : BufTy.Contents (Elt F) arg7.view.ty) (X8 : BufTy.Contents (Elt F) arg8.view.ty) (X12 : BufTy.Contents (Elt F) arg12.view.ty) (G G' : BufTy.Contents (Elt F) arg14.view.ty)
    (L : List (View.Piece (Elt F) S1024x1024 .f32)) :
    arg14.view.read (Elt F) (arg14.view.writes (Elt F) G (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 v5 v8 v9 v18 k0_hw1 v42 X6 X7 X8 X12 G' (k0_t2_loop v18).trips ++ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v5 v8 v9 v18 k0_hw1 0#32 X6 X7 X8 X12 (arg14.view.writes (Elt F) G L) (k0_t1_loop v18).trips ++ L)))
      = fullTiles v5 v8 v9 v18 (arg12.view.read (Elt F) X12) (arg6.view.read (Elt F) X6) (arg7.view.read (Elt F) X7) (arg8.view.read (Elt F) X8) (arg14.view.read (Elt F) (arg14.view.writes (Elt F) G L)) (k0_t1_loop v18).trips := by
  rw [pb2_nil, List.nil_append, View.writes_append]
  exact pb1_read 𝒱 c bd i arg2 harg2 arg3 harg3 arg4 harg4 arg5 harg5 arg6 harg6 arg7 harg7 arg8 harg8 arg9 harg9 arg10 harg10 arg11 harg11 arg12 harg12 arg13 harg13 arg14 harg14 v5 v8 v9 v18 k0_hw1 X6 X7 X8 X12 (arg14.view.writes (Elt F) G L) _ le_rfl

/-- The rows the count leaves beyond the full tiles. -/
def rest (v18 : BitVec 32) : BitVec 32 := Scalar.subi v18 (Scalar.muli (full v18) 288#32)

/-- More rows are left than the small tile's height. -/
abbrev condLast (v18 : BitVec 32) : Prop := Scalar.cmpi .ne (Scalar.extui (Scalar.cmpi .sgt (rest v18) 64#32)) 0#32 = 1#1

/-- Some rows are left, no more than the small tile's height. -/
abbrev condTail (v18 : BitVec 32) : Prop :=
  Scalar.cmpi .ne (Scalar.extui (Scalar.andi (Scalar.cmpi .sgt (rest v18) 0#32) (Scalar.cmpi .sle (rest v18) 64#32))) 0#32 = 1#1

/-- What the last tile of the full height, if one is needed, leaves in the accumulator. -/
def groupLast (v5 : FVec F S8x1024 .f32) (v8 : IVec S1x1024 1) (v9 : FVec F S1x1024 .f32) (v18 : BitVec 32) (xb : Vec F S1024x1024 .bf16) (wg wu : Vec F S4x1024x512 .bf16) (wd : Vec F S4x512x1024 .bf16) (acc : Vec F S1024x1024 .f32) : Vec F S1024x1024 .f32 :=
  if condLast v18 then lastTile v5 v8 v9 (full v18) xb wg wu wd acc else acc

/-- What the last tile of the small height, if one is needed, leaves in the accumulator. -/
def groupTail (v5 : FVec F S8x1024 .f32) (v8 : IVec S1x1024 1) (v9 : FVec F S1x1024 .f32) (v18 : BitVec 32) (xb : Vec F S1024x1024 .bf16) (wg wu : Vec F S4x1024x512 .bf16) (wd : Vec F S4x512x1024 .bf16) (acc : Vec F S1024x1024 .f32) : Vec F S1024x1024 .f32 :=
  if condTail v18 then tailTile v5 v8 v9 (full v18) xb wg wu wd acc else acc

/-- What a group's grid point leaves in the accumulator, from the group's rows of routing facts, the block's tokens and
    the group's weights. -/
def groupAcc (row : Vec F S1x8x1024 .f32) (xb : Vec F S1024x1024 .bf16) (wg wu : Vec F S4x1024x512 .bf16) (wd : Vec F S4x512x1024 .bf16) (acc : Vec F S1024x1024 .f32) : Vec F S1024x1024 .f32 :=
  groupTail (k0_pay150 row) (k0_pay151 row) (k0_pay152 row) (Scalar.fptosi 32 (k0_pay153 row)) xb wg wu wd
    (groupLast (k0_pay150 row) (k0_pay151 row) (k0_pay152 row) (Scalar.fptosi 32 (k0_pay153 row)) xb wg wu wd
      (fullTiles (k0_pay150 row) (k0_pay151 row) (k0_pay152 row) (Scalar.fptosi 32 (k0_pay153 row)) xb wg wu wd acc
        (k0_t1_loop (Scalar.fptosi 32 (k0_pay153 row))).trips))

/-- The group's rows of routing facts. -/
def rowAt (i : grid0.Coords) (info : Vec F S4x8x1024 .f32) : Vec F S1x8x1024 .f32 :=
  View.ld info (Rect.unit (s := S4x8x1024) (k0_off1 i) S1x8x1024.size (k0_off1_inb i))

end Cert.KernelIdeal.Hand

end
-- ==== Proof.RunAKernelIdeal.lean ====
module

public import proofs.«01_k».proof.Proof.TilesKernelIdeal

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
def runA (c : Dev nD) (i : grid0.Coords) (arg2 : Memref sig .tc .vmem S16x1024 .f32) (harg2 : arg2.IsWhole) (arg3 : Memref sig .tc .vmem S128x128 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S4x1024x512 .bf16) (harg6 : arg6.IsWhole) (arg7 : Memref sig .tc .vmem S4x1024x512 .bf16) (harg7 : arg7.IsWhole) (arg8 : Memref sig .tc .vmem S4x512x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x1024 .bf16) (harg12 : arg12.IsWhole) (arg13 : Memref sig .tc .vmem S4x8x1024 .f32) (harg13 : arg13.IsWhole) (arg14 : Memref sig .tc .vmem S1024x1024 .f32) (harg14 : arg14.IsWhole) (h0 : Scalar.cmpi .ne (Scalar.extui (Scalar.cmpi .eq (BitVec.ofNat 32 (i 1).val) 0#32)) 0#32 = 1#1) (h4 : ¬(k0_cond4 i = 1#1)) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) :
    Σ' (G12 : BufTy.Contents (Elt F) arg12.view.ty), Σ' (G13 : BufTy.Contents (Elt F) arg13.view.ty), { G14 : BufTy.Contents (Elt F) arg14.view.ty // ∀ (E : Set ℕ) (K : PUnit → sProp 𝕄),
      iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} G12) ∗ (arg13.view.loc (c : Thread nD τ) ↦[arg13.view.set]{fullShare} G13) ∗ (arg14.view.loc (c : Thread nD τ) ↦[arg14.view.set]{fullShare} G14)) -∗ K ⟨⟩)) ⊢ wp frame (wpE (defs₀ (F := F)) Variants.none (c : Thread nD τ) none) E (cc0_moe_group_ln i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc0_moe_group_ln_eq_skeleton]
    unfold cc0_moe_group_ln_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    iintro ⟨H2, H3, H4, H5, H6, H7, H8, H9, H10, H11, H12, H13, H14, Hk⟩
    sl_exec (disch := first | sl_exact h0 | sl_exact h4 | sl_exact chk1_all _)
    sl_step
    iapply Hk
    sl_close

end Cert.KernelIdeal.Hand
end
-- ==== Proof.RouteKernelIdeal.lean ====
module

public import proofs.«01_k».proof.Proof.TilesKernelIdeal

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- A literal of the routing. -/
def cst_41 : F FTy.f32 := FloatOps.ofBits FTy.f32 1065353216#32

/-- A literal of the routing. -/
def cst_60 : F FTy.f32 := FloatOps.ofBits FTy.f32 0#32

/-- A literal of the routing. -/
def cst_111 : F FTy.f32 := FloatOps.ofBits FTy.f32 1073741824#32

/-- A value of the routing, from the block's inputs. -/
def rt_0 (rwt : Vec F S16x1024 .f32) (x : Vec F S1024x1024 .f32) : FVec F S16x1024 FTy.f32 :=
  k0_pay7 (View.ld rwt (Rect.unit (s := S16x1024) ![0, 0] S16x1024.size inb_S16x1024_S16x1024_0_0)) (View.ld x (Rect.unit (s := S1024x1024) ![0, 0] S1024x1024.size inb_S1024x1024_S1024x1024_0_0))

/-- A value of the routing, from the block's inputs. -/
def rt_1 (rwt : Vec F S16x1024 .f32) (rbt : Vec F S128x128 .f32) (x : Vec F S1024x1024 .f32) : FVec F S16x1024 FTy.f32 :=
  k0_pay8 (View.ld rwt (Rect.unit (s := S16x1024) ![0, 0] S16x1024.size inb_S16x1024_S16x1024_0_0)) (View.ld x (Rect.unit (s := S1024x1024) ![0, 0] S1024x1024.size inb_S1024x1024_S1024x1024_0_0)) (View.ld rbt (Rect.unit (s := S128x128) ![0, 0] S16x1.size inb_S128x128_S16x1_0_0))

/-- A value of the routing, from the block's inputs. -/
def rt_2 (rwt : Vec F S16x1024 .f32) (rbt : Vec F S128x128 .f32) (x : Vec F S1024x1024 .f32) : FVec F S1x1024 FTy.f32 :=
  k0_pay9 (View.ld rwt (Rect.unit (s := S16x1024) ![0, 0] S16x1024.size inb_S16x1024_S16x1024_0_0)) (View.ld x (Rect.unit (s := S1024x1024) ![0, 0] S1024x1024.size inb_S1024x1024_S1024x1024_0_0)) (View.ld rbt (Rect.unit (s := S128x128) ![0, 0] S16x1.size inb_S128x128_S16x1_0_0))

/-- A value of the routing, from the block's inputs. -/
def rt_3 (rwt : Vec F S16x1024 .f32) (rbt : Vec F S128x128 .f32) (x : Vec F S1024x1024 .f32) : FVec F S1x1024 FTy.f32 :=
  k0_pay10 (View.ld rwt (Rect.unit (s := S16x1024) ![0, 0] S16x1024.size inb_S16x1024_S16x1024_0_0)) (View.ld x (Rect.unit (s := S1024x1024) ![0, 0] S1024x1024.size inb_S1024x1024_S1024x1024_0_0)) (View.ld rbt (Rect.unit (s := S128x128) ![0, 0] S16x1.size inb_S128x128_S16x1_0_0))

/-- A value of the routing, from the block's inputs. -/
def rt_4 (rwt : Vec F S16x1024 .f32) (rbt : Vec F S128x128 .f32) (x : Vec F S1024x1024 .f32) : FVec F S1x1024 FTy.f32 :=
  k0_pay11 (View.ld rwt (Rect.unit (s := S16x1024) ![0, 0] S16x1024.size inb_S16x1024_S16x1024_0_0)) (View.ld x (Rect.unit (s := S1024x1024) ![0, 0] S1024x1024.size inb_S1024x1024_S1024x1024_0_0)) (View.ld rbt (Rect.unit (s := S128x128) ![0, 0] S16x1.size inb_S128x128_S16x1_0_0))

/-- A value of the routing, from the block's inputs. -/
def rt_5 (rwt : Vec F S16x1024 .f32) (rbt : Vec F S128x128 .f32) (x : Vec F S1024x1024 .f32) : FVec F S1x1024 FTy.f32 :=
  k0_pay12 (View.ld rwt (Rect.unit (s := S16x1024) ![0, 0] S16x1024.size inb_S16x1024_S16x1024_0_0)) (View.ld x (Rect.unit (s := S1024x1024) ![0, 0] S1024x1024.size inb_S1024x1024_S1024x1024_0_0)) (View.ld rbt (Rect.unit (s := S128x128) ![0, 0] S16x1.size inb_S128x128_S16x1_0_0))

/-- A value of the routing, from the block's inputs. -/
def rt_6 (rwt : Vec F S16x1024 .f32) (rbt : Vec F S128x128 .f32) (x : Vec F S1024x1024 .f32) : IVec S1x1024 1 :=
  k0_pay13 (View.ld rwt (Rect.unit (s := S16x1024) ![0, 0] S16x1024.size inb_S16x1024_S16x1024_0_0)) (View.ld x (Rect.unit (s := S1024x1024) ![0, 0] S1024x1024.size inb_S1024x1024_S1024x1024_0_0)) (View.ld rbt (Rect.unit (s := S128x128) ![0, 0] S16x1.size inb_S128x128_S16x1_0_0))

/-- A value of the routing, from the block's inputs. -/
def rt_7 (rwt : Vec F S16x1024 .f32) (rbt : Vec F S128x128 .f32) (x : Vec F S1024x1024 .f32) : IVec S1x1024 1 :=
  k0_pay15 (View.ld rwt (Rect.unit (s := S16x1024) ![0, 0] S16x1024.size inb_S16x1024_S16x1024_0_0)) (View.ld x (Rect.unit (s := S1024x1024) ![0, 0] S1024x1024.size inb_S1024x1024_S1024x1024_0_0)) (View.ld rbt (Rect.unit (s := S128x128) ![0, 0] S16x1.size inb_S128x128_S16x1_0_0))

/-- A value of the routing, from the block's inputs. -/
def rt_8 (rwt : Vec F S16x1024 .f32) (rbt : Vec F S128x128 .f32) (x : Vec F S1024x1024 .f32) : IVec S1x1024 1 :=
  k0_pay16 (rt_3 rwt rbt x) (rt_4 rwt rbt x) (rt_5 rwt rbt x) k0_pay14 (rt_7 rwt rbt x) (cst_41 : F .f32)

/-- A value of the routing, from the block's inputs. -/
def rt_9 (rwt : Vec F S16x1024 .f32) (rbt : Vec F S128x128 .f32) (x : Vec F S1024x1024 .f32) : IVec S1x1024 1 :=
  k0_pay17 (rt_2 rwt rbt x) (rt_3 rwt rbt x) (rt_4 rwt rbt x) (rt_5 rwt rbt x)

/-- A value of the routing, from the block's inputs. -/
def rt_10 (rwt : Vec F S16x1024 .f32) (rbt : Vec F S128x128 .f32) (x : Vec F S1024x1024 .f32) : FVec F S1x1024 FTy.f32 :=
  k0_pay18 (rt_2 rwt rbt x) (rt_5 rwt rbt x)

/-- A value of the routing, from the block's inputs. -/
def rt_11 (rwt : Vec F S16x1024 .f32) (rbt : Vec F S128x128 .f32) (x : Vec F S1024x1024 .f32) : IVec S1x1024 1 :=
  k0_pay19 (rt_3 rwt rbt x) (rt_5 rwt rbt x)

/-- A value of the routing, from the block's inputs. -/
def rt_12 (rwt : Vec F S16x1024 .f32) (rbt : Vec F S128x128 .f32) (x : Vec F S1024x1024 .f32) : IVec S1x1024 1 :=
  k0_pay20 (rt_4 rwt rbt x) (rt_5 rwt rbt x) (rt_10 rwt rbt x) (rt_11 rwt rbt x) (cst_41 : F .f32) (cst_60 : F .f32)

/-- A value of the routing, from the block's inputs. -/
def rt_13 (rwt : Vec F S16x1024 .f32) (rbt : Vec F S128x128 .f32) (x : Vec F S1024x1024 .f32) : FVec F S1x1024 FTy.f32 :=
  k0_pay21 (rt_2 rwt rbt x) (rt_3 rwt rbt x) (rt_4 rwt rbt x) (rt_5 rwt rbt x) (rt_6 rwt rbt x) (rt_8 rwt rbt x) (rt_9 rwt rbt x) (rt_10 rwt rbt x) (rt_11 rwt rbt x) (cst_41 : F .f32) (cst_60 : F .f32)

/-- A value of the routing, from the block's inputs. -/
def rt_14 (rwt : Vec F S16x1024 .f32) (rbt : Vec F S128x128 .f32) (x : Vec F S1024x1024 .f32) : FVec F S1x1024 FTy.f32 :=
  k0_pay22 (rt_1 rwt rbt x)

/-- A value of the routing, from the block's inputs. -/
def rt_15 (rwt : Vec F S16x1024 .f32) (rbt : Vec F S128x128 .f32) (x : Vec F S1024x1024 .f32) : FVec F S1x1024 FTy.f32 :=
  k0_pay23 (rt_1 rwt rbt x)

/-- A value of the routing, from the block's inputs. -/
def rt_16 (rwt : Vec F S16x1024 .f32) (rbt : Vec F S128x128 .f32) (x : Vec F S1024x1024 .f32) : FVec F S1x1024 FTy.f32 :=
  k0_pay24 (rt_1 rwt rbt x)

/-- A value of the routing, from the block's inputs. -/
def rt_17 (rwt : Vec F S16x1024 .f32) (rbt : Vec F S128x128 .f32) (x : Vec F S1024x1024 .f32) : FVec F S1x1024 FTy.f32 :=
  k0_pay25 (rt_1 rwt rbt x)

/-- A value of the routing, from the block's inputs. -/
def rt_18 (rwt : Vec F S16x1024 .f32) (rbt : Vec F S128x128 .f32) (x : Vec F S1024x1024 .f32) : IVec S1x1024 1 :=
  k0_pay26 (rt_1 rwt rbt x)

/-- A value of the routing, from the block's inputs. -/
def rt_19 (rwt : Vec F S16x1024 .f32) (rbt : Vec F S128x128 .f32) (x : Vec F S1024x1024 .f32) : IVec S1x1024 1 :=
  k0_pay27 (rt_14 rwt rbt x) (rt_15 rwt rbt x) (rt_16 rwt rbt x) (rt_17 rwt rbt x) (cst_60 : F .f32)

/-- A value of the routing, from the block's inputs. -/
def rt_20 (rwt : Vec F S16x1024 .f32) (rbt : Vec F S128x128 .f32) (x : Vec F S1024x1024 .f32) : IVec S1x1024 1 :=
  k0_pay28 (rt_14 rwt rbt x) (rt_15 rwt rbt x) (rt_16 rwt rbt x) (rt_17 rwt rbt x)

/-- A value of the routing, from the block's inputs. -/
def rt_21 (rwt : Vec F S16x1024 .f32) (rbt : Vec F S128x128 .f32) (x : Vec F S1024x1024 .f32) : FVec F S1x1024 FTy.f32 :=
  k0_pay29 (rt_14 rwt rbt x) (rt_17 rwt rbt x)

/-- A value of the routing, from the block's inputs. -/
def rt_22 (rwt : Vec F S16x1024 .f32) (rbt : Vec F S128x128 .f32) (x : Vec F S1024x1024 .f32) : IVec S1x1024 1 :=
  k0_pay30 (rt_15 rwt rbt x) (rt_16 rwt rbt x) (rt_17 rwt rbt x) (rt_21 rwt rbt x)

/-- A value of the routing, from the block's inputs. -/
def rt_23 (rwt : Vec F S16x1024 .f32) (rbt : Vec F S128x128 .f32) (x : Vec F S1024x1024 .f32) : FVec F S1x1024 FTy.f32 :=
  k0_pay31 (rt_14 rwt rbt x) (rt_15 rwt rbt x) (rt_16 rwt rbt x) (rt_17 rwt rbt x) (rt_18 rwt rbt x) (rt_19 rwt rbt x) (rt_20 rwt rbt x) (rt_21 rwt rbt x)

/-- A value of the routing, from the block's inputs. -/
def rt_24 (rwt : Vec F S16x1024 .f32) (rbt : Vec F S128x128 .f32) (x : Vec F S1024x1024 .f32) : FVec F S1x1024 FTy.f32 :=
  k0_pay32 (rt_1 rwt rbt x)

/-- A value of the routing, from the block's inputs. -/
def rt_25 (rwt : Vec F S16x1024 .f32) (rbt : Vec F S128x128 .f32) (x : Vec F S1024x1024 .f32) : FVec F S1x1024 FTy.f32 :=
  k0_pay33 (rt_1 rwt rbt x)

/-- A value of the routing, from the block's inputs. -/
def rt_26 (rwt : Vec F S16x1024 .f32) (rbt : Vec F S128x128 .f32) (x : Vec F S1024x1024 .f32) : FVec F S1x1024 FTy.f32 :=
  k0_pay34 (rt_1 rwt rbt x)

/-- A value of the routing, from the block's inputs. -/
def rt_27 (rwt : Vec F S16x1024 .f32) (rbt : Vec F S128x128 .f32) (x : Vec F S1024x1024 .f32) : FVec F S1x1024 FTy.f32 :=
  k0_pay35 (rt_1 rwt rbt x)

/-- A value of the routing, from the block's inputs. -/
def rt_28 (rwt : Vec F S16x1024 .f32) (rbt : Vec F S128x128 .f32) (x : Vec F S1024x1024 .f32) : FVec F S1x1024 FTy.f32 :=
  k0_pay36 (rt_1 rwt rbt x)

/-- A value of the routing, from the block's inputs. -/
def rt_29 (rwt : Vec F S16x1024 .f32) (rbt : Vec F S128x128 .f32) (x : Vec F S1024x1024 .f32) : IVec S1x1024 1 :=
  k0_pay37 (rt_28 rwt rbt x) (cst_111 : F .f32)

/-- A value of the routing, from the block's inputs. -/
def rt_30 (rwt : Vec F S16x1024 .f32) (rbt : Vec F S128x128 .f32) (x : Vec F S1024x1024 .f32) : IVec S1x1024 1 :=
  k0_pay38 (rt_24 rwt rbt x) (rt_25 rwt rbt x) (rt_26 rwt rbt x) (rt_27 rwt rbt x)

/-- A value of the routing, from the block's inputs. -/
def rt_31 (rwt : Vec F S16x1024 .f32) (rbt : Vec F S128x128 .f32) (x : Vec F S1024x1024 .f32) : IVec S1x1024 1 :=
  k0_pay39 (rt_24 rwt rbt x) (rt_25 rwt rbt x) (rt_26 rwt rbt x) (rt_27 rwt rbt x)

/-- A value of the routing, from the block's inputs. -/
def rt_32 (rwt : Vec F S16x1024 .f32) (rbt : Vec F S128x128 .f32) (x : Vec F S1024x1024 .f32) : IVec S1x1024 1 :=
  k0_pay41 (rt_24 rwt rbt x) (rt_27 rwt rbt x)

/-- A value of the routing, from the block's inputs. -/
def rt_33 (rwt : Vec F S16x1024 .f32) (rbt : Vec F S128x128 .f32) (x : Vec F S1024x1024 .f32) : IVec S1x1024 1 :=
  k0_pay43 (rt_25 rwt rbt x) (rt_26 rwt rbt x) (rt_27 rwt rbt x) k0_pay40 (rt_32 rwt rbt x) (cst_60 : F .f32) k0_pay42

/-- A value of the routing, from the block's inputs. -/
def rt_34 (rwt : Vec F S16x1024 .f32) (rbt : Vec F S128x128 .f32) (x : Vec F S1024x1024 .f32) : FVec F S1x1024 FTy.f32 :=
  k0_pay44 (rt_24 rwt rbt x) (rt_25 rwt rbt x) (rt_26 rwt rbt x) (rt_27 rwt rbt x) (rt_29 rwt rbt x) (rt_30 rwt rbt x) (rt_31 rwt rbt x) k0_pay40 (rt_32 rwt rbt x) (cst_60 : F .f32) k0_pay42

/-- A value of the routing, from the block's inputs. -/
def rt_35 (rwt : Vec F S16x1024 .f32) (rbt : Vec F S128x128 .f32) (x : Vec F S1024x1024 .f32) : FVec F S1x1024 FTy.f32 :=
  k0_pay45 (rt_1 rwt rbt x)

/-- A value of the routing, from the block's inputs. -/
def rt_36 (rwt : Vec F S16x1024 .f32) (rbt : Vec F S128x128 .f32) (x : Vec F S1024x1024 .f32) : FVec F S1x1024 FTy.f32 :=
  k0_pay46 (rt_1 rwt rbt x)

/-- A value of the routing, from the block's inputs. -/
def rt_37 (rwt : Vec F S16x1024 .f32) (rbt : Vec F S128x128 .f32) (x : Vec F S1024x1024 .f32) : FVec F S1x1024 FTy.f32 :=
  k0_pay47 (rt_1 rwt rbt x)

/-- A value of the routing, from the block's inputs. -/
def rt_38 (rwt : Vec F S16x1024 .f32) (rbt : Vec F S128x128 .f32) (x : Vec F S1024x1024 .f32) : FVec F S1x1024 FTy.f32 :=
  k0_pay48 (rt_1 rwt rbt x)

/-- A value of the routing, from the block's inputs. -/
def rt_39 (rwt : Vec F S16x1024 .f32) (rbt : Vec F S128x128 .f32) (x : Vec F S1024x1024 .f32) : FVec F S1x1024 FTy.f32 :=
  k0_pay49 (rt_1 rwt rbt x)

/-- A value of the routing, from the block's inputs. -/
def rt_40 (rwt : Vec F S16x1024 .f32) (rbt : Vec F S128x128 .f32) (x : Vec F S1024x1024 .f32) : IVec S1x1024 1 :=
  k0_pay50 (rt_1 rwt rbt x)

/-- A value of the routing, from the block's inputs. -/
def rt_41 (rwt : Vec F S16x1024 .f32) (rbt : Vec F S128x128 .f32) (x : Vec F S1024x1024 .f32) : IVec S1x1024 1 :=
  k0_pay53 (rt_39 rwt rbt x) (rt_40 rwt rbt x) k0_pay51 k0_pay52

/-- A value of the routing, from the block's inputs. -/
def rt_42 (rwt : Vec F S16x1024 .f32) (rbt : Vec F S128x128 .f32) (x : Vec F S1024x1024 .f32) : IVec S1x1024 1 :=
  k0_pay54 (rt_35 rwt rbt x) (rt_36 rwt rbt x) (rt_37 rwt rbt x) (rt_38 rwt rbt x)

/-- A value of the routing, from the block's inputs. -/
def rt_43 (rwt : Vec F S16x1024 .f32) (rbt : Vec F S128x128 .f32) (x : Vec F S1024x1024 .f32) : IVec S1x1024 1 :=
  k0_pay55 (rt_35 rwt rbt x) (rt_36 rwt rbt x) (rt_37 rwt rbt x) (rt_38 rwt rbt x)

/-- A value of the routing, from the block's inputs. -/
def rt_44 (rwt : Vec F S16x1024 .f32) (rbt : Vec F S128x128 .f32) (x : Vec F S1024x1024 .f32) : IVec S1x1024 1 :=
  k0_pay57 (rt_35 rwt rbt x) (rt_38 rwt rbt x)

/-- A value of the routing, from the block's inputs. -/
def rt_45 (rwt : Vec F S16x1024 .f32) (rbt : Vec F S128x128 .f32) (x : Vec F S1024x1024 .f32) : IVec S1x1024 1 :=
  k0_pay58 (rt_36 rwt rbt x) (rt_37 rwt rbt x) (rt_38 rwt rbt x) k0_pay56 (rt_44 rwt rbt x)

/-- A value of the routing, from the block's inputs. -/
def rt_46 (rwt : Vec F S16x1024 .f32) (rbt : Vec F S128x128 .f32) (x : Vec F S1024x1024 .f32) : IVec S1x1024 1 :=
  k0_pay61 (rt_13 rwt rbt x) (rt_23 rwt rbt x) (rt_34 rwt rbt x) (rt_35 rwt rbt x) (rt_36 rwt rbt x) (rt_37 rwt rbt x) (rt_38 rwt rbt x) (rt_41 rwt rbt x) (rt_42 rwt rbt x) (rt_43 rwt rbt x) k0_pay56 (rt_44 rwt rbt x)

/-- A value of the routing, from the block's inputs. -/
def rt_47 (rwt : Vec F S16x1024 .f32) (rbt : Vec F S128x128 .f32) (x : Vec F S1024x1024 .f32) : IVec S1x1024 1 :=
  k0_pay62 (rt_13 rwt rbt x) (rt_23 rwt rbt x) (rt_34 rwt rbt x) (rt_35 rwt rbt x) (rt_36 rwt rbt x) (rt_37 rwt rbt x) (rt_38 rwt rbt x) (rt_41 rwt rbt x) (rt_42 rwt rbt x) (rt_43 rwt rbt x) k0_pay56 (rt_44 rwt rbt x)

/-- A value of the routing, from the block's inputs. -/
def rt_48 (rwt : Vec F S16x1024 .f32) (rbt : Vec F S128x128 .f32) (x : Vec F S1024x1024 .f32) : IVec S1x1024 1 :=
  k0_pay64 (rt_13 rwt rbt x) (rt_23 rwt rbt x) (rt_34 rwt rbt x) (rt_35 rwt rbt x) (rt_36 rwt rbt x) (rt_37 rwt rbt x) (rt_38 rwt rbt x) (rt_41 rwt rbt x) (rt_42 rwt rbt x) (rt_43 rwt rbt x) k0_pay56 (rt_44 rwt rbt x)

/-- A value of the routing, from the block's inputs. -/
def rt_49 (rwt : Vec F S16x1024 .f32) (rbt : Vec F S128x128 .f32) (x : Vec F S1024x1024 .f32) : IVec S1x1024 1 :=
  k0_pay65 (rt_13 rwt rbt x) (rt_23 rwt rbt x) (rt_34 rwt rbt x) (rt_35 rwt rbt x) (rt_36 rwt rbt x) (rt_37 rwt rbt x) (rt_38 rwt rbt x) (rt_41 rwt rbt x) (rt_42 rwt rbt x) (rt_43 rwt rbt x) k0_pay56 (rt_44 rwt rbt x)

/-- A value of the routing, from the block's inputs. -/
def rt_50 (rwt : Vec F S16x1024 .f32) (rbt : Vec F S128x128 .f32) (x : Vec F S1024x1024 .f32) : IVec S1x1024 1 :=
  k0_pay66 (rt_6 rwt rbt x) (rt_13 rwt rbt x) (rt_23 rwt rbt x) (rt_34 rwt rbt x) (rt_35 rwt rbt x) (rt_36 rwt rbt x) (rt_37 rwt rbt x) (rt_38 rwt rbt x) (rt_41 rwt rbt x) (rt_42 rwt rbt x) (rt_43 rwt rbt x) k0_pay56 (rt_44 rwt rbt x)

/-- A value of the routing, from the block's inputs. -/
def rt_51 (rwt : Vec F S16x1024 .f32) (x : Vec F S1024x1024 .f32) : FVec F S1x1024 FTy.f32 :=
  k0_pay67 (rt_0 rwt x)

/-- A value of the routing, from the block's inputs. -/
def rt_52 (rwt : Vec F S16x1024 .f32) (rbt : Vec F S128x128 .f32) (x : Vec F S1024x1024 .f32) : FVec F S1x1024 FTy.f32 :=
  k0_pay69 (rt_50 rwt rbt x) (rt_51 rwt x) k0_pay68

/-- A value of the routing, from the block's inputs. -/
def rt_53 (rwt : Vec F S16x1024 .f32) (rbt : Vec F S128x128 .f32) (x : Vec F S1024x1024 .f32) : FVec F S1x1024 FTy.f32 :=
  k0_pay70 (rt_0 rwt x) (rt_8 rwt rbt x) (rt_46 rwt rbt x)

/-- A value of the routing, from the block's inputs. -/
def rt_54 (rwt : Vec F S16x1024 .f32) (rbt : Vec F S128x128 .f32) (x : Vec F S1024x1024 .f32) : FVec F S1x1024 FTy.f32 :=
  k0_pay71 (rt_0 rwt x) (rt_9 rwt rbt x) (rt_46 rwt rbt x)

/-- A value of the routing, from the block's inputs. -/
def rt_55 (rwt : Vec F S16x1024 .f32) (rbt : Vec F S128x128 .f32) (x : Vec F S1024x1024 .f32) : FVec F S1x1024 FTy.f32 :=
  k0_pay72 (rt_0 rwt x) (rt_12 rwt rbt x) (rt_46 rwt rbt x)

/-- A value of the routing, from the block's inputs. -/
def rt_56 (rwt : Vec F S16x1024 .f32) (rbt : Vec F S128x128 .f32) (x : Vec F S1024x1024 .f32) : FVec F S1x1024 FTy.f32 :=
  k0_pay73 (rt_0 rwt x) (rt_18 rwt rbt x) (rt_47 rwt rbt x)

/-- A value of the routing, from the block's inputs. -/
def rt_57 (rwt : Vec F S16x1024 .f32) (rbt : Vec F S128x128 .f32) (x : Vec F S1024x1024 .f32) : FVec F S1x1024 FTy.f32 :=
  k0_pay74 (rt_0 rwt x) (rt_19 rwt rbt x) (rt_47 rwt rbt x)

/-- A value of the routing, from the block's inputs. -/
def rt_58 (rwt : Vec F S16x1024 .f32) (rbt : Vec F S128x128 .f32) (x : Vec F S1024x1024 .f32) : FVec F S1x1024 FTy.f32 :=
  k0_pay75 (rt_0 rwt x) (rt_20 rwt rbt x) (rt_47 rwt rbt x)

/-- A value of the routing, from the block's inputs. -/
def rt_59 (rwt : Vec F S16x1024 .f32) (rbt : Vec F S128x128 .f32) (x : Vec F S1024x1024 .f32) : FVec F S1x1024 FTy.f32 :=
  k0_pay76 (rt_0 rwt x) (rt_22 rwt rbt x) (rt_47 rwt rbt x)

/-- A value of the routing, from the block's inputs. -/
def rt_60 (rwt : Vec F S16x1024 .f32) (rbt : Vec F S128x128 .f32) (x : Vec F S1024x1024 .f32) : FVec F S1x1024 FTy.f32 :=
  k0_pay77 (rt_0 rwt x) (rt_29 rwt rbt x) (rt_48 rwt rbt x)

/-- A value of the routing, from the block's inputs. -/
def rt_61 (rwt : Vec F S16x1024 .f32) (rbt : Vec F S128x128 .f32) (x : Vec F S1024x1024 .f32) : FVec F S1x1024 FTy.f32 :=
  k0_pay78 (rt_0 rwt x) (rt_30 rwt rbt x) (rt_48 rwt rbt x)

/-- A value of the routing, from the block's inputs. -/
def rt_62 (rwt : Vec F S16x1024 .f32) (rbt : Vec F S128x128 .f32) (x : Vec F S1024x1024 .f32) : FVec F S1x1024 FTy.f32 :=
  k0_pay79 (rt_0 rwt x) (rt_31 rwt rbt x) (rt_48 rwt rbt x)

/-- A value of the routing, from the block's inputs. -/
def rt_63 (rwt : Vec F S16x1024 .f32) (rbt : Vec F S128x128 .f32) (x : Vec F S1024x1024 .f32) : FVec F S1x1024 FTy.f32 :=
  k0_pay80 (rt_0 rwt x) (rt_33 rwt rbt x) (rt_48 rwt rbt x)

/-- A value of the routing, from the block's inputs. -/
def rt_64 (rwt : Vec F S16x1024 .f32) (rbt : Vec F S128x128 .f32) (x : Vec F S1024x1024 .f32) : IVec S1x1024 1 :=
  k0_pay81 (rt_41 rwt rbt x) (rt_49 rwt rbt x)

/-- A value of the routing, from the block's inputs. -/
def rt_65 (rwt : Vec F S16x1024 .f32) (x : Vec F S1024x1024 .f32) : FVec F S1x1024 FTy.f32 :=
  k0_pay82 (rt_0 rwt x)

/-- A value of the routing, from the block's inputs. -/
def rt_66 (rwt : Vec F S16x1024 .f32) (rbt : Vec F S128x128 .f32) (x : Vec F S1024x1024 .f32) : FVec F S1x1024 FTy.f32 :=
  k0_pay89 (rt_0 rwt x) (rt_42 rwt rbt x) (rt_43 rwt rbt x) (rt_45 rwt rbt x) (rt_49 rwt rbt x) (rt_52 rwt rbt x) (rt_53 rwt rbt x) (rt_54 rwt rbt x) (rt_55 rwt rbt x) (rt_56 rwt rbt x) (rt_57 rwt rbt x) (rt_58 rwt rbt x) (rt_59 rwt rbt x) (rt_60 rwt rbt x) (rt_61 rwt rbt x) (rt_62 rwt rbt x) (rt_63 rwt rbt x) (rt_64 rwt rbt x) (rt_65 rwt x) k0_pay83

/-- A value of the routing, from the block's inputs. -/
def rt_67 (rwt : Vec F S16x1024 .f32) (rbt : Vec F S128x128 .f32) (x : Vec F S1024x1024 .f32) : FVec F S1x1024 FTy.f32 :=
  k0_pay90 (rt_0 rwt x) (rt_42 rwt rbt x) (rt_43 rwt rbt x) (rt_45 rwt rbt x) (rt_49 rwt rbt x) (rt_52 rwt rbt x) (rt_53 rwt rbt x) (rt_54 rwt rbt x) (rt_55 rwt rbt x) (rt_56 rwt rbt x) (rt_57 rwt rbt x) (rt_58 rwt rbt x) (rt_59 rwt rbt x) (rt_60 rwt rbt x) (rt_61 rwt rbt x) (rt_62 rwt rbt x) (rt_63 rwt rbt x) (rt_64 rwt rbt x) (rt_65 rwt x) k0_pay83

/-- A value of the routing, from the block's inputs. -/
def rt_68 (rwt : Vec F S16x1024 .f32) (rbt : Vec F S128x128 .f32) (x : Vec F S1024x1024 .f32) : FVec F S1x1024 FTy.f32 :=
  k0_pay91 (rt_0 rwt x) (rt_42 rwt rbt x) (rt_43 rwt rbt x) (rt_45 rwt rbt x) (rt_49 rwt rbt x) (rt_52 rwt rbt x) (rt_53 rwt rbt x) (rt_54 rwt rbt x) (rt_55 rwt rbt x) (rt_56 rwt rbt x) (rt_57 rwt rbt x) (rt_58 rwt rbt x) (rt_59 rwt rbt x) (rt_60 rwt rbt x) (rt_61 rwt rbt x) (rt_62 rwt rbt x) (rt_63 rwt rbt x) (rt_64 rwt rbt x) (rt_65 rwt x) k0_pay83

/-- A value of the routing, from the block's inputs. -/
def rt_69 (rwt : Vec F S16x1024 .f32) (rbt : Vec F S128x128 .f32) (x : Vec F S1024x1024 .f32) : FVec F S1x1024 FTy.f32 :=
  k0_pay92 (rt_0 rwt x) (rt_42 rwt rbt x) (rt_43 rwt rbt x) (rt_45 rwt rbt x) (rt_49 rwt rbt x) (rt_52 rwt rbt x) (rt_53 rwt rbt x) (rt_54 rwt rbt x) (rt_55 rwt rbt x) (rt_56 rwt rbt x) (rt_57 rwt rbt x) (rt_58 rwt rbt x) (rt_59 rwt rbt x) (rt_60 rwt rbt x) (rt_61 rwt rbt x) (rt_62 rwt rbt x) (rt_63 rwt rbt x) (rt_64 rwt rbt x) (rt_65 rwt x) k0_pay83

/-- A value of the routing, from the block's inputs. -/
def rt_70 (rwt : Vec F S16x1024 .f32) (rbt : Vec F S128x128 .f32) (x : Vec F S1024x1024 .f32) : FVec F S1x1024 FTy.f32 :=
  k0_pay93 (rt_0 rwt x) (rt_42 rwt rbt x) (rt_43 rwt rbt x) (rt_45 rwt rbt x) (rt_49 rwt rbt x) (rt_52 rwt rbt x) (rt_53 rwt rbt x) (rt_54 rwt rbt x) (rt_55 rwt rbt x) (rt_56 rwt rbt x) (rt_57 rwt rbt x) (rt_58 rwt rbt x) (rt_59 rwt rbt x) (rt_60 rwt rbt x) (rt_61 rwt rbt x) (rt_62 rwt rbt x) (rt_63 rwt rbt x) (rt_64 rwt rbt x) (rt_65 rwt x) k0_pay83

/-- A value of the routing, from the block's inputs. -/
def rt_71 (rwt : Vec F S16x1024 .f32) (rbt : Vec F S128x128 .f32) (x : Vec F S1024x1024 .f32) : FVec F S1x1024 FTy.f32 :=
  k0_pay94 (rt_0 rwt x) (rt_42 rwt rbt x) (rt_43 rwt rbt x) (rt_45 rwt rbt x) (rt_49 rwt rbt x) (rt_52 rwt rbt x) (rt_53 rwt rbt x) (rt_54 rwt rbt x) (rt_55 rwt rbt x) (rt_56 rwt rbt x) (rt_57 rwt rbt x) (rt_58 rwt rbt x) (rt_59 rwt rbt x) (rt_60 rwt rbt x) (rt_61 rwt rbt x) (rt_62 rwt rbt x) (rt_63 rwt rbt x) (rt_64 rwt rbt x) (rt_65 rwt x) k0_pay83

/-- A value of the routing, from the block's inputs. -/
def rt_72 (rwt : Vec F S16x1024 .f32) (rbt : Vec F S128x128 .f32) (x : Vec F S1024x1024 .f32) : FVec F S1x1024 FTy.f32 :=
  k0_pay95 (rt_0 rwt x) (rt_42 rwt rbt x) (rt_43 rwt rbt x) (rt_45 rwt rbt x) (rt_49 rwt rbt x) (rt_52 rwt rbt x) (rt_53 rwt rbt x) (rt_54 rwt rbt x) (rt_55 rwt rbt x) (rt_56 rwt rbt x) (rt_57 rwt rbt x) (rt_58 rwt rbt x) (rt_59 rwt rbt x) (rt_60 rwt rbt x) (rt_61 rwt rbt x) (rt_62 rwt rbt x) (rt_63 rwt rbt x) (rt_64 rwt rbt x) (rt_65 rwt x) k0_pay83

/-- A value of the routing, from the block's inputs. -/
def rt_73 (rwt : Vec F S16x1024 .f32) (rbt : Vec F S128x128 .f32) (x : Vec F S1024x1024 .f32) : FVec F S1x1024 FTy.f32 :=
  k0_pay96 (rt_0 rwt x) (rt_42 rwt rbt x) (rt_43 rwt rbt x) (rt_45 rwt rbt x) (rt_49 rwt rbt x) (rt_52 rwt rbt x) (rt_53 rwt rbt x) (rt_54 rwt rbt x) (rt_55 rwt rbt x) (rt_56 rwt rbt x) (rt_57 rwt rbt x) (rt_58 rwt rbt x) (rt_59 rwt rbt x) (rt_60 rwt rbt x) (rt_61 rwt rbt x) (rt_62 rwt rbt x) (rt_63 rwt rbt x) (rt_64 rwt rbt x) (rt_65 rwt x) k0_pay83

/-- A value of the routing, from the block's inputs. -/
def rt_74 (rwt : Vec F S16x1024 .f32) (rbt : Vec F S128x128 .f32) (x : Vec F S1024x1024 .f32) : FVec F S1x1024 FTy.f32 :=
  k0_pay97 (rt_0 rwt x) (rt_42 rwt rbt x) (rt_43 rwt rbt x) (rt_45 rwt rbt x) (rt_49 rwt rbt x) (rt_52 rwt rbt x) (rt_53 rwt rbt x) (rt_54 rwt rbt x) (rt_55 rwt rbt x) (rt_56 rwt rbt x) (rt_57 rwt rbt x) (rt_58 rwt rbt x) (rt_59 rwt rbt x) (rt_60 rwt rbt x) (rt_61 rwt rbt x) (rt_62 rwt rbt x) (rt_63 rwt rbt x) (rt_64 rwt rbt x) (rt_65 rwt x) k0_pay83

/-- A value of the routing, from the block's inputs. -/
def rt_75 (rwt : Vec F S16x1024 .f32) (rbt : Vec F S128x128 .f32) (x : Vec F S1024x1024 .f32) : FVec F S1x1024 FTy.f32 :=
  k0_pay98 (rt_0 rwt x) (rt_42 rwt rbt x) (rt_43 rwt rbt x) (rt_45 rwt rbt x) (rt_49 rwt rbt x) (rt_52 rwt rbt x) (rt_53 rwt rbt x) (rt_54 rwt rbt x) (rt_55 rwt rbt x) (rt_56 rwt rbt x) (rt_57 rwt rbt x) (rt_58 rwt rbt x) (rt_59 rwt rbt x) (rt_60 rwt rbt x) (rt_61 rwt rbt x) (rt_62 rwt rbt x) (rt_63 rwt rbt x) (rt_64 rwt rbt x) (rt_65 rwt x) k0_pay83

/-- A value of the routing, from the block's inputs. -/
def rt_76 (rwt : Vec F S16x1024 .f32) (rbt : Vec F S128x128 .f32) (x : Vec F S1024x1024 .f32) : FVec F S1x1024 FTy.f32 :=
  k0_pay99 (rt_0 rwt x) (rt_42 rwt rbt x) (rt_43 rwt rbt x) (rt_45 rwt rbt x) (rt_49 rwt rbt x) (rt_52 rwt rbt x) (rt_53 rwt rbt x) (rt_54 rwt rbt x) (rt_55 rwt rbt x) (rt_56 rwt rbt x) (rt_57 rwt rbt x) (rt_58 rwt rbt x) (rt_59 rwt rbt x) (rt_60 rwt rbt x) (rt_61 rwt rbt x) (rt_62 rwt rbt x) (rt_63 rwt rbt x) (rt_64 rwt rbt x) (rt_65 rwt x) k0_pay83

/-- A value of the routing, from the block's inputs. -/
def rt_77 (rwt : Vec F S16x1024 .f32) (rbt : Vec F S128x128 .f32) (x : Vec F S1024x1024 .f32) : FVec F S1x1024 FTy.f32 :=
  k0_pay100 (rt_0 rwt x) (rt_42 rwt rbt x) (rt_43 rwt rbt x) (rt_45 rwt rbt x) (rt_49 rwt rbt x) (rt_52 rwt rbt x) (rt_53 rwt rbt x) (rt_54 rwt rbt x) (rt_55 rwt rbt x) (rt_56 rwt rbt x) (rt_57 rwt rbt x) (rt_58 rwt rbt x) (rt_59 rwt rbt x) (rt_60 rwt rbt x) (rt_61 rwt rbt x) (rt_62 rwt rbt x) (rt_63 rwt rbt x) (rt_64 rwt rbt x) (rt_65 rwt x) k0_pay83

/-- A value of the routing, from the block's inputs. -/
def rt_78 (rwt : Vec F S16x1024 .f32) (rbt : Vec F S128x128 .f32) (x : Vec F S1024x1024 .f32) : FVec F S1x1024 FTy.f32 :=
  k0_pay101 (rt_0 rwt x) (rt_42 rwt rbt x) (rt_43 rwt rbt x) (rt_45 rwt rbt x) (rt_49 rwt rbt x) (rt_52 rwt rbt x) (rt_53 rwt rbt x) (rt_54 rwt rbt x) (rt_55 rwt rbt x) (rt_56 rwt rbt x) (rt_57 rwt rbt x) (rt_58 rwt rbt x) (rt_59 rwt rbt x) (rt_60 rwt rbt x) (rt_61 rwt rbt x) (rt_62 rwt rbt x) (rt_63 rwt rbt x) (rt_64 rwt rbt x) (rt_65 rwt x) k0_pay83

/-- A value of the routing, from the block's inputs. -/
def rt_79 (rwt : Vec F S16x1024 .f32) (rbt : Vec F S128x128 .f32) (x : Vec F S1024x1024 .f32) : FVec F S1x1024 FTy.f32 :=
  k0_pay102 (rt_0 rwt x) (rt_42 rwt rbt x) (rt_43 rwt rbt x) (rt_45 rwt rbt x) (rt_49 rwt rbt x) (rt_52 rwt rbt x) (rt_53 rwt rbt x) (rt_54 rwt rbt x) (rt_55 rwt rbt x) (rt_56 rwt rbt x) (rt_57 rwt rbt x) (rt_58 rwt rbt x) (rt_59 rwt rbt x) (rt_60 rwt rbt x) (rt_61 rwt rbt x) (rt_62 rwt rbt x) (rt_63 rwt rbt x) (rt_64 rwt rbt x) (rt_65 rwt x) k0_pay83

/-- A value of the routing, from the block's inputs. -/
def rt_80 (rwt : Vec F S16x1024 .f32) (rbt : Vec F S128x128 .f32) (x : Vec F S1024x1024 .f32) : FVec F S1x1024 FTy.f32 :=
  k0_pay103 (rt_0 rwt x) (rt_42 rwt rbt x) (rt_43 rwt rbt x) (rt_45 rwt rbt x) (rt_49 rwt rbt x) (rt_52 rwt rbt x) (rt_53 rwt rbt x) (rt_54 rwt rbt x) (rt_55 rwt rbt x) (rt_56 rwt rbt x) (rt_57 rwt rbt x) (rt_58 rwt rbt x) (rt_59 rwt rbt x) (rt_60 rwt rbt x) (rt_61 rwt rbt x) (rt_62 rwt rbt x) (rt_63 rwt rbt x) (rt_64 rwt rbt x) (rt_65 rwt x) k0_pay83

/-- A value of the routing, from the block's inputs. -/
def rt_81 (rwt : Vec F S16x1024 .f32) (rbt : Vec F S128x128 .f32) (x : Vec F S1024x1024 .f32) : FVec F S1x1024 FTy.f32 :=
  k0_pay104 (rt_0 rwt x) (rt_42 rwt rbt x) (rt_43 rwt rbt x) (rt_45 rwt rbt x) (rt_49 rwt rbt x) (rt_52 rwt rbt x) (rt_53 rwt rbt x) (rt_54 rwt rbt x) (rt_55 rwt rbt x) (rt_56 rwt rbt x) (rt_57 rwt rbt x) (rt_58 rwt rbt x) (rt_59 rwt rbt x) (rt_60 rwt rbt x) (rt_61 rwt rbt x) (rt_62 rwt rbt x) (rt_63 rwt rbt x) (rt_64 rwt rbt x) (rt_65 rwt x) k0_pay83

/-- A value of the routing, from the block's inputs. -/
def rt_82 (rwt : Vec F S16x1024 .f32) (rbt : Vec F S128x128 .f32) (x : Vec F S1024x1024 .f32) : FVec F S1x1024 FTy.f32 :=
  k0_pay105 (rt_46 rwt rbt x)

/-- A value of the routing, from the block's inputs. -/
def rt_83 (rwt : Vec F S16x1024 .f32) (rbt : Vec F S128x128 .f32) (x : Vec F S1024x1024 .f32) : FVec F S1x1024 FTy.f32 :=
  k0_pay106 (rt_47 rwt rbt x)

/-- A value of the routing, from the block's inputs. -/
def rt_84 (rwt : Vec F S16x1024 .f32) (rbt : Vec F S128x128 .f32) (tri : Vec F S1024x1024 .bf16) (x : Vec F S1024x1024 .f32) : FVec F S8x1024 FTy.f32 :=
  k0_pay115 (rt_48 rwt rbt x) (rt_49 rwt rbt x) (rt_78 rwt rbt x) (rt_79 rwt rbt x) (rt_80 rwt rbt x) (rt_81 rwt rbt x) (rt_82 rwt rbt x) (rt_83 rwt rbt x) (cst_60 : F .f32) k0_pay107 (View.ld tri (Rect.unit (s := S1024x1024) ![0, 0] S1024x1024.size inb_S1024x1024_S1024x1024_0_0))

/-- The rows of routing facts of group 0. -/
def infoRow0 (rwt : Vec F S16x1024 .f32) (rbt : Vec F S128x128 .f32) (tri : Vec F S1024x1024 .bf16) (x : Vec F S1024x1024 .f32) : Vec F S1x8x1024 .f32 :=
  k0_pay112 (rt_48 rwt rbt x) (rt_49 rwt rbt x) (rt_66 rwt rbt x) (rt_67 rwt rbt x) (rt_68 rwt rbt x) (rt_69 rwt rbt x) (rt_82 rwt rbt x) (rt_83 rwt rbt x) (cst_60 : F .f32) k0_pay107 (View.ld tri (Rect.unit (s := S1024x1024) ![0, 0] S1024x1024.size inb_S1024x1024_S1024x1024_0_0))

/-- The rows of routing facts of group 1. -/
def infoRow1 (rwt : Vec F S16x1024 .f32) (rbt : Vec F S128x128 .f32) (tri : Vec F S1024x1024 .bf16) (x : Vec F S1024x1024 .f32) : Vec F S1x8x1024 .f32 :=
  k0_pay113 (rt_48 rwt rbt x) (rt_49 rwt rbt x) (rt_70 rwt rbt x) (rt_71 rwt rbt x) (rt_72 rwt rbt x) (rt_73 rwt rbt x) (rt_82 rwt rbt x) (rt_83 rwt rbt x) (cst_60 : F .f32) k0_pay107 (View.ld tri (Rect.unit (s := S1024x1024) ![0, 0] S1024x1024.size inb_S1024x1024_S1024x1024_0_0))

/-- The rows of routing facts of group 2. -/
def infoRow2 (rwt : Vec F S16x1024 .f32) (rbt : Vec F S128x128 .f32) (tri : Vec F S1024x1024 .bf16) (x : Vec F S1024x1024 .f32) : Vec F S1x8x1024 .f32 :=
  k0_pay114 (rt_48 rwt rbt x) (rt_49 rwt rbt x) (rt_74 rwt rbt x) (rt_75 rwt rbt x) (rt_76 rwt rbt x) (rt_77 rwt rbt x) (rt_82 rwt rbt x) (rt_83 rwt rbt x) (cst_60 : F .f32) k0_pay107 (View.ld tri (Rect.unit (s := S1024x1024) ![0, 0] S1024x1024.size inb_S1024x1024_S1024x1024_0_0))

/-- The rows of routing facts of group 3. -/
def infoRow3 (rwt : Vec F S16x1024 .f32) (rbt : Vec F S128x128 .f32) (tri : Vec F S1024x1024 .bf16) (x : Vec F S1024x1024 .f32) : Vec F S1x8x1024 .f32 :=
  k0_pay148 (rt_84 rwt rbt tri x)

/-- The stores of the routing facts, the last first. -/
def infoPieces (rwt : Vec F S16x1024 .f32) (rbt : Vec F S128x128 .f32) (tri : Vec F S1024x1024 .bf16) (x : Vec F S1024x1024 .f32) : List (View.Piece (Elt F) S4x8x1024 .f32) :=
  [⟨Rect.unit ![3, 0, 0] S1x8x1024.size inb_S4x8x1024_S1x8x1024_3_0_0, infoRow3 rwt rbt tri x⟩,
   ⟨Rect.unit ![2, 0, 0] S1x8x1024.size inb_S4x8x1024_S1x8x1024_2_0_0, infoRow2 rwt rbt tri x⟩,
   ⟨Rect.unit ![1, 0, 0] S1x8x1024.size inb_S4x8x1024_S1x8x1024_1_0_0, infoRow1 rwt rbt tri x⟩,
   ⟨Rect.unit ![0, 0, 0] S1x8x1024.size inb_S4x8x1024_S1x8x1024_0_0_0, infoRow0 rwt rbt tri x⟩]

/-- The routing facts of a block of tokens. -/
def infoOf (rwt : Vec F S16x1024 .f32) (rbt : Vec F S128x128 .f32) (tri : Vec F S1024x1024 .bf16) (x : Vec F S1024x1024 .f32) : Vec F S4x8x1024 .f32 :=
  VecWindow.put (VecWindow.put (VecWindow.put (VecWindow.put (fun _ => cst_60) ![0, 0, 0] S1x8x1024.size (infoRow0 rwt rbt tri x))
    ![1, 0, 0] S1x8x1024.size (infoRow1 rwt rbt tri x)) ![2, 0, 0] S1x8x1024.size (infoRow2 rwt rbt tri x)) ![3, 0, 0] S1x8x1024.size (infoRow3 rwt rbt tri x)

/-- The routing facts' stores fill their buffer. -/
theorem infoPieces_cover (rwt : Vec F S16x1024 .f32) (rbt : Vec F S128x128 .f32) (tri : Vec F S1024x1024 .bf16) (x : Vec F S1024x1024 .f32) (y : S4x8x1024.Idx) : ∃ p ∈ infoPieces rwt rbt tri x, y ∈ p.1.set :=
  View.cover_of_tiled (s := S4x8x1024) (infoPieces rwt rbt tri x) S1x8x1024.size rfl y

/-- The buffer of the routing facts reads the facts once they are stored. -/
theorem read_infoPieces (v : View sig .tc .vmem S4x8x1024 .f32) (f : v.ty.Contents (Elt F)) (rwt : Vec F S16x1024 .f32) (rbt : Vec F S128x128 .f32) (tri : Vec F S1024x1024 .bf16) (x : Vec F S1024x1024 .f32) :
    v.read (Elt F) (v.writes (Elt F) f (infoPieces rwt rbt tri x)) = infoOf rwt rbt tri x := by
  rw [View.read_writes_of_cover v f v (v.rep fun _ => cst_60) _ (infoPieces_cover rwt rbt tri x)]
  unfold infoPieces infoOf
  rw [View.read_writes_cons_put v _ _ _ _ rfl, View.read_writes_cons_put v _ _ _ _ rfl, View.read_writes_cons_put v _ _ _ _ rfl,
    View.read_writes_cons_put v _ _ _ _ rfl, View.writes_nil, View.read_rep]

end Cert.KernelIdeal.Hand
end
-- ==== Proof.ReadAKernelIdeal.lean ====
module

public import proofs.«01_k».proof.Proof.RunAKernelIdeal
public import proofs.«01_k».proof.Proof.RouteKernelIdeal

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- The buffer of the routing facts, after the first grid point's stores, reads the facts. -/
theorem storesA_read (arg2 : Memref sig .tc .vmem S16x1024 .f32) (arg3 : Memref sig .tc .vmem S128x128 .f32) (arg4 : Memref sig .tc .vmem S1024x1024 .bf16) (arg5 : Memref sig .tc .vmem S1024x1024 .f32)
    (arg13 : Memref sig .tc .vmem S4x8x1024 .f32) (X2 : BufTy.Contents (Elt F) arg2.view.ty) (X3 : BufTy.Contents (Elt F) arg3.view.ty) (X4 : BufTy.Contents (Elt F) arg4.view.ty) (X5 : BufTy.Contents (Elt F) arg5.view.ty) (f : BufTy.Contents (Elt F) arg13.view.ty) :
    arg13.view.read (Elt F) (arg13.view.writes (Elt F) f (runA.sl.H13_4 arg2 arg3 arg4 arg5 X2 X3 X4 X5)) = (infoOf (arg2.view.read (Elt F) X2) (arg3.view.read (Elt F) X3) (arg4.view.read (Elt F) X4) (arg5.view.read (Elt F) X5)) :=
  read_infoPieces arg13.view _ _ _ _ _

set_option maxHeartbeats 2000000 in
/-- What a grid point leaves in the accumulator. -/
theorem runA_acc (c : Dev nD) (i : grid0.Coords) (arg2 : Memref sig .tc .vmem S16x1024 .f32) (harg2 : arg2.IsWhole) (arg3 : Memref sig .tc .vmem S128x128 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S4x1024x512 .bf16) (harg6 : arg6.IsWhole) (arg7 : Memref sig .tc .vmem S4x1024x512 .bf16) (harg7 : arg7.IsWhole) (arg8 : Memref sig .tc .vmem S4x512x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x1024 .bf16) (harg12 : arg12.IsWhole) (arg13 : Memref sig .tc .vmem S4x8x1024 .f32) (harg13 : arg13.IsWhole) (arg14 : Memref sig .tc .vmem S1024x1024 .f32) (harg14 : arg14.IsWhole) (h0 : Scalar.cmpi .ne (Scalar.extui (Scalar.cmpi .eq (BitVec.ofNat 32 (i 1).val) 0#32)) 0#32 = 1#1) (h4 : ¬(k0_cond4 i = 1#1)) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) :
    arg14.view.read (Elt F) (runA (F := F) c i arg2 harg2 arg3 harg3 arg4 harg4 arg5 harg5 arg6 harg6 arg7 harg7 arg8 harg8 arg9 harg9 arg10 harg10 arg11 harg11 arg12 harg12 arg13 harg13 arg14 harg14 h0 h4 X2 X3 X4 X5 X6 X7 X8 X9 X10 X11 X12 X13 X14).2.2.1
      = groupAcc (rowAt i (infoOf (arg2.view.read (Elt F) X2) (arg3.view.read (Elt F) X3) (arg4.view.read (Elt F) X4) (arg5.view.read (Elt F) X5))) (k0_pay6 (View.ld (arg5.view.read (Elt F) X5) (Rect.unit (s := S1024x1024) ![0, 0] S1024x1024.size inb_S1024x1024_S1024x1024_0_0))) (arg6.view.read (Elt F) X6) (arg7.view.read (Elt F) X7) (arg8.view.read (Elt F) X8) k0_pay149 := by
  have h12 : (arg12.view.read (Elt F) (arg12.view.writes (Elt F) arg12.view.junk (runA.sl.H12_1 arg5 X5))) = (k0_pay6 (View.ld (arg5.view.read (Elt F) X5) (Rect.unit (s := S1024x1024) ![0, 0] S1024x1024.size inb_S1024x1024_S1024x1024_0_0))) := View.read_writes_full (s := S1024x1024) arg12.view _ inb_S1024x1024_S1024x1024_0_0 _ _
  have h13 : (arg13.view.read (Elt F) (arg13.view.writes (Elt F) arg13.view.junk (runA.sl.H13_4 arg2 arg3 arg4 arg5 X2 X3 X4 X5))) = (infoOf (arg2.view.read (Elt F) X2) (arg3.view.read (Elt F) X3) (arg4.view.read (Elt F) X4) (arg5.view.read (Elt F) X5)) := storesA_read _ _ _ _ _ _ _ _ _ _
  have h14 : arg14.view.read (Elt F) (arg14.view.writes (Elt F) arg14.view.junk (runA.sl.H14_1 (F := F))) = k0_pay149 := View.read_writes_full (s := S1024x1024) arg14.view _ inb_S1024x1024_S1024x1024_0_0 _ _
  rw [← h12, ← h13, ← h14]
  have hL := fun G' => loops_read_over Variants.none c none i arg2 harg2 arg3 harg3 arg4 harg4 arg5 harg5 arg6 harg6 arg7 harg7 arg8 harg8 arg9 harg9 arg10 harg10 arg11 harg11 arg12 harg12 arg13 harg13 arg14 harg14 (k0_pay150 (rowAt i (arg13.view.read (Elt F) (arg13.view.writes (Elt F) arg13.view.junk (runA.sl.H13_4 arg2 arg3 arg4 arg5 X2 X3 X4 X5))))) (k0_pay151 (rowAt i (arg13.view.read (Elt F) (arg13.view.writes (Elt F) arg13.view.junk (runA.sl.H13_4 arg2 arg3 arg4 arg5 X2 X3 X4 X5))))) (k0_pay152 (rowAt i (arg13.view.read (Elt F) (arg13.view.writes (Elt F) arg13.view.junk (runA.sl.H13_4 arg2 arg3 arg4 arg5 X2 X3 X4 X5))))) (Scalar.fptosi 32 (k0_pay153 (rowAt i (arg13.view.read (Elt F) (arg13.view.writes (Elt F) arg13.view.junk (runA.sl.H13_4 arg2 arg3 arg4 arg5 X2 X3 X4 X5)))))) (chk1_all _)
    (Scalar.addi 0#32 (Scalar.muli (Scalar.divsi (Scalar.subi (full (Scalar.fptosi 32 (k0_pay153 (rowAt i (arg13.view.read (Elt F) (arg13.view.writes (Elt F) arg13.view.junk (runA.sl.H13_4 arg2 arg3 arg4 arg5 X2 X3 X4 X5))))))) 0#32) 1#32) 1#32)) X6 X7 X8 (arg12.view.writes (Elt F) arg12.view.junk (runA.sl.H12_1 arg5 X5)) arg14.view.junk G' runA.sl.H14_1
  unfold groupAcc groupTail groupLast
  by_cases c1 : condLast (Scalar.fptosi 32 (k0_pay153 (rowAt i (arg13.view.read (Elt F) (arg13.view.writes (Elt F) arg13.view.junk (runA.sl.H13_4 arg2 arg3 arg4 arg5 X2 X3 X4 X5)))))) <;> by_cases c2 : condTail (Scalar.fptosi 32 (k0_pay153 (rowAt i (arg13.view.read (Elt F) (arg13.view.writes (Elt F) arg13.view.junk (runA.sl.H13_4 arg2 arg3 arg4 arg5 X2 X3 X4 X5))))))
  · rw [if_pos c1, if_pos c2, ← hL]
    unfold runA
    dsimp only
    refine (congrArg (arg14.view.read (Elt F)) (dif_pos c2)).trans ?_
    refine (View.read_writes_full (s := S1024x1024) arg14.view _ inb_S1024x1024_S1024x1024_0_0 _ _).trans ?_
    refine congrArg (fun a => tailTile (k0_pay150 (rowAt i (arg13.view.read (Elt F) (arg13.view.writes (Elt F) arg13.view.junk (runA.sl.H13_4 arg2 arg3 arg4 arg5 X2 X3 X4 X5))))) (k0_pay151 (rowAt i (arg13.view.read (Elt F) (arg13.view.writes (Elt F) arg13.view.junk (runA.sl.H13_4 arg2 arg3 arg4 arg5 X2 X3 X4 X5))))) (k0_pay152 (rowAt i (arg13.view.read (Elt F) (arg13.view.writes (Elt F) arg13.view.junk (runA.sl.H13_4 arg2 arg3 arg4 arg5 X2 X3 X4 X5))))) (full (Scalar.fptosi 32 (k0_pay153 (rowAt i (arg13.view.read (Elt F) (arg13.view.writes (Elt F) arg13.view.junk (runA.sl.H13_4 arg2 arg3 arg4 arg5 X2 X3 X4 X5))))))) (arg12.view.read (Elt F) (arg12.view.writes (Elt F) arg12.view.junk (runA.sl.H12_1 arg5 X5))) (arg6.view.read (Elt F) X6) (arg7.view.read (Elt F) X7) (arg8.view.read (Elt F) X8) a) (a₁ := arg14.view.read (Elt F) _) ?_
    refine (congrArg (arg14.view.read (Elt F)) (dif_pos c1)).trans ?_
    exact View.read_writes_full (s := S1024x1024) arg14.view _ inb_S1024x1024_S1024x1024_0_0 _ _
  · rw [if_pos c1, if_neg c2, ← hL]
    unfold runA
    dsimp only
    refine (congrArg (arg14.view.read (Elt F)) (dif_neg c2)).trans ?_
    refine (congrArg (arg14.view.read (Elt F)) (dif_pos c1)).trans ?_
    exact View.read_writes_full (s := S1024x1024) arg14.view _ inb_S1024x1024_S1024x1024_0_0 _ _
  · rw [if_neg c1, if_pos c2, ← hL]
    unfold runA
    dsimp only
    refine (congrArg (arg14.view.read (Elt F)) (dif_pos c2)).trans ?_
    refine (View.read_writes_full (s := S1024x1024) arg14.view _ inb_S1024x1024_S1024x1024_0_0 _ _).trans ?_
    refine congrArg (fun a => tailTile (k0_pay150 (rowAt i (arg13.view.read (Elt F) (arg13.view.writes (Elt F) arg13.view.junk (runA.sl.H13_4 arg2 arg3 arg4 arg5 X2 X3 X4 X5))))) (k0_pay151 (rowAt i (arg13.view.read (Elt F) (arg13.view.writes (Elt F) arg13.view.junk (runA.sl.H13_4 arg2 arg3 arg4 arg5 X2 X3 X4 X5))))) (k0_pay152 (rowAt i (arg13.view.read (Elt F) (arg13.view.writes (Elt F) arg13.view.junk (runA.sl.H13_4 arg2 arg3 arg4 arg5 X2 X3 X4 X5))))) (full (Scalar.fptosi 32 (k0_pay153 (rowAt i (arg13.view.read (Elt F) (arg13.view.writes (Elt F) arg13.view.junk (runA.sl.H13_4 arg2 arg3 arg4 arg5 X2 X3 X4 X5))))))) (arg12.view.read (Elt F) (arg12.view.writes (Elt F) arg12.view.junk (runA.sl.H12_1 arg5 X5))) (arg6.view.read (Elt F) X6) (arg7.view.read (Elt F) X7) (arg8.view.read (Elt F) X8) a) (a₁ := arg14.view.read (Elt F) _) ?_
    exact (congrArg (arg14.view.read (Elt F)) (dif_neg c1))
  · rw [if_neg c1, if_neg c2, ← hL]
    unfold runA
    dsimp only
    refine (congrArg (arg14.view.read (Elt F)) (dif_neg c2)).trans ?_
    exact (congrArg (arg14.view.read (Elt F)) (dif_neg c1))

set_option maxHeartbeats 2000000 in
/-- The first grid point of a block casts the block's tokens. -/
theorem runA_xb (c : Dev nD) (i : grid0.Coords) (arg2 : Memref sig .tc .vmem S16x1024 .f32) (harg2 : arg2.IsWhole) (arg3 : Memref sig .tc .vmem S128x128 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S4x1024x512 .bf16) (harg6 : arg6.IsWhole) (arg7 : Memref sig .tc .vmem S4x1024x512 .bf16) (harg7 : arg7.IsWhole) (arg8 : Memref sig .tc .vmem S4x512x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x1024 .bf16) (harg12 : arg12.IsWhole) (arg13 : Memref sig .tc .vmem S4x8x1024 .f32) (harg13 : arg13.IsWhole) (arg14 : Memref sig .tc .vmem S1024x1024 .f32) (harg14 : arg14.IsWhole) (h0 : Scalar.cmpi .ne (Scalar.extui (Scalar.cmpi .eq (BitVec.ofNat 32 (i 1).val) 0#32)) 0#32 = 1#1) (h4 : ¬(k0_cond4 i = 1#1)) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) :
    arg12.view.read (Elt F) (runA (F := F) c i arg2 harg2 arg3 harg3 arg4 harg4 arg5 harg5 arg6 harg6 arg7 harg7 arg8 harg8 arg9 harg9 arg10 harg10 arg11 harg11 arg12 harg12 arg13 harg13 arg14 harg14 h0 h4 X2 X3 X4 X5 X6 X7 X8 X9 X10 X11 X12 X13 X14).1 = (k0_pay6 (View.ld (arg5.view.read (Elt F) X5) (Rect.unit (s := S1024x1024) ![0, 0] S1024x1024.size inb_S1024x1024_S1024x1024_0_0))) := by
  unfold runA
  exact View.read_writes_full (s := S1024x1024) arg12.view _ inb_S1024x1024_S1024x1024_0_0 _ _

set_option maxHeartbeats 2000000 in
/-- The first grid point of a block leaves the block's routing facts. -/
theorem runA_info (c : Dev nD) (i : grid0.Coords) (arg2 : Memref sig .tc .vmem S16x1024 .f32) (harg2 : arg2.IsWhole) (arg3 : Memref sig .tc .vmem S128x128 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S4x1024x512 .bf16) (harg6 : arg6.IsWhole) (arg7 : Memref sig .tc .vmem S4x1024x512 .bf16) (harg7 : arg7.IsWhole) (arg8 : Memref sig .tc .vmem S4x512x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x1024 .bf16) (harg12 : arg12.IsWhole) (arg13 : Memref sig .tc .vmem S4x8x1024 .f32) (harg13 : arg13.IsWhole) (arg14 : Memref sig .tc .vmem S1024x1024 .f32) (harg14 : arg14.IsWhole) (h0 : Scalar.cmpi .ne (Scalar.extui (Scalar.cmpi .eq (BitVec.ofNat 32 (i 1).val) 0#32)) 0#32 = 1#1) (h4 : ¬(k0_cond4 i = 1#1)) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) :
    arg13.view.read (Elt F) (runA (F := F) c i arg2 harg2 arg3 harg3 arg4 harg4 arg5 harg5 arg6 harg6 arg7 harg7 arg8 harg8 arg9 harg9 arg10 harg10 arg11 harg11 arg12 harg12 arg13 harg13 arg14 harg14 h0 h4 X2 X3 X4 X5 X6 X7 X8 X9 X10 X11 X12 X13 X14).2.1 = (infoOf (arg2.view.read (Elt F) X2) (arg3.view.read (Elt F) X3) (arg4.view.read (Elt F) X4) (arg5.view.read (Elt F) X5)) := by
  unfold runA
  dsimp only
  exact storesA_read _ _ _ _ _ _ _ _ _ _

end Cert.KernelIdeal.Hand
end
-- ==== Proof.RunBKernelIdeal.lean ====
module

public import proofs.«01_k».proof.Proof.TilesKernelIdeal

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
def runB (c : Dev nD) (i : grid0.Coords) (arg2 : Memref sig .tc .vmem S16x1024 .f32) (harg2 : arg2.IsWhole) (arg3 : Memref sig .tc .vmem S128x128 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S4x1024x512 .bf16) (harg6 : arg6.IsWhole) (arg7 : Memref sig .tc .vmem S4x1024x512 .bf16) (harg7 : arg7.IsWhole) (arg8 : Memref sig .tc .vmem S4x512x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x1024 .bf16) (harg12 : arg12.IsWhole) (arg13 : Memref sig .tc .vmem S4x8x1024 .f32) (harg13 : arg13.IsWhole) (arg14 : Memref sig .tc .vmem S1024x1024 .f32) (harg14 : arg14.IsWhole) (h0 : ¬(Scalar.cmpi .ne (Scalar.extui (Scalar.cmpi .eq (BitVec.ofNat 32 (i 1).val) 0#32)) 0#32 = 1#1)) (h4 : ¬(k0_cond4 i = 1#1)) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) :
    { G14 : BufTy.Contents (Elt F) arg14.view.ty // ∀ (E : Set ℕ) (K : PUnit → sProp 𝕄),
      iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} G14)) -∗ K ⟨⟩)) ⊢ wp frame (wpE (defs₀ (F := F)) Variants.none (c : Thread nD τ) none) E (cc0_moe_group_ln i arg2 harg2 arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc0_moe_group_ln_eq_skeleton]
    unfold cc0_moe_group_ln_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    iintro ⟨H2, H3, H4, H5, H6, H7, H8, H9, H10, H11, H12, H13, H14, Hk⟩
    sl_exec (disch := first | sl_exact h0 | sl_exact h4 | sl_exact chk1_all _)
    sl_step
    iapply Hk
    sl_close

end Cert.KernelIdeal.Hand
end
-- ==== Proof.ReadBKernelIdeal.lean ====
module

public import proofs.«01_k».proof.Proof.RunBKernelIdeal

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- What a grid point leaves in the accumulator. -/
theorem runB_acc (c : Dev nD) (i : grid0.Coords) (arg2 : Memref sig .tc .vmem S16x1024 .f32) (harg2 : arg2.IsWhole) (arg3 : Memref sig .tc .vmem S128x128 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S4x1024x512 .bf16) (harg6 : arg6.IsWhole) (arg7 : Memref sig .tc .vmem S4x1024x512 .bf16) (harg7 : arg7.IsWhole) (arg8 : Memref sig .tc .vmem S4x512x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x1024 .bf16) (harg12 : arg12.IsWhole) (arg13 : Memref sig .tc .vmem S4x8x1024 .f32) (harg13 : arg13.IsWhole) (arg14 : Memref sig .tc .vmem S1024x1024 .f32) (harg14 : arg14.IsWhole) (h0 : ¬(Scalar.cmpi .ne (Scalar.extui (Scalar.cmpi .eq (BitVec.ofNat 32 (i 1).val) 0#32)) 0#32 = 1#1)) (h4 : ¬(k0_cond4 i = 1#1)) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) :
    arg14.view.read (Elt F) (runB (F := F) c i arg2 harg2 arg3 harg3 arg4 harg4 arg5 harg5 arg6 harg6 arg7 harg7 arg8 harg8 arg9 harg9 arg10 harg10 arg11 harg11 arg12 harg12 arg13 harg13 arg14 harg14 h0 h4 X2 X3 X4 X5 X6 X7 X8 X9 X10 X11 X12 X13 X14).1
      = groupAcc (rowAt i (arg13.view.read (Elt F) X13)) (arg12.view.read (Elt F) X12) (arg6.view.read (Elt F) X6) (arg7.view.read (Elt F) X7) (arg8.view.read (Elt F) X8) (arg14.view.read (Elt F) X14) := by

  have hL := loops_read Variants.none c none i arg2 harg2 arg3 harg3 arg4 harg4 arg5 harg5 arg6 harg6 arg7 harg7 arg8 harg8 arg9 harg9 arg10 harg10 arg11 harg11 arg12 harg12 arg13 harg13 arg14 harg14 (k0_pay150 (rowAt i (arg13.view.read (Elt F) X13))) (k0_pay151 (rowAt i (arg13.view.read (Elt F) X13))) (k0_pay152 (rowAt i (arg13.view.read (Elt F) X13))) (Scalar.fptosi 32 (k0_pay153 (rowAt i (arg13.view.read (Elt F) X13)))) (chk1_all _)
    (Scalar.addi 0#32 (Scalar.muli (Scalar.divsi (Scalar.subi (full (Scalar.fptosi 32 (k0_pay153 (rowAt i (arg13.view.read (Elt F) X13))))) 0#32) 1#32) 1#32)) X6 X7 X8 X12 X14
  unfold groupAcc groupTail groupLast
  by_cases c1 : condLast (Scalar.fptosi 32 (k0_pay153 (rowAt i (arg13.view.read (Elt F) X13)))) <;> by_cases c2 : condTail (Scalar.fptosi 32 (k0_pay153 (rowAt i (arg13.view.read (Elt F) X13))))
  · rw [if_pos c1, if_pos c2, ← hL]
    unfold runB
    dsimp only
    refine (congrArg (arg14.view.read (Elt F)) (dif_pos c2)).trans ?_
    refine (View.read_writes_full (s := S1024x1024) arg14.view _ inb_S1024x1024_S1024x1024_0_0 _ _).trans ?_
    refine congrArg (fun a => tailTile (k0_pay150 (rowAt i (arg13.view.read (Elt F) X13))) (k0_pay151 (rowAt i (arg13.view.read (Elt F) X13))) (k0_pay152 (rowAt i (arg13.view.read (Elt F) X13))) (full (Scalar.fptosi 32 (k0_pay153 (rowAt i (arg13.view.read (Elt F) X13))))) (arg12.view.read (Elt F) X12) (arg6.view.read (Elt F) X6) (arg7.view.read (Elt F) X7) (arg8.view.read (Elt F) X8) a) (a₁ := arg14.view.read (Elt F) _) ?_
    refine (congrArg (arg14.view.read (Elt F)) (dif_pos c1)).trans ?_
    exact View.read_writes_full (s := S1024x1024) arg14.view _ inb_S1024x1024_S1024x1024_0_0 _ _
  · rw [if_pos c1, if_neg c2, ← hL]
    unfold runB
    dsimp only
    refine (congrArg (arg14.view.read (Elt F)) (dif_neg c2)).trans ?_
    refine (congrArg (arg14.view.read (Elt F)) (dif_pos c1)).trans ?_
    exact View.read_writes_full (s := S1024x1024) arg14.view _ inb_S1024x1024_S1024x1024_0_0 _ _
  · rw [if_neg c1, if_pos c2, ← hL]
    unfold runB
    dsimp only
    refine (congrArg (arg14.view.read (Elt F)) (dif_pos c2)).trans ?_
    refine (View.read_writes_full (s := S1024x1024) arg14.view _ inb_S1024x1024_S1024x1024_0_0 _ _).trans ?_
    refine congrArg (fun a => tailTile (k0_pay150 (rowAt i (arg13.view.read (Elt F) X13))) (k0_pay151 (rowAt i (arg13.view.read (Elt F) X13))) (k0_pay152 (rowAt i (arg13.view.read (Elt F) X13))) (full (Scalar.fptosi 32 (k0_pay153 (rowAt i (arg13.view.read (Elt F) X13))))) (arg12.view.read (Elt F) X12) (arg6.view.read (Elt F) X6) (arg7.view.read (Elt F) X7) (arg8.view.read (Elt F) X8) a) (a₁ := arg14.view.read (Elt F) _) ?_
    exact (congrArg (arg14.view.read (Elt F)) (dif_neg c1))
  · rw [if_neg c1, if_neg c2, ← hL]
    unfold runB
    dsimp only
    refine (congrArg (arg14.view.read (Elt F)) (dif_neg c2)).trans ?_
    exact (congrArg (arg14.view.read (Elt F)) (dif_neg c1))

end Cert.KernelIdeal.Hand
end
-- ==== Proof.RunCKernelIdeal.lean ====
module

public import proofs.«01_k».proof.Proof.TilesKernelIdeal

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
def runC (c : Dev nD) (i : grid0.Coords) (arg2 : Memref sig .tc .vmem S16x1024 .f32) (harg2 : arg2.IsWhole) (arg3 : Memref sig .tc .vmem S128x128 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S4x1024x512 .bf16) (harg6 : arg6.IsWhole) (arg7 : Memref sig .tc .vmem S4x1024x512 .bf16) (harg7 : arg7.IsWhole) (arg8 : Memref sig .tc .vmem S4x512x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x1024 .bf16) (harg12 : arg12.IsWhole) (arg13 : Memref sig .tc .vmem S4x8x1024 .f32) (harg13 : arg13.IsWhole) (arg14 : Memref sig .tc .vmem S1024x1024 .f32) (harg14 : arg14.IsWhole) (h0 : ¬(Scalar.cmpi .ne (Scalar.extui (Scalar.cmpi .eq (BitVec.ofNat 32 (i 1).val) 0#32)) 0#32 = 1#1)) (h4 : k0_cond4 i = 1#1) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) :
    Σ' (G11 : BufTy.Contents (Elt F) arg11.view.ty), { G14 : BufTy.Contents (Elt F) arg14.view.ty // ∀ (E : Set ℕ) (K : PUnit → sProp 𝕄),
      iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} G11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} G14)) -∗ K ⟨⟩)) ⊢ wp frame (wpE (defs₀ (F := F)) Variants.none (c : Thread nD τ) none) E (cc0_moe_group_ln i arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    simp only [cc0_moe_group_ln_eq_skeleton]
    unfold cc0_moe_group_ln_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    iintro ⟨H2, H3, H4, H5, H6, H7, H8, H9, H10, H11, H12, H13, H14, Hk⟩
    sl_exec (disch := first | sl_exact h0 | sl_exact h4 | sl_exact chk1_all _)
    sl_step
    iapply Hk
    sl_close

end Cert.KernelIdeal.Hand
end
-- ==== Proof.ReadCKernelIdeal.lean ====
module

public import proofs.«01_k».proof.Proof.RunCKernelIdeal

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- What a grid point leaves in the accumulator. -/
theorem runC_acc (c : Dev nD) (i : grid0.Coords) (arg2 : Memref sig .tc .vmem S16x1024 .f32) (harg2 : arg2.IsWhole) (arg3 : Memref sig .tc .vmem S128x128 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S4x1024x512 .bf16) (harg6 : arg6.IsWhole) (arg7 : Memref sig .tc .vmem S4x1024x512 .bf16) (harg7 : arg7.IsWhole) (arg8 : Memref sig .tc .vmem S4x512x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x1024 .bf16) (harg12 : arg12.IsWhole) (arg13 : Memref sig .tc .vmem S4x8x1024 .f32) (harg13 : arg13.IsWhole) (arg14 : Memref sig .tc .vmem S1024x1024 .f32) (harg14 : arg14.IsWhole) (h0 : ¬(Scalar.cmpi .ne (Scalar.extui (Scalar.cmpi .eq (BitVec.ofNat 32 (i 1).val) 0#32)) 0#32 = 1#1)) (h4 : k0_cond4 i = 1#1) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) :
    arg14.view.read (Elt F) (runC (F := F) c i arg2 harg2 arg3 harg3 arg4 harg4 arg5 harg5 arg6 harg6 arg7 harg7 arg8 harg8 arg9 harg9 arg10 harg10 arg11 harg11 arg12 harg12 arg13 harg13 arg14 harg14 h0 h4 X2 X3 X4 X5 X6 X7 X8 X9 X10 X11 X12 X13 X14).2.1
      = groupAcc (rowAt i (arg13.view.read (Elt F) X13)) (arg12.view.read (Elt F) X12) (arg6.view.read (Elt F) X6) (arg7.view.read (Elt F) X7) (arg8.view.read (Elt F) X8) (arg14.view.read (Elt F) X14) := by

  have hL := loops_read Variants.none c none i arg2 harg2 arg3 harg3 arg4 harg4 arg5 harg5 arg6 harg6 arg7 harg7 arg8 harg8 arg9 harg9 arg10 harg10 arg11 harg11 arg12 harg12 arg13 harg13 arg14 harg14 (k0_pay150 (rowAt i (arg13.view.read (Elt F) X13))) (k0_pay151 (rowAt i (arg13.view.read (Elt F) X13))) (k0_pay152 (rowAt i (arg13.view.read (Elt F) X13))) (Scalar.fptosi 32 (k0_pay153 (rowAt i (arg13.view.read (Elt F) X13)))) (chk1_all _)
    (Scalar.addi 0#32 (Scalar.muli (Scalar.divsi (Scalar.subi (full (Scalar.fptosi 32 (k0_pay153 (rowAt i (arg13.view.read (Elt F) X13))))) 0#32) 1#32) 1#32)) X6 X7 X8 X12 X14
  unfold groupAcc groupTail groupLast
  by_cases c1 : condLast (Scalar.fptosi 32 (k0_pay153 (rowAt i (arg13.view.read (Elt F) X13)))) <;> by_cases c2 : condTail (Scalar.fptosi 32 (k0_pay153 (rowAt i (arg13.view.read (Elt F) X13))))
  · rw [if_pos c1, if_pos c2, ← hL]
    unfold runC
    dsimp only
    refine (congrArg (arg14.view.read (Elt F)) (dif_pos c2)).trans ?_
    refine (View.read_writes_full (s := S1024x1024) arg14.view _ inb_S1024x1024_S1024x1024_0_0 _ _).trans ?_
    refine congrArg (fun a => tailTile (k0_pay150 (rowAt i (arg13.view.read (Elt F) X13))) (k0_pay151 (rowAt i (arg13.view.read (Elt F) X13))) (k0_pay152 (rowAt i (arg13.view.read (Elt F) X13))) (full (Scalar.fptosi 32 (k0_pay153 (rowAt i (arg13.view.read (Elt F) X13))))) (arg12.view.read (Elt F) X12) (arg6.view.read (Elt F) X6) (arg7.view.read (Elt F) X7) (arg8.view.read (Elt F) X8) a) (a₁ := arg14.view.read (Elt F) _) ?_
    refine (congrArg (arg14.view.read (Elt F)) (dif_pos c1)).trans ?_
    exact View.read_writes_full (s := S1024x1024) arg14.view _ inb_S1024x1024_S1024x1024_0_0 _ _
  · rw [if_pos c1, if_neg c2, ← hL]
    unfold runC
    dsimp only
    refine (congrArg (arg14.view.read (Elt F)) (dif_neg c2)).trans ?_
    refine (congrArg (arg14.view.read (Elt F)) (dif_pos c1)).trans ?_
    exact View.read_writes_full (s := S1024x1024) arg14.view _ inb_S1024x1024_S1024x1024_0_0 _ _
  · rw [if_neg c1, if_pos c2, ← hL]
    unfold runC
    dsimp only
    refine (congrArg (arg14.view.read (Elt F)) (dif_pos c2)).trans ?_
    refine (View.read_writes_full (s := S1024x1024) arg14.view _ inb_S1024x1024_S1024x1024_0_0 _ _).trans ?_
    refine congrArg (fun a => tailTile (k0_pay150 (rowAt i (arg13.view.read (Elt F) X13))) (k0_pay151 (rowAt i (arg13.view.read (Elt F) X13))) (k0_pay152 (rowAt i (arg13.view.read (Elt F) X13))) (full (Scalar.fptosi 32 (k0_pay153 (rowAt i (arg13.view.read (Elt F) X13))))) (arg12.view.read (Elt F) X12) (arg6.view.read (Elt F) X6) (arg7.view.read (Elt F) X7) (arg8.view.read (Elt F) X8) a) (a₁ := arg14.view.read (Elt F) _) ?_
    exact (congrArg (arg14.view.read (Elt F)) (dif_neg c1))
  · rw [if_neg c1, if_neg c2, ← hL]
    unfold runC
    dsimp only
    refine (congrArg (arg14.view.read (Elt F)) (dif_neg c2)).trans ?_
    exact (congrArg (arg14.view.read (Elt F)) (dif_neg c1))

set_option maxHeartbeats 2000000 in
/-- The last grid point of a block stores the block's result. -/
theorem runC_out (c : Dev nD) (i : grid0.Coords) (arg2 : Memref sig .tc .vmem S16x1024 .f32) (harg2 : arg2.IsWhole) (arg3 : Memref sig .tc .vmem S128x128 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S4x1024x512 .bf16) (harg6 : arg6.IsWhole) (arg7 : Memref sig .tc .vmem S4x1024x512 .bf16) (harg7 : arg7.IsWhole) (arg8 : Memref sig .tc .vmem S4x512x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x1024 .bf16) (harg12 : arg12.IsWhole) (arg13 : Memref sig .tc .vmem S4x8x1024 .f32) (harg13 : arg13.IsWhole) (arg14 : Memref sig .tc .vmem S1024x1024 .f32) (harg14 : arg14.IsWhole) (h0 : ¬(Scalar.cmpi .ne (Scalar.extui (Scalar.cmpi .eq (BitVec.ofNat 32 (i 1).val) 0#32)) 0#32 = 1#1)) (h4 : k0_cond4 i = 1#1) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) :
    arg11.view.read (Elt F) (runC (F := F) c i arg2 harg2 arg3 harg3 arg4 harg4 arg5 harg5 arg6 harg6 arg7 harg7 arg8 harg8 arg9 harg9 arg10 harg10 arg11 harg11 arg12 harg12 arg13 harg13 arg14 harg14 h0 h4 X2 X3 X4 X5 X6 X7 X8 X9 X10 X11 X12 X13 X14).1
      = k0_pay5 (View.ld (arg5.view.read (Elt F) X5) (Rect.unit (s := S1024x1024) ![0, 0] S1024x1024.size inb_S1024x1024_S1024x1024_0_0)) (View.ld (groupAcc (rowAt i (arg13.view.read (Elt F) X13)) (arg12.view.read (Elt F) X12) (arg6.view.read (Elt F) X6) (arg7.view.read (Elt F) X7) (arg8.view.read (Elt F) X8) (arg14.view.read (Elt F) X14)) (Rect.unit (s := S1024x1024) ![0, 0] S1024x1024.size inb_S1024x1024_S1024x1024_0_0))
          (View.ld (arg9.view.read (Elt F) X9) (Rect.unit (s := S1x1024) ![0, 0] S1x1024.size inb_S1x1024_S1x1024_0_0)) (View.ld (arg10.view.read (Elt F) X10) (Rect.unit (s := S1x1024) ![0, 0] S1x1024.size inb_S1x1024_S1x1024_0_0)) := by
  rw [← runC_acc c i arg2 harg2 arg3 harg3 arg4 harg4 arg5 harg5 arg6 harg6 arg7 harg7 arg8 harg8 arg9 harg9 arg10 harg10 arg11 harg11 arg12 harg12 arg13 harg13 arg14 harg14 h0 h4 X2 X3 X4 X5 X6 X7 X8 X9 X10 X11 X12 X13 X14]
  unfold runC
  dsimp only
  exact View.read_writes_full (s := S1024x1024) arg11.view _ inb_S1024x1024_S1024x1024_0_0 _ _

end Cert.KernelIdeal.Hand
end
-- ==== Proof.FrameKernelIdeal.lean ====
module

public import proofs.«01_k».proof.Proof.ReadAKernelIdeal
public import proofs.«01_k».proof.Proof.ReadBKernelIdeal
public import proofs.«01_k».proof.Proof.ReadCKernelIdeal
public import proofs.«01_k».proof.Proof.Gen.KernelIdeal.Frame
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Rounds

/-- The rows as the body casts them. -/
def xbOf (x : Vec F S1024x1024 .f32) : Vec F S1024x1024 .bf16 := k0_pay6 (View.ld x (Rect.unit (s := S1024x1024) ![0, 0] S1024x1024.size inb_S1024x1024_S1024x1024_0_0))

/-- The block's result, from its rows, the accumulator and the layer norm's parameters. -/
def outOf (x acc : Vec F S1024x1024 .f32) (g b : Vec F S1x1024 .f32) : Vec F S1024x1024 .f32 :=
  k0_pay5 (View.ld x (Rect.unit (s := S1024x1024) ![0, 0] S1024x1024.size inb_S1024x1024_S1024x1024_0_0)) (View.ld acc (Rect.unit (s := S1024x1024) ![0, 0] S1024x1024.size inb_S1024x1024_S1024x1024_0_0)) (View.ld g (Rect.unit (s := S1x1024) ![0, 0] S1x1024.size inb_S1x1024_S1x1024_0_0)) (View.ld b (Rect.unit (s := S1x1024) ![0, 0] S1x1024.size inb_S1x1024_S1x1024_0_0))

set_option maxHeartbeats 1000000 in
/-- The body at a grid point of this case: what it is handed and what it hands back. -/
theorem tripleA (c : Dev nD) (i : grid0.Coords) (arg2 : Memref sig .tc .vmem S16x1024 .f32) (harg2 : arg2.IsWhole) (arg3 : Memref sig .tc .vmem S128x128 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S4x1024x512 .bf16) (harg6 : arg6.IsWhole) (arg7 : Memref sig .tc .vmem S4x1024x512 .bf16) (harg7 : arg7.IsWhole) (arg8 : Memref sig .tc .vmem S4x512x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x1024 .bf16) (harg12 : arg12.IsWhole) (arg13 : Memref sig .tc .vmem S4x8x1024 .f32) (harg13 : arg13.IsWhole) (arg14 : Memref sig .tc .vmem S1024x1024 .f32) (harg14 : arg14.IsWhole) (h0 : Scalar.cmpi .ne (Scalar.extui (Scalar.cmpi .eq (BitVec.ofNat 32 (i 1).val) 0#32)) 0#32 = 1#1) (h4 : ¬(k0_cond4 i = 1#1)) (x2 : Vec F S16x1024 .f32) (x3 : Vec F S128x128 .f32) (x4 : Vec F S1024x1024 .bf16) (x5 : Vec F S1024x1024 .f32) (x6 : Vec F S4x1024x512 .bf16) (x7 : Vec F S4x1024x512 .bf16) (x8 : Vec F S4x512x1024 .bf16) (x9 : Vec F S1x1024 .f32) (x10 : Vec F S1x1024 .f32) (x11 : Vec F S1024x1024 .f32) (x12 : Vec F S1024x1024 .bf16) (x13 : Vec F S4x8x1024 .f32) (x14 : Vec F S1024x1024 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (xbOf x5) ∗ owns (c : Thread nD τ) arg13 fullShare (infoOf x2 x3 x4 x5) ∗ owns (c : Thread nD τ) arg14 fullShare (groupAcc (rowAt i (infoOf x2 x3 x4 x5)) (xbOf x5) x6 x7 x8 k0_pay149)) -∗ K ⟨⟩)) ⊢ wp frame (wpE (defs₀ (F := F)) Variants.none (c : Thread nD τ) none) E (cc0_moe_group_ln i arg2 harg2 arg3 harg3 arg4 harg4 arg5 harg5 arg6 harg6 arg7 harg7 arg8 harg8 arg9 harg9 arg10 harg10 arg11 harg11 arg12 harg12 arg13 harg13 arg14 harg14) K := by
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, Hk⟩
  subst e2
  subst e3
  subst e4
  subst e5
  subst e6
  subst e7
  subst e8
  subst e9
  subst e10
  subst e11
  subst e12
  subst e13
  subst e14
  iapply ((runA (F := F) c i arg2 harg2 arg3 harg3 arg4 harg4 arg5 harg5 arg6 harg6 arg7 harg7 arg8 harg8 arg9 harg9 arg10 harg10 arg11 harg11 arg12 harg12 arg13 harg13 arg14 harg14 h0 h4 f2 f3 f4 f5 f6 f7 f8 f9 f10 f11 f12 f13 f14).2.2.2 E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H2, H3, H4, H5, H6, H7, H8, H9, H10, H11, H12, H13, H14⟩
  iapply Hk
  isplitl [H2]
  · iexists _; isplitr; ipureintro; exact rfl; iexact H2
  isplitl [H3]
  · iexists _; isplitr; ipureintro; exact rfl; iexact H3
  isplitl [H4]
  · iexists _; isplitr; ipureintro; exact rfl; iexact H4
  isplitl [H5]
  · iexists _; isplitr; ipureintro; exact rfl; iexact H5
  isplitl [H6]
  · iexists _; isplitr; ipureintro; exact rfl; iexact H6
  isplitl [H7]
  · iexists _; isplitr; ipureintro; exact rfl; iexact H7
  isplitl [H8]
  · iexists _; isplitr; ipureintro; exact rfl; iexact H8
  isplitl [H9]
  · iexists _; isplitr; ipureintro; exact rfl; iexact H9
  isplitl [H10]
  · iexists _; isplitr; ipureintro; exact rfl; iexact H10
  isplitl [H11]
  · iexists _; isplitr; ipureintro; exact rfl; iexact H11
  isplitl [H12]
  · iexists _; isplitr; ipureintro; exact (runA_xb c i arg2 harg2 arg3 harg3 arg4 harg4 arg5 harg5 arg6 harg6 arg7 harg7 arg8 harg8 arg9 harg9 arg10 harg10 arg11 harg11 arg12 harg12 arg13 harg13 arg14 harg14 h0 h4 f2 f3 f4 f5 f6 f7 f8 f9 f10 f11 f12 f13 f14); iexact H12
  isplitl [H13]
  · iexists _; isplitr; ipureintro; exact (runA_info c i arg2 harg2 arg3 harg3 arg4 harg4 arg5 harg5 arg6 harg6 arg7 harg7 arg8 harg8 arg9 harg9 arg10 harg10 arg11 harg11 arg12 harg12 arg13 harg13 arg14 harg14 h0 h4 f2 f3 f4 f5 f6 f7 f8 f9 f10 f11 f12 f13 f14); iexact H13
  iexists _; isplitr; ipureintro; exact (runA_acc c i arg2 harg2 arg3 harg3 arg4 harg4 arg5 harg5 arg6 harg6 arg7 harg7 arg8 harg8 arg9 harg9 arg10 harg10 arg11 harg11 arg12 harg12 arg13 harg13 arg14 harg14 h0 h4 f2 f3 f4 f5 f6 f7 f8 f9 f10 f11 f12 f13 f14); iexact H14

set_option maxHeartbeats 1000000 in
/-- The body at a grid point of this case: what it is handed and what it hands back. -/
theorem tripleB (c : Dev nD) (i : grid0.Coords) (arg2 : Memref sig .tc .vmem S16x1024 .f32) (harg2 : arg2.IsWhole) (arg3 : Memref sig .tc .vmem S128x128 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S4x1024x512 .bf16) (harg6 : arg6.IsWhole) (arg7 : Memref sig .tc .vmem S4x1024x512 .bf16) (harg7 : arg7.IsWhole) (arg8 : Memref sig .tc .vmem S4x512x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x1024 .bf16) (harg12 : arg12.IsWhole) (arg13 : Memref sig .tc .vmem S4x8x1024 .f32) (harg13 : arg13.IsWhole) (arg14 : Memref sig .tc .vmem S1024x1024 .f32) (harg14 : arg14.IsWhole) (h0 : ¬(Scalar.cmpi .ne (Scalar.extui (Scalar.cmpi .eq (BitVec.ofNat 32 (i 1).val) 0#32)) 0#32 = 1#1)) (h4 : ¬(k0_cond4 i = 1#1)) (x2 : Vec F S16x1024 .f32) (x3 : Vec F S128x128 .f32) (x4 : Vec F S1024x1024 .bf16) (x5 : Vec F S1024x1024 .f32) (x6 : Vec F S4x1024x512 .bf16) (x7 : Vec F S4x1024x512 .bf16) (x8 : Vec F S4x512x1024 .bf16) (x9 : Vec F S1x1024 .f32) (x10 : Vec F S1x1024 .f32) (x11 : Vec F S1024x1024 .f32) (x12 : Vec F S1024x1024 .bf16) (x13 : Vec F S4x8x1024 .f32) (x14 : Vec F S1024x1024 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare (groupAcc (rowAt i x13) x12 x6 x7 x8 x14)) -∗ K ⟨⟩)) ⊢ wp frame (wpE (defs₀ (F := F)) Variants.none (c : Thread nD τ) none) E (cc0_moe_group_ln i arg2 harg2 arg3 harg3 arg4 harg4 arg5 harg5 arg6 harg6 arg7 harg7 arg8 harg8 arg9 harg9 arg10 harg10 arg11 harg11 arg12 harg12 arg13 harg13 arg14 harg14) K := by
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, Hk⟩
  subst e2
  subst e3
  subst e4
  subst e5
  subst e6
  subst e7
  subst e8
  subst e9
  subst e10
  subst e11
  subst e12
  subst e13
  subst e14
  iapply ((runB (F := F) c i arg2 harg2 arg3 harg3 arg4 harg4 arg5 harg5 arg6 harg6 arg7 harg7 arg8 harg8 arg9 harg9 arg10 harg10 arg11 harg11 arg12 harg12 arg13 harg13 arg14 harg14 h0 h4 f2 f3 f4 f5 f6 f7 f8 f9 f10 f11 f12 f13 f14).2 E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H2, H3, H4, H5, H6, H7, H8, H9, H10, H11, H12, H13, H14⟩
  iapply Hk
  isplitl [H2]
  · iexists _; isplitr; ipureintro; exact rfl; iexact H2
  isplitl [H3]
  · iexists _; isplitr; ipureintro; exact rfl; iexact H3
  isplitl [H4]
  · iexists _; isplitr; ipureintro; exact rfl; iexact H4
  isplitl [H5]
  · iexists _; isplitr; ipureintro; exact rfl; iexact H5
  isplitl [H6]
  · iexists _; isplitr; ipureintro; exact rfl; iexact H6
  isplitl [H7]
  · iexists _; isplitr; ipureintro; exact rfl; iexact H7
  isplitl [H8]
  · iexists _; isplitr; ipureintro; exact rfl; iexact H8
  isplitl [H9]
  · iexists _; isplitr; ipureintro; exact rfl; iexact H9
  isplitl [H10]
  · iexists _; isplitr; ipureintro; exact rfl; iexact H10
  isplitl [H11]
  · iexists _; isplitr; ipureintro; exact rfl; iexact H11
  isplitl [H12]
  · iexists _; isplitr; ipureintro; exact rfl; iexact H12
  isplitl [H13]
  · iexists _; isplitr; ipureintro; exact rfl; iexact H13
  iexists _; isplitr; ipureintro; exact (runB_acc c i arg2 harg2 arg3 harg3 arg4 harg4 arg5 harg5 arg6 harg6 arg7 harg7 arg8 harg8 arg9 harg9 arg10 harg10 arg11 harg11 arg12 harg12 arg13 harg13 arg14 harg14 h0 h4 f2 f3 f4 f5 f6 f7 f8 f9 f10 f11 f12 f13 f14); iexact H14

set_option maxHeartbeats 1000000 in
/-- The body at a grid point of this case: what it is handed and what it hands back. -/
theorem tripleC (c : Dev nD) (i : grid0.Coords) (arg2 : Memref sig .tc .vmem S16x1024 .f32) (harg2 : arg2.IsWhole) (arg3 : Memref sig .tc .vmem S128x128 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S4x1024x512 .bf16) (harg6 : arg6.IsWhole) (arg7 : Memref sig .tc .vmem S4x1024x512 .bf16) (harg7 : arg7.IsWhole) (arg8 : Memref sig .tc .vmem S4x512x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x1024 .bf16) (harg12 : arg12.IsWhole) (arg13 : Memref sig .tc .vmem S4x8x1024 .f32) (harg13 : arg13.IsWhole) (arg14 : Memref sig .tc .vmem S1024x1024 .f32) (harg14 : arg14.IsWhole) (h0 : ¬(Scalar.cmpi .ne (Scalar.extui (Scalar.cmpi .eq (BitVec.ofNat 32 (i 1).val) 0#32)) 0#32 = 1#1)) (h4 : k0_cond4 i = 1#1) (x2 : Vec F S16x1024 .f32) (x3 : Vec F S128x128 .f32) (x4 : Vec F S1024x1024 .bf16) (x5 : Vec F S1024x1024 .f32) (x6 : Vec F S4x1024x512 .bf16) (x7 : Vec F S4x1024x512 .bf16) (x8 : Vec F S4x512x1024 .bf16) (x9 : Vec F S1x1024 .f32) (x10 : Vec F S1x1024 .f32) (x11 : Vec F S1024x1024 .f32) (x12 : Vec F S1024x1024 .bf16) (x13 : Vec F S4x8x1024 .f32) (x14 : Vec F S1024x1024 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (outOf x5 (groupAcc (rowAt i x13) x12 x6 x7 x8 x14) x9 x10) ∗ owns (c : Thread nD τ) arg12 fullShare x12 ∗ owns (c : Thread nD τ) arg13 fullShare x13 ∗ owns (c : Thread nD τ) arg14 fullShare (groupAcc (rowAt i x13) x12 x6 x7 x8 x14)) -∗ K ⟨⟩)) ⊢ wp frame (wpE (defs₀ (F := F)) Variants.none (c : Thread nD τ) none) E (cc0_moe_group_ln i arg2 harg2 arg3 harg3 arg4 harg4 arg5 harg5 arg6 harg6 arg7 harg7 arg8 harg8 arg9 harg9 arg10 harg10 arg11 harg11 arg12 harg12 arg13 harg13 arg14 harg14) K := by
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, Hk⟩
  subst e2
  subst e3
  subst e4
  subst e5
  subst e6
  subst e7
  subst e8
  subst e9
  subst e10
  subst e11
  subst e12
  subst e13
  subst e14
  iapply ((runC (F := F) c i arg2 harg2 arg3 harg3 arg4 harg4 arg5 harg5 arg6 harg6 arg7 harg7 arg8 harg8 arg9 harg9 arg10 harg10 arg11 harg11 arg12 harg12 arg13 harg13 arg14 harg14 h0 h4 f2 f3 f4 f5 f6 f7 f8 f9 f10 f11 f12 f13 f14).2.2 E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H2, H3, H4, H5, H6, H7, H8, H9, H10, H11, H12, H13, H14⟩
  iapply Hk
  isplitl [H2]
  · iexists _; isplitr; ipureintro; exact rfl; iexact H2
  isplitl [H3]
  · iexists _; isplitr; ipureintro; exact rfl; iexact H3
  isplitl [H4]
  · iexists _; isplitr; ipureintro; exact rfl; iexact H4
  isplitl [H5]
  · iexists _; isplitr; ipureintro; exact rfl; iexact H5
  isplitl [H6]
  · iexists _; isplitr; ipureintro; exact rfl; iexact H6
  isplitl [H7]
  · iexists _; isplitr; ipureintro; exact rfl; iexact H7
  isplitl [H8]
  · iexists _; isplitr; ipureintro; exact rfl; iexact H8
  isplitl [H9]
  · iexists _; isplitr; ipureintro; exact rfl; iexact H9
  isplitl [H10]
  · iexists _; isplitr; ipureintro; exact rfl; iexact H10
  isplitl [H11]
  · iexists _; isplitr; ipureintro; exact (runC_out c i arg2 harg2 arg3 harg3 arg4 harg4 arg5 harg5 arg6 harg6 arg7 harg7 arg8 harg8 arg9 harg9 arg10 harg10 arg11 harg11 arg12 harg12 arg13 harg13 arg14 harg14 h0 h4 f2 f3 f4 f5 f6 f7 f8 f9 f10 f11 f12 f13 f14); iexact H11
  isplitl [H12]
  · iexists _; isplitr; ipureintro; exact rfl; iexact H12
  isplitl [H13]
  · iexists _; isplitr; ipureintro; exact rfl; iexact H13
  iexists _; isplitr; ipureintro; exact (runC_acc c i arg2 harg2 arg3 harg3 arg4 harg4 arg5 harg5 arg6 harg6 arg7 harg7 arg8 harg8 arg9 harg9 arg10 harg10 arg11 harg11 arg12 harg12 arg13 harg13 arg14 harg14 h0 h4 f2 f3 f4 f5 f6 f7 f8 f9 f10 f11 f12 f13 f14); iexact H14

variable (m : (ℓ : Loc nD τ sig) → Buf (Elt F) ℓ) (ρ : Dev nD → PrngReg)

/-- The body's first condition holds at a block's first grid point only. -/
theorem first_iff (t : Fin cfg0.N) : (Scalar.cmpi .ne (Scalar.extui (Scalar.cmpi .eq (BitVec.ofNat 32 (grid0.coords t 1).val) 0#32)) 0#32 = 1#1) ↔ t.val % 4 = 0 := by
  have ht : t.val < 128 := Nat.lt_of_lt_of_eq t.isLt N_0
  have e1 : (grid0.coords t 1).val = t.val / 1 % 4 := Pipeline.Grid.coords_val t 1 (by decide) rfl
  simp only [e1]
  word_cmp

/-- The body's last condition holds at a block's last grid point only. -/
theorem last_iff (t : Fin cfg0.N) : k0_cond4 (grid0.coords t) = 1#1 ↔ t.val % 4 = 3 := by
  have ht : t.val < 128 := Nat.lt_of_lt_of_eq t.isLt N_0
  have e1 : (grid0.coords t 1).val = t.val / 1 % 4 := Pipeline.Grid.coords_val t 1 (by decide) rfl
  simp only [k0_cond4, e1]
  word_cmp

/-- What the three scratch buffers hold: the block's cast rows, its routing facts, the accumulator. -/
structure Held (F : FTy → Type) where
  xb : Vec F S1024x1024 .bf16
  info : Vec F S4x8x1024 .f32
  acc : Vec F S1024x1024 .f32

/-- What a block's first grid point leaves in scratch. -/
def heldFirst (c : Dev nD) (t : Fin cfg0.N) : Held F where
  xb := xbOf (iblk m c 3 t)
  info := infoOf (iblk m c 0 t) (iblk m c 1 t) (iblk m c 2 t) (iblk m c 3 t)
  acc := groupAcc (rowAt (grid0.coords t) (infoOf (iblk m c 0 t) (iblk m c 1 t) (iblk m c 2 t) (iblk m c 3 t))) (xbOf (iblk m c 3 t)) (iblk m c 4 t) (iblk m c 5 t) (iblk m c 6 t) k0_pay149

/-- What a later grid point of a block leaves in scratch. -/
def heldNext (c : Dev nD) (t : Fin cfg0.N) (s : Held F) : Held F where
  xb := s.xb
  info := s.info
  acc := groupAcc (rowAt (grid0.coords t) s.info) s.xb (iblk m c 4 t) (iblk m c 5 t) (iblk m c 6 t) s.acc

/-- What scratch holds after the body at each grid point. -/
def heldAt (c : Dev nD) : (n : ℕ) → n < cfg0.N → Held F
  | 0, hn => heldFirst m c ⟨0, hn⟩
  | n + 1, hn => if (n + 1) % 4 = 0 then heldFirst m c ⟨n + 1, hn⟩ else heldNext m c ⟨n + 1, hn⟩ (heldAt c n (Nat.lt_of_succ_lt hn))

/-- At a block's first grid point. -/
theorem heldAt_first (c : Dev nD) (t : Fin cfg0.N) (h : t.val % 4 = 0) : heldAt m c t.val t.isLt = heldFirst m c t := by
  obtain ⟨n, hn⟩ := t
  cases n with
  | zero => rfl
  | succ n => exact if_pos h

/-- At a later grid point of a block. -/
theorem heldAt_next (c : Dev nD) (t : Fin cfg0.N) (h : ¬t.val % 4 = 0) :
    heldAt m c t.val t.isLt = heldNext m c t (heldAt m c (t.val - 1) (Nat.lt_of_le_of_lt (Nat.sub_le _ _) t.isLt)) := by
  obtain ⟨n, hn⟩ := t
  cases n with
  | zero => exact absurd (Nat.zero_mod _) h
  | succ n => exact if_neg h

/-- The scratch buffers at named contents, with the generator's register. -/
def heldOwned (c : Dev nD) (s : Held F) : sProp 𝕄 :=
  iprop(iprop(owns (c : Thread nD τ) (Memref.whole cc0_scratch0) fullShare s.xb ∗ owns (c : Thread nD τ) (Memref.whole cc0_scratch1) fullShare s.info ∗ owns (c : Thread nD τ) (Memref.whole cc0_scratch2) fullShare s.acc) ∗ (∃ r, prngReg c r))

/-- The scratch buffers at any contents, with the generator's register. -/
theorem anything_eq (c : Dev nD) : (Pipeline.ΦA spec0 c : sProp 𝕄)
    = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d)) ∗ (∃ r, prngReg c r)) := by
  unfold Pipeline.ΦA; rw [scopedRest0_eq]; simp only [owns_whole]; try rfl

/-- Named contents may be forgotten. -/
theorem heldOwned_any (c : Dev nD) (s : Held F) : heldOwned c s ⊢ (Pipeline.ΦA spec0 c : sProp 𝕄) := by
  rw [anything_eq]
  unfold heldOwned
  iintro ⟨⟨H0, H1, H2⟩, Hg⟩
  isplitl [H0 H1 H2]
  · isplitl [H0]; · iexists _; iexact H0
    isplitl [H1]; · iexists _; iexact H1
    iexists _; iexact H2
  iexact Hg

/-- What holds of scratch before each grid point. -/
def scratchBefore (c : Dev nD) : (n : ℕ) → n ≤ cfg0.N → sProp 𝕄
  | 0, _ => Pipeline.ΦA spec0 c
  | n + 1, hn => heldOwned c (heldAt m c n hn)

/-- Before a grid point other than the first, scratch is at named contents. -/
theorem scratchBefore_pos (c : Dev nD) (n : ℕ) (h : n ≤ cfg0.N) (hz : n ≠ 0) :
    scratchBefore m c n h = heldOwned c (heldAt m c (n - 1) (by omega)) := by
  cases n with
  | zero => exact absurd rfl hz
  | succ n => rfl

/-- Before any grid point, scratch is at some contents. -/
theorem scratchBefore_any (c : Dev nD) (n : ℕ) (h : n ≤ cfg0.N) : scratchBefore m c n h ⊢ (Pipeline.ΦA spec0 c : sProp 𝕄) := by
  cases n with
  | zero => exact Idealize.SL.BI.Entails.refl _
  | succ n => exact heldOwned_any c _

/-- The pipeline's proof data: each input's buffer keeps its block, the output's holds the block's result, and scratch
    what the grid points so far left in it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outOf (iblk m c 3 t) (heldAt m c t.val t.isLt).acc (iblk m c 7 t) (iblk m c 8 t)
  Φ t := scratchBefore m c t.val (Nat.le_of_lt_succ t.isLt)
  q _ := fullShare
  owed _ := 0

/-- The arrays are as the region finds them. -/
theorem dats_arr (c : Dev nD) (w : Fin cfg0.W) : (dats m 0 c).A w = V m c (Pipeline.arrRef spec0 w) := by
  dsimp only [dats]

/-- The invariant at a grid point's start. -/
theorem dats_start (c : Dev nD) (t : Fin cfg0.N) : (dats m 0 c).Φ t.castSucc = scratchBefore m c t.val (Nat.le_of_lt t.isLt) := by
  dsimp only [dats]; exact Pipeline.Dat.Φ_castSucc (scratchBefore m c) t

theorem left_0 (c : Dev nD) (t : Fin cfg0.N) : (dats m 0 c).after 0 t = iblk m c 0 t := by dsimp only [dats]
theorem left_1 (c : Dev nD) (t : Fin cfg0.N) : (dats m 0 c).after 1 t = iblk m c 1 t := by dsimp only [dats]
theorem left_2 (c : Dev nD) (t : Fin cfg0.N) : (dats m 0 c).after 2 t = iblk m c 2 t := by dsimp only [dats]
theorem left_3 (c : Dev nD) (t : Fin cfg0.N) : (dats m 0 c).after 3 t = iblk m c 3 t := by dsimp only [dats]
theorem left_4 (c : Dev nD) (t : Fin cfg0.N) : (dats m 0 c).after 4 t = iblk m c 4 t := by dsimp only [dats]
theorem left_5 (c : Dev nD) (t : Fin cfg0.N) : (dats m 0 c).after 5 t = iblk m c 5 t := by dsimp only [dats]
theorem left_6 (c : Dev nD) (t : Fin cfg0.N) : (dats m 0 c).after 6 t = iblk m c 6 t := by dsimp only [dats]
theorem left_7 (c : Dev nD) (t : Fin cfg0.N) : (dats m 0 c).after 7 t = iblk m c 7 t := by dsimp only [dats]
theorem left_8 (c : Dev nD) (t : Fin cfg0.N) : (dats m 0 c).after 8 t = iblk m c 8 t := by dsimp only [dats]
theorem left_9 (c : Dev nD) (t : Fin cfg0.N) : (dats m 0 c).after 9 t = outOf (iblk m c 3 t) (heldAt m c t.val t.isLt).acc (iblk m c 7 t) (iblk m c 8 t) := by dsimp only [dats]

theorem found_0 (c : Dev nD) (t : Fin cfg0.N) (d) : (dats m 0 c).before 0 t d = iblk m c 0 t :=
  before0_0_of m (dats m 0 c) (dats_arr m c 0) (left_0 m c) t d
theorem found_1 (c : Dev nD) (t : Fin cfg0.N) (d) : (dats m 0 c).before 1 t d = iblk m c 1 t :=
  before0_1_of m (dats m 0 c) (dats_arr m c 1) (left_1 m c) t d
theorem found_2 (c : Dev nD) (t : Fin cfg0.N) (d) : (dats m 0 c).before 2 t d = iblk m c 2 t :=
  before0_2_of m (dats m 0 c) (dats_arr m c 2) (left_2 m c) t d
theorem found_3 (c : Dev nD) (t : Fin cfg0.N) (d) : (dats m 0 c).before 3 t d = iblk m c 3 t :=
  before0_3_of m (dats m 0 c) (dats_arr m c 3) (left_3 m c) t d
theorem found_4 (c : Dev nD) (t : Fin cfg0.N) (d) : (dats m 0 c).before 4 t d = iblk m c 4 t :=
  before0_4_of m (dats m 0 c) (dats_arr m c 4) (left_4 m c) t d
theorem found_5 (c : Dev nD) (t : Fin cfg0.N) (d) : (dats m 0 c).before 5 t d = iblk m c 5 t :=
  before0_5_of m (dats m 0 c) (dats_arr m c 5) (left_5 m c) t d
theorem found_6 (c : Dev nD) (t : Fin cfg0.N) (d) : (dats m 0 c).before 6 t d = iblk m c 6 t :=
  before0_6_of m (dats m 0 c) (dats_arr m c 6) (left_6 m c) t d
theorem found_7 (c : Dev nD) (t : Fin cfg0.N) (d) : (dats m 0 c).before 7 t d = iblk m c 7 t :=
  before0_7_of m (dats m 0 c) (dats_arr m c 7) (left_7 m c) t d
theorem found_8 (c : Dev nD) (t : Fin cfg0.N) (d) : (dats m 0 c).before 8 t d = iblk m c 8 t :=
  before0_8_of m (dats m 0 c) (dats_arr m c 8) (left_8 m c) t d
theorem kept_0 (c : Dev nD) (t : Fin cfg0.N) : (dats m 0 c).leavesExact 0 t = owns (c : Thread nD τ) (st0_0 t) fullShare (iblk m c 0 t) := by
  unfold Dat.leavesExact; rw [show cfg0.idle 0 (grid0.coords t) = false from rfl, left_0]
theorem kept_1 (c : Dev nD) (t : Fin cfg0.N) : (dats m 0 c).leavesExact 1 t = owns (c : Thread nD τ) (st0_1 t) fullShare (iblk m c 1 t) := by
  unfold Dat.leavesExact; rw [show cfg0.idle 1 (grid0.coords t) = false from rfl, left_1]
theorem kept_2 (c : Dev nD) (t : Fin cfg0.N) : (dats m 0 c).leavesExact 2 t = owns (c : Thread nD τ) (st0_2 t) fullShare (iblk m c 2 t) := by
  unfold Dat.leavesExact; rw [show cfg0.idle 2 (grid0.coords t) = false from rfl, left_2]
theorem kept_3 (c : Dev nD) (t : Fin cfg0.N) : (dats m 0 c).leavesExact 3 t = owns (c : Thread nD τ) (st0_3 t) fullShare (iblk m c 3 t) := by
  unfold Dat.leavesExact; rw [show cfg0.idle 3 (grid0.coords t) = false from rfl, left_3]
theorem kept_4 (c : Dev nD) (t : Fin cfg0.N) : (dats m 0 c).leavesExact 4 t = owns (c : Thread nD τ) (st0_4 t) fullShare (iblk m c 4 t) := by
  unfold Dat.leavesExact; rw [show cfg0.idle 4 (grid0.coords t) = false from rfl, left_4]
theorem kept_5 (c : Dev nD) (t : Fin cfg0.N) : (dats m 0 c).leavesExact 5 t = owns (c : Thread nD τ) (st0_5 t) fullShare (iblk m c 5 t) := by
  unfold Dat.leavesExact; rw [show cfg0.idle 5 (grid0.coords t) = false from rfl, left_5]
theorem kept_6 (c : Dev nD) (t : Fin cfg0.N) : (dats m 0 c).leavesExact 6 t = owns (c : Thread nD τ) (st0_6 t) fullShare (iblk m c 6 t) := by
  unfold Dat.leavesExact; rw [show cfg0.idle 6 (grid0.coords t) = false from rfl, left_6]
theorem kept_7 (c : Dev nD) (t : Fin cfg0.N) : (dats m 0 c).leavesExact 7 t = owns (c : Thread nD τ) (st0_7 t) fullShare (iblk m c 7 t) := by
  unfold Dat.leavesExact; rw [show cfg0.idle 7 (grid0.coords t) = false from rfl, left_7]
theorem kept_8 (c : Dev nD) (t : Fin cfg0.N) : (dats m 0 c).leavesExact 8 t = owns (c : Thread nD τ) (st0_8 t) fullShare (iblk m c 8 t) := by
  unfold Dat.leavesExact; rw [show cfg0.idle 8 (grid0.coords t) = false from rfl, left_8]

/-- The output's window is idle except at a block's last grid point. -/
theorem idle_iff (t : Fin cfg0.N) : cfg0.idle 9 (grid0.coords t) = !decide (t.val % 4 = 3) := by
  show (!(k0_cond4 (grid0.coords t) == 1#1)) = _
  rw [← decide_eq_decide.mpr (last_iff t)]
  rfl

/-- At a block's last grid point the output's buffer ends at the block's result. -/
theorem kept_9_last (c : Dev nD) (t : Fin cfg0.N) (h : t.val % 4 = 3) :
    (dats m 0 c).leavesExact 9 t = owns (c : Thread nD τ) (st0_9 t) fullShare (outOf (iblk m c 3 t) (heldAt m c t.val t.isLt).acc (iblk m c 7 t) (iblk m c 8 t)) := by
  unfold Dat.leavesExact; rw [show cfg0.idle 9 (cfg0.grid.coords t) = false from (idle_iff t).trans (by simp [h]), left_9]

/-- At another grid point the output's buffer is handed back as it was found. -/
theorem kept_9_idle (c : Dev nD) (t : Fin cfg0.N) (h : ¬t.val % 4 = 3) :
    (dats m 0 c).leavesExact 9 t = iprop(∃ d, owns (c : Thread nD τ) (st0_9 t) fullShare ((dats m 0 c).before 9 t d)) :=
  Dat.leavesExact_idle _ 9 t ((idle_iff t).trans (by simp [h])) (by
    cases hf : (cfg0.win 9).flush t with
    | false => rfl
    | true => exact absurd ((flush0_9 t).mp hf) h)

/-- What the body is called with at a grid point. -/
def calledWith (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- What the body returns at a grid point. -/
def returns (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 4000000 in
/-- The body at any grid point. -/
theorem body_at (c : Dev nD) (t : Fin cfg0.N) :
    calledWith m c t ⊢ wp frame (wpE (defs₀ (F := F)) Variants.none c none) Set.univ (bodyAt0 t) (fun _ => returns m c t) := by
  unfold calledWith returns bodyAt0
  simp only [found_0, found_1, found_2, found_3, found_4, found_5, found_6, found_7, found_8, kept_0, kept_1, kept_2, kept_3, kept_4, kept_5, kept_6, kept_7, kept_8]
  rw [show (dats m 0 c).owesAt () t.succ = (dats m 0 c).owesAt () t.castSucc from rfl]
  rw [show (dats m 0 c).Φ t.succ = heldOwned c (heldAt m c t.val t.isLt) from rfl]
  have hN : t.val < 128 := lt_of_lt_of_eq t.isLt (show cfg0.N = 128 from N_0)
  by_cases h0 : t.val % 4 = 0
  · have h1 : ¬t.val % 4 = 3 := by omega
    rw [kept_9_idle m c t h1, heldAt_first m c t h0, dats_start m c t]
    have hs := scratchBefore_any m c t.val (Nat.le_of_lt t.isLt)
    rw [anything_eq] at hs
    unfold heldOwned heldFirst
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    ihave HS := hs $$ HS
    icases HS with ⟨⟨⟨%s0, S0⟩, ⟨%s1, S1⟩, ⟨%s2, S2⟩⟩, Hg⟩
    iapply (tripleA c (grid0.coords t) _ _ _ _ _ _ _ _ _ _ _ _ _ _ _ _ _ _ _ _ _ _ _ _ _ _ ((first_iff t).mpr h0) (fun h => h1 ((last_iff t).mp h)) _ _ _ _ _ _ _ _ _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [S0]; · iexact S0
    isplitl [S1]; · iexact S1
    isplitl [S2]; · iexact S2
    iintro ⟨H0, H1, H2, H3, H4, H5, H6, H7, H8, H9, S0, S1, S2⟩
    isplitl [S0 S1 S2 Hg]
    · isplitl [S0 S1 S2]
      · isplitl [S0]; · iexact S0
        isplitl [S1]; · iexact S1
        iexact S2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact H9
  · rw [dats_start m c t, scratchBefore_pos m c _ _ (by omega), heldAt_next m c t h0]
    by_cases h1 : t.val % 4 = 3
    · rw [kept_9_last m c t h1, heldAt_next m c t h0]
      unfold heldOwned heldNext
      iintro ⟨⟨⟨S0, S1, S2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (tripleC c (grid0.coords t) _ _ _ _ _ _ _ _ _ _ _ _ _ _ _ _ _ _ _ _ _ _ _ _ _ _ (fun h => h0 ((first_iff t).mp h)) ((last_iff t).mpr h1) _ _ _ _ _ _ _ _ _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [S0]; · iexact S0
      isplitl [S1]; · iexact S1
      isplitl [S2]; · iexact S2
      iintro ⟨H0, H1, H2, H3, H4, H5, H6, H7, H8, H9, S0, S1, S2⟩
      isplitl [S0 S1 S2 Hg]
      · isplitl [S0 S1 S2]
        · isplitl [S0]; · iexact S0
          isplitl [S1]; · iexact S1
          iexact S2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · rw [kept_9_idle m c t h1]
      unfold heldOwned heldNext
      iintro ⟨⟨⟨S0, S1, S2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (tripleB c (grid0.coords t) _ _ _ _ _ _ _ _ _ _ _ _ _ _ _ _ _ _ _ _ _ _ _ _ _ _ (fun h => h0 ((first_iff t).mp h)) (fun h => h1 ((last_iff t).mp h)) _ _ _ _ _ _ _ _ _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [S0]; · iexact S0
      isplitl [S1]; · iexact S1
      isplitl [S2]; · iexact S2
      iintro ⟨H0, H1, H2, H3, H4, H5, H6, H7, H8, H9, S0, S1, S2⟩
      isplitl [S0 S1 S2 Hg]
      · isplitl [S0 S1 S2]
        · isplitl [S0]; · iexact S0
          isplitl [S1]; · iexact S1
          iexact S2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9

/-- The body table's row at a grid point is the body there. -/
theorem row_eq (t : Fin cfg0.N) : defs₀ (F := F) .tc cfg0.body (cfg0.bodyArgs t (cfg0.slots t)) = bodyAt0 t := by
  unfold defs₀; rw [Defs.onTc_tc]

/-- The pipeline's body obligation. -/
theorem obligation (c : Dev nD) : BodyObligation (dats (F := F) m 0 c) (defs₀ (F := F)) Variants.none () Set.univ := fun t => by
  rw [bigSep_W0, bigSep_W0, row_eq]
  exact triple_restated (body_at m c t) rfl .rfl fun _ => .rfl

/-- The launch hands the region its invariant, -/
theorem handed (c : Dev nD) : Pipeline.ΦA spec0 c ⊢ (dats m 0 c).Φ 0 := by
  rw [show (dats m 0 c).Φ 0 = scratchBefore m c 0 (Nat.zero_le _) from rfl]
  exact Idealize.SL.BI.Entails.refl _

/-- and takes it back. -/
theorem taken (c : Dev nD) : (dats m 0 c).Φ (Fin.last cfg0.N) ⊢ Pipeline.ΦA spec0 c := by
  rw [show (dats m 0 c).Φ (Fin.last cfg0.N) = scratchBefore m c (Fin.last cfg0.N).val (Nat.le_of_lt_succ (Fin.last cfg0.N).isLt) from rfl]
  exact scratchBefore_any m c _ _

set_option backward.isDefEq.respectTransparency.types false in
/-- The run of the whole program: the arrays at what the pipeline leaves, and every counter at zero. -/
theorem run_counters : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := dats_arr m) (hin := handed m) (hout := taken m)

/-- The run of the whole program, without the counters. -/
theorem run_arrays : θ_run defs (onTc (τ := τ) (main (F := F))) (s₀ m ρ) (Pipeline.FramePost cfgs (dats m) 0 (V m)) :=
  (θ_run defs _ _).mono (fun _ h => h.1) (run_counters m ρ)

/-- The program ends without fault, its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (dats_arr m) (run_arrays m ρ)) ((θ_run defs _ _).mono (fun _ h => h.2) (run_counters m ρ))

end Cert.KernelIdeal.Hand
end
-- ==== Proof.HostRead.lean ====
module

public import proofs.«01_k».proof.Proof.FrameKernelIdeal
public import Idealize.ShloMosaic.Lib.Pipeline.ValueKit
public import Idealize.ShloMosaic.Lib.Pointwise
public import Idealize.ShloMosaic.Lib.Routing.OpsSet
public import Idealize.ShloMosaic.Lib.Routing.OpsOne
public import Idealize.ShloMosaic.Lib.Claim

@[expose] public section

set_option maxRecDepth 16384

noncomputable section

/-! The arrays the kernel is handed, element by element, in terms of the arguments. -/

namespace Cert.KernelIdeal.Hand

open Idealize.ShloMosaic Idealize.ShloMosaic.TcCoe Idealize.SL.Sem
open Idealize.ShloMosaic.Routing (start_pair resultIdx?_ix2 scatter_set_hit)
open Cert.KernelIdeal Cert.KernelIdeal.Gen

/-- A row of `U` entries laid into a one-row table from its first column on lands entry `k` at column `k`. -/
theorem lands_row (idx : IVec S2 32) (h0 : (idx (ValueIdx.ix1 0)).toInt = 0) (h1 : (idx (ValueIdx.ix1 1)).toInt = 0) (k : Fin 16) (l : Fin 128) :
    scatter_S1x128_S2_S16_0_0_01_0.resultIdx? (ValueIdx.ix1 k) idx = some (ValueIdx.ix2 0 l) ↔ k.val = l.val := by
  have hw0 : scatter_S1x128_S2_S16_0_0_01_0.window (ValueIdx.ix1 k) 0 = 0 := rfl
  have hw1 : scatter_S1x128_S2_S16_0_0_01_0.window (ValueIdx.ix1 k) 1 = k.val := rfl
  have s0 : scatter_S1x128_S2_S16_0_0_01_0.start (ValueIdx.ix1 k) idx 0 = (idx (ValueIdx.ix1 0)).toInt := start_pair (R := 1) (C := 128) scatter_S1x128_S2_S16_0_0_01_0 rfl rfl idx (ValueIdx.ix1 k) 0
  have s1 : scatter_S1x128_S2_S16_0_0_01_0.start (ValueIdx.ix1 k) idx 1 = (idx (ValueIdx.ix1 1)).toInt := start_pair (R := 1) (C := 128) scatter_S1x128_S2_S16_0_0_01_0 rfl rfl idx (ValueIdx.ix1 k) 1
  refine (resultIdx?_ix2 (R := 1) (C := 128) scatter_S1x128_S2_S16_0_0_01_0 (ValueIdx.ix1 k) idx 0 l).trans ?_
  rw [s0, s1, hw0, hw1, h0, h1]
  constructor
  · rintro ⟨-, h⟩; omega
  · intro h; exact ⟨rfl, by omega⟩

theorem row_read {α : Type} (x0 : S1x128.Idx → α) (idx : IVec S2 32) (h0 : (idx (ValueIdx.ix1 0)).toInt = 0) (h1 : (idx (ValueIdx.ix1 1)).toInt = 0) (u : S16.Idx → α)
    (k : Fin 16) (l : Fin 128) (h : k.val = l.val) : Host.scatter scatter_S1x128_S2_S16_0_0_01_0 (fun _ b => b) x0 idx u (ValueIdx.ix2 0 l) = u (ValueIdx.ix1 k) := by
  refine scatter_set_hit _ x0 idx u _ _ (fun k' hk' => ?_) (ValueIdx.ix1 k) ((lands_row idx h0 h1 k l).2 h)
  have e : k' = ValueIdx.ix1 (k' 0) := ValueIdx.eq_ix1 k'
  rw [e] at hk' ⊢
  have := (lands_row idx h0 h1 (k' 0) l).1 hk'
  exact congrArg (fun q => u (ValueIdx.ix1 q)) (Fin.ext (by omega))

theorem same1 {n : ℕ} (a : Fin n) : ValueIdx.ix1 a = ix1 a := by
  funext d; match d with | ⟨0, _⟩ => rfl
theorem same2 {n k : ℕ} (a : Fin n) (b : Fin k) : ValueIdx.ix2 a b = ix2 a b := by
  funext d; match d with | ⟨0, _⟩ => rfl | ⟨1, _⟩ => rfl

variable (m : (ℓ : Loc nD τ sig) → Buf (Elt Ideal) ℓ) (c : Dev nD)

/-- The words at which the bias row is laid. -/
def at00 : IVec S2 32 := concatenate S2 0 [⟨S1, broadcastInDim S1 ![] bcast_S_S1 (constantI S_ 32 0#32)⟩, ⟨S1, broadcastInDim S1 ![] bcast_S_S1 (constantI S_ 32 0#32)⟩] concatenates_S1_S1_S2_d0

/-- The bias table. -/
def biasOf (rb : Vec Ideal S16 .f32) : Vec Ideal S128x128 .f32 :=
  broadcastInDim S128x128 ![0, 1] bcast_S128x1_S128x128_0_1 (fun i => shapeCast _ (Host.scatter scatter_S1x128_S2_S16_0_0_01_0 (fun _ b => b) (broadcastInDim S1x128 ![] bcast_S_S1x128 (constant (F := Ideal) S_ .f32 0#32)) at00 rb) shapeCasts_S1x128_S128x1 i)

/-- The triangle of ones. -/
def triOf : Vec Ideal S1024x1024 .bf16 :=
  select (cmpi .sge (addi (iotaInDim S1024x1024 32 0) (broadcastInDim S1024x1024 ![] bcast_S_S1024x1024 (constantI S_ 32 4294967295#32))) (iotaInDim S1024x1024 32 1)) (broadcastInDim S1024x1024 ![] bcast_S_S1024x1024 (constant (F := Ideal) S_ .bf16 0#16)) (broadcastInDim S1024x1024 ![] bcast_S_S1024x1024 (constant (F := Ideal) S_ .bf16 16256#16))

theorem V_bias : V m c main_v6 = biasOf (m ((c.tc : Thread nD τ).loc main_arg2)) := by
  show StableHlo.after (hostOps0 ++ hostOps0_1) _ _ = _
  simp only [List.cons_append, List.nil_append]
  entry_read
  rfl
theorem V_tri : V m c main_v14 = triOf := by
  show StableHlo.after (hostOps0 ++ hostOps0_1) _ _ = _
  simp only [List.cons_append, List.nil_append]
  entry_read
  simp -implicitDefEqProofs only [StableHlo.TRef.toBuf, StableHlo.TRef.ofBuf, cast_cast, cast_eq]
  unfold triOf
  rfl
theorem V_rwt : V m c main_v7 = transpose S16x1024 [1, 0] (m ((c.tc : Thread nD τ).loc main_arg1)) transposes_S1024x16_S16x1024_1_0 := by
  show StableHlo.after (hostOps0 ++ hostOps0_1) _ _ = _
  simp only [List.cons_append, List.nil_append]
  entry_read
  all_goals rfl
theorem V_scale : V m c main_v11 = shapeCast S1x1024 (m ((c.tc : Thread nD τ).loc main_arg6)) shapeCasts_S1024_S1x1024 := by
  show StableHlo.after (hostOps0 ++ hostOps0_1) _ _ = _
  simp only [List.cons_append, List.nil_append]
  entry_read
  all_goals rfl
theorem V_shift : V m c main_v12 = shapeCast S1x1024 (m ((c.tc : Thread nD τ).loc main_arg7)) shapeCasts_S1024_S1x1024 := by
  show StableHlo.after (hostOps0 ++ hostOps0_1) _ _ = _
  simp only [List.cons_append, List.nil_append]
  entry_read
  all_goals rfl

theorem biasOf_apply (rb : Vec Ideal S16 .f32) (e : Fin 16) (l z : Fin 128) (h : e.val = l.val) : biasOf rb (ix2 l z) = rb (ix1 e) := by
  have := row_read (broadcastInDim S1x128 ![] bcast_S_S1x128 (constant (F := Ideal) S_ .f32 0#32)) at00 (by decide +kernel) (by decide +kernel) rb e l h
  rw [same1, same2] at this
  rw [← this]
  unfold biasOf
  generalize Host.scatter scatter_S1x128_S2_S16_0_0_01_0 (fun _ b => b) _ at00 rb = T
  pointwise []
theorem triOf_apply (l j : Fin 1024) : triOf (ix2 l j) = if l ≤ j then (1 : EReal) else 0 := by
  unfold triOf
  pointwise []
  have hl := l.isLt
  have hj := j.isLt
  have e : (BitVec.ofNat 32 j.val).sle (IntOp.addi (BitVec.ofNat 32 l.val) 4294967295#32) = decide (j.val < l.val) := by
    rw [BitVec.sle_eq_decide]
    congr 1
    rw [eq_iff_iff, IntOp.addi, BitVec.toInt_eq_toNat_cond, BitVec.toInt_eq_toNat_cond, BitVec.toNat_add, BitVec.toNat_ofNat, BitVec.toNat_ofNat, BitVec.toNat_ofNat]
    split <;> split <;> omega
  show Scalar.select (BitVec.ofBool ((BitVec.ofNat 32 j.val).sle (IntOp.addi (BitVec.ofNat 32 l.val) 4294967295#32))) (0 : EReal) 1 = _
  rw [e]
  by_cases h : l ≤ j
  · rw [if_pos h, decide_eq_false (by omega)]; rfl
  · rw [if_neg h, decide_eq_true (by omega)]; rfl
theorem rwt_apply (rw : Vec Ideal S1024x16 .f32) (e : Fin 16) (k : Fin 1024) : transpose S16x1024 [1, 0] rw transposes_S1024x16_S16x1024_1_0 (ix2 e k) = rw (ix2 k e) := by
  pointwise []
theorem flat_apply (g : Vec Ideal S1024 .f32) (k : Fin 1024) : shapeCast S1x1024 g shapeCasts_S1024_S1x1024 (ix2 0 k) = g (ix1 k) := by
  pointwise []

end Cert.KernelIdeal.Hand

end
-- ==== Proof.BlockIn.lean ====
module

public import proofs.«01_k».proof.Proof.FrameKernelIdeal
public import Idealize.ShloMosaic.Lib.Pipeline.ValueKit
public import Idealize.ShloMosaic.Lib.Pointwise
public import Idealize.ShloMosaic.Lib.Claim

@[expose] public section

set_option maxRecDepth 16384

noncomputable section

/-! The blocks the grid points are handed, element by element, in terms of the arrays they are cut from. -/

namespace Cert.KernelIdeal.Hand

open Idealize.ShloMosaic Idealize.ShloMosaic.TcCoe Idealize.SL.Sem
open Cert.KernelIdeal Cert.KernelIdeal.Gen

variable (m : (ℓ : Loc nD τ sig) → Buf (Elt Ideal) ℓ) (c : Dev nD)

theorem idx0 : ∀ t : Fin grid0.N, win0_0.index t = ![0, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![t.val / 4, 0] := by decide +kernel
theorem idx4 : ∀ t : Fin grid0.N, win0_4.index t = ![t.val % 4, 0, 0] := by decide +kernel
theorem idx5 : ∀ t : Fin grid0.N, win0_5.index t = ![t.val % 4, 0, 0] := by decide +kernel
theorem idx6 : ∀ t : Fin grid0.N, win0_6.index t = ![t.val % 4, 0, 0] := by decide +kernel
theorem idx7 : ∀ t : Fin grid0.N, win0_7.index t = ![0, 0] := by decide +kernel
theorem idx8 : ∀ t : Fin grid0.N, win0_8.index t = ![0, 0] := by decide +kernel
theorem idx9 : ∀ t : Fin grid0.N, win0_9.index t = ![t.val / 4, 0] := by decide +kernel

theorem read_x (t : Fin cfg0.N) (j k : Fin 1024) (h : 1024 * (t.val / 4) + j.val < 32768) :
    iblk m c 3 t (ix2 j k) = m ((c.tc : Thread nD τ).loc main_arg0) (ix2 ⟨1024 * (t.val / 4) + j.val, h⟩ k) := by
  blk_ext [iblk, V, idx3 t]

theorem read_wg (t : Fin cfg0.N) (a : Fin 4) (k : Fin 1024) (f : Fin 512)  (h : 4 * (t.val % 4) + a.val < 16) :
    iblk m c 4 t (ix3 a k f) = m ((c.tc : Thread nD τ).loc main_arg3) (ix3 ⟨4 * (t.val % 4) + a.val, h⟩ k f) := by
  blk_ext [iblk, V, idx4 t]

theorem read_wu (t : Fin cfg0.N) (a : Fin 4) (k : Fin 1024) (f : Fin 512)  (h : 4 * (t.val % 4) + a.val < 16) :
    iblk m c 5 t (ix3 a k f) = m ((c.tc : Thread nD τ).loc main_arg4) (ix3 ⟨4 * (t.val % 4) + a.val, h⟩ k f) := by
  blk_ext [iblk, V, idx5 t]

theorem read_wd (t : Fin cfg0.N) (a : Fin 4) (f : Fin 512) (k : Fin 1024) (h : 4 * (t.val % 4) + a.val < 16) :
    iblk m c 6 t (ix3 a f k) = m ((c.tc : Thread nD τ).loc main_arg5) (ix3 ⟨4 * (t.val % 4) + a.val, h⟩ f k) := by
  blk_ext [iblk, V, idx6 t]

theorem whole_0 (t : Fin cfg0.N) (A : Vec Ideal S16x1024 .f32) (p : Fin 16) (q : Fin 1024) :
    ((cfg0.win 0).blk t).view.read (Elt Ideal) A (ix2 p q) = A (ix2 p q) := by
  blk_ext [idx0 t]
theorem whole_1 (t : Fin cfg0.N) (A : Vec Ideal S128x128 .f32) (p q : Fin 128) :
    ((cfg0.win 1).blk t).view.read (Elt Ideal) A (ix2 p q) = A (ix2 p q) := by
  blk_ext [idx1 t]
theorem whole_2 (t : Fin cfg0.N) (A : Vec Ideal S1024x1024 .bf16) (p q : Fin 1024) :
    ((cfg0.win 2).blk t).view.read (Elt Ideal) A (ix2 p q) = A (ix2 p q) := by
  blk_ext [idx2 t]
theorem whole_7 (t : Fin cfg0.N) (A : Vec Ideal S1x1024 .f32) (p : Fin 1) (q : Fin 1024) :
    ((cfg0.win 7).blk t).view.read (Elt Ideal) A (ix2 p q) = A (ix2 p q) := by
  blk_ext [idx7 t]
theorem whole_8 (t : Fin cfg0.N) (A : Vec Ideal S1x1024 .f32) (p : Fin 1) (q : Fin 1024) :
    ((cfg0.win 8).blk t).view.read (Elt Ideal) A (ix2 p q) = A (ix2 p q) := by
  blk_ext [idx8 t]

end Cert.KernelIdeal.Hand

end
-- ==== Proof.Spec.lean ====
module

public import Idealize.ShloMosaic.Lib.Pointwise

@[expose] public section

noncomputable section

/-! The layer of one token, on the extended reals: what both programs are shown to compute. -/

namespace Cert.Moe

open Idealize.ShloMosaic
open scoped BigOperators

/-- Entry `j` stands before entry `i`: it is greater, or equal and earlier. -/
def before {n : ℕ} (v : Fin n → EReal) (j i : Fin n) : Prop := v i < v j ∨ (v j = v i ∧ j < i)

open Classical in
/-- How many of the four entries stand before entry `i`. -/
def place (v : Fin 4 → EReal) (i : Fin 4) : ℕ := (Finset.univ.filter fun j => before v j i).card

/-- Entry `i` is one of the two best. -/
def keep (v : Fin 4 → EReal) (i : Fin 4) : Prop := place v i < 2

open Classical in
/-- The sum of the two best. -/
def score (v : Fin 4 → EReal) : EReal := ∑ i, if keep v i then v i else 0

/-- Group `q` is the one whose two best sum highest. -/
def taken (v : Fin 4 → Fin 4 → EReal) (q : Fin 4) : Prop := place (fun r => score (v r)) q = 0

open Classical in
/-- The gate of expert `i` of group `q` before the group is chosen. -/
def gate (p v : Fin 4 → Fin 4 → EReal) (q i : Fin 4) : EReal := if keep (v q) i then p q i else 0

open Classical in
/-- The sum of the chosen group's gates. -/
def total (p v : Fin 4 → Fin 4 → EReal) : EReal := ∑ q, ∑ i, if taken v q then gate p v q i else 0

/-- A gate over that sum. -/
def weight (p v : Fin 4 → Fin 4 → EReal) (q i : Fin 4) : EReal := Ideal.div (gate p v q i) (total p v)

/-- Expert `i` of group `q` among the sixteen. -/
def expert (q i : Fin 4) : Fin 16 := ⟨4 * q.val + i.val, by omega⟩

/-- One entry of an expert's hidden row. -/
def hidden (x : Fin 1024 → EReal) (wg wu : Fin 1024 → Fin 512 → EReal) (f : Fin 512) : EReal :=
  (∑ k, x k * wg k f) * Ideal.logistic (∑ k, x k * wg k f) * ∑ k, x k * wu k f

/-- One entry of an expert's output row. -/
def ffn (x : Fin 1024 → EReal) (wg wu : Fin 1024 → Fin 512 → EReal) (wd : Fin 512 → Fin 1024 → EReal) (c : Fin 1024) : EReal :=
  ∑ f, hidden x wg wu f * wd f c

/-- The probability of expert `i` of group `q`. -/
def prob (x : Fin 1024 → EReal) (rw : Fin 1024 → Fin 16 → EReal) (q i : Fin 4) : EReal :=
  Ideal.logistic (∑ k, x k * rw k (expert q i))

/-- The score by which experts are chosen. -/
def sel (x : Fin 1024 → EReal) (rw : Fin 1024 → Fin 16 → EReal) (rb : Fin 16 → EReal) (q i : Fin 4) : EReal :=
  prob x rw q i + rb (expert q i)

/-- What group `q`'s four experts give. -/
def part (p v : Fin 4 → Fin 4 → EReal) (x : Fin 1024 → EReal) (wg wu : Fin 16 → Fin 1024 → Fin 512 → EReal)
    (wd : Fin 16 → Fin 512 → Fin 1024 → EReal) (q : Fin 4) (c : Fin 1024) : EReal :=
  ∑ i, weight p v q i * ffn x (wg (expert q i)) (wu (expert q i)) (wd (expert q i)) c

open Classical in
/-- What the chosen group's experts give. -/
def mixed (p v : Fin 4 → Fin 4 → EReal) (x : Fin 1024 → EReal) (wg wu : Fin 16 → Fin 1024 → Fin 512 → EReal)
    (wd : Fin 16 → Fin 512 → Fin 1024 → EReal) (c : Fin 1024) : EReal :=
  ∑ q, if taken v q then part p v x wg wu wd q c else 0

/-- The residual sum. -/
def resid (x ff : Fin 1024 → EReal) (c : Fin 1024) : EReal := Ideal.ofBits .f32 0x3FB504F3#32 * x c + ff c

/-- A row less its mean. -/
def centred (z : Fin 1024 → EReal) (c : Fin 1024) : EReal := z c - Ideal.div (∑ k, z k) (Ideal.ofBits .f32 0x44800000#32)

/-- The layer norm of a row. -/
def norm (z g b : Fin 1024 → EReal) (c : Fin 1024) : EReal :=
  centred z c * Ideal.rsqrt (Ideal.div (∑ k, centred z k * centred z k) (Ideal.ofBits .f32 0x44800000#32) + Ideal.ofBits .f32 0x3727C5AC#32) * g c + b c

/-- The layer's output row of one token. -/
def layer (x : Fin 1024 → EReal) (rw : Fin 1024 → Fin 16 → EReal) (rb : Fin 16 → EReal) (wg wu : Fin 16 → Fin 1024 → Fin 512 → EReal)
    (wd : Fin 16 → Fin 512 → Fin 1024 → EReal) (g b : Fin 1024 → EReal) (c : Fin 1024) : EReal :=
  norm (resid x fun d => mixed (prob x rw) (sel x rw rb) x wg wu wd d) g b c

end Cert.Moe

end
-- ==== Proof.Rank.lean ====
module

public import Idealize.ShloMosaic.Lib.Pointwise
public import proofs.«01_k».proof.Proof.Spec

@[expose] public section

noncomputable section

/-! Rank by counting, and the first of the greatest, as a circuit of comparisons computes them. -/

namespace Cert.Moe

open Idealize.ShloMosaic

open Classical in
/-- The bit of a truth. -/
def bit (p : Prop) : BitVec 1 := BitVec.ofBool (decide p)

theorem ofBool_decide (p : Prop) [Decidable p] : BitVec.ofBool (decide p) = bit p := by
  unfold bit; congr 1; exact decide_eq_decide.2 Iff.rfl

theorem bit_congr {p q : Prop} (h : p ↔ q) : bit p = bit q := by rw [propext h]

theorem bit_one (p : Prop) : bit p = 1#1 ↔ p := by
  classical
  unfold bit; by_cases h : p <;> simp [h]

open Classical in
theorem select_bit {α : Type} (p : Prop) (a b : α) : Scalar.select (bit p) a b = if p then a else b := by
  unfold bit; by_cases h : p <;> simp [h, Scalar.select]

theorem andi_bit (p q : Prop) : IntOp.andi (bit p) (bit q) = bit (p ∧ q) := by
  unfold bit; by_cases h : p <;> by_cases h' : q <;> simp [h, h'] <;> rfl

theorem ori_bit (p q : Prop) : IntOp.ori (bit p) (bit q) = bit (p ∨ q) := by
  unfold bit; by_cases h : p <;> by_cases h' : q <;> simp [h, h'] <;> rfl

theorem not_bit (p : Prop) : IntOp.xori (bit p) 1#1 = bit (¬p) := by
  unfold bit; by_cases h : p <;> simp [h] <;> rfl

theorem two_eq : Ideal.ofBits FTy.f32 1073741824#32 = (2 : EReal) := by
  have : Ideal.ofBits FTy.f32 1073741824#32 = ((2 : ℝ) : EReal) := by
    simp [Ideal.ofBits, Ideal.ieee, -EReal.coe_mul]; norm_num
  rw [this]; norm_cast

theorem half_eq : Ideal.ofBits FTy.f32 1056964608#32 = ((1 / 2 : ℝ) : EReal) := by
  simp [Ideal.ofBits, Ideal.ieee, -EReal.coe_mul]; norm_num

theorem count_lt (p q r : Prop) [Decidable p] [Decidable q] [Decidable r] :
    ((((if p then 1 else 0) + if q then 1 else 0) + if r then 1 else 0 : EReal) < Ideal.ofBits FTy.f32 1073741824#32) ↔
      ((if p then 1 else 0) + (if q then 1 else 0) + (if r then 1 else 0) : ℕ) < 2 := by
  rw [two_eq]
  have h3 : ¬ ((1 : EReal) + 1 + 1 < 2) := by norm_cast
  have h2 : ¬ ((1 : EReal) + 1 < 2) := by norm_cast
  have h1 : (1 : EReal) < 2 := by norm_cast
  have h0 : (0 : EReal) < 2 := by norm_cast
  by_cases hp : p <;> by_cases hq : q <;> by_cases hr : r <;> simp [hp, hq, hr, h0, h1, h2, h3]

theorem place_sum (v : Fin 4 → EReal) (i : Fin 4) [∀ j, Decidable (before v j i)] :
    place v i = (if before v 0 i then 1 else 0) + (if before v 1 i then 1 else 0) + (if before v 2 i then 1 else 0) + (if before v 3 i then 1 else 0) := by
  unfold place
  rw [Finset.card_filter, Fin.sum_univ_four]
  congr

theorem before_later (v : Fin 4 → EReal) {j i : Fin 4} (h : i < j) : before v j i ↔ v i < v j := by
  unfold before; simp [not_lt_of_gt h]

theorem before_earlier (v : Fin 4 → EReal) {j i : Fin 4} (h : j < i) : before v j i ↔ v i ≤ v j := by
  unfold before; rw [le_iff_lt_or_eq]; simp [h, eq_comm]

theorem before_self (v : Fin 4 → EReal) (i : Fin 4) : ¬ before v i i := by
  unfold before; simp

theorem rank0 (v : Fin 4 → EReal) :
    (((if v 0 < v 1 then 1 else 0) + if v 0 < v 2 then 1 else 0) + if v 0 < v 3 then 1 else 0 : EReal) < Ideal.ofBits FTy.f32 1073741824#32 ↔ keep v 0 := by
  classical
  rw [count_lt]; unfold keep; rw [place_sum]
  simp only [before_later v (show (0 : Fin 4) < 1 by decide), before_later v (show (0 : Fin 4) < 2 by decide), before_later v (show (0 : Fin 4) < 3 by decide),
    if_neg (before_self v 0), Nat.zero_add]

theorem rank1 (v : Fin 4 → EReal) :
    (((if v 1 ≤ v 0 then 1 else 0) + if v 1 < v 2 then 1 else 0) + if v 1 < v 3 then 1 else 0 : EReal) < Ideal.ofBits FTy.f32 1073741824#32 ↔ keep v 1 := by
  classical
  rw [count_lt]; unfold keep; rw [place_sum]
  simp only [before_earlier v (show (0 : Fin 4) < 1 by decide), before_later v (show (1 : Fin 4) < 2 by decide), before_later v (show (1 : Fin 4) < 3 by decide),
    if_neg (before_self v 1), Nat.add_zero]

theorem rank2 (v : Fin 4 → EReal) :
    (((if v 2 ≤ v 0 then 1 else 0) + if v 2 ≤ v 1 then 1 else 0) + if v 2 < v 3 then 1 else 0 : EReal) < Ideal.ofBits FTy.f32 1073741824#32 ↔ keep v 2 := by
  classical
  rw [count_lt]; unfold keep; rw [place_sum]
  simp only [before_earlier v (show (0 : Fin 4) < 2 by decide), before_earlier v (show (1 : Fin 4) < 2 by decide), before_later v (show (2 : Fin 4) < 3 by decide),
    if_neg (before_self v 2), Nat.add_zero]

theorem rank3 (v : Fin 4 → EReal) :
    (((if v 3 ≤ v 0 then 1 else 0) + if v 3 ≤ v 1 then 1 else 0) + if v 3 ≤ v 2 then 1 else 0 : EReal) < Ideal.ofBits FTy.f32 1073741824#32 ↔ keep v 3 := by
  classical
  rw [count_lt]; unfold keep; rw [place_sum]
  simp only [before_earlier v (show (0 : Fin 4) < 3 by decide), before_earlier v (show (1 : Fin 4) < 3 by decide), before_earlier v (show (2 : Fin 4) < 3 by decide),
    if_neg (before_self v 3), Nat.add_zero]

/-- The greatest of four. -/
def most (s : Fin 4 → EReal) : EReal := max (max (max (s 0) (s 1)) (s 2)) (s 3)

theorem le_most (s : Fin 4 → EReal) (j : Fin 4) : s j ≤ most s := by
  unfold most; fin_cases j <;> simp

theorem eq_most (s : Fin 4 → EReal) (q : Fin 4) : s q = most s ↔ ∀ j, s j ≤ s q := by
  constructor
  · intro h j; rw [h]; exact le_most s j
  · intro h
    refine le_antisymm (le_most s q) ?_
    unfold most
    exact max_le (max_le (max_le (h 0) (h 1)) (h 2)) (h 3)

theorem place_zero (s : Fin 4 → EReal) (q : Fin 4) : place s q = 0 ↔ s q = most s ∧ ∀ j, j < q → s j ≠ most s := by
  classical
  have h1 : place s q = 0 ↔ ∀ j, ¬ before s j q := by
    unfold place; rw [Finset.card_eq_zero, Finset.filter_eq_empty_iff]; simp
  rw [h1]
  constructor
  · intro h
    have hq : s q = most s := (eq_most s q).2 fun j => not_lt.1 fun hl => h j (.inl hl)
    exact ⟨hq, fun j hj e => h j (.inr ⟨e.trans hq.symm, hj⟩)⟩
  · rintro ⟨hq, hn⟩ j (hl | ⟨he, hj⟩)
    · exact absurd (le_most s j) (not_le.2 (hq ▸ hl))
    · exact hn j hj (he.trans hq)

theorem first0 (s : Fin 4 → EReal) : s 0 = most s ↔ place s 0 = 0 := by
  rw [place_zero]; simp

theorem first1 (s : Fin 4 → EReal) : (s 1 = most s ∧ ¬ s 0 = most s) ↔ place s 1 = 0 := by
  rw [place_zero, Fin.forall_fin_succ]; simp [Fin.forall_fin_succ]
theorem first2 (s : Fin 4 → EReal) :
    (s 2 = most s ∧ ¬ (s 0 = most s ∨ (s 1 = most s ∧ ¬ s 0 = most s))) ↔ place s 2 = 0 := by
  have : (∀ j : Fin 4, j < 2 → s j ≠ most s) ↔ s 0 ≠ most s ∧ s 1 ≠ most s :=
    ⟨fun h => ⟨h 0 (by decide), h 1 (by decide)⟩, fun h j hj => by
      revert hj; fin_cases j
      · exact fun _ => h.1
      · exact fun _ => h.2
      · exact fun h => absurd h (by decide)
      · exact fun h => absurd h (by decide)⟩
  rw [place_zero, this]; tauto

theorem first3 (s : Fin 4 → EReal) :
    (s 3 = most s ∧ ¬ ((s 0 = most s ∨ (s 1 = most s ∧ ¬ s 0 = most s)) ∨ (s 2 = most s ∧ ¬ (s 0 = most s ∨ (s 1 = most s ∧ ¬ s 0 = most s))))) ↔ place s 3 = 0 := by
  have : (∀ j : Fin 4, j < 3 → s j ≠ most s) ↔ s 0 ≠ most s ∧ s 1 ≠ most s ∧ s 2 ≠ most s :=
    ⟨fun h => ⟨h 0 (by decide), h 1 (by decide), h 2 (by decide)⟩, fun h j hj => by
      revert hj; fin_cases j
      · exact fun _ => h.1
      · exact fun _ => h.2.1
      · exact fun _ => h.2.2
      · exact fun h => absurd h (by decide)⟩
  rw [place_zero, this]; tauto

end Cert.Moe

end
-- ==== Proof.RouteRead.lean ====
module

public import proofs.«01_k».proof.Proof.RouteKernelIdeal
public import proofs.«01_k».proof.Proof.Rank

@[expose] public section

set_option maxRecDepth 16384

noncomputable section

/-! The routing of one block, token by token: every named value is the mathematics' own. -/

namespace Cert.KernelIdeal.Hand

open Idealize.ShloMosaic Idealize.ShloMosaic.TcCoe Idealize.SL.Sem
open Cert.KernelIdeal Cert.KernelIdeal.Gen Cert.Moe

/-- The probability of an expert at a token. -/
def pT (rwt : Vec Ideal S16x1024 .f32) (x : Vec Ideal S1024x1024 .f32) (j : Fin 1024) (q i : Fin 4) : EReal :=
  prob (fun k => x (ix2 j k)) (fun k e => rwt (ix2 e k)) q i

/-- The selection value of an expert at a token. -/
def vT (rwt : Vec Ideal S16x1024 .f32) (rbt : Vec Ideal S128x128 .f32) (x : Vec Ideal S1024x1024 .f32) (j : Fin 1024) (q i : Fin 4) : EReal :=
  sel (fun k => x (ix2 j k)) (fun k e => rwt (ix2 e k)) (fun e => rbt (ix2 (e.castLE (by decide)) 0)) q i

/-- A gate after the group is chosen. -/
def gT (rwt : Vec Ideal S16x1024 .f32) (rbt : Vec Ideal S128x128 .f32) (x : Vec Ideal S1024x1024 .f32) (j : Fin 1024) (q i : Fin 4) : EReal :=
  open Classical in if taken (vT rwt rbt x j) q then gate (pT rwt x j) (vT rwt rbt x j) q i else 0

variable (rwt : Vec Ideal S16x1024 .f32) (rbt : Vec Ideal S128x128 .f32) (tri : Vec Ideal S1024x1024 .bf16) (x : Vec Ideal S1024x1024 .f32) (j : Fin 1024)

theorem gT_eq (q i : Fin 4) [inst : Decidable (taken (vT rwt rbt x j) q ∧ keep (vT rwt rbt x j q) i)] : (if taken (vT rwt rbt x j) q ∧ keep (vT rwt rbt x j q) i then pT rwt x j q i else 0) = gT rwt rbt x j q i := by
  unfold gT gate
  by_cases h : taken (vT rwt rbt x j) q <;> by_cases h' : keep (vT rwt rbt x j q) i
  · rw [if_pos ⟨h, h'⟩, if_pos h, if_pos h']
  · rw [if_neg (fun a => h' a.2), if_pos h, if_neg h']
  · rw [if_neg (fun a => h a.1), if_neg h]
  · rw [if_neg (fun a => h a.1), if_neg h]

theorem p_0 : rt_0 rwt x (ix2 0 j) = pT rwt x j 0 0 := by
  pointwise [rt_0, k0_pay7]
  exact congrArg Ideal.logistic (Finset.sum_congr rfl fun _ _ => mul_comm _ _)

theorem p_1 : rt_0 rwt x (ix2 1 j) = pT rwt x j 0 1 := by
  pointwise [rt_0, k0_pay7]
  exact congrArg Ideal.logistic (Finset.sum_congr rfl fun _ _ => mul_comm _ _)

theorem p_2 : rt_0 rwt x (ix2 2 j) = pT rwt x j 0 2 := by
  pointwise [rt_0, k0_pay7]
  exact congrArg Ideal.logistic (Finset.sum_congr rfl fun _ _ => mul_comm _ _)

theorem p_3 : rt_0 rwt x (ix2 3 j) = pT rwt x j 0 3 := by
  pointwise [rt_0, k0_pay7]
  exact congrArg Ideal.logistic (Finset.sum_congr rfl fun _ _ => mul_comm _ _)

theorem p_4 : rt_0 rwt x (ix2 4 j) = pT rwt x j 1 0 := by
  pointwise [rt_0, k0_pay7]
  exact congrArg Ideal.logistic (Finset.sum_congr rfl fun _ _ => mul_comm _ _)

theorem p_5 : rt_0 rwt x (ix2 5 j) = pT rwt x j 1 1 := by
  pointwise [rt_0, k0_pay7]
  exact congrArg Ideal.logistic (Finset.sum_congr rfl fun _ _ => mul_comm _ _)

theorem p_6 : rt_0 rwt x (ix2 6 j) = pT rwt x j 1 2 := by
  pointwise [rt_0, k0_pay7]
  exact congrArg Ideal.logistic (Finset.sum_congr rfl fun _ _ => mul_comm _ _)

theorem p_7 : rt_0 rwt x (ix2 7 j) = pT rwt x j 1 3 := by
  pointwise [rt_0, k0_pay7]
  exact congrArg Ideal.logistic (Finset.sum_congr rfl fun _ _ => mul_comm _ _)

theorem p_8 : rt_0 rwt x (ix2 8 j) = pT rwt x j 2 0 := by
  pointwise [rt_0, k0_pay7]
  exact congrArg Ideal.logistic (Finset.sum_congr rfl fun _ _ => mul_comm _ _)

theorem p_9 : rt_0 rwt x (ix2 9 j) = pT rwt x j 2 1 := by
  pointwise [rt_0, k0_pay7]
  exact congrArg Ideal.logistic (Finset.sum_congr rfl fun _ _ => mul_comm _ _)

theorem p_10 : rt_0 rwt x (ix2 10 j) = pT rwt x j 2 2 := by
  pointwise [rt_0, k0_pay7]
  exact congrArg Ideal.logistic (Finset.sum_congr rfl fun _ _ => mul_comm _ _)

theorem p_11 : rt_0 rwt x (ix2 11 j) = pT rwt x j 2 3 := by
  pointwise [rt_0, k0_pay7]
  exact congrArg Ideal.logistic (Finset.sum_congr rfl fun _ _ => mul_comm _ _)

theorem p_12 : rt_0 rwt x (ix2 12 j) = pT rwt x j 3 0 := by
  pointwise [rt_0, k0_pay7]
  exact congrArg Ideal.logistic (Finset.sum_congr rfl fun _ _ => mul_comm _ _)

theorem p_13 : rt_0 rwt x (ix2 13 j) = pT rwt x j 3 1 := by
  pointwise [rt_0, k0_pay7]
  exact congrArg Ideal.logistic (Finset.sum_congr rfl fun _ _ => mul_comm _ _)

theorem p_14 : rt_0 rwt x (ix2 14 j) = pT rwt x j 3 2 := by
  pointwise [rt_0, k0_pay7]
  exact congrArg Ideal.logistic (Finset.sum_congr rfl fun _ _ => mul_comm _ _)

theorem p_15 : rt_0 rwt x (ix2 15 j) = pT rwt x j 3 3 := by
  pointwise [rt_0, k0_pay7]
  exact congrArg Ideal.logistic (Finset.sum_congr rfl fun _ _ => mul_comm _ _)

theorem v_0 : rt_2 rwt rbt x (ix2 0 j) = vT rwt rbt x j 0 0 := by
  have h := p_0 rwt x j
  unfold rt_0 at h
  pointwise [rt_2, k0_pay9, k0_pay8, h]
  rfl

theorem v_1 : rt_3 rwt rbt x (ix2 0 j) = vT rwt rbt x j 0 1 := by
  have h := p_1 rwt x j
  unfold rt_0 at h
  pointwise [rt_3, k0_pay10, k0_pay8, h]
  rfl

theorem v_2 : rt_4 rwt rbt x (ix2 0 j) = vT rwt rbt x j 0 2 := by
  have h := p_2 rwt x j
  unfold rt_0 at h
  pointwise [rt_4, k0_pay11, k0_pay8, h]
  rfl

theorem v_3 : rt_5 rwt rbt x (ix2 0 j) = vT rwt rbt x j 0 3 := by
  have h := p_3 rwt x j
  unfold rt_0 at h
  pointwise [rt_5, k0_pay12, k0_pay8, h]
  rfl

theorem v_4 : rt_14 rwt rbt x (ix2 0 j) = vT rwt rbt x j 1 0 := by
  have h := p_4 rwt x j
  unfold rt_0 at h
  pointwise [rt_14, k0_pay22, rt_1, k0_pay8, h]
  rfl

theorem v_5 : rt_15 rwt rbt x (ix2 0 j) = vT rwt rbt x j 1 1 := by
  have h := p_5 rwt x j
  unfold rt_0 at h
  pointwise [rt_15, k0_pay23, rt_1, k0_pay8, h]
  rfl

theorem v_6 : rt_16 rwt rbt x (ix2 0 j) = vT rwt rbt x j 1 2 := by
  have h := p_6 rwt x j
  unfold rt_0 at h
  pointwise [rt_16, k0_pay24, rt_1, k0_pay8, h]
  rfl

theorem v_7 : rt_17 rwt rbt x (ix2 0 j) = vT rwt rbt x j 1 3 := by
  have h := p_7 rwt x j
  unfold rt_0 at h
  pointwise [rt_17, k0_pay25, rt_1, k0_pay8, h]
  rfl

theorem v_8 : rt_24 rwt rbt x (ix2 0 j) = vT rwt rbt x j 2 0 := by
  have h := p_8 rwt x j
  unfold rt_0 at h
  pointwise [rt_24, k0_pay32, rt_1, k0_pay8, h]
  rfl

theorem v_9 : rt_25 rwt rbt x (ix2 0 j) = vT rwt rbt x j 2 1 := by
  have h := p_9 rwt x j
  unfold rt_0 at h
  pointwise [rt_25, k0_pay33, rt_1, k0_pay8, h]
  rfl

theorem v_10 : rt_26 rwt rbt x (ix2 0 j) = vT rwt rbt x j 2 2 := by
  have h := p_10 rwt x j
  unfold rt_0 at h
  pointwise [rt_26, k0_pay34, rt_1, k0_pay8, h]
  rfl

theorem v_11 : rt_27 rwt rbt x (ix2 0 j) = vT rwt rbt x j 2 3 := by
  have h := p_11 rwt x j
  unfold rt_0 at h
  pointwise [rt_27, k0_pay35, rt_1, k0_pay8, h]
  rfl

theorem v_12 : rt_35 rwt rbt x (ix2 0 j) = vT rwt rbt x j 3 0 := by
  have h := p_12 rwt x j
  unfold rt_0 at h
  pointwise [rt_35, k0_pay45, rt_1, k0_pay8, h]
  rfl

theorem v_13 : rt_36 rwt rbt x (ix2 0 j) = vT rwt rbt x j 3 1 := by
  have h := p_13 rwt x j
  unfold rt_0 at h
  pointwise [rt_36, k0_pay46, rt_1, k0_pay8, h]
  rfl

theorem v_14 : rt_37 rwt rbt x (ix2 0 j) = vT rwt rbt x j 3 2 := by
  have h := p_14 rwt x j
  unfold rt_0 at h
  pointwise [rt_37, k0_pay47, rt_1, k0_pay8, h]
  rfl

theorem v_15 : rt_38 rwt rbt x (ix2 0 j) = vT rwt rbt x j 3 3 := by
  have h := p_15 rwt x j
  unfold rt_0 at h
  pointwise [rt_38, k0_pay48, rt_1, k0_pay8, h]
  rfl

theorem f_0 : rt_6 rwt rbt x (ix2 0 j) = bit (keep (vT rwt rbt x j 0) 0) := by
  have h0 := v_0 rwt rbt x j
  unfold rt_2 at h0
  have h1 := v_1 rwt rbt x j
  unfold rt_3 at h1
  have h2 := v_2 rwt rbt x j
  unfold rt_4 at h2
  have h3 := v_3 rwt rbt x j
  unfold rt_5 at h3
  pointwise [rt_6, k0_pay13, h0, h1, h2, h3, v_0, v_1, v_2, v_3]
  exact (ofBool_decide _).trans (bit_congr (rank0 (vT rwt rbt x j 0)))

theorem f_1 : rt_8 rwt rbt x (ix2 0 j) = bit (keep (vT rwt rbt x j 0) 1) := by
  have h0 := v_0 rwt rbt x j
  unfold rt_2 at h0
  have h1 := v_1 rwt rbt x j
  unfold rt_3 at h1
  have h2 := v_2 rwt rbt x j
  unfold rt_4 at h2
  have h3 := v_3 rwt rbt x j
  unfold rt_5 at h3
  pointwise [rt_8, rt_7, k0_pay16, k0_pay14, k0_pay15, cst_41, h0, h1, h2, h3, v_0, v_1, v_2, v_3]
  exact (ofBool_decide _).trans (bit_congr (rank1 (vT rwt rbt x j 0)))

theorem f_2 : rt_9 rwt rbt x (ix2 0 j) = bit (keep (vT rwt rbt x j 0) 2) := by
  pointwise [rt_9, k0_pay17, v_0, v_1, v_2, v_3]
  exact (ofBool_decide _).trans (bit_congr (rank2 (vT rwt rbt x j 0)))

theorem f_3 : rt_12 rwt rbt x (ix2 0 j) = bit (keep (vT rwt rbt x j 0) 3) := by
  pointwise [rt_12, rt_10, rt_11, k0_pay20, k0_pay19, k0_pay18, cst_41, cst_60, v_0, v_1, v_2, v_3]
  exact (ofBool_decide _).trans (bit_congr (rank3 (vT rwt rbt x j 0)))

theorem f_4 : rt_18 rwt rbt x (ix2 0 j) = bit (keep (vT rwt rbt x j 1) 0) := by
  have h0 := v_4 rwt rbt x j
  unfold rt_14 at h0
  have h1 := v_5 rwt rbt x j
  unfold rt_15 at h1
  have h2 := v_6 rwt rbt x j
  unfold rt_16 at h2
  have h3 := v_7 rwt rbt x j
  unfold rt_17 at h3
  pointwise [rt_18, k0_pay26, h0, h1, h2, h3, v_4, v_5, v_6, v_7]
  exact (ofBool_decide _).trans (bit_congr (rank0 (vT rwt rbt x j 1)))

theorem f_5 : rt_19 rwt rbt x (ix2 0 j) = bit (keep (vT rwt rbt x j 1) 1) := by
  pointwise [rt_19, k0_pay27, cst_60, v_4, v_5, v_6, v_7]
  exact (ofBool_decide _).trans (bit_congr (rank1 (vT rwt rbt x j 1)))

theorem f_6 : rt_20 rwt rbt x (ix2 0 j) = bit (keep (vT rwt rbt x j 1) 2) := by
  pointwise [rt_20, k0_pay28, v_4, v_5, v_6, v_7]
  exact (ofBool_decide _).trans (bit_congr (rank2 (vT rwt rbt x j 1)))

theorem f_7 : rt_22 rwt rbt x (ix2 0 j) = bit (keep (vT rwt rbt x j 1) 3) := by
  pointwise [rt_22, k0_pay30, rt_21, k0_pay29, v_4, v_5, v_6, v_7]
  exact (ofBool_decide _).trans (bit_congr (rank3 (vT rwt rbt x j 1)))

theorem f_8 : rt_29 rwt rbt x (ix2 0 j) = bit (keep (vT rwt rbt x j 2) 0) := by
  have h0 := v_8 rwt rbt x j
  unfold rt_24 at h0
  have h1 := v_9 rwt rbt x j
  unfold rt_25 at h1
  have h2 := v_10 rwt rbt x j
  unfold rt_26 at h2
  have h3 := v_11 rwt rbt x j
  unfold rt_27 at h3
  pointwise [rt_29, k0_pay37, rt_28, k0_pay36, cst_111, h0, h1, h2, h3, v_8, v_9, v_10, v_11]
  exact (ofBool_decide _).trans (bit_congr (rank0 (vT rwt rbt x j 2)))

theorem f_9 : rt_30 rwt rbt x (ix2 0 j) = bit (keep (vT rwt rbt x j 2) 1) := by
  pointwise [rt_30, k0_pay38, v_8, v_9, v_10, v_11]
  exact (ofBool_decide _).trans (bit_congr (rank1 (vT rwt rbt x j 2)))

theorem f_10 : rt_31 rwt rbt x (ix2 0 j) = bit (keep (vT rwt rbt x j 2) 2) := by
  pointwise [rt_31, k0_pay39, v_8, v_9, v_10, v_11]
  exact (ofBool_decide _).trans (bit_congr (rank2 (vT rwt rbt x j 2)))

theorem f_11 : rt_33 rwt rbt x (ix2 0 j) = bit (keep (vT rwt rbt x j 2) 3) := by
  pointwise [rt_33, k0_pay43, k0_pay40, rt_32, k0_pay41, k0_pay42, cst_60, v_8, v_9, v_10, v_11]
  exact (ofBool_decide _).trans (bit_congr (rank3 (vT rwt rbt x j 2)))

theorem f_12 : rt_41 rwt rbt x (ix2 0 j) = bit (keep (vT rwt rbt x j 3) 0) := by
  have h0 := v_12 rwt rbt x j
  unfold rt_35 at h0
  have h1 := v_13 rwt rbt x j
  unfold rt_36 at h1
  have h2 := v_14 rwt rbt x j
  unfold rt_37 at h2
  have h3 := v_15 rwt rbt x j
  unfold rt_38 at h3
  pointwise [rt_41, k0_pay53, rt_39, k0_pay49, rt_40, k0_pay50, k0_pay51, k0_pay52, h0, h1, h2, h3, v_12, v_13, v_14, v_15]
  exact (ofBool_decide _).trans (bit_congr (rank0 (vT rwt rbt x j 3)))

theorem f_13 : rt_42 rwt rbt x (ix2 0 j) = bit (keep (vT rwt rbt x j 3) 1) := by
  pointwise [rt_42, k0_pay54, v_12, v_13, v_14, v_15]
  exact (ofBool_decide _).trans (bit_congr (rank1 (vT rwt rbt x j 3)))

theorem f_14 : rt_43 rwt rbt x (ix2 0 j) = bit (keep (vT rwt rbt x j 3) 2) := by
  pointwise [rt_43, k0_pay55, v_12, v_13, v_14, v_15]
  exact (ofBool_decide _).trans (bit_congr (rank2 (vT rwt rbt x j 3)))

theorem f_15 : rt_45 rwt rbt x (ix2 0 j) = bit (keep (vT rwt rbt x j 3) 3) := by
  pointwise [rt_45, k0_pay58, k0_pay56, rt_44, k0_pay57, v_12, v_13, v_14, v_15]
  exact (ofBool_decide _).trans (bit_congr (rank3 (vT rwt rbt x j 3)))

theorem s_0 : rt_13 rwt rbt x (ix2 0 j) = score (vT rwt rbt x j 0) := by
  have hf := f_3 rwt rbt x j
  unfold rt_12 at hf
  pointwise [rt_13, k0_pay21, hf, f_0, f_1, f_2, v_0, v_1, v_2, v_3, select_bit]
  classical
  unfold score
  rw [Fin.sum_univ_four]

theorem s_1 : rt_23 rwt rbt x (ix2 0 j) = score (vT rwt rbt x j 1) := by
  have hf := f_7 rwt rbt x j
  unfold rt_22 at hf
  pointwise [rt_23, k0_pay31, hf, f_4, f_5, f_6, v_4, v_5, v_6, v_7, select_bit]
  classical
  unfold score
  rw [Fin.sum_univ_four]

theorem s_2 : rt_34 rwt rbt x (ix2 0 j) = score (vT rwt rbt x j 2) := by
  have hf := f_11 rwt rbt x j
  unfold rt_33 at hf
  pointwise [rt_34, k0_pay44, hf, f_8, f_9, f_10, v_8, v_9, v_10, v_11, select_bit]
  classical
  unfold score
  rw [Fin.sum_univ_four]

theorem s_3 : k0_pay59 (rt_35 rwt rbt x) (rt_36 rwt rbt x) (rt_37 rwt rbt x) (rt_38 rwt rbt x) (rt_41 rwt rbt x) (rt_42 rwt rbt x) (rt_43 rwt rbt x) k0_pay56 (rt_44 rwt rbt x) (ix2 0 j) = score (vT rwt rbt x j 3) := by
  have hf := f_15 rwt rbt x j
  unfold rt_45 at hf
  pointwise [k0_pay59, hf, f_12, f_13, f_14, v_12, v_13, v_14, v_15, select_bit]
  classical
  unfold score
  rw [Fin.sum_univ_four]

theorem c_0 : rt_46 rwt rbt x (ix2 0 j) = bit (taken (vT rwt rbt x j) 0) := by
  pointwise [rt_46, k0_pay61, k0_pay60, s_0, s_1, s_2, s_3, ofBool_decide, andi_bit, ori_bit, not_bit]
  exact bit_congr (first0 fun r => score (vT rwt rbt x j r))

theorem c_1 : rt_47 rwt rbt x (ix2 0 j) = bit (taken (vT rwt rbt x j) 1) := by
  pointwise [rt_47, k0_pay62, k0_pay61, k0_pay60, s_0, s_1, s_2, s_3, ofBool_decide, andi_bit, ori_bit, not_bit]
  exact bit_congr (first1 fun r => score (vT rwt rbt x j r))

theorem c_2 : rt_48 rwt rbt x (ix2 0 j) = bit (taken (vT rwt rbt x j) 2) := by
  pointwise [rt_48, k0_pay64, k0_pay63, k0_pay62, k0_pay61, k0_pay60, s_0, s_1, s_2, s_3, ofBool_decide, andi_bit, ori_bit, not_bit]
  exact bit_congr (first2 fun r => score (vT rwt rbt x j r))

theorem c_3 : rt_49 rwt rbt x (ix2 0 j) = bit (taken (vT rwt rbt x j) 3) := by
  pointwise [rt_49, k0_pay65, k0_pay64, k0_pay63, k0_pay62, k0_pay61, k0_pay60, s_0, s_1, s_2, s_3, ofBool_decide, andi_bit, ori_bit, not_bit]
  exact bit_congr (first3 fun r => score (vT rwt rbt x j r))

theorem g_0 : rt_52 rwt rbt x (ix2 0 j) = gT rwt rbt x j 0 0 := by
  have hc := c_0 rwt rbt x j
  unfold rt_46 at hc
  pointwise [rt_52, k0_pay69, rt_50, k0_pay66, rt_51, k0_pay67, k0_pay68, hc, c_0, f_0, p_0, andi_bit, select_bit]
  exact gT_eq rwt rbt x j 0 0 (inst := _)

theorem g_1 : rt_53 rwt rbt x (ix2 0 j) = gT rwt rbt x j 0 1 := by
  pointwise [rt_53, k0_pay70, c_0, f_1, p_1, andi_bit, select_bit]
  exact gT_eq rwt rbt x j 0 1 (inst := _)

theorem g_2 : rt_54 rwt rbt x (ix2 0 j) = gT rwt rbt x j 0 2 := by
  pointwise [rt_54, k0_pay71, c_0, f_2, p_2, andi_bit, select_bit]
  exact gT_eq rwt rbt x j 0 2 (inst := _)

theorem g_3 : rt_55 rwt rbt x (ix2 0 j) = gT rwt rbt x j 0 3 := by
  pointwise [rt_55, k0_pay72, c_0, f_3, p_3, andi_bit, select_bit]
  exact gT_eq rwt rbt x j 0 3 (inst := _)

theorem g_4 : rt_56 rwt rbt x (ix2 0 j) = gT rwt rbt x j 1 0 := by
  pointwise [rt_56, k0_pay73, c_1, f_4, p_4, andi_bit, select_bit]
  exact gT_eq rwt rbt x j 1 0 (inst := _)

theorem g_5 : rt_57 rwt rbt x (ix2 0 j) = gT rwt rbt x j 1 1 := by
  pointwise [rt_57, k0_pay74, c_1, f_5, p_5, andi_bit, select_bit]
  exact gT_eq rwt rbt x j 1 1 (inst := _)

theorem g_6 : rt_58 rwt rbt x (ix2 0 j) = gT rwt rbt x j 1 2 := by
  pointwise [rt_58, k0_pay75, c_1, f_6, p_6, andi_bit, select_bit]
  exact gT_eq rwt rbt x j 1 2 (inst := _)

theorem g_7 : rt_59 rwt rbt x (ix2 0 j) = gT rwt rbt x j 1 3 := by
  pointwise [rt_59, k0_pay76, c_1, f_7, p_7, andi_bit, select_bit]
  exact gT_eq rwt rbt x j 1 3 (inst := _)

theorem g_8 : rt_60 rwt rbt x (ix2 0 j) = gT rwt rbt x j 2 0 := by
  pointwise [rt_60, k0_pay77, c_2, f_8, p_8, andi_bit, select_bit]
  exact gT_eq rwt rbt x j 2 0 (inst := _)

theorem g_9 : rt_61 rwt rbt x (ix2 0 j) = gT rwt rbt x j 2 1 := by
  pointwise [rt_61, k0_pay78, c_2, f_9, p_9, andi_bit, select_bit]
  exact gT_eq rwt rbt x j 2 1 (inst := _)

theorem g_10 : rt_62 rwt rbt x (ix2 0 j) = gT rwt rbt x j 2 2 := by
  pointwise [rt_62, k0_pay79, c_2, f_10, p_10, andi_bit, select_bit]
  exact gT_eq rwt rbt x j 2 2 (inst := _)

theorem g_11 : rt_63 rwt rbt x (ix2 0 j) = gT rwt rbt x j 2 3 := by
  pointwise [rt_63, k0_pay80, c_2, f_11, p_11, andi_bit, select_bit]
  exact gT_eq rwt rbt x j 2 3 (inst := _)

theorem g_12 : k0_pay84 (rt_64 rwt rbt x) (rt_65 rwt x) k0_pay83 (ix2 0 j) = gT rwt rbt x j 3 0 := by
  pointwise [k0_pay84, rt_64, k0_pay81, rt_65, k0_pay82, k0_pay83, c_3, f_12, p_12, andi_bit, select_bit]
  exact gT_eq rwt rbt x j 3 0 (inst := _)

theorem g_13 : k0_pay85 (rt_0 rwt x) (rt_42 rwt rbt x) (rt_49 rwt rbt x) (ix2 0 j) = gT rwt rbt x j 3 1 := by
  pointwise [k0_pay85, c_3, f_13, p_13, andi_bit, select_bit]
  exact gT_eq rwt rbt x j 3 1 (inst := _)

theorem g_14 : k0_pay86 (rt_0 rwt x) (rt_43 rwt rbt x) (rt_49 rwt rbt x) (ix2 0 j) = gT rwt rbt x j 3 2 := by
  pointwise [k0_pay86, c_3, f_14, p_14, andi_bit, select_bit]
  exact gT_eq rwt rbt x j 3 2 (inst := _)

theorem g_15 : k0_pay87 (rt_0 rwt x) (rt_45 rwt rbt x) (rt_49 rwt rbt x) (ix2 0 j) = gT rwt rbt x j 3 3 := by
  pointwise [k0_pay87, c_3, f_15, p_15, andi_bit, select_bit]
  exact gT_eq rwt rbt x j 3 3 (inst := _)

theorem den_apply : k0_pay88 (rt_0 rwt x) (rt_42 rwt rbt x) (rt_43 rwt rbt x) (rt_45 rwt rbt x) (rt_49 rwt rbt x) (rt_52 rwt rbt x) (rt_53 rwt rbt x) (rt_54 rwt rbt x) (rt_55 rwt rbt x) (rt_56 rwt rbt x) (rt_57 rwt rbt x) (rt_58 rwt rbt x) (rt_59 rwt rbt x) (rt_60 rwt rbt x) (rt_61 rwt rbt x) (rt_62 rwt rbt x) (rt_63 rwt rbt x) (rt_64 rwt rbt x) (rt_65 rwt x) k0_pay83 (ix2 0 j) = total (pT rwt x j) (vT rwt rbt x j) := by
  pointwise [k0_pay88, g_0, g_1, g_2, g_3, g_4, g_5, g_6, g_7, g_8, g_9, g_10, g_11, g_12, g_13, g_14, g_15]
  unfold total
  rw [Fin.sum_univ_four, Fin.sum_univ_four, Fin.sum_univ_four, Fin.sum_univ_four, Fin.sum_univ_four]
  unfold gT
  ac_rfl

theorem w_0 : rt_66 rwt rbt x (ix2 0 j) = Ideal.div (gT rwt rbt x j 0 0) (total (pT rwt x j) (vT rwt rbt x j)) := by
  pointwise [rt_66, k0_pay89, den_apply, g_0]

theorem w_1 : rt_67 rwt rbt x (ix2 0 j) = Ideal.div (gT rwt rbt x j 0 1) (total (pT rwt x j) (vT rwt rbt x j)) := by
  pointwise [rt_67, k0_pay90, den_apply, g_1]

theorem w_2 : rt_68 rwt rbt x (ix2 0 j) = Ideal.div (gT rwt rbt x j 0 2) (total (pT rwt x j) (vT rwt rbt x j)) := by
  pointwise [rt_68, k0_pay91, den_apply, g_2]

theorem w_3 : rt_69 rwt rbt x (ix2 0 j) = Ideal.div (gT rwt rbt x j 0 3) (total (pT rwt x j) (vT rwt rbt x j)) := by
  pointwise [rt_69, k0_pay92, den_apply, g_3]

theorem w_4 : rt_70 rwt rbt x (ix2 0 j) = Ideal.div (gT rwt rbt x j 1 0) (total (pT rwt x j) (vT rwt rbt x j)) := by
  pointwise [rt_70, k0_pay93, den_apply, g_4]

theorem w_5 : rt_71 rwt rbt x (ix2 0 j) = Ideal.div (gT rwt rbt x j 1 1) (total (pT rwt x j) (vT rwt rbt x j)) := by
  pointwise [rt_71, k0_pay94, den_apply, g_5]

theorem w_6 : rt_72 rwt rbt x (ix2 0 j) = Ideal.div (gT rwt rbt x j 1 2) (total (pT rwt x j) (vT rwt rbt x j)) := by
  pointwise [rt_72, k0_pay95, den_apply, g_6]

theorem w_7 : rt_73 rwt rbt x (ix2 0 j) = Ideal.div (gT rwt rbt x j 1 3) (total (pT rwt x j) (vT rwt rbt x j)) := by
  pointwise [rt_73, k0_pay96, den_apply, g_7]

theorem w_8 : rt_74 rwt rbt x (ix2 0 j) = Ideal.div (gT rwt rbt x j 2 0) (total (pT rwt x j) (vT rwt rbt x j)) := by
  pointwise [rt_74, k0_pay97, den_apply, g_8]

theorem w_9 : rt_75 rwt rbt x (ix2 0 j) = Ideal.div (gT rwt rbt x j 2 1) (total (pT rwt x j) (vT rwt rbt x j)) := by
  pointwise [rt_75, k0_pay98, den_apply, g_9]

theorem w_10 : rt_76 rwt rbt x (ix2 0 j) = Ideal.div (gT rwt rbt x j 2 2) (total (pT rwt x j) (vT rwt rbt x j)) := by
  pointwise [rt_76, k0_pay99, den_apply, g_10]

theorem w_11 : rt_77 rwt rbt x (ix2 0 j) = Ideal.div (gT rwt rbt x j 2 3) (total (pT rwt x j) (vT rwt rbt x j)) := by
  pointwise [rt_77, k0_pay100, den_apply, g_11]

theorem w_12 : rt_78 rwt rbt x (ix2 0 j) = Ideal.div (gT rwt rbt x j 3 0) (total (pT rwt x j) (vT rwt rbt x j)) := by
  pointwise [rt_78, k0_pay101, den_apply, g_12]

theorem w_13 : rt_79 rwt rbt x (ix2 0 j) = Ideal.div (gT rwt rbt x j 3 1) (total (pT rwt x j) (vT rwt rbt x j)) := by
  pointwise [rt_79, k0_pay102, den_apply, g_13]

theorem w_14 : rt_80 rwt rbt x (ix2 0 j) = Ideal.div (gT rwt rbt x j 3 2) (total (pT rwt x j) (vT rwt rbt x j)) := by
  pointwise [rt_80, k0_pay103, den_apply, g_14]

theorem w_15 : rt_81 rwt rbt x (ix2 0 j) = Ideal.div (gT rwt rbt x j 3 3) (total (pT rwt x j) (vT rwt rbt x j)) := by
  pointwise [rt_81, k0_pay104, den_apply, g_15]

open Classical in
/-- The flag of a group, as a number. -/
def mark (rwt : Vec Ideal S16x1024 .f32) (rbt : Vec Ideal S128x128 .f32) (x : Vec Ideal S1024x1024 .f32) (j : Fin 1024) (q : Fin 4) : EReal := if taken (vT rwt rbt x j) q then 1 else 0

theorem m_0 : rt_82 rwt rbt x (ix2 0 j) = mark rwt rbt x j 0 := by
  pointwise [rt_82, k0_pay105, c_0, select_bit]
  rfl

theorem m_1 : rt_83 rwt rbt x (ix2 0 j) = mark rwt rbt x j 1 := by
  pointwise [rt_83, k0_pay106, c_1, select_bit]
  rfl

theorem m_2 : k0_pay108 (F := Ideal) (rt_48 rwt rbt x) cst_60 k0_pay107 (ix2 0 j) = mark rwt rbt x j 2 := by
  pointwise [k0_pay108, cst_60, k0_pay107, c_2, select_bit]
  rfl

theorem m_3 : k0_pay109 (F := Ideal) (rt_49 rwt rbt x) (ix2 0 j) = mark rwt rbt x j 3 := by
  pointwise [k0_pay109, c_3, select_bit]
  rfl

theorem i_0_0 : infoRow0 rwt rbt tri x (ix3 0 0 j) = Ideal.div (gT rwt rbt x j 0 0) (total (pT rwt x j) (vT rwt rbt x j)) := by
  pointwise [infoRow0, k0_pay112, w_0]

theorem i_0_1 : infoRow0 rwt rbt tri x (ix3 0 1 j) = Ideal.div (gT rwt rbt x j 0 1) (total (pT rwt x j) (vT rwt rbt x j)) := by
  pointwise [infoRow0, k0_pay112, w_1]

theorem i_0_2 : infoRow0 rwt rbt tri x (ix3 0 2 j) = Ideal.div (gT rwt rbt x j 0 2) (total (pT rwt x j) (vT rwt rbt x j)) := by
  pointwise [infoRow0, k0_pay112, w_2]

theorem i_0_3 : infoRow0 rwt rbt tri x (ix3 0 3 j) = Ideal.div (gT rwt rbt x j 0 3) (total (pT rwt x j) (vT rwt rbt x j)) := by
  pointwise [infoRow0, k0_pay112, w_3]

theorem i_0_4 : infoRow0 rwt rbt tri x (ix3 0 4 j) = mark rwt rbt x j 0 := by
  pointwise [infoRow0, k0_pay112, m_0]

theorem i_0_5 : infoRow0 rwt rbt tri x (ix3 0 5 j) = (∑ l, mark rwt rbt x l 0 * tri (ix2 l j)) - 1 := by
  pointwise [infoRow0, k0_pay112, k0_pay110, m_0]

theorem i_1_0 : infoRow1 rwt rbt tri x (ix3 0 0 j) = Ideal.div (gT rwt rbt x j 1 0) (total (pT rwt x j) (vT rwt rbt x j)) := by
  pointwise [infoRow1, k0_pay113, w_4]

theorem i_1_1 : infoRow1 rwt rbt tri x (ix3 0 1 j) = Ideal.div (gT rwt rbt x j 1 1) (total (pT rwt x j) (vT rwt rbt x j)) := by
  pointwise [infoRow1, k0_pay113, w_5]

theorem i_1_2 : infoRow1 rwt rbt tri x (ix3 0 2 j) = Ideal.div (gT rwt rbt x j 1 2) (total (pT rwt x j) (vT rwt rbt x j)) := by
  pointwise [infoRow1, k0_pay113, w_6]

theorem i_1_3 : infoRow1 rwt rbt tri x (ix3 0 3 j) = Ideal.div (gT rwt rbt x j 1 3) (total (pT rwt x j) (vT rwt rbt x j)) := by
  pointwise [infoRow1, k0_pay113, w_7]

theorem i_1_4 : infoRow1 rwt rbt tri x (ix3 0 4 j) = mark rwt rbt x j 1 := by
  pointwise [infoRow1, k0_pay113, m_1]

theorem i_1_5 : infoRow1 rwt rbt tri x (ix3 0 5 j) = (∑ l, mark rwt rbt x l 1 * tri (ix2 l j)) - 1 := by
  pointwise [infoRow1, k0_pay113, k0_pay110, m_1]

theorem i_2_0 : infoRow2 rwt rbt tri x (ix3 0 0 j) = Ideal.div (gT rwt rbt x j 2 0) (total (pT rwt x j) (vT rwt rbt x j)) := by
  pointwise [infoRow2, k0_pay114, w_8]

theorem i_2_1 : infoRow2 rwt rbt tri x (ix3 0 1 j) = Ideal.div (gT rwt rbt x j 2 1) (total (pT rwt x j) (vT rwt rbt x j)) := by
  pointwise [infoRow2, k0_pay114, w_9]

theorem i_2_2 : infoRow2 rwt rbt tri x (ix3 0 2 j) = Ideal.div (gT rwt rbt x j 2 2) (total (pT rwt x j) (vT rwt rbt x j)) := by
  pointwise [infoRow2, k0_pay114, w_10]

theorem i_2_3 : infoRow2 rwt rbt tri x (ix3 0 3 j) = Ideal.div (gT rwt rbt x j 2 3) (total (pT rwt x j) (vT rwt rbt x j)) := by
  pointwise [infoRow2, k0_pay114, w_11]

theorem i_2_4 : infoRow2 rwt rbt tri x (ix3 0 4 j) = mark rwt rbt x j 2 := by
  pointwise [infoRow2, k0_pay114, m_2]

theorem i_2_5 : infoRow2 rwt rbt tri x (ix3 0 5 j) = (∑ l, mark rwt rbt x l 2 * tri (ix2 l j)) - 1 := by
  pointwise [infoRow2, k0_pay114, k0_pay110, m_2]

theorem i_3_0 : infoRow3 rwt rbt tri x (ix3 0 0 j) = Ideal.div (gT rwt rbt x j 3 0) (total (pT rwt x j) (vT rwt rbt x j)) := by
  pointwise [infoRow3, k0_pay148, rt_84, k0_pay115, w_12]

theorem i_3_1 : infoRow3 rwt rbt tri x (ix3 0 1 j) = Ideal.div (gT rwt rbt x j 3 1) (total (pT rwt x j) (vT rwt rbt x j)) := by
  pointwise [infoRow3, k0_pay148, rt_84, k0_pay115, w_13]

theorem i_3_2 : infoRow3 rwt rbt tri x (ix3 0 2 j) = Ideal.div (gT rwt rbt x j 3 2) (total (pT rwt x j) (vT rwt rbt x j)) := by
  pointwise [infoRow3, k0_pay148, rt_84, k0_pay115, w_14]

theorem i_3_3 : infoRow3 rwt rbt tri x (ix3 0 3 j) = Ideal.div (gT rwt rbt x j 3 3) (total (pT rwt x j) (vT rwt rbt x j)) := by
  pointwise [infoRow3, k0_pay148, rt_84, k0_pay115, w_15]

theorem i_3_4 : infoRow3 rwt rbt tri x (ix3 0 4 j) = mark rwt rbt x j 3 := by
  pointwise [infoRow3, k0_pay148, rt_84, k0_pay115, m_3]

theorem i_3_5 : infoRow3 rwt rbt tri x (ix3 0 5 j) = (∑ l, mark rwt rbt x l 3 * tri (ix2 l j)) - 1 := by
  pointwise [infoRow3, k0_pay148, rt_84, k0_pay115, k0_pay110, m_3]

end Cert.KernelIdeal.Hand

end
-- ==== Proof.Gather.lean ====
module

public import proofs.«01_k».proof.Proof.Spec

@[expose] public section

noncomputable section

/-! Tokens taken by rank: what a tile of ranks adds to the accumulator. -/

namespace Cert.Moe

open scoped BigOperators

open Classical in
/-- The one-hot entry of rank `first + r` and token `j`. -/
def hot (C : Fin 1024 → Prop) (ρ : Fin 1024 → ℕ) (first r : ℕ) (j : Fin 1024) : EReal := if C j ∧ ρ j = first + r then 1 else 0

/-- A row of one-hot entries times a column, summed. -/
def pick (C : Fin 1024 → Prop) (ρ : Fin 1024 → ℕ) (first r : ℕ) (a : Fin 1024 → EReal) : EReal := ∑ j, hot C ρ first r j * a j

theorem pick_eq (C : Fin 1024 → Prop) (ρ : Fin 1024 → ℕ) (hρ : ∀ i j, C i → C j → ρ i = ρ j → i = j) (first r : ℕ) (a : Fin 1024 → EReal)
    (j : Fin 1024) (hj : C j) (hr : ρ j = first + r) : pick C ρ first r a = a j := by
  unfold pick
  rw [Finset.sum_eq_single j]
  · rw [hot, if_pos ⟨hj, hr⟩, one_mul]
  · intro i _ hi
    rw [hot, if_neg (fun h => hi (hρ i j h.1 hj (h.2.trans hr.symm))), zero_mul]
  · exact fun h => absurd (Finset.mem_univ j) h

/-- What one group's experts give a token's row. -/
def give (comb : Fin 4 → EReal) (x : Fin 1024 → EReal) (wg wu : Fin 4 → Fin 1024 → Fin 512 → EReal) (wd : Fin 4 → Fin 512 → Fin 1024 → EReal) (c : Fin 1024) : EReal :=
  comb 0 * ffn x (wg 0) (wu 0) (wd 0) c + comb 1 * ffn x (wg 1) (wu 1) (wd 1) c + comb 2 * ffn x (wg 2) (wu 2) (wd 2) c
    + comb 3 * ffn x (wg 3) (wu 3) (wd 3) c

/-- What a tile of `M` ranks adds at a token and a column. -/
def tileSum (M : ℕ) (C : Fin 1024 → Prop) (ρ : Fin 1024 → ℕ) (first : ℕ) (comb : Fin 4 → Fin 1024 → EReal) (x : Fin 1024 → Fin 1024 → EReal)
    (wg wu : Fin 4 → Fin 1024 → Fin 512 → EReal) (wd : Fin 4 → Fin 512 → Fin 1024 → EReal) (j c : Fin 1024) : EReal :=
  ∑ r : Fin M, hot C ρ first r.val j * give (fun i => pick C ρ first r.val (comb i)) (fun d => pick C ρ first r.val fun l => x l d) wg wu wd c

open Classical in
theorem tileSum_eq (M : ℕ) (C : Fin 1024 → Prop) (ρ : Fin 1024 → ℕ) (hρ : ∀ i j, C i → C j → ρ i = ρ j → i = j) (first : ℕ) (comb : Fin 4 → Fin 1024 → EReal)
    (x : Fin 1024 → Fin 1024 → EReal) (wg wu : Fin 4 → Fin 1024 → Fin 512 → EReal) (wd : Fin 4 → Fin 512 → Fin 1024 → EReal) (j c : Fin 1024) :
    tileSum M C ρ first comb x wg wu wd j c = if C j ∧ first ≤ ρ j ∧ ρ j < first + M then give (fun i => comb i j) (x j) wg wu wd c else 0 := by
  unfold tileSum
  split
  · next h =>
    obtain ⟨hC, h1, h2⟩ := h
    rw [Finset.sum_eq_single (⟨ρ j - first, by omega⟩ : Fin M)]
    · have hr : ρ j = first + (ρ j - first) := by omega
      rw [hot, if_pos ⟨hC, hr⟩, one_mul]
      simp only [pick_eq C ρ hρ first _ _ j hC hr]
    · intro r _ hr
      rw [hot, if_neg (fun h => hr (Fin.ext (by show r.val = ρ j - first; omega))), zero_mul]
    · exact fun h => absurd (Finset.mem_univ _) h
  · next h =>
    refine Finset.sum_eq_zero fun r _ => ?_
    rw [hot, if_neg (fun h' => h ⟨h'.1, by omega, by omega⟩), zero_mul]

end Cert.Moe

end
-- ==== Proof.TileRead.lean ====
module

public import proofs.«01_k».proof.Proof.TilesKernelIdeal
public import proofs.«01_k».proof.Proof.Gather

@[expose] public section

set_option maxRecDepth 16384

noncomputable section

namespace Cert.KernelIdeal.Hand

open Idealize.ShloMosaic Idealize.ShloMosaic.TcCoe Idealize.SL.Sem
open Cert.KernelIdeal Cert.KernelIdeal.Gen Cert.Moe

/-- A row index past a small first rank, as a float. -/
theorem word_float (n r : ℕ) (hn : n < 65536) (hr : r < 65536) (w : BitVec 32) (hw : w = BitVec.ofNat 32 n) :
    FloatOps.sitofp (F := Ideal) .f32 (IntOp.addi (BitVec.ofNat 32 r) w) = ((n + r : ℕ) : EReal) := by
  subst hw
  show (((IntOp.addi (BitVec.ofNat 32 r) (BitVec.ofNat 32 n)).toInt : ℝ) : EReal) = _
  have : (IntOp.addi (BitVec.ofNat 32 r) (BitVec.ofNat 32 n)).toInt = ((n + r : ℕ) : ℤ) := by
    show (BitVec.ofNat 32 r + BitVec.ofNat 32 n).toInt = _
    have hx : (BitVec.ofNat 32 r + BitVec.ofNat 32 n).toNat = n + r := by
      rw [← BitVec.ofNat_add, BitVec.toNat_ofNat]; omega
    rw [BitVec.toInt_eq_toNat_of_lt (by rw [hx]; omega), hx]
  rw [this]
  norm_cast

section
variable (v5 : FVec Ideal S8x1024 .f32) (v8 : IVec S1x1024 1) (v9 : FVec Ideal S1x1024 .f32)
  (C : Fin 1024 → Prop) (ρ : Fin 1024 → ℕ) (hC : ∀ j, v8 (ix2 0 j) = 1#1 ↔ C j) (hρ : ∀ j, C j → v9 (ix2 0 j) = (ρ j : EReal))
include hC hρ

/-- The selected one-hot entry. -/
theorem hot_of (n r : ℕ) (y : EReal) (hy : y = ((n + r : ℕ) : EReal)) (j : Fin 1024) :
    Scalar.select (IntOp.andi (BitVec.ofBool (decide (v9 (ix2 0 j) = y))) (v8 (ix2 0 j))) (1 : EReal) 0 = hot C ρ n r j := by
  subst hy
  have hv : v8 (ix2 0 j) = 0#1 ∨ v8 (ix2 0 j) = 1#1 := by
    generalize v8 (ix2 0 j) = b
    revert b; decide
  unfold hot
  rcases hv with hv | hv
  · have hn : ¬ C j := fun h => by
      have := (hC j).mpr h
      rw [hv] at this; exact absurd this (by decide)
    rw [if_neg (fun h => hn h.1), hv]
    cases decide (v9 (ix2 0 j) = ((n + r : ℕ) : EReal)) <;> rfl
  · have hc : C j := (hC j).mp hv
    have he : v9 (ix2 0 j) = ((n + r : ℕ) : EReal) ↔ ρ j = n + r := by
      rw [hρ j hc]; exact Nat.cast_inj
    rw [hv]
    by_cases h : ρ j = n + r
    · rw [if_pos ⟨hc, h⟩, decide_eq_true (he.mpr h)]; rfl
    · rw [if_neg (fun h' => h h'.2), decide_eq_false (fun h' => h (he.mp h'))]; rfl

theorem hot_full (v18 : BitVec 32) (k : Fin (k0_t1_loop v18).trips) (hk : k.val < 100) (r : Fin 288) (j : Fin 1024) :
    k0_pay116 (F := Ideal) v8 v9 v18 0#32 1#32 k (ix2 r j) = hot C ρ (288 * k.val) r.val j := by
  pointwise [k0_pay116]
  refine hot_of v8 v9 C ρ hC hρ (288 * k.val) r.val _ (word_float _ _ (by omega) (by omega) _ ?_) j
  show (0#32 + BitVec.ofNat 32 k.val * 1#32) * 288#32 = BitVec.ofNat 32 (288 * k.val)
  apply BitVec.eq_of_toNat_eq
  simp [BitVec.toNat_add, BitVec.toNat_mul]
  omega

theorem hot_last (q : ℕ) (hq : q < 100) (r : Fin 288) (j : Fin 1024) :
    k0_pay132 (F := Ideal) v8 v9 (BitVec.ofNat 32 q) (ix2 r j) = hot C ρ (288 * q) r.val j := by
  pointwise [k0_pay132]
  refine hot_of v8 v9 C ρ hC hρ (288 * q) r.val _ (word_float _ _ (by omega) (by omega) _ ?_) j
  show BitVec.ofNat 32 q * 288#32 = BitVec.ofNat 32 (288 * q)
  apply BitVec.eq_of_toNat_eq
  simp [BitVec.toNat_mul]
  omega

theorem hot_tail (q : ℕ) (hq : q < 100) (r : Fin 64) (j : Fin 1024) :
    k0_pay140 (F := Ideal) v8 v9 (BitVec.ofNat 32 q) (ix2 r j) = hot C ρ (288 * q) r.val j := by
  pointwise [k0_pay140]
  refine hot_of v8 v9 C ρ hC hρ (288 * q) r.val _ (word_float _ _ (by omega) (by omega) _ ?_) j
  show BitVec.ofNat 32 q * 288#32 = BitVec.ofNat 32 (288 * q)
  apply BitVec.eq_of_toNat_eq
  simp [BitVec.toNat_mul]
  omega

theorem xg_full (v18 : BitVec 32) (k : Fin (k0_t1_loop v18).trips) (hk : k.val < 100) (x : Vec Ideal S1024x1024 .bf16) (r : Fin 288) (d : Fin 1024) :
    k0_pay118 (F := Ideal) v8 v9 v18 0#32 1#32 k (View.ld x (Rect.unit (s := S1024x1024) ![0, 0] S1024x1024.size inb_S1024x1024_S1024x1024_0_0)) (ix2 r d)
      = pick C ρ (288 * k.val) r.val fun l => x (ix2 l d) := by
  pointwise [k0_pay118, k0_pay117, hot_full v8 v9 C ρ hC hρ v18 k hk]
  rfl

theorem xg_last (q : ℕ) (hq : q < 100) (x : Vec Ideal S1024x1024 .bf16) (r : Fin 288) (d : Fin 1024) :
    k0_pay134 (F := Ideal) v8 v9 (BitVec.ofNat 32 q) (View.ld x (Rect.unit (s := S1024x1024) ![0, 0] S1024x1024.size inb_S1024x1024_S1024x1024_0_0)) (ix2 r d)
      = pick C ρ (288 * q) r.val fun l => x (ix2 l d) := by
  pointwise [k0_pay134, k0_pay133, hot_last v8 v9 C ρ hC hρ q hq]
  rfl

theorem xg_tail (q : ℕ) (hq : q < 100) (x : Vec Ideal S1024x1024 .bf16) (r : Fin 64) (d : Fin 1024) :
    k0_pay142 (F := Ideal) v8 v9 (BitVec.ofNat 32 q) (View.ld x (Rect.unit (s := S1024x1024) ![0, 0] S1024x1024.size inb_S1024x1024_S1024x1024_0_0)) (ix2 r d)
      = pick C ρ (288 * q) r.val fun l => x (ix2 l d) := by
  pointwise [k0_pay142, k0_pay141, hot_tail v8 v9 C ρ hC hρ q hq]
  rfl

variable (xb : Vec Ideal S1024x1024 .bf16) (wg wu : Vec Ideal S4x1024x512 .bf16) (wd : Vec Ideal S4x512x1024 .bf16) (acc : Vec Ideal S1024x1024 .f32) (j c : Fin 1024)

theorem full_apply (v18 : BitVec 32) (k : Fin (k0_t1_loop v18).trips) (hk : k.val < 100) :
    fullTile v5 v8 v9 v18 k xb wg wu wd acc (ix2 j c)
      = acc (ix2 j c) + tileSum 288 C ρ (288 * k.val) (fun i l => v5 (ix2 (i.castLE (by omega)) l)) (fun l d => xb (ix2 l d))
          (fun i d f => wg (ix3 i d f)) (fun i d f => wu (ix3 i d f)) (fun i f d => wd (ix3 i f d)) j c := by
  pointwise [fullTile, k0_pay1, k0_pay119, k0_pay120, k0_pay121, k0_pay122, k0_pay123, k0_pay117, hot_full v8 v9 C ρ hC hρ v18 k hk, xg_full v8 v9 C ρ hC hρ v18 k hk]
  rfl

theorem last_apply (q : ℕ) (hq : q < 100) :
    lastTile v5 v8 v9 (BitVec.ofNat 32 q) xb wg wu wd acc (ix2 j c)
      = acc (ix2 j c) + tileSum 288 C ρ (288 * q) (fun i l => v5 (ix2 (i.castLE (by omega)) l)) (fun l d => xb (ix2 l d))
          (fun i d f => wg (ix3 i d f)) (fun i d f => wu (ix3 i d f)) (fun i f d => wd (ix3 i f d)) j c := by
  pointwise [lastTile, k0_pay3, k0_pay135, k0_pay136, k0_pay137, k0_pay138, k0_pay139, k0_pay133, hot_last v8 v9 C ρ hC hρ q hq, xg_last v8 v9 C ρ hC hρ q hq]
  rfl

theorem tail_apply (q : ℕ) (hq : q < 100) :
    tailTile v5 v8 v9 (BitVec.ofNat 32 q) xb wg wu wd acc (ix2 j c)
      = acc (ix2 j c) + tileSum 64 C ρ (288 * q) (fun i l => v5 (ix2 (i.castLE (by omega)) l)) (fun l d => xb (ix2 l d))
          (fun i d f => wg (ix3 i d f)) (fun i d f => wu (ix3 i d f)) (fun i f d => wd (ix3 i f d)) j c := by
  pointwise [tailTile, k0_pay4, k0_pay143, k0_pay144, k0_pay145, k0_pay146, k0_pay147, k0_pay141, hot_tail v8 v9 C ρ hC hρ q hq, xg_tail v8 v9 C ρ hC hρ q hq]
  rfl

end

/-- The full tiles in a count. -/
theorem full_word : ∀ n : Fin 1025, full (BitVec.ofNat 32 n.val) = BitVec.ofNat 32 (n.val / 288) := by
  decide +kernel

theorem last_word : ∀ n : Fin 1025, condLast (BitVec.ofNat 32 n.val) ↔ 64 < n.val % 288 := by
  decide +kernel

theorem tail_word : ∀ n : Fin 1025, condTail (BitVec.ofNat 32 n.val) ↔ 0 < n.val % 288 ∧ n.val % 288 ≤ 64 := by
  decide +kernel

end Cert.KernelIdeal.Hand

end
-- ==== Proof.GroupRead.lean ====
module

public import proofs.«01_k».proof.Proof.TileRead
public import proofs.«01_k».proof.Proof.Rank

@[expose] public section

set_option maxRecDepth 16384

noncomputable section

/-! What a group's grid point adds to the accumulator: its experts' weighted outputs at the tokens that chose the group. -/

namespace Cert.KernelIdeal.Hand

open Idealize.ShloMosaic Idealize.ShloMosaic.TcCoe Idealize.SL.Sem
open Cert.KernelIdeal Cert.KernelIdeal.Gen Cert.Moe

/-- The four experts' weighted outputs at a token and a column. -/
def given (v5 : Vec Ideal S8x1024 .f32) (xb : Vec Ideal S1024x1024 .bf16) (wg wu : Vec Ideal S4x1024x512 .bf16) (wd : Vec Ideal S4x512x1024 .bf16) (j c : Fin 1024) : EReal :=
  give (fun i => v5 (ix2 (i.castLE (by omega)) j)) (fun d => xb (ix2 j d)) (fun i d f => wg (ix3 i d f)) (fun i d f => wu (ix3 i d f)) (fun i f d => wd (ix3 i f d)) c

section
variable (v5 : Vec Ideal S8x1024 .f32) (v8 : IVec S1x1024 1) (v9 : Vec Ideal S1x1024 .f32) (C : Fin 1024 → Prop) (ρ : Fin 1024 → ℕ)
  (hC : ∀ j, v8 (ix2 0 j) = 1#1 ↔ C j) (hρ : ∀ j, C j → v9 (ix2 0 j) = (ρ j : EReal)) (hi : ∀ i j, C i → C j → ρ i = ρ j → i = j)
  (n : ℕ) (hn : n ≤ 1024) (hb : ∀ j, C j → ρ j < n)
  (xb : Vec Ideal S1024x1024 .bf16) (wg wu : Vec Ideal S4x1024x512 .bf16) (wd : Vec Ideal S4x512x1024 .bf16) (acc : Vec Ideal S1024x1024 .f32) (j c : Fin 1024)

theorem trips_eq (hn : n ≤ 1024) : (k0_t1_loop (BitVec.ofNat 32 n)).trips = n / 288 := by
  have hw := full_word ⟨n, by omega⟩
  have ht : (full (BitVec.ofNat 32 n)).toInt = ((n / 288 : ℕ) : ℤ) := by
    rw [show full (BitVec.ofNat 32 n) = BitVec.ofNat 32 (n / 288) from hw, BitVec.toInt_eq_toNat_of_lt (by simp; omega)]
    simp; omega
  rw [trips1 _ (by rw [ht]; omega), ht]; rfl

include hC hρ hi in
open Classical in
theorem fulls_apply (hn : n ≤ 1024) (k : ℕ) (hk : k ≤ n / 288) :
    fullTiles v5 v8 v9 (BitVec.ofNat 32 n) xb wg wu wd acc k (ix2 j c) = acc (ix2 j c) + if C j ∧ ρ j < 288 * k then given v5 xb wg wu wd j c else 0 := by
  induction k with
  | zero => simp [fullTiles]
  | succ k ih =>
    have hlt : k < (k0_t1_loop (BitVec.ofNat 32 n)).trips := by rw [trips_eq n hn]; omega
    unfold fullTiles
    rw [dif_pos hlt, full_apply v5 v8 v9 C ρ hC hρ xb wg wu wd _ j c _ ⟨k, hlt⟩ (by show k < 100; omega), ih (by omega), tileSum_eq _ C ρ hi, add_assoc]
    congr 1
    show (if C j ∧ ρ j < 288 * k then given v5 xb wg wu wd j c else 0) + (if C j ∧ 288 * k ≤ ρ j ∧ ρ j < 288 * k + 288 then given v5 xb wg wu wd j c else 0) = _
    by_cases h : C j
    · by_cases h1 : ρ j < 288 * k
      · rw [if_pos ⟨h, h1⟩, if_neg (by omega), if_pos ⟨h, by omega⟩, add_zero]
      · by_cases h2 : ρ j < 288 * (k + 1)
        · rw [if_neg (by omega), if_pos ⟨h, by omega, by omega⟩, if_pos ⟨h, h2⟩, zero_add]
        · rw [if_neg (by omega), if_neg (by omega), if_neg (by omega), zero_add]
    · rw [if_neg (fun a => h a.1), if_neg (fun a => h a.1), if_neg (fun a => h a.1), zero_add]

include hC hρ hi hn hb in
open Classical in
theorem group_apply :
    groupTail v5 v8 v9 (BitVec.ofNat 32 n) xb wg wu wd (groupLast v5 v8 v9 (BitVec.ofNat 32 n) xb wg wu wd
      (fullTiles v5 v8 v9 (BitVec.ofNat 32 n) xb wg wu wd acc (k0_t1_loop (BitVec.ofNat 32 n)).trips)) (ix2 j c)
      = acc (ix2 j c) + if C j then given v5 xb wg wu wd j c else 0 := by
  have hf := fulls_apply v5 v8 v9 C ρ hC hρ hi n xb wg wu wd acc j c hn (n / 288) le_rfl
  rw [← trips_eq n hn] at hf
  have hw : full (BitVec.ofNat 32 n) = BitVec.ofNat 32 (n / 288) := full_word ⟨n, by omega⟩
  have hl : condLast (BitVec.ofNat 32 n) ↔ 64 < n % 288 := last_word ⟨n, by omega⟩
  have ht : condTail (BitVec.ofNat 32 n) ↔ 0 < n % 288 ∧ n % 288 ≤ 64 := tail_word ⟨n, by omega⟩
  have hbj := hb j
  unfold groupTail groupLast
  rw [hw]
  by_cases h1 : 64 < n % 288
  · rw [if_pos (hl.2 h1), if_neg (fun a => by have := (ht.1 a).2; omega), last_apply v5 v8 v9 C ρ hC hρ xb wg wu wd _ j c _ (by omega), hf, tileSum_eq _ C ρ hi, add_assoc,
      trips_eq n hn]
    congr 1
    show (if C j ∧ ρ j < 288 * (n / 288) then given v5 xb wg wu wd j c else 0) + (if C j ∧ 288 * (n / 288) ≤ ρ j ∧ ρ j < 288 * (n / 288) + 288 then given v5 xb wg wu wd j c else 0) = _
    by_cases h : C j
    · have := hbj h
      by_cases h1 : ρ j < 288 * (n / 288)
      · rw [if_pos ⟨h, h1⟩, if_neg (by omega), if_pos h, add_zero]
      · rw [if_neg (by omega), if_pos ⟨h, by omega, by omega⟩, if_pos h, zero_add]
    · rw [if_neg (fun a => h a.1), if_neg (fun a => h a.1), if_neg h, zero_add]
  · by_cases h0 : 0 < n % 288
    · rw [if_neg (fun a => h1 (hl.1 a)), if_pos (ht.2 ⟨h0, by omega⟩), tail_apply v5 v8 v9 C ρ hC hρ xb wg wu wd _ j c _ (by omega), hf, tileSum_eq _ C ρ hi, add_assoc,
        trips_eq n hn]
      congr 1
      show (if C j ∧ ρ j < 288 * (n / 288) then given v5 xb wg wu wd j c else 0) + (if C j ∧ 288 * (n / 288) ≤ ρ j ∧ ρ j < 288 * (n / 288) + 64 then given v5 xb wg wu wd j c else 0) = _
      by_cases h : C j
      · have := hbj h
        by_cases h1 : ρ j < 288 * (n / 288)
        · rw [if_pos ⟨h, h1⟩, if_neg (by omega), if_pos h, add_zero]
        · rw [if_neg (by omega), if_pos ⟨h, by omega, by omega⟩, if_pos h, zero_add]
      · rw [if_neg (fun a => h a.1), if_neg (fun a => h a.1), if_neg h, zero_add]
    · rw [if_neg (fun a => h1 (hl.1 a)), if_neg (fun a => h0 (ht.1 a).1), hf, trips_eq n hn]
      congr 1
      by_cases h : C j
      · have := hbj h
        rw [if_pos ⟨h, by omega⟩, if_pos h]
      · rw [if_neg (fun a => h a.1), if_neg h]

end

/-- How far a list of tokens' ranks goes. -/
def reach (C : Fin 1024 → Prop) (ρ : Fin 1024 → ℕ) : ℕ := open Classical in Finset.univ.sup fun j => if C j then ρ j + 1 else 0

theorem fptosi_nat (n : ℕ) (hn : n ≤ 1024) : Scalar.fptosi (F := Ideal) (φ := .f32) 32 ((n : EReal)) = BitVec.ofNat 32 n := by
  show Ideal.fptosi 32 (((n : ℝ) : EReal)) = _
  rw [Ideal.fptosi, Ideal.toIntClamped_coe, if_pos (Nat.cast_nonneg n), Int.floor_natCast]
  have : max (-((2 ^ (32 - 1) : ℕ) : ℤ)) (min (((2 ^ (32 - 1) : ℕ) : ℤ) - 1) (n : ℤ)) = (n : ℤ) := by norm_num; omega
  rw [this, BitVec.ofInt_natCast]

theorem half_lt (p : Prop) [Decidable p] : Ideal.ofBits FTy.f32 1056964608#32 < (if p then 1 else 0 : EReal) ↔ p := by
  rw [half_eq]
  by_cases h : p
  · rw [if_pos h]; simp only [h, iff_true]; exact_mod_cast (by norm_num : (1 / 2 : ℝ) < 1)
  · rw [if_neg h]; simp only [h, iff_false, not_lt]; exact_mod_cast (by norm_num : (0 : ℝ) ≤ 1 / 2)

section
variable (row : Vec Ideal S1x8x1024 .f32) (C : Fin 1024 → Prop) (ρ : Fin 1024 → ℕ)

open Classical in
theorem count_eq (h4 : ∀ j, row (ix3 0 4 j) = if C j then (1 : EReal) else 0) (h5 : ∀ j, C j → row (ix3 0 5 j) = (ρ j : EReal)) :
    k0_pay153 row = ((reach C ρ : ℕ) : EReal) := by
  pointwise [k0_pay153, k0_pay152, k0_pay151, k0_pay150]
  have hv : ∀ j : Fin 1024, (if Ideal.ofBits FTy.f32 1056964608#32 < row (ix3 0 4 j) then row (ix3 0 5 j) + 1 else 0 : EReal) = (((if C j then ρ j + 1 else 0 : ℕ) : ℕ) : EReal) := by
    intro j
    rw [h4 j]
    by_cases h : C j
    · rw [if_pos ((half_lt (C j)).2 h), if_pos h, h5 j h]; push_cast; rfl
    · rw [if_neg (fun a => h ((half_lt (C j)).1 a)), if_neg h]; exact Nat.cast_zero.symm
  simp only [hv]
  have hb : Ideal.ofBits FTy.f32 4286578688#32 = ⊥ := by simp [Ideal.ofBits, Ideal.ieee]
  rw [hb]
  apply le_antisymm
  · exact Finset.fold_max_le _ |>.2 ⟨bot_le, fun x _ => Nat.cast_le.2 (Finset.le_sup (f := fun j => if C j then ρ j + 1 else 0) (Finset.mem_univ x.2))⟩
  · obtain ⟨j, _, hj⟩ := Finset.exists_mem_eq_sup Finset.univ ⟨(0 : Fin 1024), Finset.mem_univ _⟩ fun j => if C j then ρ j + 1 else 0
    unfold reach
    rw [hj]
    exact Finset.le_fold_max _ |>.2 (Or.inr ⟨(0, j), Finset.mem_univ _, le_rfl⟩)

theorem reach_le (hr : ∀ j, C j → ρ j < 1024) : reach C ρ ≤ 1024 := by
  classical
  unfold reach
  refine Finset.sup_le fun j _ => ?_
  by_cases h : C j
  · rw [if_pos h]; exact hr j h
  · rw [if_neg h]; omega

theorem lt_reach (j : Fin 1024) (h : C j) : ρ j < reach C ρ := by
  classical
  unfold reach
  have := Finset.le_sup (f := fun j => if C j then ρ j + 1 else 0) (Finset.mem_univ j)
  simp only [if_pos h] at this
  exact this

open Classical in
/-- A group's grid point adds its experts' weighted outputs at the tokens its rows mark. -/
theorem groupAcc_apply (h4 : ∀ j, row (ix3 0 4 j) = if C j then (1 : EReal) else 0) (h5 : ∀ j, C j → row (ix3 0 5 j) = (ρ j : EReal))
    (hi : ∀ i j, C i → C j → ρ i = ρ j → i = j) (hr : ∀ j, C j → ρ j < 1024)
    (xb : Vec Ideal S1024x1024 .bf16) (wg wu : Vec Ideal S4x1024x512 .bf16) (wd : Vec Ideal S4x512x1024 .bf16) (acc : Vec Ideal S1024x1024 .f32) (j c : Fin 1024) :
    groupAcc row xb wg wu wd acc (ix2 j c) = acc (ix2 j c) + if C j then
      give (fun i => row (ix3 0 (i.castLE (by omega)) j)) (fun d => xb (ix2 j d)) (fun i d f => wg (ix3 i d f)) (fun i d f => wu (ix3 i d f)) (fun i f d => wd (ix3 i f d)) c else 0 := by
  have hn := fptosi_nat (reach C ρ) (reach_le C ρ hr)
  rw [← count_eq row C ρ h4 h5] at hn
  unfold groupAcc
  rw [show Scalar.fptosi (F := Ideal) (φ := .f32) 32 (k0_pay153 row) = BitVec.ofNat 32 (reach C ρ) from hn]
  rw [group_apply (k0_pay150 row) (k0_pay151 row) (k0_pay152 row) C ρ ?_ ?_ hi (reach C ρ) (reach_le C ρ hr) (lt_reach C ρ)]
  · unfold given
    pointwise [k0_pay150]
  · intro j
    pointwise [k0_pay151, k0_pay150]
    rw [ofBool_decide, bit_one, h4 j]
    exact half_lt _
  · intro j h
    pointwise [k0_pay152, k0_pay150]
    exact h5 j h

end

end Cert.KernelIdeal.Hand

end
-- ==== Proof.BlockRead.lean ====
module

public import proofs.«01_k».proof.Proof.RouteRead
public import proofs.«01_k».proof.Proof.GroupRead
public import proofs.«01_k».proof.Proof.FrameKernelIdeal

@[expose] public section

set_option maxRecDepth 16384

noncomputable section

/-! One block of tokens: each group's grid point adds that group's part, and the output is the layer's. -/

namespace Cert.KernelIdeal.Hand

open Idealize.ShloMosaic Idealize.ShloMosaic.TcCoe Idealize.SL.Sem
open Cert.KernelIdeal Cert.KernelIdeal.Gen Cert.Moe

/-- How many marked tokens stand before one. -/
def rankOf (C : Fin 1024 → Prop) (j : Fin 1024) : ℕ := open Classical in (Finset.univ.filter fun l => C l ∧ l < j).card

theorem rankOf_lt (C : Fin 1024 → Prop) (j : Fin 1024) : rankOf C j < 1024 := by
  classical
  unfold rankOf
  refine lt_of_lt_of_eq (Finset.card_lt_univ_of_notMem (x := j) ?_) (Fintype.card_fin 1024)
  simp

theorem rankOf_mono (C : Fin 1024 → Prop) {i j : Fin 1024} (h : C i) (hij : i < j) : rankOf C i < rankOf C j := by
  classical
  unfold rankOf
  refine Finset.card_lt_card ⟨fun l hl => ?_, fun hs => ?_⟩
  · simp only [Finset.mem_filter, Finset.mem_univ, true_and] at hl ⊢
    exact ⟨hl.1, hl.2.trans hij⟩
  · have := @hs i (by simp [h, hij])
    simp at this

theorem rankOf_inj (C : Fin 1024 → Prop) (i j : Fin 1024) (hi : C i) (hj : C j) (h : rankOf C i = rankOf C j) : i = j := by
  rcases lt_trichotomy i j with hl | hl | hl
  · exact absurd h (ne_of_lt (rankOf_mono C hi hl))
  · exact hl
  · exact absurd h (ne_of_gt (rankOf_mono C hj hl))

open Classical in
theorem rankOf_sum (C : Fin 1024 → Prop) (j : Fin 1024) (hj : C j) :
    (∑ l, (if C l then (1 : EReal) else 0) * (if l ≤ j then 1 else 0)) - 1 = ((rankOf C j : ℕ) : EReal) := by
  have h1 : ∀ l, (if C l then (1 : EReal) else 0) * (if l ≤ j then 1 else 0) = if C l ∧ l ≤ j then 1 else 0 := by
    intro l
    by_cases h : C l <;> by_cases h' : l ≤ j <;> simp [h, h']
  have h2 : (Finset.univ.filter fun l => C l ∧ l ≤ j).card = rankOf C j + 1 := by
    unfold rankOf
    rw [← Finset.card_insert_of_notMem (a := j) (by simp)]
    congr 1
    ext l
    simp only [Finset.mem_filter, Finset.mem_univ, true_and, Finset.mem_insert]
    constructor
    · rintro ⟨a, b⟩
      rcases lt_or_eq_of_le b with b | b
      · exact .inr ⟨a, b⟩
      · exact .inl b
    · rintro (rfl | ⟨a, b⟩)
      · exact ⟨hj, le_rfl⟩
      · exact ⟨a, b.le⟩
  rw [Finset.sum_congr rfl fun l _ => h1 l, Finset.sum_boole, h2]
  push_cast
  show ((((rankOf C j : ℕ) : ℝ) : EReal) + ((1 : ℝ) : EReal)) - ((1 : ℝ) : EReal) = (((rankOf C j : ℕ) : ℝ) : EReal)
  rw [← EReal.coe_add, ← EReal.coe_sub, add_sub_cancel_right]

theorem put_read (p : ℕ) (x : Vec Ideal S4x8x1024 .f32) (w : Vec Ideal S1x8x1024 .f32) (q : Fin 4) (a : Fin 8) (j : Fin 1024) :
    (VecWindow.put x ![p, 0, 0] S1x8x1024.size w : Vec Ideal S4x8x1024 .f32) (ix3 q a j) = if q.val = p then w (ix3 0 a j) else x (ix3 q a j) := by
  unfold VecWindow.put
  by_cases h : q.val = p
  · rw [if_pos h, dif_pos]
    · refine congrArg w (funext fun d => Fin.ext ?_)
      fin_cases d
      · show q.val - p = 0
        omega
      · exact Nat.sub_zero _
      · exact Nat.sub_zero _
    · intro d
      fin_cases d
      · show p ≤ q.val ∧ q.val < p + 1
        omega
      · exact ⟨Nat.zero_le _, by show a.val < 0 + 8; omega⟩
      · exact ⟨Nat.zero_le _, by show j.val < 0 + 1024; omega⟩
  · rw [if_neg h, dif_neg]
    intro hall
    have h0 : p ≤ q.val ∧ q.val < p + 1 := hall 0
    omega

theorem rowAt_apply (i : grid0.Coords) (q : Fin 4) (hq : k0_off1 i = ![q.val, 0, 0]) (info : Vec Ideal S4x8x1024 .f32) (a : Fin 8) (j : Fin 1024) :
    rowAt i info (ix3 0 a j) = info (ix3 q a j) := by
  show info ((Rect.unit (s := S4x8x1024) (k0_off1 i) S1x8x1024.size (k0_off1_inb i)).emb (ix3 0 a j)) = _
  refine congrArg info (funext fun d => Fin.ext ?_)
  show k0_off1 i d + 1 * ((ix3 0 a j : S1x8x1024.Idx) d).val = _
  rw [hq]
  fin_cases d
  · show q.val + 1 * 0 = q.val; omega
  · show 0 + 1 * a.val = a.val; omega
  · show 0 + 1 * j.val = j.val; omega

section
variable (rwt : Vec Ideal S16x1024 .f32) (rbt : Vec Ideal S128x128 .f32) (tri : Vec Ideal S1024x1024 .bf16) (x : Vec Ideal S1024x1024 .f32) (j : Fin 1024)

theorem info_comb (q a : Fin 4) : infoOf rwt rbt tri x (ix3 q (a.castLE (by omega)) j) = Ideal.div (gT rwt rbt x j q a) (total (pT rwt x j) (vT rwt rbt x j)) := by
  unfold infoOf
  rw [put_read, put_read, put_read, put_read]
  fin_cases q <;> fin_cases a
  · exact i_0_0 rwt rbt tri x j
  · exact i_0_1 rwt rbt tri x j
  · exact i_0_2 rwt rbt tri x j
  · exact i_0_3 rwt rbt tri x j
  · exact i_1_0 rwt rbt tri x j
  · exact i_1_1 rwt rbt tri x j
  · exact i_1_2 rwt rbt tri x j
  · exact i_1_3 rwt rbt tri x j
  · exact i_2_0 rwt rbt tri x j
  · exact i_2_1 rwt rbt tri x j
  · exact i_2_2 rwt rbt tri x j
  · exact i_2_3 rwt rbt tri x j
  · exact i_3_0 rwt rbt tri x j
  · exact i_3_1 rwt rbt tri x j
  · exact i_3_2 rwt rbt tri x j
  · exact i_3_3 rwt rbt tri x j

theorem info_mark (q : Fin 4) : infoOf rwt rbt tri x (ix3 q 4 j) = mark rwt rbt x j q := by
  unfold infoOf
  rw [put_read, put_read, put_read, put_read]
  fin_cases q
  · exact i_0_4 rwt rbt tri x j
  · exact i_1_4 rwt rbt tri x j
  · exact i_2_4 rwt rbt tri x j
  · exact i_3_4 rwt rbt tri x j

theorem info_rank (q : Fin 4) : infoOf rwt rbt tri x (ix3 q 5 j) = (∑ l, mark rwt rbt x l q * tri (ix2 l j)) - 1 := by
  unfold infoOf
  rw [put_read, put_read, put_read, put_read]
  fin_cases q
  · exact i_0_5 rwt rbt tri x j
  · exact i_1_5 rwt rbt tri x j
  · exact i_2_5 rwt rbt tri x j
  · exact i_3_5 rwt rbt tri x j

theorem xbOf_apply (d : Fin 1024) : xbOf x (ix2 j d) = x (ix2 j d) := by
  pointwise [xbOf, k0_pay6]

open Classical in
/-- A group's grid point adds the group's part at the tokens that chose it. -/
theorem step_apply (ht : ∀ l j : Fin 1024, tri (ix2 l j) = if l ≤ j then (1 : EReal) else 0) (i : grid0.Coords) (q : Fin 4) (hq : k0_off1 i = ![q.val, 0, 0])
    (WG WU : Fin 16 → Fin 1024 → Fin 512 → EReal) (WD : Fin 16 → Fin 512 → Fin 1024 → EReal)
    (wg wu : Vec Ideal S4x1024x512 .bf16) (wd : Vec Ideal S4x512x1024 .bf16)
    (hg : ∀ a d f, wg (ix3 a d f) = WG (expert q a) d f) (hu : ∀ a d f, wu (ix3 a d f) = WU (expert q a) d f) (hd : ∀ a f d, wd (ix3 a f d) = WD (expert q a) f d)
    (acc : Vec Ideal S1024x1024 .f32) (c : Fin 1024) :
    groupAcc (rowAt i (infoOf rwt rbt tri x)) (xbOf x) wg wu wd acc (ix2 j c)
      = acc (ix2 j c) + if Cert.Moe.taken (vT rwt rbt x j) q then part (pT rwt x j) (vT rwt rbt x j) (fun k => x (ix2 j k)) WG WU WD q c else 0 := by
  rw [groupAcc_apply (rowAt i (infoOf rwt rbt tri x)) (fun j => Cert.Moe.taken (vT rwt rbt x j) q) (rankOf fun j => Cert.Moe.taken (vT rwt rbt x j) q)
    (fun j => (rowAt_apply i q hq _ 4 j).trans (info_mark rwt rbt tri x j q)) ?_ (rankOf_inj _) (fun j _ => rankOf_lt _ j)]
  · congr 1
    by_cases h : Cert.Moe.taken (vT rwt rbt x j) q
    · rw [if_pos h, if_pos h]
      have hw : ∀ a : Fin 4, rowAt i (infoOf rwt rbt tri x) (ix3 0 (a.castLE (by omega)) j) = weight (pT rwt x j) (vT rwt rbt x j) q a := by
        intro a
        rw [rowAt_apply i q hq, info_comb]
        unfold weight gT
        rw [if_pos h]
      unfold give part
      simp only [hw, hg, hu, hd, xbOf_apply]
      rw [Fin.sum_univ_four]
    · rw [if_neg h, if_neg h]
  · intro j h
    rw [rowAt_apply i q hq, info_rank]
    simp only [ht]
    exact rankOf_sum _ j h

theorem out_apply (acc : Vec Ideal S1024x1024 .f32) (g b : Vec Ideal S1x1024 .f32) (c : Fin 1024) :
    outOf x acc g b (ix2 j c) = norm (resid (fun k => x (ix2 j k)) fun d => acc (ix2 j d)) (fun k => g (ix2 0 k)) (fun k => b (ix2 0 k)) c := by
  pointwise [outOf, k0_pay5]
  rfl

theorem start_apply (c : Fin 1024) : k0_pay149 (F := Ideal) (ix2 j c) = (0 : EReal) := by
  pointwise [k0_pay149]

end

end Cert.KernelIdeal.Hand

end
-- ==== Proof.Layer.lean ====
module

public import proofs.«01_k».proof.Proof.HostRead
public import proofs.«01_k».proof.Proof.BlockIn
public import proofs.«01_k».proof.Proof.BlockRead

@[expose] public section

set_option maxRecDepth 16384

noncomputable section

/-! What scratch holds along a block of tokens, and the array the kernel leaves. -/

namespace Cert.KernelIdeal.Hand

open Idealize.ShloMosaic Idealize.ShloMosaic.TcCoe Idealize.SL.Sem
open Cert.KernelIdeal Cert.KernelIdeal.Gen Cert.Moe

variable (m : (ℓ : Loc nD τ sig) → Buf (Elt Ideal) ℓ) (c : Dev nD)

/-- The rows of a block of tokens. -/
def rowsOf (a : Vec Ideal S32768x1024 .f32) (r : Fin 32) : Vec Ideal S1024x1024 .f32 :=
  fun y => a (ix2 ⟨1024 * r.val + (y 0).val, by have h : (y 0).val < 1024 := (y 0).isLt; have := r.isLt; omega⟩ (y 1))

/-- The block of tokens a grid point works on. -/
def blockOf (t : Fin cfg0.N) : Fin 32 := ⟨t.val / 4, by have h : t.val < 128 := t.isLt; omega⟩

/-- The group a grid point works on. -/
def groupOf (t : Fin cfg0.N) : Fin 4 := ⟨t.val % 4, Nat.mod_lt _ (by decide)⟩

/-- The router's weights, transposed. -/
def rwtOf (a : Vec Ideal S1024x16 .f32) : Vec Ideal S16x1024 .f32 := transpose S16x1024 [1, 0] a transposes_S1024x16_S16x1024_1_0

theorem blk_x (t : Fin cfg0.N) : iblk m c 3 t = rowsOf (m ((c.tc : Thread nD τ).loc main_arg0)) (blockOf t) := by
  funext y
  have e : y = ix2 (n0 := 1024) (n1 := 1024) (y 0) (y 1) := eq_ix2 y
  rw [e]
  exact read_x m c t (y 0) (y 1) _

theorem blk_rwt (t : Fin cfg0.N) : iblk m c 0 t = rwtOf (m ((c.tc : Thread nD τ).loc main_arg1)) := by
  funext y
  have e : y = ix2 (n0 := 16) (n1 := 1024) (y 0) (y 1) := eq_ix2 y
  rw [e]
  refine (whole_0 t (V m c main_v7) (y 0) (y 1)).trans ?_
  rw [V_rwt]
  rfl

theorem blk_bias (t : Fin cfg0.N) : iblk m c 1 t = biasOf (m ((c.tc : Thread nD τ).loc main_arg2)) := by
  funext y
  have e : y = ix2 (n0 := 128) (n1 := 128) (y 0) (y 1) := eq_ix2 y
  rw [e]
  refine (whole_1 t (V m c main_v6) (y 0) (y 1)).trans ?_
  rw [V_bias]

theorem blk_tri (t : Fin cfg0.N) : iblk m c 2 t = triOf := by
  funext y
  have e : y = ix2 (n0 := 1024) (n1 := 1024) (y 0) (y 1) := eq_ix2 y
  rw [e]
  refine (whole_2 t (V m c main_v14) (y 0) (y 1)).trans ?_
  rw [V_tri]

theorem blk_scale (t : Fin cfg0.N) (k : Fin 1024) : iblk m c 7 t (ix2 0 k) = m ((c.tc : Thread nD τ).loc main_arg6) (ix1 k) := by
  refine (whole_7 t (V m c main_v11) 0 k).trans ?_
  rw [V_scale]
  exact flat_apply _ k

theorem blk_shift (t : Fin cfg0.N) (k : Fin 1024) : iblk m c 8 t (ix2 0 k) = m ((c.tc : Thread nD τ).loc main_arg7) (ix1 k) := by
  refine (whole_8 t (V m c main_v12) 0 k).trans ?_
  rw [V_shift]
  exact flat_apply _ k

theorem group_off : ∀ t : Fin grid0.N, k0_off1 (grid0.coords t) = ![t.val % 4, 0, 0] := by decide +kernel

/-- The experts' weights, as the layer takes them. -/
def wgOf (a : Vec Ideal S16x1024x512 .f32) (e : Fin 16) (k : Fin 1024) (f : Fin 512) : EReal := a (ix3 e k f)
def wdOf (a : Vec Ideal S16x512x1024 .f32) (e : Fin 16) (f : Fin 512) (k : Fin 1024) : EReal := a (ix3 e f k)

open Classical in
/-- What group `q` adds at a token of block `r`. -/
def addend (r : Fin 32) (j d : Fin 1024) (q : Fin 4) : EReal :=
  if Cert.Moe.taken (vT (rwtOf (m ((c.tc : Thread nD τ).loc main_arg1))) (biasOf (m ((c.tc : Thread nD τ).loc main_arg2))) (rowsOf (m ((c.tc : Thread nD τ).loc main_arg0)) r) j) q
  then part (pT (rwtOf (m ((c.tc : Thread nD τ).loc main_arg1))) (rowsOf (m ((c.tc : Thread nD τ).loc main_arg0)) r) j)
    (vT (rwtOf (m ((c.tc : Thread nD τ).loc main_arg1))) (biasOf (m ((c.tc : Thread nD τ).loc main_arg2))) (rowsOf (m ((c.tc : Thread nD τ).loc main_arg0)) r) j)
    (fun k => rowsOf (m ((c.tc : Thread nD τ).loc main_arg0)) r (ix2 j k)) (wgOf (m ((c.tc : Thread nD τ).loc main_arg3))) (wgOf (m ((c.tc : Thread nD τ).loc main_arg4)))
    (wdOf (m ((c.tc : Thread nD τ).loc main_arg5))) q d
  else 0

/-- A grid point adds its group's addend. -/
theorem adds (t : Fin cfg0.N) (acc : Vec Ideal S1024x1024 .f32) (j d : Fin 1024) :
    groupAcc (rowAt (grid0.coords t) (infoOf (rwtOf (m ((c.tc : Thread nD τ).loc main_arg1))) (biasOf (m ((c.tc : Thread nD τ).loc main_arg2))) triOf (rowsOf (m ((c.tc : Thread nD τ).loc main_arg0)) (blockOf t))))
      (xbOf (rowsOf (m ((c.tc : Thread nD τ).loc main_arg0)) (blockOf t))) (iblk m c 4 t) (iblk m c 5 t) (iblk m c 6 t) acc (ix2 j d)
      = acc (ix2 j d) + addend m c (blockOf t) j d (groupOf t) :=
  step_apply _ _ _ _ j triOf_apply (grid0.coords t) (groupOf t) (group_off t) _ _ _ (iblk m c 4 t) (iblk m c 5 t) (iblk m c 6 t)
    (fun a k f => read_wg m c t a k f _) (fun a k f => read_wu m c t a k f _) (fun a f k => read_wd m c t a f k _) acc d

/-- What the first groups add at a token of block `r`. -/
def upTo (r : Fin 32) (j d : Fin 1024) : ℕ → EReal
  | 0 => 0
  | n + 1 => upTo r j d n + if h : n < 4 then addend m c r j d ⟨n, h⟩ else 0

theorem held_eq : ∀ (n : ℕ) (hn : n < cfg0.N),
    (heldAt m c n hn).xb = xbOf (rowsOf (m ((c.tc : Thread nD τ).loc main_arg0)) (blockOf ⟨n, hn⟩))
    ∧ (heldAt m c n hn).info = infoOf (rwtOf (m ((c.tc : Thread nD τ).loc main_arg1))) (biasOf (m ((c.tc : Thread nD τ).loc main_arg2))) triOf (rowsOf (m ((c.tc : Thread nD τ).loc main_arg0)) (blockOf ⟨n, hn⟩))
    ∧ ∀ j d : Fin 1024, (heldAt m c n hn).acc (ix2 j d) = upTo m c (blockOf ⟨n, hn⟩) j d (n % 4 + 1) := by
  have first : ∀ (t : Fin cfg0.N), t.val % 4 = 0 →
      (heldAt m c t.val t.isLt).xb = xbOf (rowsOf (m ((c.tc : Thread nD τ).loc main_arg0)) (blockOf t))
      ∧ (heldAt m c t.val t.isLt).info = infoOf (rwtOf (m ((c.tc : Thread nD τ).loc main_arg1))) (biasOf (m ((c.tc : Thread nD τ).loc main_arg2))) triOf (rowsOf (m ((c.tc : Thread nD τ).loc main_arg0)) (blockOf t))
      ∧ ∀ j d : Fin 1024, (heldAt m c t.val t.isLt).acc (ix2 j d) = upTo m c (blockOf t) j d (t.val % 4 + 1) := by
    intro t h
    rw [heldAt_first m c t h]
    unfold heldFirst
    rw [blk_x, blk_rwt, blk_bias, blk_tri]
    refine ⟨rfl, rfl, fun j d => ?_⟩
    refine (adds m c t _ j d).trans ?_
    have e : upTo m c (blockOf t) j d (t.val % 4 + 1) = upTo m c (blockOf t) j d (t.val % 4) + addend m c (blockOf t) j d (groupOf t) := by
      show _ + dite _ _ _ = _
      rw [dif_pos (Nat.mod_lt _ (by decide))]
      rfl
    rw [e, h, start_apply]
    rfl
  intro n
  induction n with
  | zero => intro hn; exact first ⟨0, hn⟩ rfl
  | succ n ih =>
    intro hn
    by_cases h : (n + 1) % 4 = 0
    · exact first ⟨n + 1, hn⟩ h
    · obtain ⟨h1, h2, h3⟩ := ih (Nat.lt_of_succ_lt hn)
      have eb : blockOf ⟨n, Nat.lt_of_succ_lt hn⟩ = blockOf ⟨n + 1, hn⟩ := Fin.ext (by show n / 4 = (n + 1) / 4; omega)
      rw [eb] at h1 h2 h3
      have e := heldAt_next m c ⟨n + 1, hn⟩ h
      have e' : heldAt m c (n + 1) hn = heldNext m c ⟨n + 1, hn⟩ (heldAt m c n (Nat.lt_of_succ_lt hn)) := e
      rw [e']
      unfold heldNext
      refine ⟨h1, h2, fun j d => ?_⟩
      show groupAcc (rowAt (grid0.coords ⟨n + 1, hn⟩) (heldAt m c n _).info) (heldAt m c n _).xb _ _ _ (heldAt m c n _).acc (ix2 j d) = _
      rw [h1, h2]
      refine (adds m c ⟨n + 1, hn⟩ _ j d).trans ?_
      rw [h3]
      have en : (n + 1) % 4 = n % 4 + 1 := by omega
      show _ = upTo m c _ j d ((n + 1) % 4) + dite _ _ _
      rw [dif_pos (Nat.mod_lt _ (by decide))]
      exact congrArg (· + _) (congrArg (upTo m c _ j d) en.symm)

/-- The layer's output, from the arguments. -/
def outAll : Vec Ideal S32768x1024 .f32 := fun y =>
  layer (fun k => m ((c.tc : Thread nD τ).loc main_arg0) (ix2 (y 0) k)) (fun k e => m ((c.tc : Thread nD τ).loc main_arg1) (ix2 k e)) (fun e => m ((c.tc : Thread nD τ).loc main_arg2) (ix1 e))
    (wgOf (m ((c.tc : Thread nD τ).loc main_arg3))) (wgOf (m ((c.tc : Thread nD τ).loc main_arg4))) (wdOf (m ((c.tc : Thread nD τ).loc main_arg5)))
    (fun k => m ((c.tc : Thread nD τ).loc main_arg6) (ix1 k)) (fun k => m ((c.tc : Thread nD τ).loc main_arg7) (ix1 k)) (y 1)

theorem bias_row (rb : Vec Ideal S16 .f32) : (fun e : Fin 16 => biasOf rb (ix2 (e.castLE (by decide)) 0)) = fun e => rb (ix1 e) := by
  funext e
  exact biasOf_apply rb e _ 0 rfl

theorem rwt_row (a : Vec Ideal S1024x16 .f32) : (fun (k : Fin 1024) (e : Fin 16) => rwtOf a (ix2 e k)) = fun k e => a (ix2 k e) := by
  funext k e
  exact rwt_apply a e k

/-- All four groups' addends are the layer's mixture. -/
theorem upTo_all (r : Fin 32) (j d : Fin 1024) :
    upTo m c r j d 4 = mixed (prob (fun k => rowsOf (m ((c.tc : Thread nD τ).loc main_arg0)) r (ix2 j k)) (fun k e => m ((c.tc : Thread nD τ).loc main_arg1) (ix2 k e)))
      (sel (fun k => rowsOf (m ((c.tc : Thread nD τ).loc main_arg0)) r (ix2 j k)) (fun k e => m ((c.tc : Thread nD τ).loc main_arg1) (ix2 k e)) (fun e => m ((c.tc : Thread nD τ).loc main_arg2) (ix1 e)))
      (fun k => rowsOf (m ((c.tc : Thread nD τ).loc main_arg0)) r (ix2 j k)) (wgOf (m ((c.tc : Thread nD τ).loc main_arg3))) (wgOf (m ((c.tc : Thread nD τ).loc main_arg4))) (wdOf (m ((c.tc : Thread nD τ).loc main_arg5))) d := by
  rw [← bias_row, ← rwt_row]
  unfold mixed
  rw [Fin.sum_univ_four]
  show (((0 + dite _ _ _) + dite _ _ _) + dite _ _ _) + dite _ _ _ = _
  rw [zero_add, dif_pos (by decide), dif_pos (by decide), dif_pos (by decide), dif_pos (by decide)]
  rfl

theorem flushes : ∀ t : Fin cfg0.N, (cfg0.win 9).flush t = true → t.val % 4 = 3 := by decide +kernel

/-- A block's row, read by the layer. -/
theorem block_out (t : Fin cfg0.N) (h3 : t.val % 4 = 3) (j d : Fin 1024) :
    outOf (iblk m c 3 t) (heldAt m c t.val t.isLt).acc (iblk m c 7 t) (iblk m c 8 t) (ix2 j d)
      = outAll m c (ix2 ⟨1024 * (blockOf t).val + j.val, by have := (blockOf t).isLt; omega⟩ d) := by
  rw [blk_x]
  refine (out_apply _ j _ (iblk m c 7 t) (iblk m c 8 t) d).trans ?_
  have ha : (fun d => (heldAt m c t.val t.isLt).acc (ix2 j d)) = fun d => upTo m c (blockOf t) j d 4 := by
    funext d
    exact ((held_eq m c t.val t.isLt).2.2 j d).trans (by rw [h3])
  have hg : (fun k => iblk m c 7 t (ix2 0 k)) = fun k => m ((c.tc : Thread nD τ).loc main_arg6) (ix1 k) := funext (blk_scale m c t)
  have hb : (fun k => iblk m c 8 t (ix2 0 k)) = fun k => m ((c.tc : Thread nD τ).loc main_arg7) (ix1 k) := funext (blk_shift m c t)
  rw [ha, hg, hb]
  simp only [upTo_all]
  rfl

/-- The array the kernel leaves. -/
theorem array_eq : (dats m 0 c).arrAt 9 cfg0.N = outAll m c := by
  refine (dats m 0 c).arrAt_eq_of_covers 9 _ (by decide +kernel) fun t hf y => ?_
  have h3 := flushes t hf
  blk_simp
  rw [left_9]
  have e : y = ix2 (n0 := 1024) (n1 := 1024) (y 0) (y 1) := eq_ix2 y
  refine Eq.trans (congrArg (outOf (iblk m c 3 t) (heldAt m c t.val t.isLt).acc (iblk m c 7 t) (iblk m c 8 t)) e) ?_
  refine (block_out m c t h3 (y 0) (y 1)).trans (congrArg (outAll m c) ?_)
  funext a
  apply Fin.ext
  match a with
  | ⟨0, _⟩ =>
    blk_simp [idx9 t]
    show 1024 * (t.val / 4) + _ = _
    simp
    omega
  | ⟨1, _⟩ =>
    blk_simp [idx9 t]
    simp

end Cert.KernelIdeal.Hand

end
-- ==== Proof.RefStages.lean ====
module

public import proofs.«01_k».proof.Proof.Gen.ReferenceIdeal.Run
public import proofs.«01_k».proof.Proof.Spec

@[expose] public section

set_option maxRecDepth 16384

noncomputable section

namespace Cert.ReferenceIdeal.Hand

open Idealize.ShloMosaic Idealize.ShloMosaic.TcCoe Idealize.SL.Sem
open Cert.ReferenceIdeal Cert.ReferenceIdeal.Gen

/-- The probabilities of the experts. -/
def probs (x : FVec Ideal S32768x1024 .f32) (w : FVec Ideal S1024x16 .f32) : FVec Ideal S32768x16 .f32 :=
  Host.divf (broadcastInDim S32768x16 ![] bcast_S_S32768x16 (constant S_ .f32 0x3F800000#32))
    (addf (broadcastInDim S32768x16 ![] bcast_S_S32768x16 (constant S_ .f32 0x3F800000#32))
      (Host.exp (Host.negf (Host.dotGeneral dot_S32768x1024_S1024x16_S32768x16_1_0_0_1_n_n none x w))))

/-- The scores by which experts are chosen, group by group. -/
def sels (p : FVec Ideal S32768x16 .f32) (b : FVec Ideal S16 .f32) : FVec Ideal S32768x4x4 .f32 :=
  shapeCast _ (addf p (broadcastInDim S32768x16 ![0, 1] bcast_S1x16_S32768x16_0_1 (broadcastInDim S1x16 ![1] bcast_S16_S1x16_1 b))) shapeCasts_S32768x16_S32768x4x4

/-- The two best of each group and where they stand. -/
def best (v : FVec Ideal S32768x4x4 .f32) : (S32768x4x2.Idx → Ideal .f32) × IVec S32768x4x2 32 :=
  Host.topK S32768x4x2 2 (FloatOps.cmpfTotal .gt) v sliceFits_S32768x4x4_S32768x4x2

/-- Ones where an expert is one of its group's two best. -/
def kepts (loc : IVec S32768x4x2 32) : FVec Ideal S32768x4x4 .f32 :=
  Host.reduceAdd (uitofp .f32 (cmpi .eq
    (broadcastInDim S32768x4x2x4 ![0, 1, 2, 3] bcast_S32768x4x2x1_S32768x4x2x4_0_1_2_3 (broadcastInDim S32768x4x2x1 ![0, 1, 2] bcast_S32768x4x2_S32768x4x2x1_0_1_2 loc))
    (broadcastInDim S32768x4x2x4 ![0, 1, 2, 3] bcast_S1x1x1x4_S32768x4x2x4_0_1_2_3 (iotaInDim S1x1x1x4 32 3))))
    (constant S_ .f32 0x00000000#32) reducesTo_S32768x4x2x4_S32768x4x4_d2 h_S_

/-- The sum of each group's two best. -/
def scores (v : FVec Ideal S32768x4x2 .f32) : FVec Ideal S32768x4 .f32 :=
  Host.reduceAdd v (constant S_ .f32 0x00000000#32) reducesTo_S32768x4x2_S32768x4_d2 h_S_

/-- Where the best group stands. -/
def group (s : FVec Ideal S32768x4 .f32) : IVec S32768x1 32 :=
  (Host.topK S32768x1 1 (FloatOps.cmpfTotal .gt) s sliceFits_S32768x4_S32768x1).2

/-- Ones at the best group. -/
def takens (grp : IVec S32768x1 32) : FVec Ideal S32768x4x4 .f32 :=
  broadcastInDim S32768x4x4 ![0, 1, 2] bcast_S32768x4x1_S32768x4x4_0_1_2 (broadcastInDim S32768x4x1 ![0, 1] bcast_S32768x4_S32768x4x1_0_1
    (uitofp .f32 (cmpi .eq
      (broadcastInDim S32768x4 ![0, 1] bcast_S32768x1_S32768x4_0_1 (broadcastInDim S32768x1 ![0] bcast_S32768_S32768x1_0 (shapeCast _ grp shapeCasts_S32768x1_S32768)))
      (broadcastInDim S32768x4 ![0, 1] bcast_S1x4_S32768x4_0_1 (iotaInDim S1x4 32 1)))))

/-- The gates before the group is chosen. -/
def gates (p : FVec Ideal S32768x16 .f32) (k : FVec Ideal S32768x4x4 .f32) : FVec Ideal S32768x4x4 .f32 :=
  mulf (shapeCast _ p shapeCasts_S32768x16_S32768x4x4) k

/-- The normalised gates of the chosen group. -/
def weights (gt tk : FVec Ideal S32768x4x4 .f32) : FVec Ideal S32768x4x4 .f32 :=
  mulf (Host.divf gt (broadcastInDim S32768x4x4 ![0, 1, 2] bcast_S32768x1x1_S32768x4x4_0_1_2 (broadcastInDim S32768x1x1 ![0] bcast_S32768_S32768x1x1_0
    (Host.reduceAdd (mulf gt tk) (constant S_ .f32 0x00000000#32) reducesTo_S32768x4x4_S32768_d1_2 h_S_)))) tk

/-- The tokens times one of the experts' first weights. -/
def wide (x : FVec Ideal S32768x1024 .f32) (w : FVec Ideal S16x1024x512 .f32) : FVec Ideal S16x32768x512 .f32 :=
  transpose S16x32768x512 [0, 2, 1] (Host.dotGeneral dot_S16x1024x512_S32768x1024_S16x512x32768_1_1_02_0_n_n none w x) transposes_S16x512x32768_S16x32768x512_0_2_1

/-- The experts' hidden rows. -/
def hiddens (a b : FVec Ideal S16x32768x512 .f32) : FVec Ideal S16x32768x512 .f32 :=
  mulf (mulf a (Host.divf (broadcastInDim S16x32768x512 ![] bcast_S_S16x32768x512 (constant S_ .f32 0x3F800000#32))
    (addf (broadcastInDim S16x32768x512 ![] bcast_S_S16x32768x512 (constant S_ .f32 0x3F800000#32)) (Host.exp (Host.negf a))))) b

/-- The experts' rows, weighted and summed. -/
def mixeds (cw : FVec Ideal S32768x4x4 .f32) (h : FVec Ideal S16x32768x512 .f32) (wd : FVec Ideal S16x512x1024 .f32) : FVec Ideal S32768x1024 .f32 :=
  Host.reduceAdd (mulf
    (broadcastInDim S16x32768x1024 ![0, 1, 2] bcast_S16x32768x1_S16x32768x1024_0_1_2 (broadcastInDim S16x32768x1 ![0, 1] bcast_S16x32768_S16x32768x1_0_1
      (transpose S16x32768 [1, 0] (shapeCast _ cw shapeCasts_S32768x4x4_S32768x16) transposes_S32768x16_S16x32768_1_0)))
    (Host.dotGeneral dot_S16x32768x512_S16x512x1024_S16x32768x1024_2_1_1_2_0_0 none h wd))
    (constant S_ .f32 0x00000000#32) reducesTo_S16x32768x1024_S32768x1024_d0 h_S_

/-- The residual sum. -/
def resids (x ff : FVec Ideal S32768x1024 .f32) : FVec Ideal S32768x1024 .f32 :=
  addf (mulf (broadcastInDim S32768x1024 ![] bcast_S_S32768x1024 (constant S_ .f32 0x3FB504F3#32)) x) ff

/-- Rows less their means. -/
def centreds (z : FVec Ideal S32768x1024 .f32) : FVec Ideal S32768x1024 .f32 :=
  subf z (broadcastInDim S32768x1024 ![0, 1] bcast_S32768x1_S32768x1024_0_1 (Host.divf
    (broadcastInDim S32768x1 ![0] bcast_S32768_S32768x1_0 (Host.reduceAdd z (constant S_ .f32 0x00000000#32) reducesTo_S32768x1024_S32768_d1 h_S_))
    (broadcastInDim S32768x1 ![] bcast_S_S32768x1 (constant S_ .f32 0x44800000#32))))

/-- Centred rows over their deviations, scaled and shifted. -/
def normed (zc : FVec Ideal S32768x1024 .f32) (g b : FVec Ideal S1024 .f32) : FVec Ideal S32768x1024 .f32 :=
  addf (mulf (mulf zc (broadcastInDim S32768x1024 ![0, 1] bcast_S32768x1_S32768x1024_0_1 (Host.rsqrt (addf (Host.divf
    (broadcastInDim S32768x1 ![0] bcast_S32768_S32768x1_0 (Host.reduceAdd (mulf zc zc) (constant S_ .f32 0x00000000#32) reducesTo_S32768x1024_S32768_d1 h_S_))
    (broadcastInDim S32768x1 ![] bcast_S_S32768x1 (constant S_ .f32 0x44800000#32)))
    (broadcastInDim S32768x1 ![] bcast_S_S32768x1 (constant S_ .f32 0x3727C5AC#32))))))
    (broadcastInDim S32768x1024 ![0, 1] bcast_S1x1024_S32768x1024_0_1 (broadcastInDim S1x1024 ![1] bcast_S1024_S1x1024_1 g)))
    (broadcastInDim S32768x1024 ![0, 1] bcast_S1x1024_S32768x1024_0_1 (broadcastInDim S1x1024 ![1] bcast_S1024_S1x1024_1 b))

/-- The chosen group's gates of every token. -/
def combine (p : FVec Ideal S32768x16 .f32) (v : FVec Ideal S32768x4x4 .f32) : FVec Ideal S32768x4x4 .f32 :=
  weights (gates p (kepts (best v).2)) (takens (group (scores (best v).1)))

/-- The whole layer, stage by stage. -/
def result (x : FVec Ideal S32768x1024 .f32) (rw : FVec Ideal S1024x16 .f32) (rb : FVec Ideal S16 .f32) (wg wu : FVec Ideal S16x1024x512 .f32)
    (wd : FVec Ideal S16x512x1024 .f32) (g b : FVec Ideal S1024 .f32) : FVec Ideal S32768x1024 .f32 :=
  normed (centreds (resids x (mixeds (combine (probs x rw) (sels (probs x rw) rb)) (hiddens (wide x wg) (wide x wu)) wd))) g b

/-- The reference's result is the layer, stage by stage. -/
theorem res_eq (m : (ℓ : Loc nD τ sig) → Buf (Elt Ideal) ℓ) (c : Dev nD) :
    Value.res_out0 (F := Ideal) m c = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) := by
  unfold Value.res_out0 Value.res_main_v66
  rfl

end Cert.ReferenceIdeal.Hand

end
-- ==== Proof.Order.lean ====
module

public import proofs.«01_k».proof.Proof.Spec
public import Idealize.ShloMosaic.Lib.SortFacts

@[expose] public section

noncomputable section

/-! A stable sort of four entries, greatest first, against the count of the entries that stand before each. -/

namespace Cert.Moe

open Idealize.ShloMosaic
open scoped BigOperators

/-- The comparisons of four entries, later against earlier, as a table. -/
def table (a b c d e f : Bool) (j i : Fin 4) : Bool :=
  match j.val, i.val with
  | 1, 0 => a
  | 2, 0 => b
  | 3, 0 => c
  | 2, 1 => d
  | 3, 1 => e
  | 3, 2 => f
  | _, _ => false

/-- Of two entries the table decides between, the one that stands first. -/
def ahead (t : Fin 4 → Fin 4 → Bool) (j i : Fin 4) : Bool := if i < j then t j i else if j < i then !(t i j) else false

/-- The number that stand before an entry by the table. -/
def placeB (t : Fin 4 → Fin 4 → Bool) (i : Fin 4) : ℕ := (List.finRange 4).countP fun j => ahead t j i

/-- On every table that orders the entries, the sort puts at `k` the entry that `k` others stand before. -/
theorem table_place : ∀ a b c d e f : Bool, (∀ x y z : Fin 4, ahead (table a b c d e f) x y = true → ahead (table a b c d e f) y z = true → ahead (table a b c d e f) x z = true) →
    ∀ k : Fin 4, placeB (table a b c d e f) (sortedFrom (table a b c d e f) k) = k.val := by
  decide +kernel

/-- A stable sort's comparison, greatest first. -/
def above (v : Fin 4 → EReal) (j i : Fin 4) : Bool := decide (v i < v j)

/-- The entry a stable sort puts at `k`, greatest first. -/
def nth (v : Fin 4 → EReal) (k : Fin 4) : Fin 4 := sortedFrom (above v) k

/-- The sort of four entries reads its comparison of later entries against earlier ones alone. -/
theorem sorted_table (B : Fin 4 → Fin 4 → Bool) :
    sortPositions 4 B = sortPositions 4 (table (B 1 0) (B 2 0) (B 3 0) (B 2 1) (B 3 1) (B 3 2)) := by
  have hl : List.finRange 4 = [0, 1, 2, 3] := rfl
  unfold sortPositions
  rw [hl]
  have e10 : table (B 1 0) (B 2 0) (B 3 0) (B 2 1) (B 3 1) (B 3 2) 1 0 = B 1 0 := rfl
  have e20 : table (B 1 0) (B 2 0) (B 3 0) (B 2 1) (B 3 1) (B 3 2) 2 0 = B 2 0 := rfl
  have e30 : table (B 1 0) (B 2 0) (B 3 0) (B 2 1) (B 3 1) (B 3 2) 3 0 = B 3 0 := rfl
  have e21 : table (B 1 0) (B 2 0) (B 3 0) (B 2 1) (B 3 1) (B 3 2) 2 1 = B 2 1 := rfl
  have e31 : table (B 1 0) (B 2 0) (B 3 0) (B 2 1) (B 3 1) (B 3 2) 3 1 = B 3 1 := rfl
  have e32 : table (B 1 0) (B 2 0) (B 3 0) (B 2 1) (B 3 1) (B 3 2) 3 2 = B 3 2 := rfl
  generalize table (B 1 0) (B 2 0) (B 3 0) (B 2 1) (B 3 1) (B 3 2) = T at *
  have h3 : stableSort B [2, 3] = stableSort T [2, 3] := by simp only [stableSort, insertBefore, e32]
  have h2 : stableSort B [1, 2, 3] = stableSort T [1, 2, 3] := by
    show insertBefore B 1 (stableSort B [2, 3]) = insertBefore T 1 (stableSort T [2, 3])
    rw [h3]
    refine insertBefore_congr _ _ _ _ fun b hb => ?_
    have hb' := (perm_stableSort T [2, 3]).mem_iff.mp hb
    simp only [List.mem_cons, List.not_mem_nil, or_false] at hb'
    rcases hb' with rfl | rfl
    · exact e21.symm
    · exact e31.symm
  show insertBefore B 0 (stableSort B [1, 2, 3]) = insertBefore T 0 (stableSort T [1, 2, 3])
  rw [h2]
  refine insertBefore_congr _ _ _ _ fun b hb => ?_
  have hb' := (perm_stableSort T [1, 2, 3]).mem_iff.mp hb
  simp only [List.mem_cons, List.not_mem_nil, or_false] at hb'
  rcases hb' with rfl | rfl | rfl
  · exact e10.symm
  · exact e20.symm
  · exact e30.symm

/-- The table of a list's comparisons. -/
abbrev tableOf (v : Fin 4 → EReal) : Fin 4 → Fin 4 → Bool :=
  table (above v 1 0) (above v 2 0) (above v 3 0) (above v 2 1) (above v 3 1) (above v 3 2)

theorem tableOf_apply (v : Fin 4 → EReal) (j i : Fin 4) (h : i < j) : tableOf v j i = above v j i := by
  revert h
  fin_cases j <;> fin_cases i <;> first | (intro h; exact absurd h (by decide)) | exact fun _ => rfl

/-- By the table of a list's comparisons, the entry ahead is the one before. -/
theorem ahead_iff (v : Fin 4 → EReal) (j i : Fin 4) : ahead (tableOf v) j i = true ↔ before v j i := by
  unfold ahead before
  by_cases h : i < j
  · rw [if_pos h, tableOf_apply v j i h]
    simp [above, not_lt_of_gt h]
  · rw [if_neg h]
    by_cases h' : j < i
    · rw [if_pos h', tableOf_apply v i j h']
      simp only [above, h', and_true, Bool.not_eq_true', decide_eq_false_iff_not, not_lt]
      exact le_iff_lt_or_eq.trans (or_congr Iff.rfl eq_comm)
    · rw [if_neg h']
      have : j = i := le_antisymm (not_lt.mp h) (not_lt.mp h')
      subst this
      simp

theorem before_trans (v : Fin 4 → EReal) (x y z : Fin 4) (h : before v x y) (h' : before v y z) : before v x z := by
  rcases h with h | ⟨h, h1⟩ <;> rcases h' with h' | ⟨h', h1'⟩
  · exact .inl (h'.trans h)
  · exact .inl (h' ▸ h)
  · exact .inl (h ▸ h')
  · exact .inr ⟨h.trans h', h1.trans h1'⟩

/-- The count by the table is the count of the entries before. -/
theorem placeB_eq (v : Fin 4 → EReal) (i : Fin 4) : placeB (tableOf v) i = place v i := by
  classical
  unfold placeB place
  rw [List.countP_eq_length_filter, ← List.toFinset_card_of_nodup ((List.nodup_finRange 4).filter _)]
  congr 1
  ext j
  simp [ahead_iff]

/-- The entry the sort puts at `k` has `k` entries before it. -/
theorem place_nth (v : Fin 4 → EReal) (k : Fin 4) : place v (nth v k) = k.val := by
  have h : nth v k = sortedFrom (tableOf v) k := by
    unfold nth sortedFrom
    rw [List.get_of_eq (sorted_table (above v))]
    rfl
  rw [h, ← placeB_eq]
  exact table_place _ _ _ _ _ _ (fun x y z hx hy => (ahead_iff v x z).mpr (before_trans v x y z ((ahead_iff v x y).mp hx) ((ahead_iff v y z).mp hy))) k

theorem nth_inj (v : Fin 4 → EReal) : Function.Injective (nth v) := sortedFrom_injective _

/-- The number before an entry says where the sort puts it. -/
theorem place_eq_iff (v : Fin 4 → EReal) (i k : Fin 4) : place v i = k.val ↔ nth v k = i := by
  obtain ⟨l, rfl⟩ := (sortedFrom_surjective (above v)) i
  show place v (nth v l) = k.val ↔ nth v k = nth v l
  rw [place_nth, (nth_inj v).eq_iff, Fin.val_inj, eq_comm]

theorem keep_iff (v : Fin 4 → EReal) (i : Fin 4) : keep v i ↔ nth v 0 = i ∨ nth v 1 = i := by
  rw [← place_eq_iff, ← place_eq_iff]
  unfold keep
  show _ < 2 ↔ _ = 0 ∨ _ = 1
  omega

/-- The two best sum as the sort's first two. -/
theorem score_eq (v : Fin 4 → EReal) : score v = v (nth v 0) + v (nth v 1) := by
  classical
  have hne : nth v 0 ≠ nth v 1 := fun h => by simpa using nth_inj v h
  have : ∀ i, (if keep v i then v i else 0) = (if nth v 0 = i then v i else 0) + (if nth v 1 = i then v i else 0) := by
    intro i
    by_cases h0 : nth v 0 = i
    · have h1 : ¬ nth v 1 = i := fun h => hne (h0.trans h.symm)
      rw [if_pos ((keep_iff v i).mpr (.inl h0)), if_pos h0, if_neg h1, add_zero]
    · by_cases h1 : nth v 1 = i
      · rw [if_pos ((keep_iff v i).mpr (.inr h1)), if_neg h0, if_pos h1, zero_add]
      · rw [if_neg (fun h => ((keep_iff v i).mp h).elim h0 h1), if_neg h0, if_neg h1, add_zero]
  unfold score
  rw [Finset.sum_congr rfl fun i _ => this i, Finset.sum_add_distrib]
  simp

theorem taken_iff (v : Fin 4 → Fin 4 → EReal) (q : Fin 4) : taken v q ↔ nth (fun r => score (v r)) 0 = q :=
  place_eq_iff (fun r => score (v r)) q 0

end Cert.Moe

end
-- ==== Proof.RefRead.lean ====
module

public import proofs.«01_k».proof.Proof.RefStages
public import proofs.«01_k».proof.Proof.Order

@[expose] public section

set_option maxRecDepth 16384

noncomputable section

namespace Cert.ReferenceIdeal.Hand

open Idealize.ShloMosaic Idealize.ShloMosaic.TcCoe Idealize.SL.Sem
open Cert.ReferenceIdeal Cert.ReferenceIdeal.Gen Cert.Moe

/-- A one-bit comparison of words, as a float. -/
theorem flag (a b : BitVec 32) : FloatOps.uitofp (F := Ideal) .f32 (IntOp.cmpi .eq a b) = if a = b then 1 else 0 := by
  by_cases h : a = b
  · subst h; simp [IntOp.cmpi, FloatOps.uitofp]
  · simp [IntOp.cmpi, FloatOps.uitofp, h]

theorem expert_eq (q i : Fin 4) (h : q.val * 4 + i.val < 16) : (⟨q.val * 4 + i.val, h⟩ : Fin 16) = expert q i :=
  Fin.ext (by show q.val * 4 + i.val = 4 * q.val + i.val; omega)

theorem probs_apply (x : FVec Ideal S32768x1024 .f32) (w : FVec Ideal S1024x16 .f32) (n : Fin 32768) (e : Fin 16) :
    probs x w (ix2 n e) = Ideal.logistic (∑ k : Fin 1024, x (ix2 n k) * w (ix2 k e)) := by
  pointwise [probs]
  rfl

theorem sels_apply (p : FVec Ideal S32768x16 .f32) (b : FVec Ideal S16 .f32) (n : Fin 32768) (q i : Fin 4) :
    sels p b (ix3 n q i) = p (ix2 n (expert q i)) + b (ix1 (expert q i)) := by
  pointwise [sels]
  rw [expert_eq]

theorem kepts_apply (loc : IVec S32768x4x2 32) (n : Fin 32768) (q i : Fin 4) :
    kepts loc (ix3 n q i) = (if loc (ix3 n q 0) = BitVec.ofNat 32 i.val then 1 else 0) + (if loc (ix3 n q 1) = BitVec.ofNat 32 i.val then 1 else 0) := by
  pointwise [kepts]
  simp only [flag, Fin.sum_univ_two]

theorem scores_apply (v : FVec Ideal S32768x4x2 .f32) (n : Fin 32768) (q : Fin 4) :
    scores v (ix2 n q) = v (ix3 n q 0) + v (ix3 n q 1) := by
  pointwise [scores]
  simp only [Fin.sum_univ_two]

theorem takens_apply (g : IVec S32768x1 32) (n : Fin 32768) (q i : Fin 4) :
    takens g (ix3 n q i) = if g (ix2 n 0) = BitVec.ofNat 32 q.val then 1 else 0 := by
  pointwise [takens]
  rw [flag]

theorem gates_apply (p : FVec Ideal S32768x16 .f32) (k : FVec Ideal S32768x4x4 .f32) (n : Fin 32768) (q i : Fin 4) :
    gates p k (ix3 n q i) = p (ix2 n (expert q i)) * k (ix3 n q i) := by
  pointwise [gates]
  rw [expert_eq]

theorem weights_apply (gt tk : FVec Ideal S32768x4x4 .f32) (n : Fin 32768) (q i : Fin 4) :
    weights gt tk (ix3 n q i) = Ideal.div (gt (ix3 n q i)) (∑ r : Fin 4, ∑ l : Fin 4, gt (ix3 n r l) * tk (ix3 n r l)) * tk (ix3 n q i) := by
  pointwise [weights]

theorem wide_apply (x : FVec Ideal S32768x1024 .f32) (w : FVec Ideal S16x1024x512 .f32) (n : Fin 32768) (e : Fin 16) (f : Fin 512) :
    wide x w (ix3 e n f) = ∑ k : Fin 1024, x (ix2 n k) * w (ix3 e k f) := by
  pointwise [wide]
  exact Finset.sum_congr rfl fun k _ => mul_comm _ _

theorem hiddens_apply (a b : FVec Ideal S16x32768x512 .f32) (n : Fin 32768) (e : Fin 16) (f : Fin 512) :
    hiddens a b (ix3 e n f) = a (ix3 e n f) * Ideal.logistic (a (ix3 e n f)) * b (ix3 e n f) := by
  pointwise [hiddens]
  rfl

theorem mixeds_apply (cw : FVec Ideal S32768x4x4 .f32) (h : FVec Ideal S16x32768x512 .f32) (wd : FVec Ideal S16x512x1024 .f32) (n : Fin 32768) (c : Fin 1024) :
    mixeds cw h wd (ix2 n c) = ∑ q : Fin 4, ∑ i : Fin 4, cw (ix3 n q i) * ∑ f : Fin 512, h (ix3 (expert q i) n f) * wd (ix3 (expert q i) f c) := by
  pointwise [mixeds]
  have key : ∀ G : Fin 16 → EReal, (∑ e, G e) = ∑ q : Fin 4, ∑ i : Fin 4, G (expert q i) := by
    intro G
    rw [← Finset.sum_product', Finset.univ_product_univ]
    refine (Fintype.sum_equiv (finProdFinEquiv (m := 4) (n := 4)) _ _ fun y => ?_).symm
    refine congrArg G (Fin.ext ?_)
    show 4 * y.1.val + y.2.val = y.2.val + 4 * y.1.val
    omega
  rw [key]
  refine Finset.sum_congr rfl fun q _ => Finset.sum_congr rfl fun i _ => ?_
  have h1 : ∀ h, (⟨(expert q i).val / 4, h⟩ : Fin 4) = q := fun h => Fin.ext (by show (4 * q.val + i.val) / 4 = q.val; omega)
  have h2 : ∀ h, (⟨(expert q i).val % 4, h⟩ : Fin 4) = i := fun h => Fin.ext (by show (4 * q.val + i.val) % 4 = i.val; omega)
  rw [h1, h2]

theorem resids_apply (x ff : FVec Ideal S32768x1024 .f32) (n : Fin 32768) (c : Fin 1024) :
    resids x ff (ix2 n c) = resid (fun k => x (ix2 n k)) (fun k => ff (ix2 n k)) c := by
  pointwise [resids, resid]

theorem centreds_apply (z : FVec Ideal S32768x1024 .f32) (n : Fin 32768) (c : Fin 1024) :
    centreds z (ix2 n c) = centred (fun k => z (ix2 n k)) c := by
  pointwise [centreds, centred]

theorem normed_apply (z : FVec Ideal S32768x1024 .f32) (g b : FVec Ideal S1024 .f32) (n : Fin 32768) (c : Fin 1024) :
    normed (centreds z) g b (ix2 n c) = norm (fun k => z (ix2 n k)) (fun k => g (ix1 k)) (fun k => b (ix1 k)) c := by
  pointwise [normed, centreds_apply]
  rfl

/-- The words of distinct positions differ. -/
theorem word_eq (k i : Fin 4) : BitVec.ofNat 32 k.val = BitVec.ofNat 32 i.val ↔ k = i := by
  revert k i; decide

theorem along3 (n : Fin 32768) (q l k : Fin 4) : (ix3 n q l : S32768x4x4.Idx).along 2 k = ix3 n q k := by
  funext a
  fin_cases a <;> rfl

theorem along2 (n : Fin 32768) (q k : Fin 4) : (ix2 n q : S32768x4.Idx).along 1 k = ix2 n k := by
  funext a
  fin_cases a <;> rfl

/-- The sort's comparison is the order's. -/
theorem gt_eq (a b : Ideal .f32) : (FloatOps.cmpfTotal CmpDirection.gt a b == 1#1) = decide (b < a) := by
  show (Ideal.cmp .ogt a b == 1#1) = decide (b < a)
  by_cases h : b < a
  · simp [Ideal.cmp, h]
  · simp [Ideal.cmp, h]

theorem best_val (v : FVec Ideal S32768x4x4 .f32) (n : Fin 32768) (q : Fin 4) (k : Fin 2) :
    (best v).1 (ix3 n q k) = v (ix3 n q (nth (fun i => v (ix3 n q i)) (k.castLE (by omega)))) := by
  unfold best Host.topK Host.sort2
  pointwise
  rw [along3]
  refine congrArg v (congrArg (ix3 n q) ?_)
  unfold nth above
  simp only [gt_eq, along3]
  rfl

theorem best_loc (v : FVec Ideal S32768x4x4 .f32) (n : Fin 32768) (q : Fin 4) (k : Fin 2) :
    (best v).2 (ix3 n q k) = BitVec.ofNat 32 (nth (fun i => v (ix3 n q i)) (k.castLE (by omega))).val := by
  unfold best Host.topK Host.sort2
  pointwise
  unfold nth above
  simp only [gt_eq, along3]
  rfl

theorem group_loc (s : FVec Ideal S32768x4 .f32) (n : Fin 32768) :
    group s (ix2 n 0) = BitVec.ofNat 32 (nth (fun q => s (ix2 n q)) 0).val := by
  unfold group Host.topK Host.sort2
  pointwise
  unfold nth above
  simp only [gt_eq, along2]
  rfl

section
variable (p : FVec Ideal S32768x16 .f32) (v : FVec Ideal S32768x4x4 .f32) (n : Fin 32768)

open Classical in
theorem kepts_eq (q i : Fin 4) : kepts (best v).2 (ix3 n q i) = if keep (fun l => v (ix3 n q l)) i then 1 else 0 := by
  rw [kepts_apply, best_loc, best_loc]
  simp only [word_eq]
  have hne : nth (fun i => v (ix3 n q i)) 0 ≠ nth (fun i => v (ix3 n q i)) 1 := fun h => by simpa using nth_inj _ h
  show (if nth (fun i => v (ix3 n q i)) 0 = i then (1 : EReal) else 0) + (if nth (fun i => v (ix3 n q i)) 1 = i then (1 : EReal) else 0) = _
  by_cases h0 : nth (fun i => v (ix3 n q i)) 0 = i
  · rw [if_pos h0, if_neg (fun h => hne (h0.trans h.symm)), if_pos ((keep_iff _ i).mpr (.inl h0)), add_zero]
  · by_cases h1 : nth (fun i => v (ix3 n q i)) 1 = i
    · rw [if_neg h0, if_pos h1, if_pos ((keep_iff _ i).mpr (.inr h1)), zero_add]
    · rw [if_neg h0, if_neg h1, if_neg (fun h => ((keep_iff _ i).mp h).elim h0 h1), add_zero]

theorem scores_eq (q : Fin 4) : scores (best v).1 (ix2 n q) = score (fun l => v (ix3 n q l)) := by
  rw [scores_apply, best_val, best_val, score_eq]
  rfl

open Classical in
theorem takens_eq (q i : Fin 4) : takens (group (scores (best v).1)) (ix3 n q i) = if taken (fun r l => v (ix3 n r l)) q then 1 else 0 := by
  rw [takens_apply, group_loc]
  simp only [word_eq, taken_iff, scores_eq]

theorem gates_eq (q i : Fin 4) : gates p (kepts (best v).2) (ix3 n q i) = gate (fun r l => p (ix2 n (expert r l))) (fun r l => v (ix3 n r l)) q i := by
  rw [gates_apply, kepts_eq]
  unfold gate
  split
  · rw [mul_one]
  · rw [mul_zero]

open Classical in
theorem combine_eq (q i : Fin 4) : combine p v (ix3 n q i)
    = if taken (fun r l => v (ix3 n r l)) q then weight (fun r l => p (ix2 n (expert r l))) (fun r l => v (ix3 n r l)) q i else 0 := by
  unfold combine
  rw [weights_apply]
  simp only [gates_eq, takens_eq]
  unfold weight total
  have : ∀ r l : Fin 4, gate (fun r l => p (ix2 n (expert r l))) (fun r l => v (ix3 n r l)) r l * (if taken (fun r l => v (ix3 n r l)) r then (1 : EReal) else 0)
      = if taken (fun r l => v (ix3 n r l)) r then gate (fun r l => p (ix2 n (expert r l))) (fun r l => v (ix3 n r l)) r l else 0 := by
    intro r l
    split
    · rw [mul_one]
    · rw [mul_zero]
  simp only [this]
  split
  · rw [mul_one]
  · rw [mul_zero]

end

open Classical in
/-- THE REFERENCE, TOKEN BY TOKEN: each row of its result is the layer of the token's row. -/
theorem result_apply (x : FVec Ideal S32768x1024 .f32) (rw : FVec Ideal S1024x16 .f32) (rb : FVec Ideal S16 .f32) (wg wu : FVec Ideal S16x1024x512 .f32)
    (wd : FVec Ideal S16x512x1024 .f32) (g b : FVec Ideal S1024 .f32) (n : Fin 32768) (c : Fin 1024) :
    result x rw rb wg wu wd g b (ix2 n c)
      = layer (fun k => x (ix2 n k)) (fun k e => rw (ix2 k e)) (fun e => rb (ix1 e)) (fun e k f => wg (ix3 e k f)) (fun e k f => wu (ix3 e k f))
          (fun e f d => wd (ix3 e f d)) (fun k => g (ix1 k)) (fun k => b (ix1 k)) c := by
  unfold result layer
  rw [normed_apply]
  refine congrArg (fun z => norm z _ _ c) (funext fun k => ?_)
  rw [resids_apply]
  refine congrArg (fun f => resid _ f k) (funext fun d => ?_)
  rw [mixeds_apply]
  simp only [combine_eq, hiddens_apply, wide_apply, sels_apply, probs_apply]
  unfold mixed part
  refine Finset.sum_congr rfl fun q _ => ?_
  show (∑ i, (if taken (sel (fun k => x (ix2 n k)) (fun k e => rw (ix2 k e)) (fun e => rb (ix1 e))) q then _ else _) * _) = _
  split
  · rfl
  · simp only [zero_mul, Finset.sum_const_zero]

end Cert.ReferenceIdeal.Hand

end
-- ==== Proof.InEvenHost.lean ====
module

public import proofs.«01_k».proof.Proof.Gen.Kernel2Ideal
public import proofs.«01_k».proof.Proof.Gen.Kernel2Ideal.Frame
public import Idealize.ShloMosaic.Lib.Pipeline.ValueKit
public import Idealize.ShloMosaic.Lib.Pointwise
public import Idealize.ShloMosaic.Lib.Routing.OpsOne
public import Idealize.ShloMosaic.Lib.Routing.OpsPair
public import Idealize.ShloMosaic.Lib.Routing.OpsSet

@[expose] public section

set_option maxRecDepth 16384

noncomputable section

/-! The weight table and the bias row the even layers' input projection is handed, element by element: which of the
weights' columns each column of the table is. -/

namespace Cert.Kernel2Ideal.Hand

open Idealize.ShloMosaic Idealize.ShloMosaic.TcCoe Idealize.SL.Sem
open Idealize.ShloMosaic.Routing (start_pair resultIdx?_ix2 scatter_set_hit scatter_set_miss)
open Cert.Kernel2Ideal Cert.Kernel2Ideal.Gen

theorem same1 {n : ℕ} (a : Fin n) : ValueIdx.ix1 a = ix1 a := by
  funext d; match d with | ⟨0, _⟩ => rfl
theorem same2 {n k : ℕ} (a : Fin n) (b : Fin k) : ValueIdx.ix2 a b = ix2 a b := by
  funext d; match d with | ⟨0, _⟩ => rfl | ⟨1, _⟩ => rfl

section band

variable {U : ℕ} (d : ScatterDims (Routing.shape2 1024 128) (Routing.shape1 1) (Routing.shape2 1024 U)) (idx : IVec (Routing.shape1 1) 32) (o : ℕ)
  (hw : ∀ (a : Fin 1024) (b : Fin U), d.window (ValueIdx.ix2 a b) 0 = a.val ∧ d.window (ValueIdx.ix2 a b) 1 = b.val)
  (hs : ∀ (a : Fin 1024) (b : Fin U), d.start (ValueIdx.ix2 a b) idx 0 = 0 ∧ d.start (ValueIdx.ix2 a b) idx 1 = (o : ℤ))

include hw hs

/-- Where an entry of a band of columns lands in the table. -/
theorem lands_band (a : Fin 1024) (b : Fin U) (r : Fin 1024) (l : Fin 128) :
    d.resultIdx? (ValueIdx.ix2 a b) idx = some (ValueIdx.ix2 r l) ↔ a.val = r.val ∧ o + b.val = l.val := by
  refine (resultIdx?_ix2 d (ValueIdx.ix2 a b) idx r l).trans ?_
  rw [(hw a b).1, (hw a b).2, (hs a b).1, (hs a b).2]
  constructor
  · rintro ⟨h, h'⟩; constructor <;> omega
  · rintro ⟨h, h'⟩; constructor <;> omega

/-- A band of columns laid over a table, read. -/
theorem band_read {α : Type} (x0 : (Routing.shape2 1024 128).Idx → α) (u : (Routing.shape2 1024 U).Idx → α) (r : Fin 1024) (l : Fin 128) :
    Host.scatter d (fun _ b => b) x0 idx u (ix2 r l)
      = if h : o ≤ l.val ∧ l.val < o + U then u (ix2 r ⟨l.val - o, by omega⟩) else x0 (ix2 r l) := by
  rw [← same2]
  split
  · next h =>
    refine scatter_set_hit d x0 idx u _ _ (fun k hk => ?_) (ValueIdx.ix2 r ⟨l.val - o, by omega⟩) ((lands_band d idx o hw hs _ _ r l).2 ⟨rfl, ?_⟩)
    · have e : k = ValueIdx.ix2 (k 0) (k 1) := ValueIdx.eq_ix2 k
      rw [e] at hk ⊢
      have h' := (lands_band d idx o hw hs (k 0) (k 1) r l).1 hk
      rw [same2]
      exact congrArg₂ (fun p q => u (ix2 p q)) (Fin.ext h'.1) (Fin.ext (by show (k 1).val = l.val - o; omega))
    · show o + (l.val - o) = l.val; omega
  · next h =>
    refine scatter_set_miss d x0 idx u _ (fun k hk => h ?_)
    have e : k = ValueIdx.ix2 (k 0) (k 1) := ValueIdx.eq_ix2 k
    rw [e] at hk
    have h' := (lands_band d idx o hw hs (k 0) (k 1) r l).1 hk
    have := (k 1).isLt
    have hu : (k 1).val < U := (k 1).isLt
    omega

end band

/-- One index word. -/
abbrev word (w : BitVec 32) : IVec S1 32 := broadcastInDim S1 ![] bcast_S_S1 (constantI S_ 32 w)

theorem wide_window (a : Fin 1024) (b : Fin 64) : scatter_S1024x128_S1_S1024x64_01_n_1_0.window (ValueIdx.ix2 a b) 0 = a.val ∧ scatter_S1024x128_S1_S1024x64_01_n_1_0.window (ValueIdx.ix2 a b) 1 = b.val := ⟨rfl, rfl⟩
theorem wide_start (a : Fin 1024) (b : Fin 64) : scatter_S1024x128_S1_S1024x64_01_n_1_0.start (ValueIdx.ix2 a b) (word 0#32) 0 = 0 ∧ scatter_S1024x128_S1_S1024x64_01_n_1_0.start (ValueIdx.ix2 a b) (word 0#32) 1 = ((0 : ℕ) : ℤ) := ⟨rfl, rfl⟩
theorem thin_window (a : Fin 1024) (b : Fin 8) : scatter_S1024x128_S1_S1024x8_01_n_1_0.window (ValueIdx.ix2 a b) 0 = a.val ∧ scatter_S1024x128_S1_S1024x8_01_n_1_0.window (ValueIdx.ix2 a b) 1 = b.val := ⟨rfl, rfl⟩
theorem thin_start64 (a : Fin 1024) (b : Fin 8) : scatter_S1024x128_S1_S1024x8_01_n_1_0.start (ValueIdx.ix2 a b) (word 64#32) 0 = 0 ∧ scatter_S1024x128_S1_S1024x8_01_n_1_0.start (ValueIdx.ix2 a b) (word 64#32) 1 = ((64 : ℕ) : ℤ) := ⟨rfl, rfl⟩
theorem thin_start72 (a : Fin 1024) (b : Fin 8) : scatter_S1024x128_S1_S1024x8_01_n_1_0.start (ValueIdx.ix2 a b) (word 72#32) 0 = 0 ∧ scatter_S1024x128_S1_S1024x8_01_n_1_0.start (ValueIdx.ix2 a b) (word 72#32) 1 = ((72 : ℕ) : ℤ) := ⟨rfl, rfl⟩

variable (w : Vec Ideal S1024x4176 .f32)

/-- The small projections' columns, gathered into one band of 128. -/
def slabOf : Vec Ideal S1024x128 .f32 :=
  Host.scatter scatter_S1024x128_S1_S1024x8_01_n_1_0 (fun _ b => b)
    (Host.scatter scatter_S1024x128_S1_S1024x8_01_n_1_0 (fun _ b => b)
      (Host.scatter scatter_S1024x128_S1_S1024x64_01_n_1_0 (fun _ b => b) (broadcastInDim S1024x128 ![] bcast_S_S1024x128 (constant (F := Ideal) S_ .f32 0#32)) (word 0#32)
        (extractStridedSlice S1024x64 ![0, 4104] w slices_S1024x4176_S1024x64_0_4104))
      (word 64#32) (extractStridedSlice S1024x8 ![0, 2048] w slices_S1024x4176_S1024x8_0_2048))
    (word 72#32) (extractStridedSlice S1024x8 ![0, 4168] w slices_S1024x4176_S1024x8_0_4168)

/-- The whole table. -/
def tableOf : Vec Ideal S1024x4224 .bf16 :=
  truncf (F := Ideal) .bf16 (concatenate S1024x4224 1 [⟨S1024x512, extractStridedSlice S1024x512 ![0, 0] w slices_S1024x4176_S1024x512_0_0⟩,
    ⟨S1024x512, extractStridedSlice S1024x512 ![0, 512] w slices_S1024x4176_S1024x512_0_512⟩,
    ⟨S1024x512, extractStridedSlice S1024x512 ![0, 1024] w slices_S1024x4176_S1024x512_0_1024⟩,
    ⟨S1024x512, extractStridedSlice S1024x512 ![0, 1536] w slices_S1024x4176_S1024x512_0_1536⟩,
    ⟨S1024x512, extractStridedSlice S1024x512 ![0, 2056] w slices_S1024x4176_S1024x512_0_2056⟩,
    ⟨S1024x512, extractStridedSlice S1024x512 ![0, 3592] w slices_S1024x4176_S1024x512_0_3592⟩,
    ⟨S1024x512, extractStridedSlice S1024x512 ![0, 2568] w slices_S1024x4176_S1024x512_0_2568⟩,
    ⟨S1024x512, extractStridedSlice S1024x512 ![0, 3080] w slices_S1024x4176_S1024x512_0_3080⟩,
    ⟨S1024x128, slabOf w⟩] concatenates_S1024x512_S1024x512_S1024x512_S1024x512_S1024x512_S1024x512_S1024x512_S1024x512_S1024x128_S1024x4224_d1) bitsLt_bf16_f32

/-- The bias row. -/
def biasOf (b : Vec Ideal S8 .f32) : Vec Ideal S1x128 .f32 :=
  Host.scatter scatter_S1x128_S2_S8_0_0_01_0 (fun _ b => b) (broadcastInDim S1x128 ![] bcast_S_S1x128 (constant (F := Ideal) S_ .f32 0#32))
    (concatenate S2 0 [⟨S1, word 0#32⟩, ⟨S1, word 64#32⟩] concatenates_S1_S1_S2_d0) b

theorem slab_apply (k : Fin 1024) (l : Fin 128) : slabOf w (ix2 k l)
    = if h : l.val < 64 then w (ix2 k ⟨4104 + l.val, by omega⟩) else if h : l.val < 72 then w (ix2 k ⟨2048 + (l.val - 64), by omega⟩)
      else if h : l.val < 80 then w (ix2 k ⟨4168 + (l.val - 72), by omega⟩) else 0 := by
  unfold slabOf
  refine (band_read _ _ 72 thin_window thin_start72 _ _ k l).trans ?_
  split
  · next h =>
    rw [dif_neg (by omega), dif_neg (by omega), dif_pos (by omega)]
    pointwise
  · next h =>
    refine (band_read _ _ 64 thin_window thin_start64 _ _ k l).trans ?_
    split
    · next h' =>
      rw [dif_neg (by omega), dif_pos (by omega)]
      pointwise
    · next h' =>
      refine (band_read _ _ 0 wide_window wide_start _ _ k l).trans ?_
      split
      · next h2 =>
        rw [dif_pos (by omega)]
        pointwise
      · next h2 =>
        rw [dif_neg (by omega), dif_neg (by omega), dif_neg (by omega)]
        pointwise

/-- Which of the weights' columns a column of the table's first 4096 is. -/
def column (j : Fin 4096) : Fin 4176 :=
  if h : j.val < 2048 then ⟨j.val, by omega⟩ else if h : j.val < 2560 then ⟨2056 + (j.val - 2048), by omega⟩
  else if h : j.val < 3072 then ⟨3592 + (j.val - 2560), by omega⟩ else if h : j.val < 3584 then ⟨2568 + (j.val - 3072), by omega⟩
  else ⟨3080 + (j.val - 3584), by omega⟩

theorem table_apply (k : Fin 1024) (j : Fin 4224) : tableOf w (ix2 k j)
    = if h : j.val < 4096 then w (ix2 k (column ⟨j.val, h⟩)) else slabOf w (ix2 k ⟨j.val - 4096, by omega⟩) := by
  unfold tableOf
  generalize slabOf w = T
  pointwise
  have key : ∀ (h : j.val < 4096) (q : Fin 4176), q.val = (if j.val < 2048 then j.val else if j.val < 2560 then 2056 + (j.val - 2048) else if j.val < 3072 then 3592 + (j.val - 2560)
      else if j.val < 3584 then 2568 + (j.val - 3072) else 3080 + (j.val - 3584)) → w (ix2 k q) = w (ix2 k (column ⟨j.val, h⟩)) := by
    intro h q hq
    refine congrArg (fun q => w (ix2 k q)) (Fin.ext (hq.trans ?_))
    unfold column
    dsimp only
    split_ifs <;> rfl
  by_cases h : j.val < 4096
  · rw [dif_pos h]
    by_cases h0 : j.val < 512
    · rw [dif_pos h0]
      exact key h _ (by dsimp only; split_ifs <;> omega)
    rw [dif_neg h0]
    by_cases h1 : j.val - 512 < 512
    · rw [dif_pos h1]
      exact key h _ (by dsimp only; split_ifs <;> omega)
    rw [dif_neg h1]
    by_cases h2 : j.val - 512 - 512 < 512
    · rw [dif_pos h2]
      exact key h _ (by dsimp only; split_ifs <;> omega)
    rw [dif_neg h2]
    by_cases h3 : j.val - 512 - 512 - 512 < 512
    · rw [dif_pos h3]
      exact key h _ (by dsimp only; split_ifs <;> omega)
    rw [dif_neg h3]
    by_cases h4 : j.val - 512 - 512 - 512 - 512 < 512
    · rw [dif_pos h4]
      exact key h _ (by dsimp only; split_ifs <;> omega)
    rw [dif_neg h4]
    by_cases h5 : j.val - 512 - 512 - 512 - 512 - 512 < 512
    · rw [dif_pos h5]
      exact key h _ (by dsimp only; split_ifs <;> omega)
    rw [dif_neg h5]
    by_cases h6 : j.val - 512 - 512 - 512 - 512 - 512 - 512 < 512
    · rw [dif_pos h6]
      exact key h _ (by dsimp only; split_ifs <;> omega)
    rw [dif_neg h6]
    rw [dif_pos (by omega : j.val - 512 - 512 - 512 - 512 - 512 - 512 - 512 < 512)]
    exact key h _ (by dsimp only; split_ifs <;> omega)
  · rw [dif_neg h]
    rw [dif_neg (by omega : ¬ j.val < 512), dif_neg (by omega : ¬ j.val - 512 < 512), dif_neg (by omega : ¬ j.val - 512 - 512 < 512), dif_neg (by omega : ¬ j.val - 512 - 512 - 512 < 512), dif_neg (by omega : ¬ j.val - 512 - 512 - 512 - 512 < 512), dif_neg (by omega : ¬ j.val - 512 - 512 - 512 - 512 - 512 < 512), dif_neg (by omega : ¬ j.val - 512 - 512 - 512 - 512 - 512 - 512 < 512), dif_neg (by omega : ¬ j.val - 512 - 512 - 512 - 512 - 512 - 512 - 512 < 512)]
    exact congrArg (fun q => T (ix2 k q)) (Fin.ext (by show j.val - 512 - 512 - 512 - 512 - 512 - 512 - 512 - 512 = j.val - 4096; omega))

theorem lands_bias (k : Fin 8) (l : Fin 128) :
    scatter_S1x128_S2_S8_0_0_01_0.resultIdx? (ValueIdx.ix1 k) (concatenate S2 0 [⟨S1, word 0#32⟩, ⟨S1, word 64#32⟩] concatenates_S1_S1_S2_d0) = some (ValueIdx.ix2 0 l) ↔ 64 + k.val = l.val := by
  have hw0 : scatter_S1x128_S2_S8_0_0_01_0.window (ValueIdx.ix1 k) 0 = 0 := rfl
  have hw1 : scatter_S1x128_S2_S8_0_0_01_0.window (ValueIdx.ix1 k) 1 = k.val := rfl
  refine (resultIdx?_ix2 (R := 1) (C := 128) scatter_S1x128_S2_S8_0_0_01_0 (ValueIdx.ix1 k) _ 0 l).trans ?_
  have s0 := start_pair (R := 1) (C := 128) scatter_S1x128_S2_S8_0_0_01_0 rfl rfl (concatenate S2 0 [⟨S1, word 0#32⟩, ⟨S1, word 64#32⟩] concatenates_S1_S1_S2_d0) (ValueIdx.ix1 k) 0
  have s1 := start_pair (R := 1) (C := 128) scatter_S1x128_S2_S8_0_0_01_0 rfl rfl (concatenate S2 0 [⟨S1, word 0#32⟩, ⟨S1, word 64#32⟩] concatenates_S1_S1_S2_d0) (ValueIdx.ix1 k) 1
  have t0 : ((concatenate S2 0 [⟨S1, word 0#32⟩, ⟨S1, word 64#32⟩] concatenates_S1_S1_S2_d0) (ValueIdx.ix1 (0 : Fin 2))).toInt = 0 := by
    rw [same1]; pointwise; rfl
  have t1 : ((concatenate S2 0 [⟨S1, word 0#32⟩, ⟨S1, word 64#32⟩] concatenates_S1_S1_S2_d0) (ValueIdx.ix1 (1 : Fin 2))).toInt = 64 := by
    rw [same1]; pointwise; rfl
  rw [s0, s1, hw0, hw1, t0, t1]
  constructor
  · rintro ⟨-, h⟩; omega
  · intro h; exact ⟨rfl, by omega⟩

theorem bias_apply (b : Vec Ideal S8 .f32) (l : Fin 128) : biasOf b (ix2 0 l)
    = if h : 64 ≤ l.val ∧ l.val < 72 then b (ix1 ⟨l.val - 64, by omega⟩) else 0 := by
  unfold biasOf
  rw [← same2]
  split
  · next h =>
    refine scatter_set_hit _ _ _ b _ _ (fun k hk => ?_) (ValueIdx.ix1 ⟨l.val - 64, by omega⟩) ((lands_bias _ l).2 (by show 64 + (l.val - 64) = l.val; omega))
    have e : k = ValueIdx.ix1 (k 0) := ValueIdx.eq_ix1 k
    rw [e] at hk ⊢
    have h' := (lands_bias (k 0) l).1 hk
    rw [same1]
    exact congrArg (fun q => b (ix1 q)) (Fin.ext (by show (k 0).val = l.val - 64; omega))
  · next h =>
    refine (scatter_set_miss _ _ _ b _ (fun k hk => h ?_)).trans ?_
    · have e : k = ValueIdx.ix1 (k 0) := ValueIdx.eq_ix1 k
      rw [e] at hk
      have h' := (lands_bias (k 0) l).1 hk
      have : (k 0).val < 8 := (k 0).isLt
      omega
    · rw [same2]
      pointwise

variable (m : (ℓ : Loc nD τ sig) → Buf (Elt Ideal) ℓ) (c : Dev nD)

/-- The pieces laid side by side and rounded. -/
def joined (a b d e f g h i : Vec Ideal S1024x512 .f32) (s : Vec Ideal S1024x128 .f32) : Vec Ideal S1024x4224 .bf16 :=
  truncf (F := Ideal) .bf16 (concatenate S1024x4224 1 [⟨S1024x512, a⟩, ⟨S1024x512, b⟩, ⟨S1024x512, d⟩, ⟨S1024x512, e⟩,
    ⟨S1024x512, f⟩, ⟨S1024x512, g⟩, ⟨S1024x512, h⟩, ⟨S1024x512, i⟩, ⟨S1024x128, s⟩] concatenates_S1024x512_S1024x512_S1024x512_S1024x512_S1024x512_S1024x512_S1024x512_S1024x512_S1024x128_S1024x4224_d1) bitsLt_bf16_f32

/-- The buffers after the slices are cut and the small projections gathered. -/
def cutState : Valuation τ sig (Elt Ideal) := StableHlo.after (List.take 22 hostOps0) (fun b => m (c, b))

theorem split_after {ops : List (HloOp τ sig (Elt Ideal))} (n : ℕ) (W : Valuation τ sig (Elt Ideal)) :
    StableHlo.after ops W = StableHlo.after (ops.drop n) (StableHlo.after (ops.take n) W) := by
  induction n generalizing ops W with
  | zero => rfl
  | succ n ih => cases ops with
    | nil => rfl
    | cons o ops => exact ih (o.result W)

theorem tail_read (W : Valuation τ sig (Elt Ideal)) :
    StableHlo.after (List.drop 22 (hostOps0 (F := Ideal))) W (Proc.devRef .tc main_v24)
      = joined (W (Proc.devRef .tc main_v10)) (W (Proc.devRef .tc main_v11)) (W (Proc.devRef .tc main_v12)) (W (Proc.devRef .tc main_v13))
          (W (Proc.devRef .tc main_v14)) (W (Proc.devRef .tc main_v15)) (W (Proc.devRef .tc main_v16)) (W (Proc.devRef .tc main_v17)) (W (Proc.devRef .tc main_v9)) := by
  simp only [List.drop_succ_cons, List.drop_zero, StableHlo.after_cons, StableHlo.after_nil]
  rw [StableHlo.unary_result]
  simp (disch := decide) only [StableHlo.nullary_result_ne', StableHlo.unary_result_ne', StableHlo.binary_result_ne', StableHlo.ternary_result_ne']
  rw [StableHlo.nary_result]
  rfl

theorem cut_10 : cutState m c (Proc.devRef .tc main_v10) = extractStridedSlice S1024x512 ![0, 0] (m ((c.tc : Thread nD τ).loc main_arg1)) slices_S1024x4176_S1024x512_0_0 := by
  unfold cutState
  simp only [List.take_succ_cons, List.take_zero]
  entry_read
  rfl

theorem cut_11 : cutState m c (Proc.devRef .tc main_v11) = extractStridedSlice S1024x512 ![0, 512] (m ((c.tc : Thread nD τ).loc main_arg1)) slices_S1024x4176_S1024x512_0_512 := by
  unfold cutState
  simp only [List.take_succ_cons, List.take_zero]
  entry_read
  rfl

theorem cut_12 : cutState m c (Proc.devRef .tc main_v12) = extractStridedSlice S1024x512 ![0, 1024] (m ((c.tc : Thread nD τ).loc main_arg1)) slices_S1024x4176_S1024x512_0_1024 := by
  unfold cutState
  simp only [List.take_succ_cons, List.take_zero]
  entry_read
  rfl

theorem cut_13 : cutState m c (Proc.devRef .tc main_v13) = extractStridedSlice S1024x512 ![0, 1536] (m ((c.tc : Thread nD τ).loc main_arg1)) slices_S1024x4176_S1024x512_0_1536 := by
  unfold cutState
  simp only [List.take_succ_cons, List.take_zero]
  entry_read
  rfl

theorem cut_14 : cutState m c (Proc.devRef .tc main_v14) = extractStridedSlice S1024x512 ![0, 2056] (m ((c.tc : Thread nD τ).loc main_arg1)) slices_S1024x4176_S1024x512_0_2056 := by
  unfold cutState
  simp only [List.take_succ_cons, List.take_zero]
  entry_read
  rfl

theorem cut_15 : cutState m c (Proc.devRef .tc main_v15) = extractStridedSlice S1024x512 ![0, 3592] (m ((c.tc : Thread nD τ).loc main_arg1)) slices_S1024x4176_S1024x512_0_3592 := by
  unfold cutState
  simp only [List.take_succ_cons, List.take_zero]
  entry_read
  rfl

theorem cut_16 : cutState m c (Proc.devRef .tc main_v16) = extractStridedSlice S1024x512 ![0, 2568] (m ((c.tc : Thread nD τ).loc main_arg1)) slices_S1024x4176_S1024x512_0_2568 := by
  unfold cutState
  simp only [List.take_succ_cons, List.take_zero]
  entry_read
  rfl

theorem cut_17 : cutState m c (Proc.devRef .tc main_v17) = extractStridedSlice S1024x512 ![0, 3080] (m ((c.tc : Thread nD τ).loc main_arg1)) slices_S1024x4176_S1024x512_0_3080 := by
  unfold cutState
  simp only [List.take_succ_cons, List.take_zero]
  entry_read
  rfl

theorem cut_9 : cutState m c (Proc.devRef .tc main_v9) = slabOf (m ((c.tc : Thread nD τ).loc main_arg1)) := by
  unfold cutState
  simp only [List.take_succ_cons, List.take_zero]
  entry_read
  rfl

theorem V_table : (V m c main_v24 : Vec Ideal S1024x4224 .bf16) = tableOf (m ((c.tc : Thread nD τ).loc main_arg1)) := by
  show StableHlo.after hostOps0 _ _ = _
  rw [split_after 22]
  refine (tail_read (cutState m c)).trans ?_
  rw [cut_9, cut_10, cut_11, cut_12, cut_13, cut_14, cut_15, cut_16, cut_17]
  rfl

set_option maxRecDepth 65536 in
set_option maxHeartbeats 1600000 in
theorem V_bias : (V m c main_v23 : Vec Ideal S1x128 .f32) = biasOf (m ((c.tc : Thread nD τ).loc main_arg2)) := by
  show StableHlo.after hostOps0 _ _ = _
  entry_read
  rfl

end Cert.Kernel2Ideal.Hand

end
-- ==== Proof.InEven.lean ====
module

public import proofs.«01_k».proof.Defs
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.InEvenHost
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

/-! The input projection of the even layers: 256 rows at a time against the whole rearranged weight table, the
product's columns sent to seven arrays, some of them scaled, shifted or rounded on the way. -/

namespace Cert.Kernel2Ideal.Hand

open Idealize.ShloMosaic Idealize.ShloMosaic.TcCoe Idealize.SL.Sem
open Cert.Kernel2Ideal Cert.Kernel2Ideal.Gen

variable (m : (ℓ : Loc nD τ sig) → Buf (Elt Ideal) ℓ) (c : Dev nD)

/-- The rows projected. -/
abbrev rows : Vec Ideal S32768x1024 .f32 := m ((c.tc : Thread nD τ).loc main_arg0)
/-- The weights they are projected by. -/
abbrev weights : Vec Ideal S1024x4176 .f32 := m ((c.tc : Thread nD τ).loc main_arg1)
/-- The gate's bias. -/
abbrev shift : Vec Ideal S8 .f32 := m ((c.tc : Thread nD τ).loc main_arg2)

/-- One element of the product. -/
def product (x : Vec Ideal S32768x1024 .f32) (w : Vec Ideal S1024x4176 .f32) (n : Fin 32768) (j : Fin 4176) : EReal :=
  ∑ k : Fin 1024, x (ix2 n k) * w (ix2 k j)

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![t.val, 0] := by decide +kernel
theorem idx4 : ∀ t : Fin grid0.N, win0_4.index t = ![t.val, 0] := by decide +kernel
theorem idx5 : ∀ t : Fin grid0.N, win0_5.index t = ![t.val, 0] := by decide +kernel
theorem idx6 : ∀ t : Fin grid0.N, win0_6.index t = ![t.val, 0] := by decide +kernel
theorem idx7 : ∀ t : Fin grid0.N, win0_7.index t = ![t.val, 0] := by decide +kernel
theorem idx8 : ∀ t : Fin grid0.N, win0_8.index t = ![t.val, 0] := by decide +kernel
theorem idx9 : ∀ t : Fin grid0.N, win0_9.index t = ![t.val, 0] := by decide +kernel

theorem read_x (t : Fin cfg0.N) (p : Fin 256) (k : Fin 1024) (h : 256 * t.val + p.val < 32768) :
    iblk m c 0 t (ix2 p k) = rows m c (ix2 ⟨256 * t.val + p.val, h⟩ k) := by
  blk_ext [iblk, V, idx0 t]

theorem whole_t (t : Fin cfg0.N) (k : Fin 1024) (j : Fin 4224) :
    iblk m c 1 t (ix2 k j) = (V m c main_v24 : Vec Ideal S1024x4224 .bf16) (ix2 k j) := by
  blk_simp [iblk]
  refine congrArg (V m c main_v24) (funext fun d => ?_)
  match d with
  | ⟨0, _⟩ => exact Fin.ext (by blk_simp [idx1 t])
  | ⟨1, _⟩ => exact Fin.ext (by blk_simp [idx1 t])

theorem whole_b (t : Fin cfg0.N) (l : Fin 128) :
    iblk m c 2 t (ix2 0 l) = (V m c main_v23 : Vec Ideal S1x128 .f32) (ix2 0 l) := by
  blk_simp [iblk]
  refine congrArg (V m c main_v23) (funext fun d => ?_)
  match d with
  | ⟨0, _⟩ => exact Fin.ext (by blk_simp [idx2 t])
  | ⟨1, _⟩ => exact Fin.ext (by blk_simp [idx2 t])

/-- A column of the table's first 4096 is one of the weights'. -/
theorem read_w (t : Fin cfg0.N) (k : Fin 1024) (j : Fin 4224) (h : j.val < 4096) :
    iblk m c 1 t (ix2 k j) = weights m c (ix2 k (column ⟨j.val, h⟩)) :=
  (whole_t m c t k j).trans ((congrFun (V_table m c) (ix2 k j)).trans ((table_apply _ k j).trans (dif_pos h)))
/-- The columns after them are the band of the small projections. -/
theorem read_s (t : Fin cfg0.N) (k : Fin 1024) (l : Fin 128) :
    iblk m c 1 t (ix2 k (⟨4096 + l.val, by omega⟩ : Fin 4224)) = slabOf (weights m c) (ix2 k l) :=
  (whole_t m c t k _).trans ((congrFun (V_table m c) (ix2 k _)).trans ((table_apply _ k _).trans ((dif_neg (by simp)).trans
    (congrArg (fun q => slabOf (weights m c) (ix2 k q)) (Fin.ext (by simp))))))
theorem read_b (t : Fin cfg0.N) (l : Fin 128) : iblk m c 2 t (ix2 0 l) = biasOf (shift m c) (ix2 0 l) :=
  (whole_b m c t l).trans (congrFun (V_bias m c) (ix2 0 l))

theorem row_lt (t : Fin cfg0.N) (p : Fin 256) : 256 * t.val + p.val < 32768 := by
  have h : t.val < 128 := t.isLt
  omega

section loads
variable (t : Fin cfg0.N) (k : Fin 1024)
theorem ld_a (j : Fin 512) : View.ld (iblk m c 1 t) (Rect.unit ![0, 0] ![1024, 512] inb_S1024x4224_S1024x512_0_0) (ix2 k j)
    = weights m c (ix2 k (column ⟨0 + j.val, by omega⟩)) := by
  refine Eq.trans ?_ (read_w m c t k ⟨0 + j.val, by omega⟩ (by dsimp only; omega))
  generalize iblk m c 1 t = A
  pointwise
theorem ld_q (j : Fin 512) : View.ld (iblk m c 1 t) (Rect.unit ![0, 512] ![1024, 512] inb_S1024x4224_S1024x512_0_512) (ix2 k j)
    = weights m c (ix2 k (column ⟨512 + j.val, by omega⟩)) := by
  refine Eq.trans ?_ (read_w m c t k ⟨512 + j.val, by omega⟩ (by dsimp only; omega))
  generalize iblk m c 1 t = A
  pointwise
theorem ld_g (j : Fin 1024) : View.ld (iblk m c 1 t) (Rect.unit ![0, 1024] ![1024, 1024] inb_S1024x4224_S1024x1024_0_1024) (ix2 k j)
    = weights m c (ix2 k (column ⟨1024 + j.val, by omega⟩)) := by
  refine Eq.trans ?_ (read_w m c t k ⟨1024 + j.val, by omega⟩ (by dsimp only; omega))
  generalize iblk m c 1 t = A
  pointwise
theorem ld_bq (j : Fin 1024) : View.ld (iblk m c 1 t) (Rect.unit ![0, 2048] ![1024, 1024] inb_S1024x4224_S1024x1024_0_2048) (ix2 k j)
    = weights m c (ix2 k (column ⟨2048 + j.val, by omega⟩)) := by
  refine Eq.trans ?_ (read_w m c t k ⟨2048 + j.val, by omega⟩ (by dsimp only; omega))
  generalize iblk m c 1 t = A
  pointwise
theorem ld_bk (j : Fin 512) : View.ld (iblk m c 1 t) (Rect.unit ![0, 3072] ![1024, 512] inb_S1024x4224_S1024x512_0_3072) (ix2 k j)
    = weights m c (ix2 k (column ⟨3072 + j.val, by omega⟩)) := by
  refine Eq.trans ?_ (read_w m c t k ⟨3072 + j.val, by omega⟩ (by dsimp only; omega))
  generalize iblk m c 1 t = A
  pointwise
theorem ld_bv (j : Fin 512) : View.ld (iblk m c 1 t) (Rect.unit ![0, 3584] ![1024, 512] inb_S1024x4224_S1024x512_0_3584) (ix2 k j)
    = weights m c (ix2 k (column ⟨3584 + j.val, by omega⟩)) := by
  refine Eq.trans ?_ (read_w m c t k ⟨3584 + j.val, by omega⟩ (by dsimp only; omega))
  generalize iblk m c 1 t = A
  pointwise
theorem ld_s (l : Fin 128) : View.ld (iblk m c 1 t) (Rect.unit ![0, 4096] ![1024, 128] inb_S1024x4224_S1024x128_0_4096) (ix2 k l)
    = slabOf (weights m c) (ix2 k l) := by
  refine Eq.trans ?_ (read_s m c t k l)
  generalize iblk m c 1 t = A
  pointwise
end loads

/-- The factor the second 512 columns are scaled by. -/
abbrev factor : EReal := Scalar.ofBits (F := Ideal) .f32 0x3DB504F3#32

section payloads
variable (X : Vec Ideal S256x1024 .f32) (p : Fin 256)
theorem mul_a (W : Vec Ideal S1024x512 .bf16) (j : Fin 512) :
    k0_pay5 X W (ix2 p j) = ∑ k : Fin 1024, X (ix2 p k) * W (ix2 k j) := by
  pointwise [k0_pay5, k0_pay4]
theorem mul_q (W : Vec Ideal S1024x512 .bf16) (j : Fin 512) :
    k0_pay6 X W (ix2 p j) = (∑ k : Fin 1024, X (ix2 p k) * W (ix2 k j)) * factor := by
  pointwise [k0_pay6, k0_pay4]
theorem mul_g (W : Vec Ideal S1024x1024 .bf16) (j : Fin 1024) :
    k0_pay7 X W (ix2 p j) = ∑ k : Fin 1024, X (ix2 p k) * W (ix2 k j) := by
  pointwise [k0_pay7, k0_pay4]
theorem mul_bq (W : Vec Ideal S1024x1024 .bf16) (j : Fin 1024) :
    k0_pay8 X W (ix2 p j) = ∑ k : Fin 1024, X (ix2 p k) * W (ix2 k j) := by
  pointwise [k0_pay8, k0_pay4]
theorem mul_bk (W : Vec Ideal S1024x512 .bf16) (j : Fin 512) :
    k0_pay9 X W (ix2 p j) = ∑ k : Fin 1024, X (ix2 p k) * W (ix2 k j) := by
  pointwise [k0_pay9, k0_pay4]
theorem mul_bk16 (W : Vec Ideal S1024x512 .bf16) (j : Fin 512) :
    k0_pay10 X W (ix2 p j) = ∑ k : Fin 1024, X (ix2 p k) * W (ix2 k j) := by
  pointwise [k0_pay10, k0_pay9, k0_pay4]
theorem mul_bv (W : Vec Ideal S1024x512 .bf16) (j : Fin 512) :
    k0_pay1 (k0_pay4 X) W (ix2 p j) = ∑ k : Fin 1024, X (ix2 p k) * W (ix2 k j) := by
  pointwise [k0_pay1, k0_pay4]
theorem mul_bv16 (W : Vec Ideal S1024x512 .bf16) (j : Fin 512) :
    k0_pay2 (k0_pay4 X) W (ix2 p j) = ∑ k : Fin 1024, X (ix2 p k) * W (ix2 k j) := by
  pointwise [k0_pay2, k0_pay1, k0_pay4]
theorem mul_s (W : Vec Ideal S1024x128 .bf16) (B : Vec Ideal S1x128 .f32) (l : Fin 128) :
    k0_pay3 (k0_pay4 X) W B (ix2 p l) = (∑ k : Fin 1024, X (ix2 p k) * W (ix2 k l)) + B (ix2 0 l) := by
  pointwise [k0_pay3, k0_pay4]
end payloads

/-- One row of a block against the table's columns. -/
theorem row_sum (t : Fin cfg0.N) (p : Fin 256) (X : Vec Ideal S256x1024 .f32) (hX : ∀ k, X (ix2 p k) = rows m c (ix2 ⟨256 * t.val + p.val, row_lt t p⟩ k))
    (f : Fin 1024 → EReal) (q : Fin 4176) (hf : ∀ k, f k = weights m c (ix2 k q)) :
    (∑ k : Fin 1024, X (ix2 p k) * f k) = product (rows m c) (weights m c) ⟨256 * t.val + p.val, row_lt t p⟩ q :=
  Finset.sum_congr rfl fun k _ => congrArg₂ (· * ·) (hX k) (hf k)

/-- A row against a column of zeros. -/
theorem row_zero (p : Fin 256) (X : Vec Ideal S256x1024 .f32) (f : Fin 1024 → EReal) (hf : ∀ k, f k = 0) :
    (∑ k : Fin 1024, X (ix2 p k) * f k) = 0 :=
  Finset.sum_eq_zero fun k _ => by rw [hf k, mul_zero]

section blocks
variable (t : Fin cfg0.N) (p : Fin 256)
theorem block_a (j : Fin 512) : k0_pay5 (iblk m c 0 t) (View.ld (iblk m c 1 t) (Rect.unit ![0, 0] ![1024, 512] inb_S1024x4224_S1024x512_0_0)) (ix2 p j)
    = product (rows m c) (weights m c) ⟨256 * t.val + p.val, row_lt t p⟩ (column ⟨0 + j.val, by omega⟩) :=
  (mul_a _ p _ j).trans (row_sum m c t p _ (fun k => read_x m c t p k _) _ _ fun k => ld_a m c t k j)
theorem block_g (j : Fin 1024) : k0_pay7 (iblk m c 0 t) (View.ld (iblk m c 1 t) (Rect.unit ![0, 1024] ![1024, 1024] inb_S1024x4224_S1024x1024_0_1024)) (ix2 p j)
    = product (rows m c) (weights m c) ⟨256 * t.val + p.val, row_lt t p⟩ (column ⟨1024 + j.val, by omega⟩) :=
  (mul_g _ p _ j).trans (row_sum m c t p _ (fun k => read_x m c t p k _) _ _ fun k => ld_g m c t k j)
theorem block_bq (j : Fin 1024) : k0_pay8 (iblk m c 0 t) (View.ld (iblk m c 1 t) (Rect.unit ![0, 2048] ![1024, 1024] inb_S1024x4224_S1024x1024_0_2048)) (ix2 p j)
    = product (rows m c) (weights m c) ⟨256 * t.val + p.val, row_lt t p⟩ (column ⟨2048 + j.val, by omega⟩) :=
  (mul_bq _ p _ j).trans (row_sum m c t p _ (fun k => read_x m c t p k _) _ _ fun k => ld_bq m c t k j)
theorem block_bk (j : Fin 512) : k0_pay9 (iblk m c 0 t) (View.ld (iblk m c 1 t) (Rect.unit ![0, 3072] ![1024, 512] inb_S1024x4224_S1024x512_0_3072)) (ix2 p j)
    = product (rows m c) (weights m c) ⟨256 * t.val + p.val, row_lt t p⟩ (column ⟨3072 + j.val, by omega⟩) :=
  (mul_bk _ p _ j).trans (row_sum m c t p _ (fun k => read_x m c t p k _) _ _ fun k => ld_bk m c t k j)
theorem block_bk16 (j : Fin 512) : k0_pay10 (iblk m c 0 t) (View.ld (iblk m c 1 t) (Rect.unit ![0, 3072] ![1024, 512] inb_S1024x4224_S1024x512_0_3072)) (ix2 p j)
    = product (rows m c) (weights m c) ⟨256 * t.val + p.val, row_lt t p⟩ (column ⟨3072 + j.val, by omega⟩) :=
  (mul_bk16 _ p _ j).trans (row_sum m c t p _ (fun k => read_x m c t p k _) _ _ fun k => ld_bk m c t k j)
theorem block_bv (j : Fin 512) : k0_pay1 (k0_pay4 (iblk m c 0 t)) (View.ld (iblk m c 1 t) (Rect.unit ![0, 3584] ![1024, 512] inb_S1024x4224_S1024x512_0_3584)) (ix2 p j)
    = product (rows m c) (weights m c) ⟨256 * t.val + p.val, row_lt t p⟩ (column ⟨3584 + j.val, by omega⟩) :=
  (mul_bv _ p _ j).trans (row_sum m c t p _ (fun k => read_x m c t p k _) _ _ fun k => ld_bv m c t k j)
theorem block_bv16 (j : Fin 512) : k0_pay2 (k0_pay4 (iblk m c 0 t)) (View.ld (iblk m c 1 t) (Rect.unit ![0, 3584] ![1024, 512] inb_S1024x4224_S1024x512_0_3584)) (ix2 p j)
    = product (rows m c) (weights m c) ⟨256 * t.val + p.val, row_lt t p⟩ (column ⟨3584 + j.val, by omega⟩) :=
  (mul_bv16 _ p _ j).trans (row_sum m c t p _ (fun k => read_x m c t p k _) _ _ fun k => ld_bv m c t k j)
theorem block_q (j : Fin 512) : k0_pay6 (iblk m c 0 t) (View.ld (iblk m c 1 t) (Rect.unit ![0, 512] ![1024, 512] inb_S1024x4224_S1024x512_0_512)) (ix2 p j)
    = product (rows m c) (weights m c) ⟨256 * t.val + p.val, row_lt t p⟩ (column ⟨512 + j.val, by omega⟩) * factor :=
  (mul_q _ p _ j).trans (congrArg (· * factor) (row_sum m c t p _ (fun k => read_x m c t p k _) _ _ fun k => ld_q m c t k j))
end blocks

/-- One element of the first array. -/
def cellA (x : Vec Ideal S32768x1024 .f32) (w : Vec Ideal S1024x4176 .f32) (n : Fin 32768) (j : Fin 2048) : EReal :=
  if 512 ≤ j.val ∧ j.val < 1024 then product x w n (column ⟨j.val, by omega⟩) * factor else product x w n (column ⟨j.val, by omega⟩)

/-- One element of the array of the small projections. -/
def cellS (x : Vec Ideal S32768x1024 .f32) (w : Vec Ideal S1024x4176 .f32) (b : Vec Ideal S8 .f32) (n : Fin 32768) (l : Fin 128) : EReal :=
  if h : l.val < 64 then product x w n ⟨4104 + l.val, by omega⟩
  else if h : l.val < 72 then product x w n ⟨2048 + (l.val - 64), by omega⟩ + b (ix1 ⟨l.val - 64, by omega⟩)
  else if h : l.val < 80 then product x w n ⟨4168 + (l.val - 72), by omega⟩ else 0

theorem cell_plain (x : Vec Ideal S32768x1024 .f32) (w : Vec Ideal S1024x4176 .f32) {n n' : Fin 32768} {q : Fin 4096} {j : Fin 2048}
    (hn : n = n') (hq : q.val = j.val) (h : ¬ (512 ≤ j.val ∧ j.val < 1024)) : product x w n (column q) = cellA x w n' j := by
  subst hn
  unfold cellA
  rw [if_neg h]
  exact congrArg (fun q => product x w n (column q)) (Fin.ext hq)

theorem cell_scaled (x : Vec Ideal S32768x1024 .f32) (w : Vec Ideal S1024x4176 .f32) {n n' : Fin 32768} {q : Fin 4096} {j : Fin 2048}
    (hn : n = n') (hq : q.val = j.val) (h : 512 ≤ j.val ∧ j.val < 1024) : product x w n (column q) * factor = cellA x w n' j := by
  subst hn
  unfold cellA
  rw [if_pos h]
  exact congrArg (fun q => product x w n (column q) * factor) (Fin.ext hq)

theorem block_s (t : Fin cfg0.N) (p : Fin 256) (l : Fin 128) :
    k0_pay3 (k0_pay4 (iblk m c 0 t)) (View.ld (iblk m c 1 t) (Rect.unit ![0, 4096] ![1024, 128] inb_S1024x4224_S1024x128_0_4096)) (iblk m c 2 t) (ix2 p l)
      = cellS (rows m c) (weights m c) (shift m c) ⟨256 * t.val + p.val, row_lt t p⟩ l := by
  refine (mul_s _ p _ _ l).trans ?_
  have hb : iblk m c 2 t (ix2 0 l) = if h : 64 ≤ l.val ∧ l.val < 72 then shift m c (ix1 ⟨l.val - 64, by omega⟩) else (0 : EReal) :=
    (read_b m c t l).trans (bias_apply _ l)
  have hs := fun k => (ld_s m c t k l).trans (slab_apply _ k l)
  refine (congrArg₂ (· + ·) rfl hb).trans ?_
  unfold cellS
  by_cases h0 : l.val < 64
  · rw [dif_pos h0, dif_neg (by omega), add_zero]
    exact row_sum m c t p _ (fun k => read_x m c t p k _) _ _ fun k => (hs k).trans (dif_pos h0)
  by_cases h1 : l.val < 72
  · rw [dif_neg h0, dif_pos h1, dif_pos ⟨by omega, h1⟩]
    exact congrArg (· + _) (row_sum m c t p _ (fun k => read_x m c t p k _) _ _ fun k => (hs k).trans ((dif_neg h0).trans (dif_pos h1)))
  by_cases h2 : l.val < 80
  · rw [dif_neg h0, dif_neg h1, dif_pos h2, dif_neg (by omega), add_zero]
    exact row_sum m c t p _ (fun k => read_x m c t p k _) _ _ fun k => (hs k).trans ((dif_neg h0).trans ((dif_neg h1).trans (dif_pos h2)))
  · rw [dif_neg h0, dif_neg h1, dif_neg h2, dif_neg (by omega), add_zero]
    exact row_zero p _ _ fun k => (hs k).trans ((dif_neg h0).trans ((dif_neg h1).trans (dif_neg h2)))

/-- The seven arrays the projection ends with. -/
def outA : Vec Ideal S32768x2048 .f32 := fun y => cellA (rows m c) (weights m c) (y 0) (y 1)
def outBq : Vec Ideal S32768x1024 .f32 := fun y =>
  product (rows m c) (weights m c) (y 0) (column ⟨2048 + (y 1).val, Nat.lt_of_lt_of_le (Nat.add_lt_add_left (y 1).isLt 2048) (by decide)⟩)
def outBk : Vec Ideal S32768x512 .f32 := fun y =>
  product (rows m c) (weights m c) (y 0) (column ⟨3072 + (y 1).val, Nat.lt_of_lt_of_le (Nat.add_lt_add_left (y 1).isLt 3072) (by decide)⟩)
def outBv : Vec Ideal S32768x512 .f32 := fun y =>
  product (rows m c) (weights m c) (y 0) (column ⟨3584 + (y 1).val, Nat.lt_of_lt_of_le (Nat.add_lt_add_left (y 1).isLt 3584) (by decide)⟩)
def outBk16 : Vec Ideal S32768x512 .bf16 := fun y =>
  product (rows m c) (weights m c) (y 0) (column ⟨3072 + (y 1).val, Nat.lt_of_lt_of_le (Nat.add_lt_add_left (y 1).isLt 3072) (by decide)⟩)
def outBv16 : Vec Ideal S32768x512 .bf16 := fun y =>
  product (rows m c) (weights m c) (y 0) (column ⟨3584 + (y 1).val, Nat.lt_of_lt_of_le (Nat.add_lt_add_left (y 1).isLt 3584) (by decide)⟩)
def outS : Vec Ideal S32768x128 .f32 := fun y => cellS (rows m c) (weights m c) (shift m c) (y 0) (y 1)

theorem array_a : (dats m 0 c).arrAt 3 cfg0.N = outA m c := by
  refine (dats m 0 c).arrAt_eq_of_covers 3 _ (by decide +kernel) fun t hf y => ?_
  blk_simp
  rw [after0_3]
  unfold outsAt0
  frame_out
  have hG : outA m c (((View.whole main_v25_0).slice (win0_3.rect t)).emb y)
      = cellA (rows m c) (weights m c) ⟨256 * t.val + (y 0).val, row_lt t (y 0)⟩ (y 1) := by
    refine congrArg₂ (cellA (rows m c) (weights m c)) (Fin.ext ?_) (Fin.ext ?_)
    · blk_simp [idx3 t]
      simp [Nat.mul_comm]
    · blk_simp [idx3 t]
  refine Eq.trans ?_ hG.symm
  canon_tiles x h using (View.cover_of_tiledBy _ ![256, 512] (by sl_kernel_rfl) y)
  · refine (congrArg _ (eq_ix2 x)).trans ((block_g m c t (x 0) (x 1)).trans (cell_plain _ _ (Fin.ext ?_) ?_ ?_)) <;> (try dsimp only) <;> omega
  · refine (congrArg _ (eq_ix2 x)).trans ((block_q m c t (x 0) (x 1)).trans (cell_scaled _ _ (Fin.ext ?_) ?_ ?_)) <;> (try dsimp only) <;> omega
  · refine (congrArg _ (eq_ix2 x)).trans ((block_a m c t (x 0) (x 1)).trans (cell_plain _ _ (Fin.ext ?_) ?_ ?_)) <;> (try dsimp only) <;> omega

theorem array_bq : (dats m 0 c).arrAt 4 cfg0.N = outBq m c := by
  refine (dats m 0 c).arrAt_eq_of_covers 4 _ (by decide +kernel) fun t hf y => ?_
  blk_simp
  rw [after0_4]
  unfold outsAt0
  frame_out
  have e : y = ix2 (n0 := 256) (n1 := 1024) (y 0) (y 1) := eq_ix2 y
  refine (congrArg (k0_pay8 (iblk m c 0 t) (View.ld (iblk m c 1 t) (Rect.unit ![0, 2048] ![1024, 1024] inb_S1024x4224_S1024x1024_0_2048))) e).trans ((block_bq m c t (y 0) (y 1)).trans ?_)
  refine congrArg₂ (fun n j => product (rows m c) (weights m c) n (column j)) (Fin.ext ?_) (Fin.ext ?_)
  · blk_simp [idx4 t]
    simp [Nat.mul_comm]
  · blk_simp [idx4 t]

theorem array_bk : (dats m 0 c).arrAt 5 cfg0.N = outBk m c := by
  refine (dats m 0 c).arrAt_eq_of_covers 5 _ (by decide +kernel) fun t hf y => ?_
  blk_simp
  rw [after0_5]
  unfold outsAt0
  frame_out
  have e : y = ix2 (n0 := 256) (n1 := 512) (y 0) (y 1) := eq_ix2 y
  refine (congrArg (k0_pay9 (iblk m c 0 t) (View.ld (iblk m c 1 t) (Rect.unit ![0, 3072] ![1024, 512] inb_S1024x4224_S1024x512_0_3072))) e).trans ((block_bk m c t (y 0) (y 1)).trans ?_)
  refine congrArg₂ (fun n j => product (rows m c) (weights m c) n (column j)) (Fin.ext ?_) (Fin.ext ?_)
  · blk_simp [idx5 t]
    simp [Nat.mul_comm]
  · blk_simp [idx5 t]

theorem array_bv : (dats m 0 c).arrAt 6 cfg0.N = outBv m c := by
  refine (dats m 0 c).arrAt_eq_of_covers 6 _ (by decide +kernel) fun t hf y => ?_
  blk_simp
  rw [after0_6]
  unfold outsAt0
  frame_out
  have e : y = ix2 (n0 := 256) (n1 := 512) (y 0) (y 1) := eq_ix2 y
  refine (congrArg (k0_pay1 (k0_pay4 (iblk m c 0 t)) (View.ld (iblk m c 1 t) (Rect.unit ![0, 3584] ![1024, 512] inb_S1024x4224_S1024x512_0_3584))) e).trans ((block_bv m c t (y 0) (y 1)).trans ?_)
  refine congrArg₂ (fun n j => product (rows m c) (weights m c) n (column j)) (Fin.ext ?_) (Fin.ext ?_)
  · blk_simp [idx6 t]
    simp [Nat.mul_comm]
  · blk_simp [idx6 t]

theorem array_bk16 : (dats m 0 c).arrAt 8 cfg0.N = outBk16 m c := by
  refine (dats m 0 c).arrAt_eq_of_covers 8 _ (by decide +kernel) fun t hf y => ?_
  blk_simp
  rw [after0_8]
  unfold outsAt0
  frame_out
  have e : y = ix2 (n0 := 256) (n1 := 512) (y 0) (y 1) := eq_ix2 y
  refine (congrArg (k0_pay10 (iblk m c 0 t) (View.ld (iblk m c 1 t) (Rect.unit ![0, 3072] ![1024, 512] inb_S1024x4224_S1024x512_0_3072))) e).trans ((block_bk16 m c t (y 0) (y 1)).trans ?_)
  refine congrArg₂ (fun n j => product (rows m c) (weights m c) n (column j)) (Fin.ext ?_) (Fin.ext ?_)
  · blk_simp [idx8 t]
    simp [Nat.mul_comm]
  · blk_simp [idx8 t]

theorem array_bv16 : (dats m 0 c).arrAt 9 cfg0.N = outBv16 m c := by
  refine (dats m 0 c).arrAt_eq_of_covers 9 _ (by decide +kernel) fun t hf y => ?_
  blk_simp
  rw [after0_9]
  unfold outsAt0
  frame_out
  have e : y = ix2 (n0 := 256) (n1 := 512) (y 0) (y 1) := eq_ix2 y
  refine (congrArg (k0_pay2 (k0_pay4 (iblk m c 0 t)) (View.ld (iblk m c 1 t) (Rect.unit ![0, 3584] ![1024, 512] inb_S1024x4224_S1024x512_0_3584))) e).trans ((block_bv16 m c t (y 0) (y 1)).trans ?_)
  refine congrArg₂ (fun n j => product (rows m c) (weights m c) n (column j)) (Fin.ext ?_) (Fin.ext ?_)
  · blk_simp [idx9 t]
    simp [Nat.mul_comm]
  · blk_simp [idx9 t]

theorem array_s : (dats m 0 c).arrAt 7 cfg0.N = outS m c := by
  refine (dats m 0 c).arrAt_eq_of_covers 7 _ (by decide +kernel) fun t hf y => ?_
  blk_simp
  rw [after0_7]
  unfold outsAt0
  frame_out
  have e : y = ix2 (n0 := 256) (n1 := 128) (y 0) (y 1) := eq_ix2 y
  refine (congrArg (k0_pay3 (k0_pay4 (iblk m c 0 t)) (View.ld (iblk m c 1 t) (Rect.unit ![0, 4096] ![1024, 128] inb_S1024x4224_S1024x128_0_4096)) (iblk m c 2 t)) e).trans ((block_s m c t (y 0) (y 1)).trans ?_)
  refine congrArg₂ (cellS (rows m c) (weights m c) (shift m c)) (Fin.ext ?_) (Fin.ext ?_)
  · blk_simp [idx7 t]
    simp [Nat.mul_comm]
  · blk_simp [idx7 t]

end Cert.Kernel2Ideal.Hand

namespace Cert.Reference2Ideal.Hand

open Idealize.ShloMosaic Idealize.ShloMosaic.TcCoe Idealize.SL.Sem
open Cert.Reference2Ideal Cert.Reference2Ideal.Gen
open Cert.Kernel2Ideal.Hand (column product cellA cellS factor)

theorem mul_all (X : Vec Ideal S32768x1024 .f32) (W : Vec Ideal S1024x4176 .f32) (p : Fin 32768) (j : Fin 4176) :
    Host.dotGeneral (F := Ideal) (φ₁ := .f32) (φ₂ := .f32) dot_S32768x1024_S1024x4176_S32768x4176_1_0_0_1_n_n none X W (ix2 p j) = product X W p j := by
  pointwise [product]

section cuts
variable (Y : Vec Ideal S32768x4176 .f32) (B : Vec Ideal S8 .f32) (p : Fin 32768)

theorem parts_a (j : Fin 2048) : (concatenate S32768x2048 1 [⟨S32768x512, (extractStridedSlice S32768x512 ![0, 0] Y slices_S32768x4176_S32768x512_0_0)⟩,
      ⟨S32768x512, mulf (F := Ideal) (φ := .f32) (extractStridedSlice S32768x512 ![0, 512] Y slices_S32768x4176_S32768x512_0_512) (broadcastInDim S32768x512 ![] bcast_S_S32768x512 (constant (F := Ideal) S_ .f32 0x3DB504F3#32))⟩,
      ⟨S32768x512, (extractStridedSlice S32768x512 ![0, 1024] Y slices_S32768x4176_S32768x512_0_1024)⟩, ⟨S32768x512, (extractStridedSlice S32768x512 ![0, 1536] Y slices_S32768x4176_S32768x512_0_1536)⟩]
      concatenates_S32768x512_S32768x512_S32768x512_S32768x512_S32768x2048_d1 : Vec Ideal S32768x2048 .f32) (ix2 p j)
    = if 512 ≤ j.val ∧ j.val < 1024 then Y (ix2 p (column ⟨j.val, by omega⟩)) * factor else Y (ix2 p (column ⟨j.val, by omega⟩)) := by
  have hc : column ⟨j.val, by omega⟩ = ⟨j.val, by omega⟩ := by
    unfold column
    exact dif_pos j.isLt
  rw [hc]
  pointwise
  by_cases h0 : j.val < 512
  · refine (dif_pos h0).trans (Eq.trans ?_ (if_neg (by omega)).symm)
    rfl
  refine (dif_neg h0).trans ?_
  by_cases h1 : j.val - 512 < 512
  · refine (dif_pos h1).trans (Eq.trans ?_ (if_pos (by omega)).symm)
    refine congrArg (· * factor) (congrArg (fun q => Y (ix2 p q)) (Fin.ext ?_))
    dsimp only
    omega
  refine (dif_neg h1).trans (Eq.trans ?_ (if_neg (by omega)).symm)
  by_cases h2 : j.val - 512 - 512 < 512
  · refine (dif_pos h2).trans ?_
    refine congrArg (fun q => Y (ix2 p q)) (Fin.ext ?_)
    dsimp only
    omega
  refine (dif_neg h2).trans ?_
  refine congrArg (fun q => Y (ix2 p q)) (Fin.ext ?_)
  dsimp only
  omega

theorem parts_bq (j : Fin 1024) : (concatenate S32768x1024 1 [⟨S32768x512, (extractStridedSlice S32768x512 ![0, 2056] Y slices_S32768x4176_S32768x512_0_2056)⟩, ⟨S32768x512, (extractStridedSlice S32768x512 ![0, 3592] Y slices_S32768x4176_S32768x512_0_3592)⟩]
      concatenates_S32768x512_S32768x512_S32768x1024_d1 : Vec Ideal S32768x1024 .f32) (ix2 p j) = Y (ix2 p (column ⟨2048 + j.val, by omega⟩)) := by
  pointwise
  unfold column
  dsimp only
  by_cases h0 : j.val < 512
  · rw [dif_pos h0, dif_neg (by omega), dif_pos (by omega)]
    refine congrArg (fun q => Y (ix2 p q)) (Fin.ext ?_)
    dsimp only
    omega
  · rw [dif_neg h0, dif_neg (by omega), dif_neg (by omega), dif_pos (by omega)]
    refine congrArg (fun q => Y (ix2 p q)) (Fin.ext ?_)
    dsimp only
    omega

theorem cut_bk (j : Fin 512) : (extractStridedSlice S32768x512 ![0, 2568] Y slices_S32768x4176_S32768x512_0_2568) (ix2 p j) = Y (ix2 p (column ⟨3072 + j.val, by omega⟩)) := by
  have hc : column ⟨3072 + j.val, by omega⟩ = ⟨2568 + j.val, by omega⟩ := by
    unfold column
    dsimp only
    rw [dif_neg (by omega), dif_neg (by omega), dif_neg (by omega), dif_pos (by omega)]
    exact Fin.ext (by dsimp only; omega)
  rw [hc]
  pointwise

theorem cut_bv (j : Fin 512) : (extractStridedSlice S32768x512 ![0, 3080] Y slices_S32768x4176_S32768x512_0_3080) (ix2 p j) = Y (ix2 p (column ⟨3584 + j.val, by omega⟩)) := by
  have hc : column ⟨3584 + j.val, by omega⟩ = ⟨3080 + j.val, by omega⟩ := by
    unfold column
    dsimp only
    rw [dif_neg (by omega), dif_neg (by omega), dif_neg (by omega), dif_neg (by omega)]
    exact Fin.ext (by dsimp only; omega)
  rw [hc]
  pointwise

theorem round_bk (j : Fin 512) : (truncf (F := Ideal) .bf16 (extractStridedSlice S32768x512 ![0, 2568] Y slices_S32768x4176_S32768x512_0_2568) bitsLt_bf16_f32 : Vec Ideal S32768x512 .bf16) (ix2 p j) = Y (ix2 p (column ⟨3072 + j.val, by omega⟩)) :=
  Eq.trans (by pointwise) (cut_bk Y p j)
theorem round_bv (j : Fin 512) : (truncf (F := Ideal) .bf16 (extractStridedSlice S32768x512 ![0, 3080] Y slices_S32768x4176_S32768x512_0_3080) bitsLt_bf16_f32 : Vec Ideal S32768x512 .bf16) (ix2 p j) = Y (ix2 p (column ⟨3584 + j.val, by omega⟩)) :=
  Eq.trans (by pointwise) (cut_bv Y p j)

theorem parts_s (l : Fin 128) : (concatenate S32768x128 1 [⟨S32768x64, (extractStridedSlice S32768x64 ![0, 4104] Y slices_S32768x4176_S32768x64_0_4104)⟩,
      ⟨S32768x8, addf (F := Ideal) (φ := .f32) (extractStridedSlice S32768x8 ![0, 2048] Y slices_S32768x4176_S32768x8_0_2048) (broadcastInDim S32768x8 ![0, 1] bcast_S1x8_S32768x8_0_1 (broadcastInDim S1x8 ![1] bcast_S8_S1x8_1 B))⟩,
      ⟨S32768x8, (extractStridedSlice S32768x8 ![0, 4168] Y slices_S32768x4176_S32768x8_0_4168)⟩, ⟨S32768x48, broadcastInDim S32768x48 ![] bcast_S_S32768x48 (constant (F := Ideal) S_ .f32 0x00000000#32)⟩]
      concatenates_S32768x64_S32768x8_S32768x8_S32768x48_S32768x128_d1 : Vec Ideal S32768x128 .f32) (ix2 p l)
    = if h : l.val < 64 then Y (ix2 p ⟨4104 + l.val, by omega⟩)
      else if h : l.val < 72 then Y (ix2 p ⟨2048 + (l.val - 64), by omega⟩) + B (ix1 ⟨l.val - 64, by omega⟩)
      else if h : l.val < 80 then Y (ix2 p ⟨4168 + (l.val - 72), by omega⟩) else 0 := by
  pointwise
  by_cases h0 : l.val < 64
  · refine (dif_pos h0).trans (Eq.trans ?_ (dif_pos h0).symm)
    rfl
  refine (dif_neg h0).trans (Eq.trans ?_ (dif_neg h0).symm)
  by_cases h1 : l.val < 72
  · refine (dif_pos (by omega : l.val - 64 < 8)).trans (Eq.trans ?_ (dif_pos h1).symm)
    rfl
  refine (dif_neg (by omega : ¬ l.val - 64 < 8)).trans (Eq.trans ?_ (dif_neg h1).symm)
  by_cases h2 : l.val < 80
  · refine (dif_pos (by omega : l.val - 64 - 8 < 8)).trans (Eq.trans ?_ (dif_pos h2).symm)
    refine congrArg (fun q => Y (ix2 p q)) (Fin.ext ?_)
    dsimp only
    omega
  refine (dif_neg (by omega : ¬ l.val - 64 - 8 < 8)).trans (Eq.trans ?_ (dif_neg h2).symm)
  rfl

theorem to_cellA (X : Vec Ideal S32768x1024 .f32) (W : Vec Ideal S1024x4176 .f32) (hY : ∀ p j, Y (ix2 p j) = product X W p j) (j : Fin 2048) :
    (if 512 ≤ j.val ∧ j.val < 1024 then Y (ix2 p (column ⟨j.val, by omega⟩)) * factor else Y (ix2 p (column ⟨j.val, by omega⟩))) = cellA X W p j := by
  unfold cellA
  rw [hY]

theorem to_cellS (X : Vec Ideal S32768x1024 .f32) (W : Vec Ideal S1024x4176 .f32) (hY : ∀ p j, Y (ix2 p j) = product X W p j) (l : Fin 128) :
    (if h : l.val < 64 then Y (ix2 p ⟨4104 + l.val, by omega⟩)
      else if h : l.val < 72 then Y (ix2 p ⟨2048 + (l.val - 64), by omega⟩) + B (ix1 ⟨l.val - 64, by omega⟩)
      else if h : l.val < 80 then Y (ix2 p ⟨4168 + (l.val - 72), by omega⟩) else (0 : EReal)) = cellS X W B p l := by
  unfold cellS
  simp only [hY]
end cuts

end Cert.Reference2Ideal.Hand

namespace Cert.Proof.InEven

open Idealize.ShloMosaic Idealize.ShloMosaic.TcCoe Idealize.SL.Sem

/-- The printed kernel runs, keeps its arguments and leaves every counter at zero. -/
theorem frame_kernel : Cert.quiescent_Kernel2 := fun m g _ => Cert.Kernel2.Gen.frame m g
/-- So does the kernel read at the ideal instance. -/
theorem frame_kernel_ideal : Cert.quiescent_Kernel2Ideal := fun m g _ => Cert.Kernel2Ideal.Gen.frame m g
/-- So does the reference, which has no counters. -/
theorem frame_reference : Cert.quiescent_Reference2Ideal := fun m g _ =>
  (θ_run Cert.Reference2Ideal.defs _ _).mono (fun r h => ⟨fun c => (h c).2.2.2.2.2.2.2, sem_eq_zero_of_no_sems rfl r.2⟩) (Cert.Reference2Ideal.Value.run m g)

/-- The kernel and the reference, read at the ideal instance, end with equal results. -/
theorem algebraic : Cert.algebraic_Kernel2Ideal_Reference2Ideal := fun m g m' g' _ ha =>
  ⟨fun c => Cert.Kernel2Ideal.Hand.outA m c, fun c => Cert.Kernel2Ideal.Hand.outBq m c, fun c => Cert.Kernel2Ideal.Hand.outBk m c, fun c => Cert.Kernel2Ideal.Hand.outBv m c, fun c => Cert.Kernel2Ideal.Hand.outS m c, fun c => Cert.Kernel2Ideal.Hand.outBk16 m c, fun c => Cert.Kernel2Ideal.Hand.outBv16 m c,
    (θ_run Cert.Kernel2Ideal.defs _ _).mono (fun r h c => by
        obtain ⟨h0, h1, h2, h3, h4, h5, h6, hk⟩ := h c
        exact ⟨h0.trans (Cert.Kernel2Ideal.Hand.array_a m c), h1.trans (Cert.Kernel2Ideal.Hand.array_bq m c), h2.trans (Cert.Kernel2Ideal.Hand.array_bk m c), h3.trans (Cert.Kernel2Ideal.Hand.array_bv m c),
          h4.trans (Cert.Kernel2Ideal.Hand.array_s m c), h5.trans (Cert.Kernel2Ideal.Hand.array_bk16 m c), h6.trans (Cert.Kernel2Ideal.Hand.array_bv16 m c), hk⟩)
      (Cert.Kernel2Ideal.Value.run_blocks m g),
    (θ_run Cert.Reference2Ideal.defs _ _).mono (fun r h c => by
        obtain ⟨e0, e1, e2⟩ := ha c
        obtain ⟨h0, h1, h2, h3, h4, h5, h6, hk⟩ := h c
        rw [e0, e1] at h0 h1 h2 h3 h5 h6
        rw [e0, e1, e2] at h4
        refine ⟨h0.trans ?_, h1.trans ?_, h2.trans ?_, h3.trans ?_, h4.trans ?_, h5.trans ?_, h6.trans ?_, hk⟩
        · funext y
          exact (congrArg _ (eq_ix2 y)).trans ((Cert.Reference2Ideal.Hand.parts_a _ (y 0) (y 1)).trans (Cert.Reference2Ideal.Hand.to_cellA _ (y 0) _ _ (Cert.Reference2Ideal.Hand.mul_all _ _) (y 1)))
        · funext y
          exact (congrArg _ (eq_ix2 y)).trans ((Cert.Reference2Ideal.Hand.parts_bq _ (y 0) (y 1)).trans (Cert.Reference2Ideal.Hand.mul_all _ _ _ _))
        · funext y
          exact (congrArg _ (eq_ix2 y)).trans ((Cert.Reference2Ideal.Hand.cut_bk _ (y 0) (y 1)).trans (Cert.Reference2Ideal.Hand.mul_all _ _ _ _))
        · funext y
          exact (congrArg _ (eq_ix2 y)).trans ((Cert.Reference2Ideal.Hand.cut_bv _ (y 0) (y 1)).trans (Cert.Reference2Ideal.Hand.mul_all _ _ _ _))
        · funext y
          exact (congrArg _ (eq_ix2 y)).trans ((Cert.Reference2Ideal.Hand.parts_s _ _ (y 0) (y 1)).trans (Cert.Reference2Ideal.Hand.to_cellS _ _ (y 0) _ _ (Cert.Reference2Ideal.Hand.mul_all _ _) (y 1)))
        · funext y
          exact (congrArg _ (eq_ix2 y)).trans ((Cert.Reference2Ideal.Hand.round_bk _ (y 0) (y 1)).trans (Cert.Reference2Ideal.Hand.mul_all _ _ _ _))
        · funext y
          exact (congrArg _ (eq_ix2 y)).trans ((Cert.Reference2Ideal.Hand.round_bv _ (y 0) (y 1)).trans (Cert.Reference2Ideal.Hand.mul_all _ _ _ _)))
      (Cert.Reference2Ideal.Value.run m' g')⟩

end Cert.Proof.InEven

end
-- ==== Proof.InOdd.lean ====
module

public import proofs.«01_k».proof.Defs
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

/-! The input projection of the odd layers: 256 rows at a time against the whole weight table, the product's first
1024 columns into one array and the other 2048 into a second. -/

namespace Cert.Kernel3Ideal.Hand

open Idealize.ShloMosaic Idealize.ShloMosaic.TcCoe Idealize.SL.Sem
open Cert.Kernel3Ideal Cert.Kernel3Ideal.Gen

variable (m : (ℓ : Loc nD τ sig) → Buf (Elt Ideal) ℓ) (c : Dev nD)

/-- The rows projected. -/
abbrev rows : Vec Ideal S32768x1024 .f32 := m ((c.tc : Thread nD τ).loc main_arg0)
/-- The weights they are projected by. -/
abbrev weights : Vec Ideal S1024x3072 .f32 := m ((c.tc : Thread nD τ).loc main_arg1)

/-- One element of the product. -/
def product (x : Vec Ideal S32768x1024 .f32) (w : Vec Ideal S1024x3072 .f32) (n : Fin 32768) (j : Fin 3072) : EReal :=
  ∑ k : Fin 1024, x (ix2 n k) * w (ix2 k j)

/-- The first 1024 columns of the product. -/
def outX : Vec Ideal S32768x1024 .f32 := fun y =>
  product (rows m c) (weights m c) (y 0) ⟨(y 1).val, Nat.lt_of_lt_of_le (y 1).isLt (by decide)⟩
/-- The columns after them. -/
def outG : Vec Ideal S32768x2048 .f32 := fun y =>
  product (rows m c) (weights m c) (y 0) ⟨1024 + (y 1).val, Nat.lt_of_lt_of_le (Nat.add_lt_add_left (y 1).isLt 1024) (by decide)⟩

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel
theorem idx3 : ∀ t : Fin grid0.N, win0_3.index t = ![t.val, 0] := by decide +kernel

theorem read_x (t : Fin cfg0.N) (p : Fin 256) (k : Fin 1024) (h : 256 * t.val + p.val < 32768) :
    iblk m c 0 t (ix2 p k) = rows m c (ix2 ⟨256 * t.val + p.val, h⟩ k) := by
  blk_ext [iblk, V, idx0 t]

theorem read_w (t : Fin cfg0.N) (k : Fin 1024) (j : Fin 3072) :
    iblk m c 1 t (ix2 k j) = weights m c (ix2 k j) := by
  blk_ext [iblk, V, idx1 t]

theorem row_lt (t : Fin cfg0.N) (p : Fin 256) : 256 * t.val + p.val < 32768 := by
  have h : t.val < 128 := t.isLt
  omega

/-- A column window read of the weights' block. -/
theorem ld_x (t : Fin cfg0.N) (k : Fin 1024) (j : Fin 1024) :
    View.ld (iblk m c 1 t) r0_1 (ix2 k j) = weights m c (ix2 k ⟨j.val, Nat.lt_of_lt_of_le j.isLt (by decide)⟩) := by
  refine Eq.trans ?_ (read_w m c t k _)
  generalize iblk m c 1 t = A
  pointwise
theorem ld_g (t : Fin cfg0.N) (k : Fin 1024) (j : Fin 2048) :
    View.ld (iblk m c 1 t) r0_2 (ix2 k j) = weights m c (ix2 k ⟨1024 + j.val, Nat.lt_of_lt_of_le (Nat.add_lt_add_left j.isLt 1024) (by decide)⟩) := by
  refine Eq.trans ?_ (read_w m c t k _)
  generalize iblk m c 1 t = A
  pointwise

theorem mul_x (X : Vec Ideal S256x1024 .f32) (W : Vec Ideal S1024x1024 .bf16) (p : Fin 256) (j : Fin 1024) :
    k0_pay2 X W (ix2 p j) = ∑ k : Fin 1024, X (ix2 p k) * W (ix2 k j) := by
  pointwise [k0_pay2, k0_pay1]
theorem mul_g (X : Vec Ideal S256x1024 .f32) (W : Vec Ideal S1024x2048 .bf16) (p : Fin 256) (j : Fin 2048) :
    k0_pay3 X W (ix2 p j) = ∑ k : Fin 1024, X (ix2 p k) * W (ix2 k j) := by
  pointwise [k0_pay3, k0_pay1]

theorem block_x (t : Fin cfg0.N) (p : Fin 256) (j : Fin 1024) :
    k0_pay2 (iblk m c 0 t) (View.ld (iblk m c 1 t) r0_1) (ix2 p j)
      = product (rows m c) (weights m c) ⟨256 * t.val + p.val, row_lt t p⟩ ⟨j.val, Nat.lt_of_lt_of_le j.isLt (by decide)⟩ :=
  (mul_x _ _ p j).trans (Finset.sum_congr rfl fun k _ => congrArg₂ (· * ·) (read_x m c t p k _) (ld_x m c t k j))

theorem block_g (t : Fin cfg0.N) (p : Fin 256) (j : Fin 2048) :
    k0_pay3 (iblk m c 0 t) (View.ld (iblk m c 1 t) r0_2) (ix2 p j)
      = product (rows m c) (weights m c) ⟨256 * t.val + p.val, row_lt t p⟩ ⟨1024 + j.val, Nat.lt_of_lt_of_le (Nat.add_lt_add_left j.isLt 1024) (by decide)⟩ :=
  (mul_g _ _ p j).trans (Finset.sum_congr rfl fun k _ => congrArg₂ (· * ·) (read_x m c t p k _) (ld_g m c t k j))

theorem array_x : (dats m 0 c).arrAt 2 cfg0.N = outX m c := by
  refine (dats m 0 c).arrAt_eq_of_covers 2 _ (by decide +kernel) fun t hf y => ?_
  blk_simp
  rw [after0_2]
  frame_out
  have e : y = ix2 (n0 := 256) (n1 := 1024) (y 0) (y 1) := eq_ix2 y
  refine (congrArg (k0_pay2 (iblk m c 0 t) (View.ld (iblk m c 1 t) r0_1)) e).trans ((block_x m c t (y 0) (y 1)).trans ?_)
  refine congrArg₂ (product (rows m c) (weights m c)) (Fin.ext ?_) (Fin.ext ?_)
  · blk_simp [idx2 t]
    simp [Nat.mul_comm]
  · blk_simp [idx2 t]

theorem array_g : (dats m 0 c).arrAt 3 cfg0.N = outG m c := by
  refine (dats m 0 c).arrAt_eq_of_covers 3 _ (by decide +kernel) fun t hf y => ?_
  blk_simp
  rw [after0_3]
  frame_out
  have e : y = ix2 (n0 := 256) (n1 := 2048) (y 0) (y 1) := eq_ix2 y
  refine (congrArg (k0_pay3 (iblk m c 0 t) (View.ld (iblk m c 1 t) r0_2)) e).trans ((block_g m c t (y 0) (y 1)).trans ?_)
  refine congrArg₂ (product (rows m c) (weights m c)) (Fin.ext ?_) (Fin.ext ?_)
  · blk_simp [idx3 t]
    simp [Nat.mul_comm]
  · blk_simp [idx3 t]

end Cert.Kernel3Ideal.Hand

namespace Cert.Reference3Ideal.Hand

open Idealize.ShloMosaic Idealize.ShloMosaic.TcCoe Idealize.SL.Sem
open Cert.Reference3Ideal Cert.Reference3Ideal.Gen

theorem mul_all (X : Vec Ideal S32768x1024 .f32) (W : Vec Ideal S1024x3072 .f32) (p : Fin 32768) (j : Fin 3072) :
    Host.dotGeneral (F := Ideal) (φ₁ := .f32) (φ₂ := .f32) dot_S32768x1024_S1024x3072_S32768x3072_1_0_0_1_n_n none X W (ix2 p j) = Kernel3Ideal.Hand.product X W p j := by
  pointwise [Kernel3Ideal.Hand.product]

theorem cut_x (Y : Vec Ideal S32768x3072 .f32) (p : Fin 32768) (j : Fin 1024) :
    extractStridedSlice S32768x1024 ![0, 0] Y slices_S32768x3072_S32768x1024_0_0 (ix2 p j) = Y (ix2 p ⟨j.val, Nat.lt_of_lt_of_le j.isLt (by decide)⟩) := by
  pointwise
theorem cut_g (Y : Vec Ideal S32768x3072 .f32) (p : Fin 32768) (j : Fin 2048) :
    extractStridedSlice S32768x2048 ![0, 1024] Y slices_S32768x3072_S32768x2048_0_1024 (ix2 p j) = Y (ix2 p ⟨1024 + j.val, Nat.lt_of_lt_of_le (Nat.add_lt_add_left j.isLt 1024) (by decide)⟩) := by
  pointwise

end Cert.Reference3Ideal.Hand

namespace Cert.Proof.InOdd

open Idealize.ShloMosaic Idealize.ShloMosaic.TcCoe Idealize.SL.Sem

/-- The printed kernel runs, keeps its arguments and leaves every counter at zero. -/
theorem frame_kernel : Cert.quiescent_Kernel3 := fun m g _ => Cert.Kernel3.Gen.frame m g
/-- So does the kernel read at the ideal instance. -/
theorem frame_kernel_ideal : Cert.quiescent_Kernel3Ideal := fun m g _ => Cert.Kernel3Ideal.Gen.frame m g
/-- So does the reference, which has no counters. -/
theorem frame_reference : Cert.quiescent_Reference3Ideal := fun m g _ =>
  (θ_run Cert.Reference3Ideal.defs _ _).mono (fun r h => ⟨fun c => (h c).2.2, sem_eq_zero_of_no_sems rfl r.2⟩) (Cert.Reference3Ideal.Value.run m g)

/-- The kernel and the reference, read at the ideal instance, end with equal results. -/
theorem algebraic : Cert.algebraic_Kernel3Ideal_Reference3Ideal := fun m g m' g' _ ha =>
  ⟨fun c => Cert.Kernel3Ideal.Hand.outX m c, fun c => Cert.Kernel3Ideal.Hand.outG m c,
    (θ_run Cert.Kernel3Ideal.defs _ _).mono (fun r h c => ⟨(h c).1.trans (Cert.Kernel3Ideal.Hand.array_x m c), (h c).2.1.trans (Cert.Kernel3Ideal.Hand.array_g m c), (h c).2.2⟩)
      (Cert.Kernel3Ideal.Value.run_blocks m g),
    (θ_run Cert.Reference3Ideal.defs _ _).mono (fun r h c => ⟨(h c).1.trans (by
        obtain ⟨h0, h1⟩ := ha c
        rw [h0, h1]
        funext y
        exact (congrArg _ (eq_ix2 y)).trans ((Cert.Reference3Ideal.Hand.cut_x _ (y 0) (y 1)).trans (Cert.Reference3Ideal.Hand.mul_all _ _ _ _))), (h c).2.1.trans (by
        obtain ⟨h0, h1⟩ := ha c
        rw [h0, h1]
        funext y
        exact (congrArg _ (eq_ix2 y)).trans ((Cert.Reference3Ideal.Hand.cut_g _ (y 0) (y 1)).trans (Cert.Reference3Ideal.Hand.mul_all _ _ _ _))), (h c).2.2⟩) (Cert.Reference3Ideal.Value.run m' g')⟩

end Cert.Proof.InOdd

end
-- ==== Proof.InOddSample.lean ====
module

public import proofs.«01_k».proof.Defs
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

/-! The input projection of the odd layers on the sample: all 256 rows in one step against the float32 weights, the product's first
1024 columns into one array and the other 2048 into a second. -/

namespace Cert.Kernel6Ideal.Hand

open Idealize.ShloMosaic Idealize.ShloMosaic.TcCoe Idealize.SL.Sem
open Cert.Kernel6Ideal Cert.Kernel6Ideal.Gen

variable (m : (ℓ : Loc nD τ sig) → Buf (Elt Ideal) ℓ) (c : Dev nD)

/-- The rows projected. -/
abbrev rows : Vec Ideal S256x1024 .f32 := m ((c.tc : Thread nD τ).loc main_arg0)
/-- The weights they are projected by. -/
abbrev weights : Vec Ideal S1024x3072 .f32 := m ((c.tc : Thread nD τ).loc main_arg1)

/-- One element of the product. -/
def product (x : Vec Ideal S256x1024 .f32) (w : Vec Ideal S1024x3072 .f32) (n : Fin 256) (j : Fin 3072) : EReal :=
  ∑ k : Fin 1024, x (ix2 n k) * w (ix2 k j)

/-- The first 1024 columns of the product. -/
def outX : Vec Ideal S256x1024 .f32 := fun y =>
  product (rows m c) (weights m c) (y 0) ⟨(y 1).val, Nat.lt_of_lt_of_le (y 1).isLt (by decide)⟩
/-- The columns after them. -/
def outG : Vec Ideal S256x2048 .f32 := fun y =>
  product (rows m c) (weights m c) (y 0) ⟨1024 + (y 1).val, Nat.lt_of_lt_of_le (Nat.add_lt_add_left (y 1).isLt 1024) (by decide)⟩

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel
theorem idx3 : ∀ t : Fin grid0.N, win0_3.index t = ![t.val, 0] := by decide +kernel

theorem read_x (t : Fin cfg0.N) (p : Fin 256) (k : Fin 1024) (h : 256 * t.val + p.val < 256) :
    iblk m c 0 t (ix2 p k) = rows m c (ix2 ⟨256 * t.val + p.val, h⟩ k) := by
  blk_ext [iblk, V, idx0 t]

theorem read_w (t : Fin cfg0.N) (k : Fin 1024) (j : Fin 3072) :
    iblk m c 1 t (ix2 k j) = weights m c (ix2 k j) := by
  blk_ext [iblk, V, idx1 t]

theorem row_lt (t : Fin cfg0.N) (p : Fin 256) : 256 * t.val + p.val < 256 := by
  have h : t.val < 1 := t.isLt
  omega

/-- A column window read of the weights' block. -/
theorem ld_x (t : Fin cfg0.N) (k : Fin 1024) (j : Fin 1024) :
    View.ld (iblk m c 1 t) r0_1 (ix2 k j) = weights m c (ix2 k ⟨j.val, Nat.lt_of_lt_of_le j.isLt (by decide)⟩) := by
  refine Eq.trans ?_ (read_w m c t k _)
  generalize iblk m c 1 t = A
  pointwise
theorem ld_g (t : Fin cfg0.N) (k : Fin 1024) (j : Fin 2048) :
    View.ld (iblk m c 1 t) r0_2 (ix2 k j) = weights m c (ix2 k ⟨1024 + j.val, Nat.lt_of_lt_of_le (Nat.add_lt_add_left j.isLt 1024) (by decide)⟩) := by
  refine Eq.trans ?_ (read_w m c t k _)
  generalize iblk m c 1 t = A
  pointwise

theorem mul_x (X : Vec Ideal S256x1024 .f32) (W : Vec Ideal S1024x1024 .f32) (p : Fin 256) (j : Fin 1024) :
    k0_pay1 X W (ix2 p j) = ∑ k : Fin 1024, X (ix2 p k) * W (ix2 k j) := by
  pointwise [k0_pay1]
theorem mul_g (X : Vec Ideal S256x1024 .f32) (W : Vec Ideal S1024x2048 .f32) (p : Fin 256) (j : Fin 2048) :
    k0_pay2 X W (ix2 p j) = ∑ k : Fin 1024, X (ix2 p k) * W (ix2 k j) := by
  pointwise [k0_pay2]

theorem block_x (t : Fin cfg0.N) (p : Fin 256) (j : Fin 1024) :
    k0_pay1 (iblk m c 0 t) (View.ld (iblk m c 1 t) r0_1) (ix2 p j)
      = product (rows m c) (weights m c) ⟨256 * t.val + p.val, row_lt t p⟩ ⟨j.val, Nat.lt_of_lt_of_le j.isLt (by decide)⟩ :=
  (mul_x _ _ p j).trans (Finset.sum_congr rfl fun k _ => congrArg₂ (· * ·) (read_x m c t p k _) (ld_x m c t k j))

theorem block_g (t : Fin cfg0.N) (p : Fin 256) (j : Fin 2048) :
    k0_pay2 (iblk m c 0 t) (View.ld (iblk m c 1 t) r0_2) (ix2 p j)
      = product (rows m c) (weights m c) ⟨256 * t.val + p.val, row_lt t p⟩ ⟨1024 + j.val, Nat.lt_of_lt_of_le (Nat.add_lt_add_left j.isLt 1024) (by decide)⟩ :=
  (mul_g _ _ p j).trans (Finset.sum_congr rfl fun k _ => congrArg₂ (· * ·) (read_x m c t p k _) (ld_g m c t k j))

theorem array_x : (dats m 0 c).arrAt 2 cfg0.N = outX m c := by
  refine (dats m 0 c).arrAt_eq_of_covers 2 _ (by decide +kernel) fun t hf y => ?_
  blk_simp
  rw [after0_2]
  frame_out
  have e : y = ix2 (n0 := 256) (n1 := 1024) (y 0) (y 1) := eq_ix2 y
  refine (congrArg (k0_pay1 (iblk m c 0 t) (View.ld (iblk m c 1 t) r0_1)) e).trans ((block_x m c t (y 0) (y 1)).trans ?_)
  refine congrArg₂ (product (rows m c) (weights m c)) (Fin.ext ?_) (Fin.ext ?_)
  · blk_simp [idx2 t]
    simp [Nat.mul_comm]
  · blk_simp [idx2 t]

theorem array_g : (dats m 0 c).arrAt 3 cfg0.N = outG m c := by
  refine (dats m 0 c).arrAt_eq_of_covers 3 _ (by decide +kernel) fun t hf y => ?_
  blk_simp
  rw [after0_3]
  frame_out
  have e : y = ix2 (n0 := 256) (n1 := 2048) (y 0) (y 1) := eq_ix2 y
  refine (congrArg (k0_pay2 (iblk m c 0 t) (View.ld (iblk m c 1 t) r0_2)) e).trans ((block_g m c t (y 0) (y 1)).trans ?_)
  refine congrArg₂ (product (rows m c) (weights m c)) (Fin.ext ?_) (Fin.ext ?_)
  · blk_simp [idx3 t]
    simp [Nat.mul_comm]
  · blk_simp [idx3 t]

end Cert.Kernel6Ideal.Hand

namespace Cert.Reference6Ideal.Hand

open Idealize.ShloMosaic Idealize.ShloMosaic.TcCoe Idealize.SL.Sem
open Cert.Reference6Ideal Cert.Reference6Ideal.Gen

theorem mul_all (X : Vec Ideal S256x1024 .f32) (W : Vec Ideal S1024x3072 .f32) (p : Fin 256) (j : Fin 3072) :
    Host.dotGeneral (F := Ideal) (φ₁ := .f32) (φ₂ := .f32) dot_S256x1024_S1024x3072_S256x3072_1_0_0_1_n_n none X W (ix2 p j) = Kernel6Ideal.Hand.product X W p j := by
  pointwise [Kernel6Ideal.Hand.product]

theorem cut_x (Y : Vec Ideal S256x3072 .f32) (p : Fin 256) (j : Fin 1024) :
    extractStridedSlice S256x1024 ![0, 0] Y slices_S256x3072_S256x1024_0_0 (ix2 p j) = Y (ix2 p ⟨j.val, Nat.lt_of_lt_of_le j.isLt (by decide)⟩) := by
  pointwise
theorem cut_g (Y : Vec Ideal S256x3072 .f32) (p : Fin 256) (j : Fin 2048) :
    extractStridedSlice S256x2048 ![0, 1024] Y slices_S256x3072_S256x2048_0_1024 (ix2 p j) = Y (ix2 p ⟨1024 + j.val, Nat.lt_of_lt_of_le (Nat.add_lt_add_left j.isLt 1024) (by decide)⟩) := by
  pointwise

end Cert.Reference6Ideal.Hand

namespace Cert.Proof.InOddSample

open Idealize.ShloMosaic Idealize.ShloMosaic.TcCoe Idealize.SL.Sem

/-- The printed kernel runs, keeps its arguments and leaves every counter at zero. -/
theorem frame_kernel : Cert.quiescent_Kernel6 := fun m g _ => Cert.Kernel6.Gen.frame m g
/-- So does the kernel read at the ideal instance. -/
theorem frame_kernel_ideal : Cert.quiescent_Kernel6Ideal := fun m g _ => Cert.Kernel6Ideal.Gen.frame m g
/-- So does the reference, which has no counters. -/
theorem frame_reference : Cert.quiescent_Reference6Ideal := fun m g _ =>
  (θ_run Cert.Reference6Ideal.defs _ _).mono (fun r h => ⟨fun c => (h c).2.2, sem_eq_zero_of_no_sems rfl r.2⟩) (Cert.Reference6Ideal.Value.run m g)

/-- The kernel and the reference, read at the ideal instance, end with equal results. -/
theorem algebraic : Cert.algebraic_Kernel6Ideal_Reference6Ideal := fun m g m' g' _ ha =>
  ⟨fun c => Cert.Kernel6Ideal.Hand.outX m c, fun c => Cert.Kernel6Ideal.Hand.outG m c,
    (θ_run Cert.Kernel6Ideal.defs _ _).mono (fun r h c => ⟨(h c).1.trans (Cert.Kernel6Ideal.Hand.array_x m c), (h c).2.1.trans (Cert.Kernel6Ideal.Hand.array_g m c), (h c).2.2⟩)
      (Cert.Kernel6Ideal.Value.run_blocks m g),
    (θ_run Cert.Reference6Ideal.defs _ _).mono (fun r h c => ⟨(h c).1.trans (by
        obtain ⟨h0, h1⟩ := ha c
        rw [h0, h1]
        funext y
        exact (congrArg _ (eq_ix2 y)).trans ((Cert.Reference6Ideal.Hand.cut_x _ (y 0) (y 1)).trans (Cert.Reference6Ideal.Hand.mul_all _ _ _ _))), (h c).2.1.trans (by
        obtain ⟨h0, h1⟩ := ha c
        rw [h0, h1]
        funext y
        exact (congrArg _ (eq_ix2 y)).trans ((Cert.Reference6Ideal.Hand.cut_g _ (y 0) (y 1)).trans (Cert.Reference6Ideal.Hand.mul_all _ _ _ _))), (h c).2.2⟩) (Cert.Reference6Ideal.Value.run m' g')⟩

end Cert.Proof.InOddSample

end
-- ==== Proof.InEvenSampleHost.lean ====
module

public import proofs.«01_k».proof.Proof.Gen.Kernel5Ideal
public import proofs.«01_k».proof.Proof.Gen.Kernel5Ideal.Frame
public import proofs.«01_k».proof.Proof.InEvenHost

@[expose] public section

set_option maxRecDepth 16384

noncomputable section

/-! The weight table and the bias row the sample's input projection is handed: the prompt's, but for the rounding of
the table. -/

namespace Cert.Kernel5Ideal.Hand

open Idealize.ShloMosaic Idealize.ShloMosaic.TcCoe Idealize.SL.Sem
open Cert.Kernel5Ideal Cert.Kernel5Ideal.Gen
open Cert.Kernel2Ideal.Hand (slabOf tableOf biasOf column slab_apply table_apply bias_apply)

variable (m : (ℓ : Loc nD τ sig) → Buf (Elt Ideal) ℓ) (c : Dev nD)

/-- The pieces laid side by side. -/
def joined (a b d e f g h i : Vec Ideal S1024x512 .f32) (s : Vec Ideal S1024x128 .f32) : Vec Ideal S1024x4224 .f32 :=
  concatenate S1024x4224 1 [⟨S1024x512, a⟩, ⟨S1024x512, b⟩, ⟨S1024x512, d⟩, ⟨S1024x512, e⟩,
    ⟨S1024x512, f⟩, ⟨S1024x512, g⟩, ⟨S1024x512, h⟩, ⟨S1024x512, i⟩, ⟨S1024x128, s⟩] concatenates_S1024x512_S1024x512_S1024x512_S1024x512_S1024x512_S1024x512_S1024x512_S1024x512_S1024x128_S1024x4224_d1

/-- The buffers after the slices are cut and the small projections gathered. -/
def cutState : Valuation τ sig (Elt Ideal) := StableHlo.after (List.take 22 hostOps0) (fun b => m (c, b))

theorem split_after {ops : List (HloOp τ sig (Elt Ideal))} (n : ℕ) (W : Valuation τ sig (Elt Ideal)) :
    StableHlo.after ops W = StableHlo.after (ops.drop n) (StableHlo.after (ops.take n) W) := by
  induction n generalizing ops W with
  | zero => rfl
  | succ n ih => cases ops with
    | nil => rfl
    | cons o ops => exact ih (o.result W)

theorem tail_read (W : Valuation τ sig (Elt Ideal)) :
    StableHlo.after (List.drop 22 (hostOps0 (F := Ideal))) W (Proc.devRef .tc main_v18)
      = joined (W (Proc.devRef .tc main_v10)) (W (Proc.devRef .tc main_v11)) (W (Proc.devRef .tc main_v12)) (W (Proc.devRef .tc main_v13))
          (W (Proc.devRef .tc main_v14)) (W (Proc.devRef .tc main_v15)) (W (Proc.devRef .tc main_v16)) (W (Proc.devRef .tc main_v17)) (W (Proc.devRef .tc main_v9)) := by
  simp only [List.drop_succ_cons, List.drop_zero, StableHlo.after_cons, StableHlo.after_nil]
  simp (disch := decide) only [StableHlo.nullary_result_ne', StableHlo.unary_result_ne', StableHlo.binary_result_ne', StableHlo.ternary_result_ne']
  rw [StableHlo.nary_result]
  rfl

theorem cut_10 : cutState m c (Proc.devRef .tc main_v10) = extractStridedSlice S1024x512 ![0, 0] (m ((c.tc : Thread nD τ).loc main_arg1)) slices_S1024x4176_S1024x512_0_0 := by
  unfold cutState
  simp only [List.take_succ_cons, List.take_zero]
  entry_read
  rfl

theorem cut_11 : cutState m c (Proc.devRef .tc main_v11) = extractStridedSlice S1024x512 ![0, 512] (m ((c.tc : Thread nD τ).loc main_arg1)) slices_S1024x4176_S1024x512_0_512 := by
  unfold cutState
  simp only [List.take_succ_cons, List.take_zero]
  entry_read
  rfl

theorem cut_12 : cutState m c (Proc.devRef .tc main_v12) = extractStridedSlice S1024x512 ![0, 1024] (m ((c.tc : Thread nD τ).loc main_arg1)) slices_S1024x4176_S1024x512_0_1024 := by
  unfold cutState
  simp only [List.take_succ_cons, List.take_zero]
  entry_read
  rfl

theorem cut_13 : cutState m c (Proc.devRef .tc main_v13) = extractStridedSlice S1024x512 ![0, 1536] (m ((c.tc : Thread nD τ).loc main_arg1)) slices_S1024x4176_S1024x512_0_1536 := by
  unfold cutState
  simp only [List.take_succ_cons, List.take_zero]
  entry_read
  rfl

theorem cut_14 : cutState m c (Proc.devRef .tc main_v14) = extractStridedSlice S1024x512 ![0, 2056] (m ((c.tc : Thread nD τ).loc main_arg1)) slices_S1024x4176_S1024x512_0_2056 := by
  unfold cutState
  simp only [List.take_succ_cons, List.take_zero]
  entry_read
  rfl

theorem cut_15 : cutState m c (Proc.devRef .tc main_v15) = extractStridedSlice S1024x512 ![0, 3592] (m ((c.tc : Thread nD τ).loc main_arg1)) slices_S1024x4176_S1024x512_0_3592 := by
  unfold cutState
  simp only [List.take_succ_cons, List.take_zero]
  entry_read
  rfl

theorem cut_16 : cutState m c (Proc.devRef .tc main_v16) = extractStridedSlice S1024x512 ![0, 2568] (m ((c.tc : Thread nD τ).loc main_arg1)) slices_S1024x4176_S1024x512_0_2568 := by
  unfold cutState
  simp only [List.take_succ_cons, List.take_zero]
  entry_read
  rfl

theorem cut_17 : cutState m c (Proc.devRef .tc main_v17) = extractStridedSlice S1024x512 ![0, 3080] (m ((c.tc : Thread nD τ).loc main_arg1)) slices_S1024x4176_S1024x512_0_3080 := by
  unfold cutState
  simp only [List.take_succ_cons, List.take_zero]
  entry_read
  rfl

theorem cut_9 : cutState m c (Proc.devRef .tc main_v9) = slabOf (m ((c.tc : Thread nD τ).loc main_arg1)) := by
  unfold cutState
  simp only [List.take_succ_cons, List.take_zero]
  entry_read
  rfl

theorem V_table : (V m c main_v18 : Vec Ideal S1024x4224 .f32) = tableOf (m ((c.tc : Thread nD τ).loc main_arg1)) := by
  show StableHlo.after hostOps0 _ _ = _
  rw [split_after 22]
  refine (tail_read (cutState m c)).trans ?_
  rw [cut_9, cut_10, cut_11, cut_12, cut_13, cut_14, cut_15, cut_16, cut_17]
  rfl

set_option maxRecDepth 65536 in
set_option maxHeartbeats 1600000 in
theorem V_bias : (V m c main_v23 : Vec Ideal S1x128 .f32) = biasOf (m ((c.tc : Thread nD τ).loc main_arg2)) := by
  show StableHlo.after hostOps0 _ _ = _
  entry_read
  rfl

end Cert.Kernel5Ideal.Hand

end
-- ==== Proof.InEvenSample.lean ====
module

public import proofs.«01_k».proof.Defs
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.InEvenSampleHost
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

/-! The input projection of the even layers on the sample: all 256 rows in one step against the whole rearranged weight table, the
product's columns sent to seven arrays, some of them scaled or shifted on the way. -/

namespace Cert.Kernel5Ideal.Hand

open Idealize.ShloMosaic Idealize.ShloMosaic.TcCoe Idealize.SL.Sem
open Cert.Kernel5Ideal Cert.Kernel5Ideal.Gen
open Cert.Kernel2Ideal.Hand (slabOf tableOf biasOf column slab_apply table_apply bias_apply)

variable (m : (ℓ : Loc nD τ sig) → Buf (Elt Ideal) ℓ) (c : Dev nD)

/-- The rows projected. -/
abbrev rows : Vec Ideal S256x1024 .f32 := m ((c.tc : Thread nD τ).loc main_arg0)
/-- The weights they are projected by. -/
abbrev weights : Vec Ideal S1024x4176 .f32 := m ((c.tc : Thread nD τ).loc main_arg1)
/-- The gate's bias. -/
abbrev shift : Vec Ideal S8 .f32 := m ((c.tc : Thread nD τ).loc main_arg2)

/-- One element of the product. -/
def product (x : Vec Ideal S256x1024 .f32) (w : Vec Ideal S1024x4176 .f32) (n : Fin 256) (j : Fin 4176) : EReal :=
  ∑ k : Fin 1024, x (ix2 n k) * w (ix2 k j)

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![t.val, 0] := by decide +kernel
theorem idx4 : ∀ t : Fin grid0.N, win0_4.index t = ![t.val, 0] := by decide +kernel
theorem idx5 : ∀ t : Fin grid0.N, win0_5.index t = ![t.val, 0] := by decide +kernel
theorem idx6 : ∀ t : Fin grid0.N, win0_6.index t = ![t.val, 0] := by decide +kernel
theorem idx7 : ∀ t : Fin grid0.N, win0_7.index t = ![t.val, 0] := by decide +kernel
theorem idx8 : ∀ t : Fin grid0.N, win0_8.index t = ![t.val, 0] := by decide +kernel
theorem idx9 : ∀ t : Fin grid0.N, win0_9.index t = ![t.val, 0] := by decide +kernel

theorem read_x (t : Fin cfg0.N) (p : Fin 256) (k : Fin 1024) (h : 256 * t.val + p.val < 256) :
    iblk m c 0 t (ix2 p k) = rows m c (ix2 ⟨256 * t.val + p.val, h⟩ k) := by
  blk_ext [iblk, V, idx0 t]

theorem whole_t (t : Fin cfg0.N) (k : Fin 1024) (j : Fin 4224) :
    iblk m c 1 t (ix2 k j) = (V m c main_v18 : Vec Ideal S1024x4224 .f32) (ix2 k j) := by
  blk_simp [iblk]
  refine congrArg (V m c main_v18) (funext fun d => ?_)
  match d with
  | ⟨0, _⟩ => exact Fin.ext (by blk_simp [idx1 t])
  | ⟨1, _⟩ => exact Fin.ext (by blk_simp [idx1 t])

theorem whole_b (t : Fin cfg0.N) (l : Fin 128) :
    iblk m c 2 t (ix2 0 l) = (V m c main_v23 : Vec Ideal S1x128 .f32) (ix2 0 l) := by
  blk_simp [iblk]
  refine congrArg (V m c main_v23) (funext fun d => ?_)
  match d with
  | ⟨0, _⟩ => exact Fin.ext (by blk_simp [idx2 t])
  | ⟨1, _⟩ => exact Fin.ext (by blk_simp [idx2 t])

/-- A column of the table's first 4096 is one of the weights'. -/
theorem read_w (t : Fin cfg0.N) (k : Fin 1024) (j : Fin 4224) (h : j.val < 4096) :
    iblk m c 1 t (ix2 k j) = weights m c (ix2 k (column ⟨j.val, h⟩)) :=
  (whole_t m c t k j).trans ((congrFun (V_table m c) (ix2 k j)).trans ((table_apply _ k j).trans (dif_pos h)))
/-- The columns after them are the band of the small projections. -/
theorem read_s (t : Fin cfg0.N) (k : Fin 1024) (l : Fin 128) :
    iblk m c 1 t (ix2 k (⟨4096 + l.val, by omega⟩ : Fin 4224)) = slabOf (weights m c) (ix2 k l) :=
  (whole_t m c t k _).trans ((congrFun (V_table m c) (ix2 k _)).trans ((table_apply _ k _).trans ((dif_neg (by simp)).trans
    (congrArg (fun q => slabOf (weights m c) (ix2 k q)) (Fin.ext (by simp))))))
theorem read_b (t : Fin cfg0.N) (l : Fin 128) : iblk m c 2 t (ix2 0 l) = biasOf (shift m c) (ix2 0 l) :=
  (whole_b m c t l).trans (congrFun (V_bias m c) (ix2 0 l))

theorem row_lt (t : Fin cfg0.N) (p : Fin 256) : 256 * t.val + p.val < 256 := by
  have h : t.val < 1 := t.isLt
  omega

section loads
variable (t : Fin cfg0.N) (k : Fin 1024)
theorem ld_a (j : Fin 512) : View.ld (iblk m c 1 t) (Rect.unit ![0, 0] ![1024, 512] inb_S1024x4224_S1024x512_0_0) (ix2 k j)
    = weights m c (ix2 k (column ⟨0 + j.val, by omega⟩)) := by
  refine Eq.trans ?_ (read_w m c t k ⟨0 + j.val, by omega⟩ (by dsimp only; omega))
  generalize iblk m c 1 t = A
  pointwise
theorem ld_q (j : Fin 512) : View.ld (iblk m c 1 t) (Rect.unit ![0, 512] ![1024, 512] inb_S1024x4224_S1024x512_0_512) (ix2 k j)
    = weights m c (ix2 k (column ⟨512 + j.val, by omega⟩)) := by
  refine Eq.trans ?_ (read_w m c t k ⟨512 + j.val, by omega⟩ (by dsimp only; omega))
  generalize iblk m c 1 t = A
  pointwise
theorem ld_g (j : Fin 1024) : View.ld (iblk m c 1 t) (Rect.unit ![0, 1024] ![1024, 1024] inb_S1024x4224_S1024x1024_0_1024) (ix2 k j)
    = weights m c (ix2 k (column ⟨1024 + j.val, by omega⟩)) := by
  refine Eq.trans ?_ (read_w m c t k ⟨1024 + j.val, by omega⟩ (by dsimp only; omega))
  generalize iblk m c 1 t = A
  pointwise
theorem ld_bq (j : Fin 1024) : View.ld (iblk m c 1 t) (Rect.unit ![0, 2048] ![1024, 1024] inb_S1024x4224_S1024x1024_0_2048) (ix2 k j)
    = weights m c (ix2 k (column ⟨2048 + j.val, by omega⟩)) := by
  refine Eq.trans ?_ (read_w m c t k ⟨2048 + j.val, by omega⟩ (by dsimp only; omega))
  generalize iblk m c 1 t = A
  pointwise
theorem ld_bk (j : Fin 512) : View.ld (iblk m c 1 t) (Rect.unit ![0, 3072] ![1024, 512] inb_S1024x4224_S1024x512_0_3072) (ix2 k j)
    = weights m c (ix2 k (column ⟨3072 + j.val, by omega⟩)) := by
  refine Eq.trans ?_ (read_w m c t k ⟨3072 + j.val, by omega⟩ (by dsimp only; omega))
  generalize iblk m c 1 t = A
  pointwise
theorem ld_bv (j : Fin 512) : View.ld (iblk m c 1 t) (Rect.unit ![0, 3584] ![1024, 512] inb_S1024x4224_S1024x512_0_3584) (ix2 k j)
    = weights m c (ix2 k (column ⟨3584 + j.val, by omega⟩)) := by
  refine Eq.trans ?_ (read_w m c t k ⟨3584 + j.val, by omega⟩ (by dsimp only; omega))
  generalize iblk m c 1 t = A
  pointwise
theorem ld_s (l : Fin 128) : View.ld (iblk m c 1 t) (Rect.unit ![0, 4096] ![1024, 128] inb_S1024x4224_S1024x128_0_4096) (ix2 k l)
    = slabOf (weights m c) (ix2 k l) := by
  refine Eq.trans ?_ (read_s m c t k l)
  generalize iblk m c 1 t = A
  pointwise
end loads

/-- The factor the second 512 columns are scaled by. -/
abbrev factor : EReal := Scalar.ofBits (F := Ideal) .f32 0x3DB504F3#32

section payloads
variable (X : Vec Ideal S256x1024 .f32) (p : Fin 256)
theorem mul_a (W : Vec Ideal S1024x512 .f32) (j : Fin 512) :
    k0_pay3 X W (ix2 p j) = ∑ k : Fin 1024, X (ix2 p k) * W (ix2 k j) := by
  pointwise [k0_pay3]
theorem mul_q (W : Vec Ideal S1024x512 .f32) (j : Fin 512) :
    k0_pay4 X W (ix2 p j) = (∑ k : Fin 1024, X (ix2 p k) * W (ix2 k j)) * factor := by
  pointwise [k0_pay4]
theorem mul_g (W : Vec Ideal S1024x1024 .f32) (j : Fin 1024) :
    k0_pay5 X W (ix2 p j) = ∑ k : Fin 1024, X (ix2 p k) * W (ix2 k j) := by
  pointwise [k0_pay5]
theorem mul_bq (W : Vec Ideal S1024x1024 .f32) (j : Fin 1024) :
    k0_pay6 X W (ix2 p j) = ∑ k : Fin 1024, X (ix2 p k) * W (ix2 k j) := by
  pointwise [k0_pay6]
theorem mul_bk (W : Vec Ideal S1024x512 .f32) (j : Fin 512) :
    k0_pay7 X W (ix2 p j) = ∑ k : Fin 1024, X (ix2 p k) * W (ix2 k j) := by
  pointwise [k0_pay7]
theorem mul_bv (W : Vec Ideal S1024x512 .f32) (j : Fin 512) :
    k0_pay1 X W (ix2 p j) = ∑ k : Fin 1024, X (ix2 p k) * W (ix2 k j) := by
  pointwise [k0_pay1]
theorem mul_s (W : Vec Ideal S1024x128 .f32) (B : Vec Ideal S1x128 .f32) (l : Fin 128) :
    k0_pay2 X W B (ix2 p l) = (∑ k : Fin 1024, X (ix2 p k) * W (ix2 k l)) + B (ix2 0 l) := by
  pointwise [k0_pay2]
end payloads

/-- One row of a block against the table's columns. -/
theorem row_sum (t : Fin cfg0.N) (p : Fin 256) (X : Vec Ideal S256x1024 .f32) (hX : ∀ k, X (ix2 p k) = rows m c (ix2 ⟨256 * t.val + p.val, row_lt t p⟩ k))
    (f : Fin 1024 → EReal) (q : Fin 4176) (hf : ∀ k, f k = weights m c (ix2 k q)) :
    (∑ k : Fin 1024, X (ix2 p k) * f k) = product (rows m c) (weights m c) ⟨256 * t.val + p.val, row_lt t p⟩ q :=
  Finset.sum_congr rfl fun k _ => congrArg₂ (· * ·) (hX k) (hf k)

/-- A row against a column of zeros. -/
theorem row_zero (p : Fin 256) (X : Vec Ideal S256x1024 .f32) (f : Fin 1024 → EReal) (hf : ∀ k, f k = 0) :
    (∑ k : Fin 1024, X (ix2 p k) * f k) = 0 :=
  Finset.sum_eq_zero fun k _ => by rw [hf k, mul_zero]

section blocks
variable (t : Fin cfg0.N) (p : Fin 256)
theorem block_a (j : Fin 512) : k0_pay3 (iblk m c 0 t) (View.ld (iblk m c 1 t) (Rect.unit ![0, 0] ![1024, 512] inb_S1024x4224_S1024x512_0_0)) (ix2 p j)
    = product (rows m c) (weights m c) ⟨256 * t.val + p.val, row_lt t p⟩ (column ⟨0 + j.val, by omega⟩) :=
  (mul_a _ p _ j).trans (row_sum m c t p _ (fun k => read_x m c t p k _) _ _ fun k => ld_a m c t k j)
theorem block_g (j : Fin 1024) : k0_pay5 (iblk m c 0 t) (View.ld (iblk m c 1 t) (Rect.unit ![0, 1024] ![1024, 1024] inb_S1024x4224_S1024x1024_0_1024)) (ix2 p j)
    = product (rows m c) (weights m c) ⟨256 * t.val + p.val, row_lt t p⟩ (column ⟨1024 + j.val, by omega⟩) :=
  (mul_g _ p _ j).trans (row_sum m c t p _ (fun k => read_x m c t p k _) _ _ fun k => ld_g m c t k j)
theorem block_bq (j : Fin 1024) : k0_pay6 (iblk m c 0 t) (View.ld (iblk m c 1 t) (Rect.unit ![0, 2048] ![1024, 1024] inb_S1024x4224_S1024x1024_0_2048)) (ix2 p j)
    = product (rows m c) (weights m c) ⟨256 * t.val + p.val, row_lt t p⟩ (column ⟨2048 + j.val, by omega⟩) :=
  (mul_bq _ p _ j).trans (row_sum m c t p _ (fun k => read_x m c t p k _) _ _ fun k => ld_bq m c t k j)
theorem block_bk (j : Fin 512) : k0_pay7 (iblk m c 0 t) (View.ld (iblk m c 1 t) (Rect.unit ![0, 3072] ![1024, 512] inb_S1024x4224_S1024x512_0_3072)) (ix2 p j)
    = product (rows m c) (weights m c) ⟨256 * t.val + p.val, row_lt t p⟩ (column ⟨3072 + j.val, by omega⟩) :=
  (mul_bk _ p _ j).trans (row_sum m c t p _ (fun k => read_x m c t p k _) _ _ fun k => ld_bk m c t k j)
theorem block_bv (j : Fin 512) : k0_pay1 (iblk m c 0 t) (View.ld (iblk m c 1 t) (Rect.unit ![0, 3584] ![1024, 512] inb_S1024x4224_S1024x512_0_3584)) (ix2 p j)
    = product (rows m c) (weights m c) ⟨256 * t.val + p.val, row_lt t p⟩ (column ⟨3584 + j.val, by omega⟩) :=
  (mul_bv _ p _ j).trans (row_sum m c t p _ (fun k => read_x m c t p k _) _ _ fun k => ld_bv m c t k j)
theorem block_q (j : Fin 512) : k0_pay4 (iblk m c 0 t) (View.ld (iblk m c 1 t) (Rect.unit ![0, 512] ![1024, 512] inb_S1024x4224_S1024x512_0_512)) (ix2 p j)
    = product (rows m c) (weights m c) ⟨256 * t.val + p.val, row_lt t p⟩ (column ⟨512 + j.val, by omega⟩) * factor :=
  (mul_q _ p _ j).trans (congrArg (· * factor) (row_sum m c t p _ (fun k => read_x m c t p k _) _ _ fun k => ld_q m c t k j))
end blocks

/-- One element of the first array. -/
def cellA (x : Vec Ideal S256x1024 .f32) (w : Vec Ideal S1024x4176 .f32) (n : Fin 256) (j : Fin 2048) : EReal :=
  if 512 ≤ j.val ∧ j.val < 1024 then product x w n (column ⟨j.val, by omega⟩) * factor else product x w n (column ⟨j.val, by omega⟩)

/-- One element of the array of the small projections. -/
def cellS (x : Vec Ideal S256x1024 .f32) (w : Vec Ideal S1024x4176 .f32) (b : Vec Ideal S8 .f32) (n : Fin 256) (l : Fin 128) : EReal :=
  if h : l.val < 64 then product x w n ⟨4104 + l.val, by omega⟩
  else if h : l.val < 72 then product x w n ⟨2048 + (l.val - 64), by omega⟩ + b (ix1 ⟨l.val - 64, by omega⟩)
  else if h : l.val < 80 then product x w n ⟨4168 + (l.val - 72), by omega⟩ else 0

theorem cell_plain (x : Vec Ideal S256x1024 .f32) (w : Vec Ideal S1024x4176 .f32) {n n' : Fin 256} {q : Fin 4096} {j : Fin 2048}
    (hn : n = n') (hq : q.val = j.val) (h : ¬ (512 ≤ j.val ∧ j.val < 1024)) : product x w n (column q) = cellA x w n' j := by
  subst hn
  unfold cellA
  rw [if_neg h]
  exact congrArg (fun q => product x w n (column q)) (Fin.ext hq)

theorem cell_scaled (x : Vec Ideal S256x1024 .f32) (w : Vec Ideal S1024x4176 .f32) {n n' : Fin 256} {q : Fin 4096} {j : Fin 2048}
    (hn : n = n') (hq : q.val = j.val) (h : 512 ≤ j.val ∧ j.val < 1024) : product x w n (column q) * factor = cellA x w n' j := by
  subst hn
  unfold cellA
  rw [if_pos h]
  exact congrArg (fun q => product x w n (column q) * factor) (Fin.ext hq)

theorem block_s (t : Fin cfg0.N) (p : Fin 256) (l : Fin 128) :
    k0_pay2 (iblk m c 0 t) (View.ld (iblk m c 1 t) (Rect.unit ![0, 4096] ![1024, 128] inb_S1024x4224_S1024x128_0_4096)) (iblk m c 2 t) (ix2 p l)
      = cellS (rows m c) (weights m c) (shift m c) ⟨256 * t.val + p.val, row_lt t p⟩ l := by
  refine (mul_s _ p _ _ l).trans ?_
  have hb : iblk m c 2 t (ix2 0 l) = if h : 64 ≤ l.val ∧ l.val < 72 then shift m c (ix1 ⟨l.val - 64, by omega⟩) else (0 : EReal) :=
    (read_b m c t l).trans (bias_apply _ l)
  have hs := fun k => (ld_s m c t k l).trans (slab_apply _ k l)
  refine (congrArg₂ (· + ·) rfl hb).trans ?_
  unfold cellS
  by_cases h0 : l.val < 64
  · rw [dif_pos h0, dif_neg (by omega), add_zero]
    exact row_sum m c t p _ (fun k => read_x m c t p k _) _ _ fun k => (hs k).trans (dif_pos h0)
  by_cases h1 : l.val < 72
  · rw [dif_neg h0, dif_pos h1, dif_pos ⟨by omega, h1⟩]
    exact congrArg (· + _) (row_sum m c t p _ (fun k => read_x m c t p k _) _ _ fun k => (hs k).trans ((dif_neg h0).trans (dif_pos h1)))
  by_cases h2 : l.val < 80
  · rw [dif_neg h0, dif_neg h1, dif_pos h2, dif_neg (by omega), add_zero]
    exact row_sum m c t p _ (fun k => read_x m c t p k _) _ _ fun k => (hs k).trans ((dif_neg h0).trans ((dif_neg h1).trans (dif_pos h2)))
  · rw [dif_neg h0, dif_neg h1, dif_neg h2, dif_neg (by omega), add_zero]
    exact row_zero p _ _ fun k => (hs k).trans ((dif_neg h0).trans ((dif_neg h1).trans (dif_neg h2)))

/-- The seven arrays the projection ends with. -/
def outA : Vec Ideal S256x2048 .f32 := fun y => cellA (rows m c) (weights m c) (y 0) (y 1)
def outBq : Vec Ideal S256x1024 .f32 := fun y =>
  product (rows m c) (weights m c) (y 0) (column ⟨2048 + (y 1).val, Nat.lt_of_lt_of_le (Nat.add_lt_add_left (y 1).isLt 2048) (by decide)⟩)
def outBk : Vec Ideal S256x512 .f32 := fun y =>
  product (rows m c) (weights m c) (y 0) (column ⟨3072 + (y 1).val, Nat.lt_of_lt_of_le (Nat.add_lt_add_left (y 1).isLt 3072) (by decide)⟩)
def outBv : Vec Ideal S256x512 .f32 := fun y =>
  product (rows m c) (weights m c) (y 0) (column ⟨3584 + (y 1).val, Nat.lt_of_lt_of_le (Nat.add_lt_add_left (y 1).isLt 3584) (by decide)⟩)
def outS : Vec Ideal S256x128 .f32 := fun y => cellS (rows m c) (weights m c) (shift m c) (y 0) (y 1)

theorem array_a : (dats m 0 c).arrAt 3 cfg0.N = outA m c := by
  refine (dats m 0 c).arrAt_eq_of_covers 3 _ (by decide +kernel) fun t hf y => ?_
  blk_simp
  rw [after0_3]
  unfold outsAt0
  frame_out
  have hG : outA m c (((View.whole main_v24_0).slice (win0_3.rect t)).emb y)
      = cellA (rows m c) (weights m c) ⟨256 * t.val + (y 0).val, row_lt t (y 0)⟩ (y 1) := by
    refine congrArg₂ (cellA (rows m c) (weights m c)) (Fin.ext ?_) (Fin.ext ?_)
    · blk_simp [idx3 t]
      simp [Nat.mul_comm]
    · blk_simp [idx3 t]
  refine Eq.trans ?_ hG.symm
  canon_tiles x h using (View.cover_of_tiledBy _ ![256, 512] (by sl_kernel_rfl) y)
  · refine (congrArg _ (eq_ix2 x)).trans ((block_g m c t (x 0) (x 1)).trans (cell_plain _ _ (Fin.ext ?_) ?_ ?_)) <;> (try dsimp only) <;> omega
  · refine (congrArg _ (eq_ix2 x)).trans ((block_q m c t (x 0) (x 1)).trans (cell_scaled _ _ (Fin.ext ?_) ?_ ?_)) <;> (try dsimp only) <;> omega
  · refine (congrArg _ (eq_ix2 x)).trans ((block_a m c t (x 0) (x 1)).trans (cell_plain _ _ (Fin.ext ?_) ?_ ?_)) <;> (try dsimp only) <;> omega

theorem array_bq : (dats m 0 c).arrAt 4 cfg0.N = outBq m c := by
  refine (dats m 0 c).arrAt_eq_of_covers 4 _ (by decide +kernel) fun t hf y => ?_
  blk_simp
  rw [after0_4]
  unfold outsAt0
  frame_out
  have e : y = ix2 (n0 := 256) (n1 := 1024) (y 0) (y 1) := eq_ix2 y
  refine (congrArg (k0_pay6 (iblk m c 0 t) (View.ld (iblk m c 1 t) (Rect.unit ![0, 2048] ![1024, 1024] inb_S1024x4224_S1024x1024_0_2048))) e).trans ((block_bq m c t (y 0) (y 1)).trans ?_)
  refine congrArg₂ (fun n j => product (rows m c) (weights m c) n (column j)) (Fin.ext ?_) (Fin.ext ?_)
  · blk_simp [idx4 t]
    simp [Nat.mul_comm]
  · blk_simp [idx4 t]

theorem array_bk : (dats m 0 c).arrAt 5 cfg0.N = outBk m c := by
  refine (dats m 0 c).arrAt_eq_of_covers 5 _ (by decide +kernel) fun t hf y => ?_
  blk_simp
  rw [after0_5]
  unfold outsAt0
  frame_out
  have e : y = ix2 (n0 := 256) (n1 := 512) (y 0) (y 1) := eq_ix2 y
  refine (congrArg (k0_pay7 (iblk m c 0 t) (View.ld (iblk m c 1 t) (Rect.unit ![0, 3072] ![1024, 512] inb_S1024x4224_S1024x512_0_3072))) e).trans ((block_bk m c t (y 0) (y 1)).trans ?_)
  refine congrArg₂ (fun n j => product (rows m c) (weights m c) n (column j)) (Fin.ext ?_) (Fin.ext ?_)
  · blk_simp [idx5 t]
    simp [Nat.mul_comm]
  · blk_simp [idx5 t]

theorem array_bv : (dats m 0 c).arrAt 6 cfg0.N = outBv m c := by
  refine (dats m 0 c).arrAt_eq_of_covers 6 _ (by decide +kernel) fun t hf y => ?_
  blk_simp
  rw [after0_6]
  unfold outsAt0
  frame_out
  have e : y = ix2 (n0 := 256) (n1 := 512) (y 0) (y 1) := eq_ix2 y
  refine (congrArg (k0_pay1 (iblk m c 0 t) (View.ld (iblk m c 1 t) (Rect.unit ![0, 3584] ![1024, 512] inb_S1024x4224_S1024x512_0_3584))) e).trans ((block_bv m c t (y 0) (y 1)).trans ?_)
  refine congrArg₂ (fun n j => product (rows m c) (weights m c) n (column j)) (Fin.ext ?_) (Fin.ext ?_)
  · blk_simp [idx6 t]
    simp [Nat.mul_comm]
  · blk_simp [idx6 t]

theorem array_bk' : (dats m 0 c).arrAt 8 cfg0.N = outBk m c := by
  refine (dats m 0 c).arrAt_eq_of_covers 8 _ (by decide +kernel) fun t hf y => ?_
  blk_simp
  rw [after0_8]
  unfold outsAt0
  frame_out
  have e : y = ix2 (n0 := 256) (n1 := 512) (y 0) (y 1) := eq_ix2 y
  refine (congrArg (k0_pay7 (iblk m c 0 t) (View.ld (iblk m c 1 t) (Rect.unit ![0, 3072] ![1024, 512] inb_S1024x4224_S1024x512_0_3072))) e).trans ((block_bk m c t (y 0) (y 1)).trans ?_)
  refine congrArg₂ (fun n j => product (rows m c) (weights m c) n (column j)) (Fin.ext ?_) (Fin.ext ?_)
  · blk_simp [idx8 t]
    simp [Nat.mul_comm]
  · blk_simp [idx8 t]

theorem array_bv' : (dats m 0 c).arrAt 9 cfg0.N = outBv m c := by
  refine (dats m 0 c).arrAt_eq_of_covers 9 _ (by decide +kernel) fun t hf y => ?_
  blk_simp
  rw [after0_9]
  unfold outsAt0
  frame_out
  have e : y = ix2 (n0 := 256) (n1 := 512) (y 0) (y 1) := eq_ix2 y
  refine (congrArg (k0_pay1 (iblk m c 0 t) (View.ld (iblk m c 1 t) (Rect.unit ![0, 3584] ![1024, 512] inb_S1024x4224_S1024x512_0_3584))) e).trans ((block_bv m c t (y 0) (y 1)).trans ?_)
  refine congrArg₂ (fun n j => product (rows m c) (weights m c) n (column j)) (Fin.ext ?_) (Fin.ext ?_)
  · blk_simp [idx9 t]
    simp [Nat.mul_comm]
  · blk_simp [idx9 t]

theorem array_s : (dats m 0 c).arrAt 7 cfg0.N = outS m c := by
  refine (dats m 0 c).arrAt_eq_of_covers 7 _ (by decide +kernel) fun t hf y => ?_
  blk_simp
  rw [after0_7]
  unfold outsAt0
  frame_out
  have e : y = ix2 (n0 := 256) (n1 := 128) (y 0) (y 1) := eq_ix2 y
  refine (congrArg (k0_pay2 (iblk m c 0 t) (View.ld (iblk m c 1 t) (Rect.unit ![0, 4096] ![1024, 128] inb_S1024x4224_S1024x128_0_4096)) (iblk m c 2 t)) e).trans ((block_s m c t (y 0) (y 1)).trans ?_)
  refine congrArg₂ (cellS (rows m c) (weights m c) (shift m c)) (Fin.ext ?_) (Fin.ext ?_)
  · blk_simp [idx7 t]
    simp [Nat.mul_comm]
  · blk_simp [idx7 t]

end Cert.Kernel5Ideal.Hand

namespace Cert.Reference5Ideal.Hand

open Idealize.ShloMosaic Idealize.ShloMosaic.TcCoe Idealize.SL.Sem
open Cert.Reference5Ideal Cert.Reference5Ideal.Gen
open Cert.Kernel2Ideal.Hand (column)
open Cert.Kernel5Ideal.Hand (product cellA cellS factor)

theorem mul_all (X : Vec Ideal S256x1024 .f32) (W : Vec Ideal S1024x4176 .f32) (p : Fin 256) (j : Fin 4176) :
    Host.dotGeneral (F := Ideal) (φ₁ := .f32) (φ₂ := .f32) dot_S256x1024_S1024x4176_S256x4176_1_0_0_1_n_n none X W (ix2 p j) = product X W p j := by
  pointwise [product]

section cuts
variable (Y : Vec Ideal S256x4176 .f32) (B : Vec Ideal S8 .f32) (p : Fin 256)

theorem parts_a (j : Fin 2048) : (concatenate S256x2048 1 [⟨S256x512, (extractStridedSlice S256x512 ![0, 0] Y slices_S256x4176_S256x512_0_0)⟩,
      ⟨S256x512, mulf (F := Ideal) (φ := .f32) (extractStridedSlice S256x512 ![0, 512] Y slices_S256x4176_S256x512_0_512) (broadcastInDim S256x512 ![] bcast_S_S256x512 (constant (F := Ideal) S_ .f32 0x3DB504F3#32))⟩,
      ⟨S256x512, (extractStridedSlice S256x512 ![0, 1024] Y slices_S256x4176_S256x512_0_1024)⟩, ⟨S256x512, (extractStridedSlice S256x512 ![0, 1536] Y slices_S256x4176_S256x512_0_1536)⟩]
      concatenates_S256x512_S256x512_S256x512_S256x512_S256x2048_d1 : Vec Ideal S256x2048 .f32) (ix2 p j)
    = if 512 ≤ j.val ∧ j.val < 1024 then Y (ix2 p (column ⟨j.val, by omega⟩)) * factor else Y (ix2 p (column ⟨j.val, by omega⟩)) := by
  have hc : column ⟨j.val, by omega⟩ = ⟨j.val, by omega⟩ := by
    unfold column
    exact dif_pos j.isLt
  rw [hc]
  pointwise
  by_cases h0 : j.val < 512
  · refine (dif_pos h0).trans (Eq.trans ?_ (if_neg (by omega)).symm)
    rfl
  refine (dif_neg h0).trans ?_
  by_cases h1 : j.val - 512 < 512
  · refine (dif_pos h1).trans (Eq.trans ?_ (if_pos (by omega)).symm)
    refine congrArg (· * factor) (congrArg (fun q => Y (ix2 p q)) (Fin.ext ?_))
    dsimp only
    omega
  refine (dif_neg h1).trans (Eq.trans ?_ (if_neg (by omega)).symm)
  by_cases h2 : j.val - 512 - 512 < 512
  · refine (dif_pos h2).trans ?_
    refine congrArg (fun q => Y (ix2 p q)) (Fin.ext ?_)
    dsimp only
    omega
  refine (dif_neg h2).trans ?_
  refine congrArg (fun q => Y (ix2 p q)) (Fin.ext ?_)
  dsimp only
  omega

theorem parts_bq (j : Fin 1024) : (concatenate S256x1024 1 [⟨S256x512, (extractStridedSlice S256x512 ![0, 2056] Y slices_S256x4176_S256x512_0_2056)⟩, ⟨S256x512, (extractStridedSlice S256x512 ![0, 3592] Y slices_S256x4176_S256x512_0_3592)⟩]
      concatenates_S256x512_S256x512_S256x1024_d1 : Vec Ideal S256x1024 .f32) (ix2 p j) = Y (ix2 p (column ⟨2048 + j.val, by omega⟩)) := by
  pointwise
  unfold column
  dsimp only
  by_cases h0 : j.val < 512
  · rw [dif_pos h0, dif_neg (by omega), dif_pos (by omega)]
    refine congrArg (fun q => Y (ix2 p q)) (Fin.ext ?_)
    dsimp only
    omega
  · rw [dif_neg h0, dif_neg (by omega), dif_neg (by omega), dif_pos (by omega)]
    refine congrArg (fun q => Y (ix2 p q)) (Fin.ext ?_)
    dsimp only
    omega

theorem cut_bk (j : Fin 512) : (extractStridedSlice S256x512 ![0, 2568] Y slices_S256x4176_S256x512_0_2568) (ix2 p j) = Y (ix2 p (column ⟨3072 + j.val, by omega⟩)) := by
  have hc : column ⟨3072 + j.val, by omega⟩ = ⟨2568 + j.val, by omega⟩ := by
    unfold column
    dsimp only
    rw [dif_neg (by omega), dif_neg (by omega), dif_neg (by omega), dif_pos (by omega)]
    exact Fin.ext (by dsimp only; omega)
  rw [hc]
  pointwise

theorem cut_bv (j : Fin 512) : (extractStridedSlice S256x512 ![0, 3080] Y slices_S256x4176_S256x512_0_3080) (ix2 p j) = Y (ix2 p (column ⟨3584 + j.val, by omega⟩)) := by
  have hc : column ⟨3584 + j.val, by omega⟩ = ⟨3080 + j.val, by omega⟩ := by
    unfold column
    dsimp only
    rw [dif_neg (by omega), dif_neg (by omega), dif_neg (by omega), dif_neg (by omega)]
    exact Fin.ext (by dsimp only; omega)
  rw [hc]
  pointwise

theorem parts_s (l : Fin 128) : (concatenate S256x128 1 [⟨S256x64, (extractStridedSlice S256x64 ![0, 4104] Y slices_S256x4176_S256x64_0_4104)⟩,
      ⟨S256x8, addf (F := Ideal) (φ := .f32) (extractStridedSlice S256x8 ![0, 2048] Y slices_S256x4176_S256x8_0_2048) (broadcastInDim S256x8 ![0, 1] bcast_S1x8_S256x8_0_1 (broadcastInDim S1x8 ![1] bcast_S8_S1x8_1 B))⟩,
      ⟨S256x8, (extractStridedSlice S256x8 ![0, 4168] Y slices_S256x4176_S256x8_0_4168)⟩, ⟨S256x48, broadcastInDim S256x48 ![] bcast_S_S256x48 (constant (F := Ideal) S_ .f32 0x00000000#32)⟩]
      concatenates_S256x64_S256x8_S256x8_S256x48_S256x128_d1 : Vec Ideal S256x128 .f32) (ix2 p l)
    = if h : l.val < 64 then Y (ix2 p ⟨4104 + l.val, by omega⟩)
      else if h : l.val < 72 then Y (ix2 p ⟨2048 + (l.val - 64), by omega⟩) + B (ix1 ⟨l.val - 64, by omega⟩)
      else if h : l.val < 80 then Y (ix2 p ⟨4168 + (l.val - 72), by omega⟩) else 0 := by
  pointwise
  by_cases h0 : l.val < 64
  · refine (dif_pos h0).trans (Eq.trans ?_ (dif_pos h0).symm)
    rfl
  refine (dif_neg h0).trans (Eq.trans ?_ (dif_neg h0).symm)
  by_cases h1 : l.val < 72
  · refine (dif_pos (by omega : l.val - 64 < 8)).trans (Eq.trans ?_ (dif_pos h1).symm)
    rfl
  refine (dif_neg (by omega : ¬ l.val - 64 < 8)).trans (Eq.trans ?_ (dif_neg h1).symm)
  by_cases h2 : l.val < 80
  · refine (dif_pos (by omega : l.val - 64 - 8 < 8)).trans (Eq.trans ?_ (dif_pos h2).symm)
    refine congrArg (fun q => Y (ix2 p q)) (Fin.ext ?_)
    dsimp only
    omega
  refine (dif_neg (by omega : ¬ l.val - 64 - 8 < 8)).trans (Eq.trans ?_ (dif_neg h2).symm)
  rfl

theorem to_cellA (X : Vec Ideal S256x1024 .f32) (W : Vec Ideal S1024x4176 .f32) (hY : ∀ p j, Y (ix2 p j) = product X W p j) (j : Fin 2048) :
    (if 512 ≤ j.val ∧ j.val < 1024 then Y (ix2 p (column ⟨j.val, by omega⟩)) * factor else Y (ix2 p (column ⟨j.val, by omega⟩))) = cellA X W p j := by
  unfold cellA
  rw [hY]

theorem to_cellS (X : Vec Ideal S256x1024 .f32) (W : Vec Ideal S1024x4176 .f32) (hY : ∀ p j, Y (ix2 p j) = product X W p j) (l : Fin 128) :
    (if h : l.val < 64 then Y (ix2 p ⟨4104 + l.val, by omega⟩)
      else if h : l.val < 72 then Y (ix2 p ⟨2048 + (l.val - 64), by omega⟩) + B (ix1 ⟨l.val - 64, by omega⟩)
      else if h : l.val < 80 then Y (ix2 p ⟨4168 + (l.val - 72), by omega⟩) else (0 : EReal)) = cellS X W B p l := by
  unfold cellS
  simp only [hY]
end cuts

end Cert.Reference5Ideal.Hand

namespace Cert.Proof.InEvenSample

open Idealize.ShloMosaic Idealize.ShloMosaic.TcCoe Idealize.SL.Sem

/-- The printed kernel runs, keeps its arguments and leaves every counter at zero. -/
theorem frame_kernel : Cert.quiescent_Kernel5 := fun m g _ => Cert.Kernel5.Gen.frame m g
/-- So does the kernel read at the ideal instance. -/
theorem frame_kernel_ideal : Cert.quiescent_Kernel5Ideal := fun m g _ => Cert.Kernel5Ideal.Gen.frame m g
/-- So does the reference, which has no counters. -/
theorem frame_reference : Cert.quiescent_Reference5Ideal := fun m g _ =>
  (θ_run Cert.Reference5Ideal.defs _ _).mono (fun r h => ⟨fun c => (h c).2.2.2.2.2.2.2, sem_eq_zero_of_no_sems rfl r.2⟩) (Cert.Reference5Ideal.Value.run m g)

/-- The kernel and the reference, read at the ideal instance, end with equal results. -/
theorem algebraic : Cert.algebraic_Kernel5Ideal_Reference5Ideal := fun m g m' g' _ ha =>
  ⟨fun c => Cert.Kernel5Ideal.Hand.outA m c, fun c => Cert.Kernel5Ideal.Hand.outBq m c, fun c => Cert.Kernel5Ideal.Hand.outBk m c, fun c => Cert.Kernel5Ideal.Hand.outBv m c, fun c => Cert.Kernel5Ideal.Hand.outS m c, fun c => Cert.Kernel5Ideal.Hand.outBk m c, fun c => Cert.Kernel5Ideal.Hand.outBv m c,
    (θ_run Cert.Kernel5Ideal.defs _ _).mono (fun r h c => by
        obtain ⟨h0, h1, h2, h3, h4, h5, h6, hk⟩ := h c
        exact ⟨h0.trans (Cert.Kernel5Ideal.Hand.array_a m c), h1.trans (Cert.Kernel5Ideal.Hand.array_bq m c), h2.trans (Cert.Kernel5Ideal.Hand.array_bk m c), h3.trans (Cert.Kernel5Ideal.Hand.array_bv m c),
          h4.trans (Cert.Kernel5Ideal.Hand.array_s m c), h5.trans (Cert.Kernel5Ideal.Hand.array_bk' m c), h6.trans (Cert.Kernel5Ideal.Hand.array_bv' m c), hk⟩)
      (Cert.Kernel5Ideal.Value.run_blocks m g),
    (θ_run Cert.Reference5Ideal.defs _ _).mono (fun r h c => by
        obtain ⟨e0, e1, e2⟩ := ha c
        obtain ⟨h0, h1, h2, h3, h4, h5, h6, hk⟩ := h c
        rw [e0, e1] at h0 h1 h2 h3 h5 h6
        rw [e0, e1, e2] at h4
        refine ⟨h0.trans ?_, h1.trans ?_, h2.trans ?_, h3.trans ?_, h4.trans ?_, h5.trans ?_, h6.trans ?_, hk⟩
        · funext y
          exact (congrArg _ (eq_ix2 y)).trans ((Cert.Reference5Ideal.Hand.parts_a _ (y 0) (y 1)).trans (Cert.Reference5Ideal.Hand.to_cellA _ (y 0) _ _ (Cert.Reference5Ideal.Hand.mul_all _ _) (y 1)))
        · funext y
          exact (congrArg _ (eq_ix2 y)).trans ((Cert.Reference5Ideal.Hand.parts_bq _ (y 0) (y 1)).trans (Cert.Reference5Ideal.Hand.mul_all _ _ _ _))
        · funext y
          exact (congrArg _ (eq_ix2 y)).trans ((Cert.Reference5Ideal.Hand.cut_bk _ (y 0) (y 1)).trans (Cert.Reference5Ideal.Hand.mul_all _ _ _ _))
        · funext y
          exact (congrArg _ (eq_ix2 y)).trans ((Cert.Reference5Ideal.Hand.cut_bv _ (y 0) (y 1)).trans (Cert.Reference5Ideal.Hand.mul_all _ _ _ _))
        · funext y
          exact (congrArg _ (eq_ix2 y)).trans ((Cert.Reference5Ideal.Hand.parts_s _ _ (y 0) (y 1)).trans (Cert.Reference5Ideal.Hand.to_cellS _ _ (y 0) _ _ (Cert.Reference5Ideal.Hand.mul_all _ _) (y 1)))
        · funext y
          exact (congrArg _ (eq_ix2 y)).trans ((Cert.Reference5Ideal.Hand.cut_bk _ (y 0) (y 1)).trans (Cert.Reference5Ideal.Hand.mul_all _ _ _ _))
        · funext y
          exact (congrArg _ (eq_ix2 y)).trans ((Cert.Reference5Ideal.Hand.cut_bv _ (y 0) (y 1)).trans (Cert.Reference5Ideal.Hand.mul_all _ _ _ _)))
      (Cert.Reference5Ideal.Value.run m' g')⟩

end Cert.Proof.InEvenSample

end
-- ==== Proof.OutProj.lean ====
module

public import proofs.«01_k».proof.Defs
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Spec
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

/-! The output projection: 512 rows of either mixer's output against their half of the weights, the two products and
the scaled residual added, the row normalised. -/

namespace Cert.Kernel4Ideal.Hand

open Idealize.ShloMosaic Idealize.ShloMosaic.TcCoe Idealize.SL.Sem
open Cert.Kernel4Ideal Cert.Kernel4Ideal.Gen
open Cert.Moe (resid norm centred)

variable (m : (ℓ : Loc nD τ sig) → Buf (Elt Ideal) ℓ) (c : Dev nD)

/-- One mixer's rows. -/
abbrev left : Vec Ideal S32768x512 .bf16 := m ((c.tc : Thread nD τ).loc main_arg0)
/-- The other mixer's. -/
abbrev right : Vec Ideal S32768x512 .bf16 := m ((c.tc : Thread nD τ).loc main_arg1)
/-- The weights. -/
abbrev weights : Vec Ideal S1024x1024 .f32 := m ((c.tc : Thread nD τ).loc main_arg2)
/-- The rows that go round the layer. -/
abbrev rows : Vec Ideal S32768x1024 .f32 := m ((c.tc : Thread nD τ).loc main_arg3)
/-- The scale of the normalisation. -/
abbrev scale : Vec Ideal S1024 .f32 := m ((c.tc : Thread nD τ).loc main_arg4)
/-- Its shift. -/
abbrev shift : Vec Ideal S1024 .f32 := m ((c.tc : Thread nD τ).loc main_arg5)

/-- One element of the projected rows: each half of a row against its half of the weights. -/
def mix (a b : Fin 512 → EReal) (w : Vec Ideal S1024x1024 .f32) (j : Fin 1024) : EReal :=
  (∑ k : Fin 512, a k * w (ix2 ⟨k.val, by omega⟩ j)) + ∑ k : Fin 512, b k * w (ix2 ⟨512 + k.val, by omega⟩ j)

/-- One element of the result. -/
def element (a b : Vec Ideal S32768x512 .bf16) (w : Vec Ideal S1024x1024 .f32) (x : Vec Ideal S32768x1024 .f32) (g h : Vec Ideal S1024 .f32)
    (n : Fin 32768) (j : Fin 1024) : EReal :=
  norm (resid (fun k => x (ix2 n k)) (mix (fun k => a (ix2 n k)) (fun k => b (ix2 n k)) w)) (fun k => g (ix1 k)) (fun k => h (ix1 k)) j

/-- The result. -/
def outAll : Vec Ideal S32768x1024 .f32 := fun y =>
  element (left m c) (right m c) (weights m c) (rows m c) (scale m c) (shift m c) (y 0) (y 1)

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![0, 0] := by decide +kernel
theorem idx3 : ∀ t : Fin grid0.N, win0_3.index t = ![t.val, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![t.val, 0] := by decide +kernel

theorem row_lt (t : Fin cfg0.N) (p : Fin 512) : 512 * t.val + p.val < 32768 := by
  have h : t.val < 64 := t.isLt
  omega

theorem read_left (t : Fin cfg0.N) (p : Fin 512) (k : Fin 512) (h : 512 * t.val + p.val < 32768) :
    iblk m c 0 t (ix2 p k) = left m c (ix2 ⟨512 * t.val + p.val, h⟩ k) := by
  blk_ext [iblk, V, idx0 t]
theorem read_right (t : Fin cfg0.N) (p : Fin 512) (k : Fin 512) (h : 512 * t.val + p.val < 32768) :
    iblk m c 1 t (ix2 p k) = right m c (ix2 ⟨512 * t.val + p.val, h⟩ k) := by
  blk_ext [iblk, V, idx1 t]
theorem read_w (t : Fin cfg0.N) (k : Fin 1024) (j : Fin 1024) :
    iblk m c 2 t (ix2 k j) = weights m c (ix2 k j) := by
  blk_ext [iblk, V, idx2 t]
theorem read_x (t : Fin cfg0.N) (p : Fin 512) (k : Fin 1024) (h : 512 * t.val + p.val < 32768) :
    iblk m c 3 t (ix2 p k) = rows m c (ix2 ⟨512 * t.val + p.val, h⟩ k) := by
  blk_ext [iblk, V, idx3 t]

theorem V_g : (V m c main_v1 : Vec Ideal S1x1024 .f32) = shapeCast S1x1024 (scale m c) shapeCasts_S1024_S1x1024 := by
  show StableHlo.after hostOps0 _ _ = _
  entry_read
  rfl
theorem V_b : (V m c main_v2 : Vec Ideal S1x1024 .f32) = shapeCast S1x1024 (shift m c) shapeCasts_S1024_S1x1024 := by
  show StableHlo.after hostOps0 _ _ = _
  entry_read
  rfl

theorem whole_4 (t : Fin cfg0.N) (A : Vec Ideal S1x1024 .f32) (q : Fin 1024) :
    ((cfg0.win 4).blk t).view.read (Elt Ideal) A (ix2 0 q) = A (ix2 0 q) := by
  blk_ext [idx4 t]
theorem whole_5 (t : Fin cfg0.N) (A : Vec Ideal S1x1024 .f32) (q : Fin 1024) :
    ((cfg0.win 5).blk t).view.read (Elt Ideal) A (ix2 0 q) = A (ix2 0 q) := by
  blk_ext [idx5 t]

theorem flat (A : Vec Ideal S1024 .f32) (q : Fin 1024) : shapeCast S1x1024 A shapeCasts_S1024_S1x1024 (ix2 0 q) = A (ix1 q) := by
  pointwise

theorem read_g (t : Fin cfg0.N) (q : Fin 1024) : iblk m c 4 t (ix2 0 q) = scale m c (ix1 q) :=
  (whole_4 t (V m c main_v1) q).trans ((congrFun (V_g m c) _).trans (flat _ q))
theorem read_b (t : Fin cfg0.N) (q : Fin 1024) : iblk m c 5 t (ix2 0 q) = shift m c (ix1 q) :=
  (whole_5 t (V m c main_v2) q).trans ((congrFun (V_b m c) _).trans (flat _ q))

theorem upper (A : Vec Ideal S1024x1024 .bf16) (k : Fin 512) (j : Fin 1024) :
    View.ld A r0_1 (ix2 k j) = A (ix2 ⟨k.val, by omega⟩ j) := by
  pointwise
theorem lower (A : Vec Ideal S1024x1024 .bf16) (k : Fin 512) (j : Fin 1024) :
    View.ld A r0_2 (ix2 k j) = A (ix2 ⟨512 + k.val, by omega⟩ j) := by
  pointwise

theorem body_apply (a : Vec Ideal S512x512 .bf16) (u : Vec Ideal S512x1024 .bf16) (b : Vec Ideal S512x512 .bf16) (l : Vec Ideal S512x1024 .bf16) (x : Vec Ideal S512x1024 .f32) (g h : Vec Ideal S1x1024 .f32)
    (p : Fin 512) (j : Fin 1024) :
    k0_pay1 a u b l x g h (ix2 p j)
      = norm (resid (fun k => x (ix2 p k)) fun d => (∑ k : Fin 512, a (ix2 p k) * u (ix2 k d)) + ∑ k : Fin 512, b (ix2 p k) * l (ix2 k d))
        (fun k => g (ix2 0 k)) (fun k => h (ix2 0 k)) j := by
  pointwise [k0_pay1]
  rfl

/-- The same over what the blocks hold. -/
theorem body_eq (a : Vec Ideal S512x512 .bf16) (u : Vec Ideal S512x1024 .bf16) (b : Vec Ideal S512x512 .bf16) (l : Vec Ideal S512x1024 .bf16) (x : Vec Ideal S512x1024 .f32) (g h : Vec Ideal S1x1024 .f32)
    (p : Fin 512) (j : Fin 1024) (A B : Fin 512 → EReal) (W : Vec Ideal S1024x1024 .f32) (X G H : Fin 1024 → EReal)
    (ha : ∀ k, a (ix2 p k) = A k) (hb : ∀ k, b (ix2 p k) = B k) (hu : ∀ (k : Fin 512) (d : Fin 1024), u (ix2 k d) = W (ix2 ⟨k.val, by omega⟩ d))
    (hl : ∀ (k : Fin 512) (d : Fin 1024), l (ix2 k d) = W (ix2 ⟨512 + k.val, by omega⟩ d)) (hx : ∀ k, x (ix2 p k) = X k)
    (hg : ∀ k, g (ix2 0 k) = G k) (hh : ∀ k, h (ix2 0 k) = H k) :
    k0_pay1 a u b l x g h (ix2 p j) = norm (resid X (mix A B W)) G H j := by
  rw [body_apply]
  simp only [ha, hb, hu, hl, hx, hg, hh]
  rfl

theorem block_out (t : Fin cfg0.N) (p : Fin 512) (j : Fin 1024) :
    k0_pay1 (iblk m c 0 t) (View.ld (iblk m c 2 t) r0_1) (iblk m c 1 t) (View.ld (iblk m c 2 t) r0_2) (iblk m c 3 t) (iblk m c 4 t) (iblk m c 5 t) (ix2 p j)
      = element (left m c) (right m c) (weights m c) (rows m c) (scale m c) (shift m c) ⟨512 * t.val + p.val, row_lt t p⟩ j :=
  body_eq _ _ _ _ _ _ _ p j _ _ (weights m c) _ _ _ (fun k => read_left m c t p k (row_lt t p)) (fun k => read_right m c t p k (row_lt t p))
    (fun k d => (upper _ k d).trans (read_w m c t _ d)) (fun k d => (lower _ k d).trans (read_w m c t _ d))
    (fun k => read_x m c t p k (row_lt t p)) (fun k => read_g m c t k) (fun k => read_b m c t k)

theorem array_eq : (dats m 0 c).arrAt 6 cfg0.N = outAll m c := by
  refine (dats m 0 c).arrAt_eq_of_covers 6 _ (by decide +kernel) fun t hf y => ?_
  blk_simp
  rw [after0_6]
  frame_out
  have e : y = ix2 (n0 := 512) (n1 := 1024) (y 0) (y 1) := eq_ix2 y
  refine (congrArg (k0_pay1 (iblk m c 0 t) (View.ld (iblk m c 2 t) r0_1) (iblk m c 1 t) (View.ld (iblk m c 2 t) r0_2) (iblk m c 3 t) (iblk m c 4 t) (iblk m c 5 t)) e).trans ((block_out m c t (y 0) (y 1)).trans ?_)
  refine congrArg₂ (element (left m c) (right m c) (weights m c) (rows m c) (scale m c) (shift m c)) (Fin.ext ?_) (Fin.ext ?_)
  · blk_simp [idx6 t]
    simp [Nat.mul_comm]
  · blk_simp [idx6 t]

end Cert.Kernel4Ideal.Hand

namespace Cert.Reference4Ideal.Hand

open Idealize.ShloMosaic Idealize.ShloMosaic.TcCoe Idealize.SL.Sem
open Cert.Reference4Ideal Cert.Reference4Ideal.Gen
open Cert.Moe (resid norm centred)
open Cert.Kernel4Ideal.Hand (mix element)

/-- The projected rows. -/
def mixed (a b : Vec Ideal S32768x512 .bf16) (w : Vec Ideal S1024x1024 .f32) : FVec Ideal S32768x1024 .f32 :=
  Host.dotGeneral (φ₁ := .f32) (φ₂ := .f32) dot_S32768x1024_S1024x1024_S32768x1024_1_0_0_1_n_n none
    (concatenate S32768x1024 1 [⟨S32768x512, extf .f32 a bitsLt_bf16_f32⟩, ⟨S32768x512, extf .f32 b bitsLt_bf16_f32⟩] concatenates_S32768x512_S32768x512_S32768x1024_d1) w

/-- The sum with the scaled residual. -/
def summed (x y : FVec Ideal S32768x1024 .f32) : FVec Ideal S32768x1024 .f32 :=
  addf (mulf (broadcastInDim S32768x1024 ![] bcast_S_S32768x1024 (constant S_ .f32 0x3FB504F3#32)) x) y

/-- Rows less their means. -/
def less (z : FVec Ideal S32768x1024 .f32) : FVec Ideal S32768x1024 .f32 :=
  subf z (broadcastInDim S32768x1024 ![0, 1] bcast_S32768x1_S32768x1024_0_1 (Host.divf
    (broadcastInDim S32768x1 ![0] bcast_S32768_S32768x1_0 (Host.reduceAdd z (constant S_ .f32 0x00000000#32) reducesTo_S32768x1024_S32768_d1 h_S_))
    (broadcastInDim S32768x1 ![] bcast_S_S32768x1 (constant S_ .f32 0x44800000#32))))

/-- Centred rows over their deviations, scaled and shifted. -/
def scaled (zc : FVec Ideal S32768x1024 .f32) (g b : FVec Ideal S1024 .f32) : FVec Ideal S32768x1024 .f32 :=
  addf (mulf (mulf zc (broadcastInDim S32768x1024 ![0, 1] bcast_S32768x1_S32768x1024_0_1 (Host.rsqrt (addf (Host.divf
    (broadcastInDim S32768x1 ![0] bcast_S32768_S32768x1_0 (Host.reduceAdd (mulf zc zc) (constant S_ .f32 0x00000000#32) reducesTo_S32768x1024_S32768_d1 h_S_))
    (broadcastInDim S32768x1 ![] bcast_S_S32768x1 (constant S_ .f32 0x44800000#32)))
    (broadcastInDim S32768x1 ![] bcast_S_S32768x1 (constant S_ .f32 0x3727C5AC#32))))))
    (broadcastInDim S32768x1024 ![0, 1] bcast_S1x1024_S32768x1024_0_1 (broadcastInDim S1x1024 ![1] bcast_S1024_S1x1024_1 g)))
    (broadcastInDim S32768x1024 ![0, 1] bcast_S1x1024_S32768x1024_0_1 (broadcastInDim S1x1024 ![1] bcast_S1024_S1x1024_1 b))

theorem mixed_apply (a b : Vec Ideal S32768x512 .bf16) (w : Vec Ideal S1024x1024 .f32) (n : Fin 32768) (j : Fin 1024) :
    mixed a b w (ix2 n j) = mix (fun k => a (ix2 n k)) (fun k => b (ix2 n k)) w j := by
  pointwise [mixed, mix]

theorem summed_apply (x y : FVec Ideal S32768x1024 .f32) (n : Fin 32768) (j : Fin 1024) :
    summed x y (ix2 n j) = resid (fun k => x (ix2 n k)) (fun k => y (ix2 n k)) j := by
  pointwise [summed, resid]

theorem less_apply (z : FVec Ideal S32768x1024 .f32) (n : Fin 32768) (j : Fin 1024) :
    less z (ix2 n j) = centred (fun k => z (ix2 n k)) j := by
  pointwise [less, centred]

theorem scaled_apply (z : FVec Ideal S32768x1024 .f32) (g b : FVec Ideal S1024 .f32) (n : Fin 32768) (j : Fin 1024) :
    scaled (less z) g b (ix2 n j) = norm (fun k => z (ix2 n k)) (fun k => g (ix1 k)) (fun k => b (ix1 k)) j := by
  pointwise [scaled, less_apply]
  rfl

theorem res_apply (m : (ℓ : Loc nD τ sig) → Buf (Elt Ideal) ℓ) (c : Dev nD) (n : Fin 32768) (j : Fin 1024) :
    (Cert.Reference4Ideal.Value.res_main_v30 m c : Vec Ideal S32768x1024 .f32) (ix2 n j)
      = element (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) n j := by
  refine (scaled_apply (summed _ (mixed _ _ _)) _ _ n j).trans ?_
  refine congrArg (fun z => norm z _ _ j) (funext fun d => (summed_apply _ _ n d).trans ?_)
  exact congrArg (fun y => resid _ y d) (funext fun k => mixed_apply _ _ _ n k)

end Cert.Reference4Ideal.Hand

namespace Cert.Proof.OutProj

open Idealize.ShloMosaic Idealize.ShloMosaic.TcCoe Idealize.SL.Sem

/-- The printed kernel runs, keeps its arguments and leaves every counter at zero. -/
theorem frame_kernel : Cert.quiescent_Kernel4 := fun m g _ => Cert.Kernel4.Gen.frame m g
/-- So does the kernel read at the ideal instance. -/
theorem frame_kernel_ideal : Cert.quiescent_Kernel4Ideal := fun m g _ => Cert.Kernel4Ideal.Gen.frame m g
/-- So does the reference, which has no counters. -/
theorem frame_reference : Cert.quiescent_Reference4Ideal := fun m g _ =>
  (θ_run Cert.Reference4Ideal.defs _ _).mono (fun r h => ⟨fun c => (h c).2, sem_eq_zero_of_no_sems rfl r.2⟩) (Cert.Reference4Ideal.Value.run m g)

/-- The kernel and the reference, read at the ideal instance, end with equal results. -/
theorem algebraic : Cert.algebraic_Kernel4Ideal_Reference4Ideal := fun m g m' g' _ ha =>
  ⟨fun c => Cert.Kernel4Ideal.Hand.outAll m c,
    (θ_run Cert.Kernel4Ideal.defs _ _).mono (fun r h c => ⟨(h c).1.trans (Cert.Kernel4Ideal.Hand.array_eq m c), (h c).2⟩)
      (Cert.Kernel4Ideal.Value.run_blocks m g),
    (θ_run Cert.Reference4Ideal.defs _ _).mono (fun r h c => ⟨(h c).1.trans (by
        obtain ⟨h0, h1, h2, h3, h4, h5⟩ := ha c
        funext y
        refine (congrArg _ (eq_ix2 y)).trans ((Cert.Reference4Ideal.Hand.res_apply m' c (y 0) (y 1)).trans ?_)
        rw [h0, h1, h2, h3, h4, h5]
        rfl), (h c).2⟩) (Cert.Reference4Ideal.Value.run m' g')⟩

end Cert.Proof.OutProj

end
-- ==== Proof.SampleRank.lean ====
module

public import proofs.«01_k».proof.Proof.Rank
public import proofs.«01_k».proof.Proof.Order

@[expose] public section

noncomputable section

/-! The sample's routing as mathematics: the gates of the chosen two and their shares, and the best group found among
128 lanes of which the first sixteen hold experts. -/

namespace Cert.Moe

open Idealize.ShloMosaic
open scoped BigOperators

open Classical in
/-- The gate of expert `i` of group `q`, zero unless it is one of the chosen two. -/
def chosen (p v : Fin 4 → Fin 4 → EReal) (q i : Fin 4) : EReal := if taken v q then gate p v q i else 0

/-- Its share of the gates' sum. -/
def share (p v : Fin 4 → Fin 4 → EReal) (q i : Fin 4) : EReal := Ideal.div (chosen p v q i) (∑ r, ∑ l, chosen p v r l)

/-- All sixteen experts' rows by their shares. -/
def blend (p v : Fin 4 → Fin 4 → EReal) (x : Fin 1024 → EReal) (wg wu : Fin 16 → Fin 1024 → Fin 512 → EReal)
    (wd : Fin 16 → Fin 512 → Fin 1024 → EReal) (c : Fin 1024) : EReal :=
  ∑ q, ∑ i, share p v q i * ffn x (wg (expert q i)) (wu (expert q i)) (wd (expert q i)) c

/-- The sample's output row of one token. -/
def sampleLayer (x : Fin 1024 → EReal) (rw : Fin 1024 → Fin 16 → EReal) (rb : Fin 16 → EReal) (wg wu : Fin 16 → Fin 1024 → Fin 512 → EReal)
    (wd : Fin 16 → Fin 512 → Fin 1024 → EReal) (g b : Fin 1024 → EReal) (c : Fin 1024) : EReal :=
  norm (resid x fun d => blend (prob x rw) (sel x rw rb) x wg wu wd d) g b c

/-- The lane of expert `i` of group `q`. -/
def lane (q i : Fin 4) : Fin 128 := ⟨4 * q.val + i.val, by omega⟩

theorem lane_of (x : Fin 128) (h : x.val < 16) : ∃ q i, x = lane q i :=
  ⟨⟨x.val / 4, by omega⟩, ⟨x.val % 4, by omega⟩, Fin.ext (by show x.val = 4 * (x.val / 4) + x.val % 4; omega)⟩

/-- A sum over the lanes of what is zero beyond the experts is the sum over groups and experts. -/
theorem sum_lanes (f : Fin 128 → EReal) (h : ∀ x : Fin 128, 16 ≤ x.val → f x = 0) : (∑ x, f x) = ∑ q : Fin 4, ∑ i : Fin 4, f (lane q i) := by
  rw [← Finset.sum_product', Finset.univ_product_univ]
  symm
  have inj : Function.Injective fun y : Fin 4 × Fin 4 => lane y.1 y.2 := by
    rintro ⟨a, b⟩ ⟨c, d⟩ e
    have e' : 4 * a.val + b.val = 4 * c.val + d.val := congrArg Fin.val e
    exact Prod.ext (Fin.ext (by show a.val = c.val; omega)) (Fin.ext (by show b.val = d.val; omega))
  refine (Finset.sum_image (s := Finset.univ) (f := f) (g := fun y : Fin 4 × Fin 4 => lane y.1 y.2) (fun a _ b _ e => inj e)).symm.trans ?_
  refine Finset.sum_subset (Finset.subset_univ _) fun x _ hx => h x ?_
  by_contra hlt
  obtain ⟨q, i, e⟩ := lane_of x (by omega)
  exact hx (Finset.mem_image.2 ⟨(q, i), Finset.mem_univ _, e.symm⟩)

theorem inf_eq : Ideal.ofBits FTy.f32 2139095040#32 = (⊤ : EReal) := by
  simp [Ideal.ofBits, Ideal.ieee]

theorem ninf_eq : Ideal.ofBits FTy.f32 4286578688#32 = (⊥ : EReal) := by
  simp [Ideal.ofBits, Ideal.ieee]

theorem big_le (k : ℕ) (h : k < 4) : ((k : ℕ) : EReal) ≤ Ideal.ofBits FTy.f32 1315859240#32 := by
  have : Ideal.ofBits FTy.f32 1315859240#32 = ((1000000000 : ℝ) : EReal) := by
    simp [Ideal.ofBits, Ideal.ieee, -EReal.coe_mul]; norm_num
  rw [this, ← EReal.coe_natCast, EReal.coe_le_coe_iff]
  have : (k : ℝ) < 4 := by exact_mod_cast h
  linarith

section
variable (s : Fin 4 → EReal) (G Q : Fin 128 → EReal) (hG : ∀ q i, G (lane q i) = s q) (hG' : ∀ x : Fin 128, 16 ≤ x.val → G x = ⊥)
  (hQ : ∀ x : Fin 128, Q x = ((x.val / 4 : ℕ) : EReal))
include hG hG'

/-- The greatest over the lanes is the greatest of the groups' scores. -/
theorem lanes_most : Finset.fold max (Ideal.ofBits FTy.f32 4286578688#32) G Finset.univ = most s := by
  apply le_antisymm
  · rw [Finset.fold_max_le, ninf_eq]
    refine ⟨bot_le, fun x _ => ?_⟩
    by_cases h : x.val < 16
    · obtain ⟨q, i, rfl⟩ := lane_of x h
      rw [hG]; exact le_most s q
    · rw [hG' x (by omega)]; exact bot_le
  · have h : ∀ q, s q ≤ Finset.fold max (Ideal.ofBits FTy.f32 4286578688#32) G Finset.univ := fun q =>
      (Finset.le_fold_max _).2 (.inr ⟨lane q 0, Finset.mem_univ _, by rw [hG]⟩)
    unfold most
    exact max_le (max_le (max_le (h 0) (h 1)) (h 2)) (h 3)

include hQ

open Classical in
/-- The least group number among the lanes that hold the greatest score is the best group's. -/
theorem lanes_best : Finset.fold min (Ideal.ofBits FTy.f32 2139095040#32)
    (fun x => if G x = Finset.fold max (Ideal.ofBits FTy.f32 4286578688#32) G Finset.univ then Q x else Ideal.ofBits FTy.f32 1315859240#32) Finset.univ
      = (((nth s 0).val : ℕ) : EReal) := by
  rw [lanes_most s G hG hG']
  have h0 := (place_zero s (nth s 0)).1 ((place_eq_iff s (nth s 0) 0).2 rfl)
  apply le_antisymm
  · rw [Finset.fold_min_le]
    refine .inr ⟨lane (nth s 0) 0, Finset.mem_univ _, ?_⟩
    rw [hG, if_pos h0.1, hQ]
    have : (lane (nth s 0) 0).val / 4 = (nth s 0).val := by show (4 * (nth s 0).val + 0) / 4 = _; omega
    rw [this]
  · rw [Finset.le_fold_min, inf_eq]
    refine ⟨le_top, fun x _ => ?_⟩
    split
    · rename_i hx
      rw [hQ, EReal.natCast_le_iff]
      by_cases h : x.val < 16
      · obtain ⟨q, i, rfl⟩ := lane_of x h
        rw [hG] at hx
        have : ¬ q < nth s 0 := fun hl => h0.2 q hl hx
        have e : (lane q i).val / 4 = q.val := by show (4 * q.val + i.val) / 4 = _; omega
        rw [e]; exact not_lt.1 this
      · omega
    · exact big_le _ (nth s 0).isLt

open Classical in
theorem lanes_taken (q i : Fin 4) : Q (lane q i) = Finset.fold min (Ideal.ofBits FTy.f32 2139095040#32)
    (fun x => if G x = Finset.fold max (Ideal.ofBits FTy.f32 4286578688#32) G Finset.univ then Q x else Ideal.ofBits FTy.f32 1315859240#32) Finset.univ
      ↔ place s q = 0 := by
  rw [lanes_best s G Q hG hG' hQ, hQ, EReal.natCast_eq_iff]
  have e : (lane q i).val / 4 = q.val := by show (4 * q.val + i.val) / 4 = _; omega
  rw [e]
  constructor
  · intro h; exact (place_eq_iff s q 0).2 (Fin.ext h.symm)
  · intro h; exact (congrArg Fin.val ((place_eq_iff s q 0).1 h)).symm
end

end Cert.Moe

end
-- ==== Proof.SampleRoute.lean ====
module

public import proofs.«01_k».proof.Proof.Gen.Kernel7Ideal.Skeleton
public import proofs.«01_k».proof.Proof.SampleRank

@[expose] public section

set_option maxRecDepth 16384

noncomputable section

/-! The sample's routing in the call: experts lie along the lanes, and a lane compares itself with its group's others by
rotations of the row. -/

namespace Cert.Kernel7Ideal.Hand

open Idealize.ShloMosaic Idealize.ShloMosaic.TcCoe Idealize.SL.Sem
open Cert.Kernel7Ideal Cert.Kernel7Ideal.Gen Cert.Moe

theorem valid_word : ∀ l : Fin 128, IntOp.cmpi CmpIPredicate.slt (BitVec.ofNat 32 l.val) 16#32 = BitVec.ofBool (decide (l.val < 16)) := by decide +kernel

theorem valid_apply (n : Fin 256) (l : Fin 128) : k0_pay6 (ix2 n l) = bit (l.val < 16) := by
  pointwise [k0_pay6]
  rw [valid_word, ofBool_decide]

theorem pos_word : ∀ l : Fin 128, k0_pay7 (ix2 0 l) = BitVec.ofNat 32 (l.val % 4) := by decide +kernel

theorem pos_row (n : Fin 256) (l : Fin 128) : k0_pay7 (ix2 n l) = k0_pay7 (ix2 0 l) := by
  pointwise [k0_pay7]

theorem pos_lane (n : Fin 256) (q i : Fin 4) : k0_pay7 (ix2 n (lane q i)) = BitVec.ofNat 32 i.val := by
  rw [pos_row, pos_word]
  congr 1
  show (4 * q.val + i.val) % 4 = i.val
  omega

theorem grp_word : ∀ l : Fin 128, (Scalar.select
        (IntOp.andi
          (IntOp.cmpi CmpIPredicate.ne
            (IntOp.subi (BitVec.setWidth 32 (IntOp.cmpi CmpIPredicate.sgt (BitVec.ofNat 32 l.val) 0#32))
              (BitVec.setWidth 32 (IntOp.cmpi CmpIPredicate.slt (BitVec.ofNat 32 l.val) 0#32)))
            (Scalar.subi (Scalar.extui (Scalar.cmpi CmpIPredicate.sgt 4#32 0#32))
              (Scalar.extui (Scalar.cmpi CmpIPredicate.slt 4#32 0#32))))
          (IntOp.cmpi CmpIPredicate.ne (IntOp.remsi ArithUnit.vector (BitVec.ofNat 32 l.val) 4#32) 0#32))
        (IntOp.subi (IntOp.divsi ArithUnit.vector (BitVec.ofNat 32 l.val) 4#32) 1#32)
        (IntOp.divsi ArithUnit.vector (BitVec.ofNat 32 l.val) 4#32)).toInt = ((l.val / 4 : ℕ) : ℤ) := by decide +kernel

/-- The lane numbers. -/
def lanes : IVec S256x128 32 := iota .tc S256x128 32 [1] iota_S256x128_d1_w32

theorem lanes_apply (n : Fin 256) (l : Fin 128) : lanes (ix2 n l) = BitVec.ofNat 32 l.val := by
  pointwise [lanes]

/-- The lanes' group numbers, as floats. -/
def groups : FVec Ideal S256x128 .f32 := k0_pay10 lanes 4#32 k0_pay8 k0_pay9

theorem groups_apply (n : Fin 256) (l : Fin 128) : groups (ix2 n l) = ((l.val / 4 : ℕ) : EReal) := by
  pointwise [groups, k0_pay10, k0_pay8, k0_pay9]
  rw [lanes_apply]
  show (((BitVec.toInt _ : ℤ) : ℝ) : EReal) = _
  rw [grp_word]
  norm_cast

theorem lo1 : ∀ i : Fin 4, IntOp.cmpi CmpIPredicate.sge (BitVec.ofNat 32 i.val) 1#32 = BitVec.ofBool (decide (1 ≤ i.val)) := by decide +kernel
theorem lo2 : ∀ i : Fin 4, IntOp.cmpi CmpIPredicate.sge (BitVec.ofNat 32 i.val) 2#32 = BitVec.ofBool (decide (2 ≤ i.val)) := by decide +kernel
theorem lo3 : ∀ i : Fin 4, IntOp.cmpi CmpIPredicate.sge (BitVec.ofNat 32 i.val) 3#32 = BitVec.ofBool (decide (3 ≤ i.val)) := by decide +kernel
theorem hi1 : ∀ i : Fin 4, IntOp.cmpi CmpIPredicate.slt (IntOp.addi (BitVec.ofNat 32 i.val) 1#32) 4#32 = BitVec.ofBool (decide (i.val < 3)) := by decide +kernel
theorem hi2 : ∀ i : Fin 4, IntOp.cmpi CmpIPredicate.slt (IntOp.addi (BitVec.ofNat 32 i.val) 2#32) 4#32 = BitVec.ofBool (decide (i.val < 2)) := by decide +kernel
theorem hi3 : ∀ i : Fin 4, IntOp.cmpi CmpIPredicate.slt (IntOp.addi (BitVec.ofNat 32 i.val) 3#32) 4#32 = BitVec.ofBool (decide (i.val < 1)) := by decide +kernel

/-- Where a rotation by `d` finds lane `j` of the group. -/
theorem turn (q i j : Fin 4) (d : ℕ) (h : j.val + d = i.val ∨ j.val + d = i.val + 128) (h' : ((lane q i).val + 128 - d) % 128 < 128) :
    (⟨((lane q i).val + 128 - d) % 128, h'⟩ : Fin 128) = lane q j := by
  apply Fin.ext
  show (4 * q.val + i.val + 128 - d) % 128 = 4 * q.val + j.val
  omega

variable (L : FVec Ideal S256x128 .f32) (B : FVec Ideal S1x128 .f32)

/-- The selection values along the lanes. -/
def selL : FVec Ideal S256x128 .f32 := k0_pay12 L B k0_pay6

/-- The same at one token, by group and expert. -/
def vL (n : Fin 256) (q i : Fin 4) : EReal := selL L B (ix2 n (lane q i))

/-- The flags of each group's two best. -/
def topL : IVec S256x128 1 := k0_pay15 k0_pay6 k0_pay7 (selL L B) (k0_pay13 L B k0_pay6 k0_pay7) (k0_pay14 L B k0_pay6) 126#32

theorem top_lane (n : Fin 256) (q i : Fin 4) : topL L B (ix2 n (lane q i)) = bit (keep (vL L B n q) i) := by
  have hv : ∀ j, selL L B (ix2 n (lane q j)) = vL L B n q j := fun _ => rfl
  unfold topL
  pointwise [k0_pay15, k0_pay13, k0_pay14]
  simp only [← show selL L B = k0_pay12 L B k0_pay6 from rfl, pos_lane, lo1, lo2, lo3, hi1, hi2, hi3, ofBool_decide, andi_bit, select_bit, valid_apply]
  refine bit_congr ((and_iff_left (by show 4 * q.val + i.val < 16; omega)).trans ?_)
  have hi : i = 0 ∨ i = 1 ∨ i = 2 ∨ i = 3 := by revert i; decide
  rcases hi with rfl | rfl | rfl | rfl
  · rw [← rank0]
    simp only [turn q 0 1 127 (.inr rfl), turn q 0 2 126 (.inr rfl), turn q 0 3 125 (.inr rfl), hv]
    simp
  · rw [← rank1]
    simp only [turn q 1 0 1 (.inl rfl), turn q 1 2 127 (.inr rfl), turn q 1 3 126 (.inr rfl), hv]
    simp
  · rw [← rank2]
    simp only [turn q 2 1 1 (.inl rfl), turn q 2 0 2 (.inl rfl), turn q 2 3 127 (.inr rfl), hv]
    simp
    exact iff_of_eq (congrArg (· < _) (by ac_rfl))
  · rw [← rank3]
    simp only [turn q 3 2 1 (.inl rfl), turn q 3 1 2 (.inl rfl), turn q 3 0 3 (.inl rfl), hv]
    simp
    exact iff_of_eq (congrArg (· < _) (by ac_rfl))

theorem top_beyond (n : Fin 256) (l : Fin 128) (h : 16 ≤ l.val) : topL L B (ix2 n l) = bit False := by
  unfold topL
  pointwise [k0_pay15]
  simp only [ofBool_decide, valid_apply, andi_bit]
  exact bit_congr ⟨fun a => absurd a.2 (by omega), False.elim⟩

/-- The flagged selection values, zero elsewhere. -/
def twoL : FVec Ideal S256x128 .f32 := k0_pay16 (selL L B) (topL L B) (Scalar.ofBits .f32 0#32)

open Classical in
theorem two_lane (n : Fin 256) (q i : Fin 4) : twoL L B (ix2 n (lane q i)) = if keep (vL L B n q) i then vL L B n q i else 0 := by
  unfold twoL
  pointwise [k0_pay16]
  rw [top_lane, select_bit]
  rfl

/-- The groups' scores along the lanes, the least value beyond the experts. -/
def scoreL (n : Fin 256) (l : Fin 128) : EReal :=
  Scalar.select (k0_pay6 (ix2 n l)) (k0_pay18 k0_pay7 (selL L B) (topL L B) (Scalar.ofBits .f32 0#32) (ix2 n l)
    + Scalar.select (IntOp.cmpi CmpIPredicate.slt (k0_pay19 k0_pay7 (ix2 n l)) (k0_pay20 (ix2 n l))) (k0_pay17 (selL L B) (topL L B) (Scalar.ofBits .f32 0#32) (ix2 n l)) 0) ⊥

theorem score_beyond (n : Fin 256) (l : Fin 128) (h : 16 ≤ l.val) : scoreL L B n l = ⊥ := by
  classical
  unfold scoreL
  rw [valid_apply, select_bit, if_neg (by omega)]

theorem zero_word : (Scalar.ofBits (F := Ideal) .f32 0#32) = (0 : EReal) := by
  show Ideal.ofBits FTy.f32 0#32 = 0
  simp [Ideal.ofBits, Ideal.ieee]

theorem score_lane (n : Fin 256) (q i : Fin 4) : scoreL L B n (lane q i) = score (vL L B n q) := by
  classical
  have hv : ∀ j, twoL L B (ix2 n (lane q j)) = if keep (vL L B n q) j then vL L B n q j else 0 := two_lane L B n q
  unfold twoL at hv
  rw [zero_word] at hv
  unfold scoreL
  rw [valid_apply, select_bit, if_pos (by show 4 * q.val + i.val < 16; omega)]
  pointwise [k0_pay17, k0_pay18, k0_pay19, k0_pay20]
  simp only [pos_lane, lo1, lo2, lo3, hi1, hi2, hi3, ofBool_decide, select_bit]
  unfold score
  rw [Fin.sum_univ_four]
  have hi : i = 0 ∨ i = 1 ∨ i = 2 ∨ i = 3 := by revert i; decide
  rcases hi with rfl | rfl | rfl | rfl
  · simp only [turn q 0 1 127 (.inr rfl), turn q 0 2 126 (.inr rfl), turn q 0 3 125 (.inr rfl), hv]
    simp
    try ac_rfl
  · simp only [turn q 1 0 1 (.inl rfl), turn q 1 2 127 (.inr rfl), turn q 1 3 126 (.inr rfl), hv]
    simp
    try ac_rfl
  · simp only [turn q 2 1 1 (.inl rfl), turn q 2 0 2 (.inl rfl), turn q 2 3 127 (.inr rfl), hv]
    simp
    try ac_rfl
  · simp only [turn q 3 2 1 (.inl rfl), turn q 3 1 2 (.inl rfl), turn q 3 0 3 (.inl rfl), hv]
    simp
    try ac_rfl

/-- The experts' probabilities along the lanes. -/
def probL : FVec Ideal S256x128 .f32 := k0_pay11 L

/-- The shares along the lanes, as the call computes them. -/
def shareL : FVec Ideal S256x128 .f32 :=
  k0_pay21 k0_pay6 groups (probL L) (topL L B) (k0_pay17 (selL L B) (topL L B) (Scalar.ofBits .f32 0#32))
    (k0_pay18 k0_pay7 (selL L B) (topL L B) (Scalar.ofBits .f32 0#32)) (k0_pay19 k0_pay7) k0_pay20

theorem mask_eq : Named.named (F := Ideal) Cert.Kernel7Ideal.κ "mask" (φ := .f32) 0xF149F2CA#32 = (⊥ : EReal) :=
  IdealRules.named_const.ideal_named_scalar _ _ _ _ rfl

open Classical in
/-- The gate at a lane, zero unless it is one of the chosen two. -/
def gateL (n : Fin 256) (l : Fin 128) : EReal :=
  Scalar.select (IntOp.andi (topL L B (ix2 n l)) (bit (((l.val / 4 : ℕ) : EReal) = Finset.fold min (Ideal.ofBits FTy.f32 2139095040#32)
    (fun x => if scoreL L B n x = Finset.fold max (Ideal.ofBits FTy.f32 4286578688#32) (scoreL L B n) Finset.univ then ((x.val / 4 : ℕ) : EReal) else Ideal.ofBits FTy.f32 1315859240#32) Finset.univ)))
    (probL L (ix2 n l)) 0

theorem share_read (n : Fin 256) (l : Fin 128) : shareL L B (ix2 n l) = Ideal.div (gateL L B n l) (∑ x, gateL L B n x) := by
  classical
  unfold shareL
  pointwise [k0_pay21]
  simp only [mask_eq, groups_apply, ofBool_decide, select_bit]
  unfold gateL scoreL
  simp only [show (FloatOps.ofBits FTy.f32 0#32 : Ideal .f32) = (0 : EReal) from zero_word]

theorem gate_beyond (n : Fin 256) (l : Fin 128) (h : 16 ≤ l.val) : gateL L B n l = 0 := by
  classical
  unfold gateL
  rw [top_beyond L B n l h, andi_bit, select_bit, if_neg (fun a => a.1)]

theorem gate_lane (n : Fin 256) (q i : Fin 4) :
    gateL L B n (lane q i) = chosen (fun r l => probL L (ix2 n (lane r l))) (vL L B n) q i := by
  classical
  unfold gateL chosen gate
  rw [top_lane, andi_bit, select_bit]
  have ht : _ ↔ taken (vL L B n) q :=
    lanes_taken (fun r => score (vL L B n r)) (scoreL L B n) (fun x => ((x.val / 4 : ℕ) : EReal)) (score_lane L B n) (score_beyond L B n) (fun _ => rfl) q i
  by_cases hk : keep (vL L B n q) i <;> by_cases hq : taken (vL L B n) q
  · rw [if_pos hq, if_pos hk, if_pos ⟨hk, ht.2 hq⟩]
  · rw [if_neg hq, if_neg fun a => hq (ht.1 a.2)]
  · rw [if_pos hq, if_neg hk, if_neg fun a => hk a.1]
  · rw [if_neg hq, if_neg fun a => hq (ht.1 a.2)]

theorem share_lane (n : Fin 256) (q i : Fin 4) :
    shareL L B (ix2 n (lane q i)) = share (fun r l => probL L (ix2 n (lane r l))) (vL L B n) q i := by
  rw [share_read, sum_lanes _ (gate_beyond L B n)]
  simp only [gate_lane]
  rfl

end Cert.Kernel7Ideal.Hand

end
-- ==== Proof.SampleSteps.lean ====
module

public import proofs.«01_k».proof.Proof.Gen.Kernel7Ideal
public import proofs.«01_k».proof.Proof.Gen.Kernel7Ideal.Frame
public import proofs.«01_k».proof.Proof.Gen.Kernel7Ideal.Value
public import Idealize.ShloMosaic.Lib.Pipeline.ValueKit
public import Idealize.ShloMosaic.Lib.Pipeline.ReadBack
public import Idealize.ShloMosaic.Lib.Pointwise
public import proofs.«01_k».proof.Proof.SampleRoute

@[expose] public section

set_option maxRecDepth 16384

noncomputable section

/-! The sample's mixture of experts, one grid point after another: what a point leaves in the carried buffers. -/

namespace Cert.Kernel7Ideal.Hand

open Idealize.ShloMosaic Idealize.ShloMosaic.TcCoe Idealize.SL.Sem
open Cert.Kernel7Ideal Cert.Kernel7Ideal.Gen Cert.Kernel7Ideal.Value Cert.Moe

variable (m : (ℓ : Loc nD τ sig) → Buf (Elt Ideal) ℓ) (c : Dev nD)

/-- What the carried buffers hold: the output, the tokens, the shares and the sum so far. -/
abbrev Held : Type := Vec Ideal S256x1024 .f32 × Vec Ideal S256x1024 .f32 × Vec Ideal S256x128 .f32 × Vec Ideal S256x1024 .f32

/-- One expert's step on the sum so far. -/
def addOf (i : grid0.Coords) (xb : Vec Ideal S256x1024 .f32) (wg wu : Vec Ideal S1x1024x512 .f32) (wd : Vec Ideal S1x512x1024 .f32)
    (sh : Vec Ideal S256x128 .f32) (acc : Vec Ideal S256x1024 .f32) : Vec Ideal S256x1024 .f32 := k0_pay1 (k0_pay23 i xb wg wu wd sh acc)

theorem first_x (t : Fin cfg0.N) (acc : Held) (h0 : t.val % 16 = 0) (h1 : ¬t.val % 16 = 15) :
    (stAt0 m c t.val t.isLt acc).2.1 = k0_pay3 (iblk m c 0 t) := by
  rw [stAt0_A m c t acc h0 h1]
  dsimp only
  frame_out
  rfl

theorem first_share (t : Fin cfg0.N) (acc : Held) (h0 : t.val % 16 = 0) (h1 : ¬t.val % 16 = 15) :
    (stAt0 m c t.val t.isLt acc).2.2.1 = shareL (k0_pay4 (iblk m c 0 t) (iblk m c 1 t)) (k0_pay5 (iblk m c 2 t)) := by
  rw [stAt0_A m c t acc h0 h1]
  dsimp only
  frame_out
  rfl

theorem first_sum (t : Fin cfg0.N) (acc : Held) (h0 : t.val % 16 = 0) (h1 : ¬t.val % 16 = 15) :
    (stAt0 m c t.val t.isLt acc).2.2.2 = addOf (grid0.coords t) (k0_pay3 (iblk m c 0 t)) (iblk m c 3 t) (iblk m c 4 t) (iblk m c 5 t)
      (shareL (k0_pay4 (iblk m c 0 t) (iblk m c 1 t)) (k0_pay5 (iblk m c 2 t))) (k0_pay22 (F := Ideal)) := by
  rw [stAt0_A m c t acc h0 h1]
  dsimp only
  frame_out
  rfl

theorem next_x (t : Fin cfg0.N) (acc : Held) (h0 : ¬t.val % 16 = 0) : (stAt0 m c t.val t.isLt acc).2.1 = acc.2.1 := by
  by_cases h1 : t.val % 16 = 15
  · rw [stAt0_C m c t acc h0 h1]
    rfl
  · rw [stAt0_B m c t acc h0 h1]
    rfl

theorem next_share (t : Fin cfg0.N) (acc : Held) (h0 : ¬t.val % 16 = 0) : (stAt0 m c t.val t.isLt acc).2.2.1 = acc.2.2.1 := by
  by_cases h1 : t.val % 16 = 15
  · rw [stAt0_C m c t acc h0 h1]
    rfl
  · rw [stAt0_B m c t acc h0 h1]
    rfl

theorem next_sum (t : Fin cfg0.N) (acc : Held) (h0 : ¬t.val % 16 = 0) : (stAt0 m c t.val t.isLt acc).2.2.2
    = addOf (grid0.coords t) acc.2.1 (iblk m c 3 t) (iblk m c 4 t) (iblk m c 5 t) acc.2.2.1 acc.2.2.2 := by
  by_cases h1 : t.val % 16 = 15
  · rw [stAt0_C m c t acc h0 h1]
    dsimp only
    frame_out
    simp only [read_unread_whole]
    rfl
  · rw [stAt0_B m c t acc h0 h1]
    dsimp only
    frame_out
    simp only [read_unread_whole]
    rfl

set_option maxHeartbeats 1000000 in
theorem last_out (t : Fin cfg0.N) (acc : Held) (h1 : t.val % 16 = 15) : (stAt0 m c t.val t.isLt acc).1
    = k0_pay2 (iblk m c 0 t) (addOf (grid0.coords t) acc.2.1 (iblk m c 3 t) (iblk m c 4 t) (iblk m c 5 t) acc.2.2.1 acc.2.2.2) (iblk m c 6 t) (iblk m c 7 t) := by
  rw [stAt0_C m c t acc (by omega) h1]
  dsimp only
  frame_out
  simp only [read_unread_whole]
  rfl

end Cert.Kernel7Ideal.Hand

end
-- ==== Proof.SampleHost.lean ====
module

public import proofs.«01_k».proof.Proof.Gen.Kernel7Ideal
public import proofs.«01_k».proof.Proof.Gen.Kernel7Ideal.Frame
public import proofs.«01_k».proof.Proof.HostRead
public import proofs.«01_k».proof.Proof.InEvenHost
public import Idealize.ShloMosaic.Lib.Pipeline.ValueKit

@[expose] public section

set_option maxRecDepth 16384

noncomputable section

/-! What the host code lays out for the sample's mixture of experts, and what a grid point reads of it. -/

namespace Cert.Kernel7Ideal.Hand

open Idealize.ShloMosaic Idealize.ShloMosaic.TcCoe Idealize.SL.Sem
open Cert.Kernel7Ideal Cert.Kernel7Ideal.Gen
open Cert.Kernel2Ideal.Hand (band_read)

variable (m : (ℓ : Loc nD τ sig) → Buf (Elt Ideal) ℓ) (c : Dev nD)

abbrev rowsA : Vec Ideal S256x1024 .f32 := m ((c.tc : Thread nD τ).loc main_arg0)
abbrev routerA : Vec Ideal S1024x16 .f32 := m ((c.tc : Thread nD τ).loc main_arg1)
abbrev biasA : Vec Ideal S16 .f32 := m ((c.tc : Thread nD τ).loc main_arg2)
abbrev gateA : Vec Ideal S16x1024x512 .f32 := m ((c.tc : Thread nD τ).loc main_arg3)
abbrev upA : Vec Ideal S16x1024x512 .f32 := m ((c.tc : Thread nD τ).loc main_arg4)
abbrev downA : Vec Ideal S16x512x1024 .f32 := m ((c.tc : Thread nD τ).loc main_arg5)
abbrev scaleA : Vec Ideal S1024 .f32 := m ((c.tc : Thread nD τ).loc main_arg6)
abbrev shiftA : Vec Ideal S1024 .f32 := m ((c.tc : Thread nD τ).loc main_arg7)

/-- One index word. -/
abbrev word : IVec S1 32 := broadcastInDim S1 ![] bcast_S_S1 (constantI S_ 32 0#32)

/-- The router's weights as the first 16 of 128 columns. -/
def tableOf (w : Vec Ideal S1024x16 .f32) : Vec Ideal S1024x128 .f32 :=
  Host.scatter scatter_S1024x128_S1_S1024x16_01_n_1_0 (fun _ b => b) (broadcastInDim S1024x128 ![] bcast_S_S1024x128 (constant (F := Ideal) S_ .f32 0#32)) word w

/-- The router's bias as the first 16 of 128 columns. -/
def rowOf (b : Vec Ideal S16 .f32) : Vec Ideal S1x128 .f32 :=
  Host.scatter scatter_S1x128_S2_S16_0_0_01_0 (fun _ b => b) (broadcastInDim S1x128 ![] bcast_S_S1x128 (constant (F := Ideal) S_ .f32 0#32))
    (concatenate S2 0 [⟨S1, word⟩, ⟨S1, word⟩] concatenates_S1_S1_S2_d0) b

theorem table_window (a : Fin 1024) (b : Fin 16) : scatter_S1024x128_S1_S1024x16_01_n_1_0.window (ValueIdx.ix2 a b) 0 = a.val ∧ scatter_S1024x128_S1_S1024x16_01_n_1_0.window (ValueIdx.ix2 a b) 1 = b.val := ⟨rfl, rfl⟩
theorem table_start (a : Fin 1024) (b : Fin 16) : scatter_S1024x128_S1_S1024x16_01_n_1_0.start (ValueIdx.ix2 a b) word 0 = 0 ∧ scatter_S1024x128_S1_S1024x16_01_n_1_0.start (ValueIdx.ix2 a b) word 1 = ((0 : ℕ) : ℤ) := ⟨rfl, rfl⟩

theorem table_apply (w : Vec Ideal S1024x16 .f32) (k : Fin 1024) (l : Fin 128) (e : Fin 16) (h : e.val = l.val) : tableOf w (ix2 k l) = w (ix2 k e) := by
  unfold tableOf
  refine (band_read _ _ 0 table_window table_start _ _ k l).trans ?_
  rw [dif_pos (by have := e.isLt; omega)]
  exact congrArg (fun q => w (ix2 k q)) (Fin.ext (by show l.val - 0 = e.val; omega))

theorem row_apply (b : Vec Ideal S16 .f32) (l : Fin 128) (e : Fin 16) (h : e.val = l.val) : rowOf b (ix2 0 l) = b (ix1 e) := by
  have := Cert.KernelIdeal.Hand.row_read (broadcastInDim S1x128 ![] bcast_S_S1x128 (constant (F := Ideal) S_ .f32 0#32))
    (concatenate S2 0 [⟨S1, word⟩, ⟨S1, word⟩] concatenates_S1_S1_S2_d0) (by decide +kernel) (by decide +kernel) b e l h
  rw [Cert.KernelIdeal.Hand.same1, Cert.KernelIdeal.Hand.same2] at this
  exact this

theorem V_table : (V m c main_v2 : Vec Ideal S1024x128 .f32) = tableOf (routerA m c) := by
  show StableHlo.after hostOps0 _ _ = _
  entry_read
  rfl
theorem V_row : (V m c main_v7 : Vec Ideal S1x128 .f32) = rowOf (biasA m c) := by
  show StableHlo.after hostOps0 _ _ = _
  entry_read
  rfl
theorem V_scale : (V m c main_v8 : Vec Ideal S1x1024 .f32) = shapeCast S1x1024 (scaleA m c) shapeCasts_S1024_S1x1024 := by
  show StableHlo.after hostOps0 _ _ = _
  entry_read
  all_goals rfl
theorem V_shift : (V m c main_v9 : Vec Ideal S1x1024 .f32) = shapeCast S1x1024 (shiftA m c) shapeCasts_S1024_S1x1024 := by
  show StableHlo.after hostOps0 _ _ = _
  entry_read
  all_goals rfl

theorem idx0 : ∀ t : Fin grid0.N, win0_0.index t = ![0, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![t.val, 0, 0] := by decide +kernel
theorem idx4 : ∀ t : Fin grid0.N, win0_4.index t = ![t.val, 0, 0] := by decide +kernel
theorem idx5 : ∀ t : Fin grid0.N, win0_5.index t = ![t.val, 0, 0] := by decide +kernel
theorem idx6 : ∀ t : Fin grid0.N, win0_6.index t = ![0, 0] := by decide +kernel
theorem idx7 : ∀ t : Fin grid0.N, win0_7.index t = ![0, 0] := by decide +kernel

theorem read_x (t : Fin cfg0.N) (n : Fin 256) (k : Fin 1024) : iblk m c 0 t (ix2 n k) = rowsA m c (ix2 n k) := by
  blk_ext [iblk, V, idx0 t]
theorem whole_t (t : Fin cfg0.N) (k : Fin 1024) (l : Fin 128) : iblk m c 1 t (ix2 k l) = (V m c main_v2 : Vec Ideal S1024x128 .f32) (ix2 k l) := by
  blk_simp [iblk]
  refine congrArg (V m c main_v2) (funext fun d => ?_)
  match d with
  | ⟨0, _⟩ => exact Fin.ext (by blk_simp [idx1 t])
  | ⟨1, _⟩ => exact Fin.ext (by blk_simp [idx1 t])
theorem whole_r (t : Fin cfg0.N) (l : Fin 128) : iblk m c 2 t (ix2 0 l) = (V m c main_v7 : Vec Ideal S1x128 .f32) (ix2 0 l) := by
  blk_simp [iblk]
  refine congrArg (V m c main_v7) (funext fun d => ?_)
  match d with
  | ⟨0, _⟩ => exact Fin.ext (by blk_simp [idx2 t])
  | ⟨1, _⟩ => exact Fin.ext (by blk_simp [idx2 t])
theorem whole_g (t : Fin cfg0.N) (k : Fin 1024) : iblk m c 6 t (ix2 0 k) = (V m c main_v8 : Vec Ideal S1x1024 .f32) (ix2 0 k) := by
  blk_simp [iblk]
  refine congrArg (V m c main_v8) (funext fun d => ?_)
  match d with
  | ⟨0, _⟩ => exact Fin.ext (by blk_simp [idx6 t])
  | ⟨1, _⟩ => exact Fin.ext (by blk_simp [idx6 t])
theorem whole_b (t : Fin cfg0.N) (k : Fin 1024) : iblk m c 7 t (ix2 0 k) = (V m c main_v9 : Vec Ideal S1x1024 .f32) (ix2 0 k) := by
  blk_simp [iblk]
  refine congrArg (V m c main_v9) (funext fun d => ?_)
  match d with
  | ⟨0, _⟩ => exact Fin.ext (by blk_simp [idx7 t])
  | ⟨1, _⟩ => exact Fin.ext (by blk_simp [idx7 t])

theorem read_table (t : Fin cfg0.N) (k : Fin 1024) (l : Fin 128) : iblk m c 1 t (ix2 k l) = tableOf (routerA m c) (ix2 k l) :=
  (whole_t m c t k l).trans (congrFun (V_table m c) (ix2 k l))
theorem read_row (t : Fin cfg0.N) (l : Fin 128) : iblk m c 2 t (ix2 0 l) = rowOf (biasA m c) (ix2 0 l) :=
  (whole_r m c t l).trans (congrFun (V_row m c) (ix2 0 l))
theorem flat_apply (g : Vec Ideal S1024 .f32) (k : Fin 1024) : shapeCast S1x1024 g shapeCasts_S1024_S1x1024 (ix2 0 k) = g (ix1 k) := by
  pointwise []
theorem read_g (t : Fin cfg0.N) (k : Fin 1024) : iblk m c 6 t (ix2 0 k) = scaleA m c (ix1 k) :=
  (whole_g m c t k).trans ((congrFun (V_scale m c) (ix2 0 k)).trans (flat_apply _ k))
theorem read_b (t : Fin cfg0.N) (k : Fin 1024) : iblk m c 7 t (ix2 0 k) = shiftA m c (ix1 k) :=
  (whole_b m c t k).trans ((congrFun (V_shift m c) (ix2 0 k)).trans (flat_apply _ k))
theorem read_wg (t : Fin cfg0.N) (k : Fin 1024) (f : Fin 512) : iblk m c 3 t (ix3 0 k f) = gateA m c (ix3 ⟨t.val, t.isLt⟩ k f) := by
  blk_ext [iblk, V, idx3 t]
theorem read_wu (t : Fin cfg0.N) (k : Fin 1024) (f : Fin 512) : iblk m c 4 t (ix3 0 k f) = upA m c (ix3 ⟨t.val, t.isLt⟩ k f) := by
  blk_ext [iblk, V, idx4 t]
theorem read_wd (t : Fin cfg0.N) (f : Fin 512) (k : Fin 1024) : iblk m c 5 t (ix3 0 f k) = downA m c (ix3 ⟨t.val, t.isLt⟩ f k) := by
  blk_ext [iblk, V, idx5 t]

end Cert.Kernel7Ideal.Hand

end
-- ==== Proof.SampleRef.lean ====
module

public import proofs.«01_k».proof.Proof.Gen.Reference7Ideal.Run
public import proofs.«01_k».proof.Proof.RefRead
public import proofs.«01_k».proof.Proof.SampleRank

@[expose] public section

set_option maxRecDepth 16384

noncomputable section

/-! The sample's reference, stage by stage and token by token. -/

namespace Cert.Reference7Ideal.Hand

open Idealize.ShloMosaic Idealize.ShloMosaic.TcCoe Idealize.SL.Sem
open Cert.Reference7Ideal Cert.Reference7Ideal.Gen Cert.Moe
open Cert.ReferenceIdeal.Hand (flag expert_eq word_eq gt_eq)

/-- The probabilities of the experts. -/
def probs (x : FVec Ideal S256x1024 .f32) (w : FVec Ideal S1024x16 .f32) : FVec Ideal S256x16 .f32 :=
  Host.divf (broadcastInDim S256x16 ![] bcast_S_S256x16 (constant S_ .f32 0x3F800000#32))
    (addf (broadcastInDim S256x16 ![] bcast_S_S256x16 (constant S_ .f32 0x3F800000#32))
      (Host.exp (Host.negf (Host.dotGeneral dot_S256x1024_S1024x16_S256x16_1_0_0_1_n_n none x w))))

/-- The scores by which experts are chosen, group by group. -/
def sels (p : FVec Ideal S256x16 .f32) (b : FVec Ideal S16 .f32) : FVec Ideal S256x4x4 .f32 :=
  shapeCast _ (addf p (broadcastInDim S256x16 ![0, 1] bcast_S1x16_S256x16_0_1 (broadcastInDim S1x16 ![1] bcast_S16_S1x16_1 b))) shapeCasts_S256x16_S256x4x4

/-- The two best of each group and where they stand. -/
def best (v : FVec Ideal S256x4x4 .f32) : (S256x4x2.Idx → Ideal .f32) × IVec S256x4x2 32 :=
  Host.topK S256x4x2 2 (FloatOps.cmpfTotal .gt) v sliceFits_S256x4x4_S256x4x2

/-- Ones where an expert is one of its group's two best. -/
def kepts (loc : IVec S256x4x2 32) : FVec Ideal S256x4x4 .f32 :=
  Host.reduceAdd (uitofp .f32 (cmpi .eq
    (broadcastInDim S256x4x2x4 ![0, 1, 2, 3] bcast_S256x4x2x1_S256x4x2x4_0_1_2_3 (broadcastInDim S256x4x2x1 ![0, 1, 2] bcast_S256x4x2_S256x4x2x1_0_1_2 loc))
    (broadcastInDim S256x4x2x4 ![0, 1, 2, 3] bcast_S1x1x1x4_S256x4x2x4_0_1_2_3 (iotaInDim S1x1x1x4 32 3))))
    (constant S_ .f32 0x00000000#32) reducesTo_S256x4x2x4_S256x4x4_d2 h_S_

/-- The sum of each group's two best. -/
def scores (v : FVec Ideal S256x4x2 .f32) : FVec Ideal S256x4 .f32 :=
  Host.reduceAdd v (constant S_ .f32 0x00000000#32) reducesTo_S256x4x2_S256x4_d2 h_S_

/-- Where the best group stands. -/
def group (s : FVec Ideal S256x4 .f32) : IVec S256x1 32 :=
  (Host.topK S256x1 1 (FloatOps.cmpfTotal .gt) s sliceFits_S256x4_S256x1).2

/-- Ones at the best group. -/
def takens (grp : IVec S256x1 32) : FVec Ideal S256x4x4 .f32 :=
  broadcastInDim S256x4x4 ![0, 1, 2] bcast_S256x4x1_S256x4x4_0_1_2 (broadcastInDim S256x4x1 ![0, 1] bcast_S256x4_S256x4x1_0_1
    (uitofp .f32 (cmpi .eq
      (broadcastInDim S256x4 ![0, 1] bcast_S256x1_S256x4_0_1 (broadcastInDim S256x1 ![0] bcast_S256_S256x1_0 (shapeCast _ grp shapeCasts_S256x1_S256)))
      (broadcastInDim S256x4 ![0, 1] bcast_S1x4_S256x4_0_1 (iotaInDim S1x4 32 1)))))

/-- The gates before the group is chosen. -/
def gates (p : FVec Ideal S256x16 .f32) (k : FVec Ideal S256x4x4 .f32) : FVec Ideal S256x4x4 .f32 :=
  mulf (shapeCast _ p shapeCasts_S256x16_S256x4x4) k

/-- The gates of the chosen group over their sum. -/
def weights (gt : FVec Ideal S256x4x4 .f32) : FVec Ideal S256x4x4 .f32 :=
  Host.divf gt (broadcastInDim S256x4x4 ![0, 1, 2] bcast_S256x1x1_S256x4x4_0_1_2 (broadcastInDim S256x1x1 ![0] bcast_S256_S256x1x1_0
    (Host.reduceAdd gt (constant S_ .f32 0x00000000#32) reducesTo_S256x4x4_S256_d1_2 h_S_)))

/-- The tokens times one of the experts' first weights. -/
def wide (x : FVec Ideal S256x1024 .f32) (w : FVec Ideal S16x1024x512 .f32) : FVec Ideal S16x256x512 .f32 :=
  transpose S16x256x512 [0, 2, 1] (Host.dotGeneral dot_S16x1024x512_S256x1024_S16x512x256_1_1_02_0_n_n none w x) transposes_S16x512x256_S16x256x512_0_2_1

/-- The experts' hidden rows. -/
def hiddens (a b : FVec Ideal S16x256x512 .f32) : FVec Ideal S16x256x512 .f32 :=
  mulf (mulf a (Host.divf (broadcastInDim S16x256x512 ![] bcast_S_S16x256x512 (constant S_ .f32 0x3F800000#32))
    (addf (broadcastInDim S16x256x512 ![] bcast_S_S16x256x512 (constant S_ .f32 0x3F800000#32)) (Host.exp (Host.negf a))))) b

/-- The experts' rows, weighted and summed. -/
def mixeds (cw : FVec Ideal S256x4x4 .f32) (h : FVec Ideal S16x256x512 .f32) (wd : FVec Ideal S16x512x1024 .f32) : FVec Ideal S256x1024 .f32 :=
  Host.reduceAdd (mulf
    (broadcastInDim S16x256x1024 ![0, 1, 2] bcast_S16x256x1_S16x256x1024_0_1_2 (broadcastInDim S16x256x1 ![0, 1] bcast_S16x256_S16x256x1_0_1
      (transpose S16x256 [1, 0] (shapeCast _ cw shapeCasts_S256x4x4_S256x16) transposes_S256x16_S16x256_1_0)))
    (Host.dotGeneral dot_S16x256x512_S16x512x1024_S16x256x1024_2_1_1_2_0_0 none h wd))
    (constant S_ .f32 0x00000000#32) reducesTo_S16x256x1024_S256x1024_d0 h_S_

/-- The residual sum. -/
def resids (x ff : FVec Ideal S256x1024 .f32) : FVec Ideal S256x1024 .f32 :=
  addf (mulf (broadcastInDim S256x1024 ![] bcast_S_S256x1024 (constant S_ .f32 0x3FB504F3#32)) x) ff

/-- Rows less their means. -/
def centreds (z : FVec Ideal S256x1024 .f32) : FVec Ideal S256x1024 .f32 :=
  subf z (broadcastInDim S256x1024 ![0, 1] bcast_S256x1_S256x1024_0_1 (Host.divf
    (broadcastInDim S256x1 ![0] bcast_S256_S256x1_0 (Host.reduceAdd z (constant S_ .f32 0x00000000#32) reducesTo_S256x1024_S256_d1 h_S_))
    (broadcastInDim S256x1 ![] bcast_S_S256x1 (constant S_ .f32 0x44800000#32))))

/-- Centred rows over their deviations, scaled and shifted. -/
def normed (zc : FVec Ideal S256x1024 .f32) (g b : FVec Ideal S1024 .f32) : FVec Ideal S256x1024 .f32 :=
  addf (mulf (mulf zc (broadcastInDim S256x1024 ![0, 1] bcast_S256x1_S256x1024_0_1 (Host.rsqrt (addf (Host.divf
    (broadcastInDim S256x1 ![0] bcast_S256_S256x1_0 (Host.reduceAdd (mulf zc zc) (constant S_ .f32 0x00000000#32) reducesTo_S256x1024_S256_d1 h_S_))
    (broadcastInDim S256x1 ![] bcast_S_S256x1 (constant S_ .f32 0x44800000#32)))
    (broadcastInDim S256x1 ![] bcast_S_S256x1 (constant S_ .f32 0x3727C5AC#32))))))
    (broadcastInDim S256x1024 ![0, 1] bcast_S1x1024_S256x1024_0_1 (broadcastInDim S1x1024 ![1] bcast_S1024_S1x1024_1 g)))
    (broadcastInDim S256x1024 ![0, 1] bcast_S1x1024_S256x1024_0_1 (broadcastInDim S1x1024 ![1] bcast_S1024_S1x1024_1 b))

/-- The chosen group's gates of every token. -/
def combine (p : FVec Ideal S256x16 .f32) (v : FVec Ideal S256x4x4 .f32) : FVec Ideal S256x4x4 .f32 :=
  weights (mulf (gates p (kepts (best v).2)) (takens (group (scores (best v).1))))

/-- The whole layer, stage by stage. -/
def result (x : FVec Ideal S256x1024 .f32) (rw : FVec Ideal S1024x16 .f32) (rb : FVec Ideal S16 .f32) (wg wu : FVec Ideal S16x1024x512 .f32)
    (wd : FVec Ideal S16x512x1024 .f32) (g b : FVec Ideal S1024 .f32) : FVec Ideal S256x1024 .f32 :=
  normed (centreds (resids x (mixeds (combine (probs x rw) (sels (probs x rw) rb)) (hiddens (wide x wg) (wide x wu)) wd))) g b

/-- The reference's result is the layer, stage by stage. -/
theorem res_eq (m : (ℓ : Loc nD τ sig) → Buf (Elt Ideal) ℓ) (c : Dev nD) :
    Value.res_out0 (F := Ideal) m c = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) := by
  unfold Value.res_out0 Value.res_main_v64
  rfl

theorem probs_apply (x : FVec Ideal S256x1024 .f32) (w : FVec Ideal S1024x16 .f32) (n : Fin 256) (e : Fin 16) :
    probs x w (ix2 n e) = Ideal.logistic (∑ k : Fin 1024, x (ix2 n k) * w (ix2 k e)) := by
  pointwise [probs]
  rfl

theorem sels_apply (p : FVec Ideal S256x16 .f32) (b : FVec Ideal S16 .f32) (n : Fin 256) (q i : Fin 4) :
    sels p b (ix3 n q i) = p (ix2 n (expert q i)) + b (ix1 (expert q i)) := by
  pointwise [sels]
  rw [expert_eq]

theorem kepts_apply (loc : IVec S256x4x2 32) (n : Fin 256) (q i : Fin 4) :
    kepts loc (ix3 n q i) = (if loc (ix3 n q 0) = BitVec.ofNat 32 i.val then 1 else 0) + (if loc (ix3 n q 1) = BitVec.ofNat 32 i.val then 1 else 0) := by
  pointwise [kepts]
  simp only [flag, Fin.sum_univ_two]

theorem scores_apply (v : FVec Ideal S256x4x2 .f32) (n : Fin 256) (q : Fin 4) :
    scores v (ix2 n q) = v (ix3 n q 0) + v (ix3 n q 1) := by
  pointwise [scores]
  simp only [Fin.sum_univ_two]

theorem takens_apply (g : IVec S256x1 32) (n : Fin 256) (q i : Fin 4) :
    takens g (ix3 n q i) = if g (ix2 n 0) = BitVec.ofNat 32 q.val then 1 else 0 := by
  pointwise [takens]
  rw [flag]

theorem gates_apply (p : FVec Ideal S256x16 .f32) (k : FVec Ideal S256x4x4 .f32) (n : Fin 256) (q i : Fin 4) :
    gates p k (ix3 n q i) = p (ix2 n (expert q i)) * k (ix3 n q i) := by
  pointwise [gates]
  rw [expert_eq]

theorem weights_apply (gt : FVec Ideal S256x4x4 .f32) (n : Fin 256) (q i : Fin 4) :
    weights gt (ix3 n q i) = Ideal.div (gt (ix3 n q i)) (∑ r : Fin 4, ∑ l : Fin 4, gt (ix3 n r l)) := by
  pointwise [weights]

theorem wide_apply (x : FVec Ideal S256x1024 .f32) (w : FVec Ideal S16x1024x512 .f32) (n : Fin 256) (e : Fin 16) (f : Fin 512) :
    wide x w (ix3 e n f) = ∑ k : Fin 1024, x (ix2 n k) * w (ix3 e k f) := by
  pointwise [wide]
  exact Finset.sum_congr rfl fun k _ => mul_comm _ _

theorem hiddens_apply (a b : FVec Ideal S16x256x512 .f32) (n : Fin 256) (e : Fin 16) (f : Fin 512) :
    hiddens a b (ix3 e n f) = a (ix3 e n f) * Ideal.logistic (a (ix3 e n f)) * b (ix3 e n f) := by
  pointwise [hiddens]
  rfl

theorem mixeds_apply (cw : FVec Ideal S256x4x4 .f32) (h : FVec Ideal S16x256x512 .f32) (wd : FVec Ideal S16x512x1024 .f32) (n : Fin 256) (c : Fin 1024) :
    mixeds cw h wd (ix2 n c) = ∑ q : Fin 4, ∑ i : Fin 4, cw (ix3 n q i) * ∑ f : Fin 512, h (ix3 (expert q i) n f) * wd (ix3 (expert q i) f c) := by
  pointwise [mixeds]
  have key : ∀ G : Fin 16 → EReal, (∑ e, G e) = ∑ q : Fin 4, ∑ i : Fin 4, G (expert q i) := by
    intro G
    rw [← Finset.sum_product', Finset.univ_product_univ]
    refine (Fintype.sum_equiv (finProdFinEquiv (m := 4) (n := 4)) _ _ fun y => ?_).symm
    refine congrArg G (Fin.ext ?_)
    show 4 * y.1.val + y.2.val = y.2.val + 4 * y.1.val
    omega
  rw [key]
  refine Finset.sum_congr rfl fun q _ => Finset.sum_congr rfl fun i _ => ?_
  have h1 : ∀ h, (⟨(expert q i).val / 4, h⟩ : Fin 4) = q := fun h => Fin.ext (by show (4 * q.val + i.val) / 4 = q.val; omega)
  have h2 : ∀ h, (⟨(expert q i).val % 4, h⟩ : Fin 4) = i := fun h => Fin.ext (by show (4 * q.val + i.val) % 4 = i.val; omega)
  rw [h1, h2]

theorem resids_apply (x ff : FVec Ideal S256x1024 .f32) (n : Fin 256) (c : Fin 1024) :
    resids x ff (ix2 n c) = resid (fun k => x (ix2 n k)) (fun k => ff (ix2 n k)) c := by
  pointwise [resids, resid]

theorem centreds_apply (z : FVec Ideal S256x1024 .f32) (n : Fin 256) (c : Fin 1024) :
    centreds z (ix2 n c) = centred (fun k => z (ix2 n k)) c := by
  pointwise [centreds, centred]

theorem normed_apply (z : FVec Ideal S256x1024 .f32) (g b : FVec Ideal S1024 .f32) (n : Fin 256) (c : Fin 1024) :
    normed (centreds z) g b (ix2 n c) = norm (fun k => z (ix2 n k)) (fun k => g (ix1 k)) (fun k => b (ix1 k)) c := by
  pointwise [normed, centreds_apply]
  rfl

theorem along3 (n : Fin 256) (q l k : Fin 4) : (ix3 n q l : S256x4x4.Idx).along 2 k = ix3 n q k := by
  funext a
  fin_cases a <;> rfl

theorem along2 (n : Fin 256) (q k : Fin 4) : (ix2 n q : S256x4.Idx).along 1 k = ix2 n k := by
  funext a
  fin_cases a <;> rfl

theorem best_val (v : FVec Ideal S256x4x4 .f32) (n : Fin 256) (q : Fin 4) (k : Fin 2) :
    (best v).1 (ix3 n q k) = v (ix3 n q (nth (fun i => v (ix3 n q i)) (k.castLE (by omega)))) := by
  unfold best Host.topK Host.sort2
  pointwise
  rw [along3]
  refine congrArg v (congrArg (ix3 n q) ?_)
  unfold nth above
  simp only [gt_eq, along3]
  rfl

theorem best_loc (v : FVec Ideal S256x4x4 .f32) (n : Fin 256) (q : Fin 4) (k : Fin 2) :
    (best v).2 (ix3 n q k) = BitVec.ofNat 32 (nth (fun i => v (ix3 n q i)) (k.castLE (by omega))).val := by
  unfold best Host.topK Host.sort2
  pointwise
  unfold nth above
  simp only [gt_eq, along3]
  rfl

theorem group_loc (s : FVec Ideal S256x4 .f32) (n : Fin 256) :
    group s (ix2 n 0) = BitVec.ofNat 32 (nth (fun q => s (ix2 n q)) 0).val := by
  unfold group Host.topK Host.sort2
  pointwise
  unfold nth above
  simp only [gt_eq, along2]
  rfl

section
variable (p : FVec Ideal S256x16 .f32) (v : FVec Ideal S256x4x4 .f32) (n : Fin 256)

open Classical in
theorem kepts_eq (q i : Fin 4) : kepts (best v).2 (ix3 n q i) = if keep (fun l => v (ix3 n q l)) i then 1 else 0 := by
  rw [kepts_apply, best_loc, best_loc]
  simp only [word_eq]
  have hne : nth (fun i => v (ix3 n q i)) 0 ≠ nth (fun i => v (ix3 n q i)) 1 := fun h => by simpa using nth_inj _ h
  show (if nth (fun i => v (ix3 n q i)) 0 = i then (1 : EReal) else 0) + (if nth (fun i => v (ix3 n q i)) 1 = i then (1 : EReal) else 0) = _
  by_cases h0 : nth (fun i => v (ix3 n q i)) 0 = i
  · rw [if_pos h0, if_neg (fun h => hne (h0.trans h.symm)), if_pos ((keep_iff _ i).mpr (.inl h0)), add_zero]
  · by_cases h1 : nth (fun i => v (ix3 n q i)) 1 = i
    · rw [if_neg h0, if_pos h1, if_pos ((keep_iff _ i).mpr (.inr h1)), zero_add]
    · rw [if_neg h0, if_neg h1, if_neg (fun h => ((keep_iff _ i).mp h).elim h0 h1), add_zero]

theorem scores_eq (q : Fin 4) : scores (best v).1 (ix2 n q) = score (fun l => v (ix3 n q l)) := by
  rw [scores_apply, best_val, best_val, score_eq]
  rfl

open Classical in
theorem takens_eq (q i : Fin 4) : takens (group (scores (best v).1)) (ix3 n q i) = if taken (fun r l => v (ix3 n r l)) q then 1 else 0 := by
  rw [takens_apply, group_loc]
  simp only [word_eq, taken_iff, scores_eq]

theorem gates_eq (q i : Fin 4) : gates p (kepts (best v).2) (ix3 n q i) = gate (fun r l => p (ix2 n (expert r l))) (fun r l => v (ix3 n r l)) q i := by
  rw [gates_apply, kepts_eq]
  unfold gate
  split
  · rw [mul_one]
  · rw [mul_zero]

theorem chosen_eq (q i : Fin 4) : mulf (gates p (kepts (best v).2)) (takens (group (scores (best v).1))) (ix3 n q i)
    = chosen (fun r l => p (ix2 n (expert r l))) (fun r l => v (ix3 n r l)) q i := by
  refine Eq.trans (b := gates p (kepts (best v).2) (ix3 n q i) * takens (group (scores (best v).1)) (ix3 n q i)) (by pointwise) ?_
  rw [gates_eq, takens_eq]
  unfold chosen
  split
  · rw [mul_one]
  · rw [mul_zero]

theorem combine_eq (q i : Fin 4) : combine p v (ix3 n q i) = share (fun r l => p (ix2 n (expert r l))) (fun r l => v (ix3 n r l)) q i := by
  unfold combine share
  rw [weights_apply]
  simp only [chosen_eq]

end

/-- Each row of the reference's result is the layer of the token's row. -/
theorem result_apply (x : FVec Ideal S256x1024 .f32) (rw : FVec Ideal S1024x16 .f32) (rb : FVec Ideal S16 .f32) (wg wu : FVec Ideal S16x1024x512 .f32)
    (wd : FVec Ideal S16x512x1024 .f32) (g b : FVec Ideal S1024 .f32) (n : Fin 256) (c : Fin 1024) :
    result x rw rb wg wu wd g b (ix2 n c)
      = sampleLayer (fun k => x (ix2 n k)) (fun k e => rw (ix2 k e)) (fun e => rb (ix1 e)) (fun e k f => wg (ix3 e k f)) (fun e k f => wu (ix3 e k f))
          (fun e f d => wd (ix3 e f d)) (fun k => g (ix1 k)) (fun k => b (ix1 k)) c := by
  unfold result sampleLayer
  rw [normed_apply]
  refine congrArg (fun z => norm z _ _ c) (funext fun k => ?_)
  rw [resids_apply]
  refine congrArg (fun f => resid _ f k) (funext fun d => ?_)
  rw [mixeds_apply]
  simp only [combine_eq, hiddens_apply, wide_apply, sels_apply, probs_apply]
  rfl

end Cert.Reference7Ideal.Hand

end
-- ==== Proof.SampleLayer.lean ====
module

public import proofs.«01_k».proof.Defs
public import proofs.«01_k».proof.Proof.SampleSteps
public import proofs.«01_k».proof.Proof.SampleHost
public import proofs.«01_k».proof.Proof.SampleRef
public import proofs.«01_k».proof.Proof.Gen.Kernel7
public import proofs.«01_k».proof.Proof.Gen.Kernel7.Frame
public import proofs.«01_k».proof.Proof.Gen.Reference7Ideal
public import Idealize.ShloMosaic.Lib.Claim
public import Idealize.ShloMosaic.Lib.Quiescent

@[expose] public section

set_option maxRecDepth 16384

noncomputable section

/-! The sample's mixture of experts: what the carried buffers hold after each expert, and the array the call leaves. -/

namespace Cert.Kernel7Ideal.Hand

open Idealize.ShloMosaic Idealize.ShloMosaic.TcCoe Idealize.SL.Sem
open Cert.Kernel7Ideal Cert.Kernel7Ideal.Gen Cert.Kernel7Ideal.Value Cert.Moe
open scoped BigOperators

theorem at_lane (a b : ℕ) (ha : a < 128) (hb : b < 128) (u v : EReal) :
    Scalar.select (IntOp.cmpi CmpIPredicate.eq (BitVec.ofNat 32 a) (BitVec.ofNat 32 b)) u v = if a = b then u else v := by
  have h : IntOp.cmpi CmpIPredicate.eq (BitVec.ofNat 32 a) (BitVec.ofNat 32 b) = bit (a = b) := by
    show BitVec.ofBool (BitVec.ofNat 32 a == BitVec.ofNat 32 b) = _
    rw [← ofBool_decide]
    congr 1
    rw [Bool.eq_iff_iff, beq_iff_eq, decide_eq_true_iff]
    constructor
    · intro e
      have := congrArg BitVec.toNat e
      rw [BitVec.toNat_ofNat, BitVec.toNat_ofNat] at this
      omega
    · intro e; rw [e]
  rw [h, select_bit]
  by_cases hab : a = b
  · rw [if_pos hab, if_pos hab]
  · rw [if_neg hab, if_neg hab]

theorem coord : ∀ t : Fin grid0.N, ((grid0.coords t) 1).val = t.val := by decide +kernel

/-- One expert's step, element by element. -/
theorem add_apply (t : Fin cfg0.N) (xb : Vec Ideal S256x1024 .f32) (wg wu : Vec Ideal S1x1024x512 .f32) (wd : Vec Ideal S1x512x1024 .f32)
    (sh : Vec Ideal S256x128 .f32) (acc : Vec Ideal S256x1024 .f32) (n : Fin 256) (d : Fin 1024) (l : Fin 128) (hl : l.val = t.val) :
    addOf (grid0.coords t) xb wg wu wd sh acc (ix2 n d)
      = acc (ix2 n d) + sh (ix2 n l) * ffn (fun k => xb (ix2 n k)) (fun k f => wg (ix3 0 k f)) (fun k f => wu (ix3 0 k f)) (fun f k => wd (ix3 0 f k)) d := by
  have hs : (∑ x : Fin 128, Scalar.select (IntOp.cmpi CmpIPredicate.eq (BitVec.ofNat 32 x.val) (BitVec.ofNat 32 ((grid0.coords t) 1).val)) (sh (ix2 n x)) (0 : EReal)) = sh (ix2 n l) := by
    rw [coord, ← hl]
    simp only [at_lane _ _ (Fin.isLt _) l.isLt, ← Fin.ext_iff]
    rw [Finset.sum_ite_eq' Finset.univ l, if_pos (Finset.mem_univ _)]
  rw [← hs]
  pointwise [addOf, k0_pay1, k0_pay23]
  rfl

variable (m : (ℓ : Loc nD τ sig) → Buf (Elt Ideal) ℓ) (c : Dev nD)

/-- The logits along the lanes. -/
abbrev logits (t : Fin cfg0.N) : FVec Ideal S256x128 .f32 := k0_pay4 (iblk m c 0 t) (iblk m c 1 t)
/-- The bias along the lanes. -/
abbrev biases (t : Fin cfg0.N) : FVec Ideal S1x128 .f32 := k0_pay5 (iblk m c 2 t)

/-- A token's row. -/
abbrev rowX (n : Fin 256) (k : Fin 1024) : EReal := rowsA m c (ix2 n k)
abbrev router (k : Fin 1024) (e : Fin 16) : EReal := routerA m c (ix2 k e)
abbrev bias (e : Fin 16) : EReal := biasA m c (ix1 e)

theorem prob_apply (X : Vec Ideal S256x1024 .f32) (W : Vec Ideal S1024x128 .f32) (n : Fin 256) (l : Fin 128) :
    probL (k0_pay4 X W) (ix2 n l) = Ideal.logistic (∑ k : Fin 1024, X (ix2 n k) * W (ix2 k l)) := by
  pointwise [probL, k0_pay11, k0_pay4]

theorem sel_apply (L : FVec Ideal S256x128 .f32) (Y : Vec Ideal S1x128 .f32) (n : Fin 256) (l : Fin 128) (h : l.val < 16) :
    selL L (k0_pay5 Y) (ix2 n l) = probL L (ix2 n l) + Y (ix2 0 l) := by
  pointwise [selL, k0_pay12, k0_pay5, probL, k0_pay11]
  rw [valid_apply, select_bit, if_pos h]

theorem prob_eq (t : Fin cfg0.N) (n : Fin 256) (q i : Fin 4) : probL (logits m c t) (ix2 n (lane q i)) = prob (rowX m c n) (router m c) q i :=
  (prob_apply (iblk m c 0 t) (iblk m c 1 t) n (lane q i)).trans (congrArg Ideal.logistic (Finset.sum_congr rfl fun k _ =>
    congrArg₂ (· * ·) (read_x m c t n k) ((read_table m c t k (lane q i)).trans (table_apply _ k (lane q i) (expert q i) rfl))))

theorem sel_eq (t : Fin cfg0.N) (n : Fin 256) (q i : Fin 4) : vL (logits m c t) (biases m c t) n q i = sel (rowX m c n) (router m c) (bias m c) q i :=
  (sel_apply (logits m c t) (iblk m c 2 t) n (lane q i) (by show 4 * q.val + i.val < 16; omega)).trans
    (congrArg₂ (· + ·) (prob_eq m c t n q i) ((read_row m c t (lane q i)).trans (row_apply _ (lane q i) (expert q i) rfl)))

/-- A token's share of an expert. -/
theorem share_eq (t : Fin cfg0.N) (n : Fin 256) (q i : Fin 4) : shareL (logits m c t) (biases m c t) (ix2 n (lane q i))
    = share (prob (rowX m c n) (router m c)) (sel (rowX m c n) (router m c) (bias m c)) q i := by
  rw [share_lane]
  have h1 : (fun r l => probL (logits m c t) (ix2 n (lane r l))) = prob (rowX m c n) (router m c) := funext fun r => funext fun l => prob_eq m c t n r l
  have h2 : vL (logits m c t) (biases m c t) n = sel (rowX m c n) (router m c) (bias m c) := funext fun r => funext fun l => sel_eq m c t n r l
  rw [h1, h2]

/-- What expert `i` of group `q` adds at a token. -/
def addend (n : Fin 256) (d : Fin 1024) (q i : Fin 4) : EReal :=
  share (prob (rowX m c n) (router m c)) (sel (rowX m c n) (router m c) (bias m c)) q i
    * ffn (rowX m c n) (fun k f => gateA m c (ix3 (expert q i) k f)) (fun k f => upA m c (ix3 (expert q i) k f)) (fun f k => downA m c (ix3 (expert q i) f k)) d

/-- The same, by the expert's number. -/
def addendAt (n : Fin 256) (d : Fin 1024) (e : ℕ) : EReal := addend m c n d ⟨e / 4 % 4, Nat.mod_lt _ (by decide)⟩ ⟨e % 4, Nat.mod_lt _ (by decide)⟩

theorem pay3_apply (x : Vec Ideal S256x1024 .f32) (n : Fin 256) (k : Fin 1024) : k0_pay3 x (ix2 n k) = x (ix2 n k) := by
  pointwise [k0_pay3]

/-- A grid point adds its expert's addend. -/
theorem adds (t : Fin cfg0.N) (xb : Vec Ideal S256x1024 .f32) (sh : Vec Ideal S256x128 .f32) (acc : Vec Ideal S256x1024 .f32)
    (hx : ∀ n k, xb (ix2 n k) = rowX m c n k)
    (hsh : ∀ n q i, sh (ix2 n (lane q i)) = share (prob (rowX m c n) (router m c)) (sel (rowX m c n) (router m c) (bias m c)) q i)
    (n : Fin 256) (d : Fin 1024) :
    addOf (grid0.coords t) xb (iblk m c 3 t) (iblk m c 4 t) (iblk m c 5 t) sh acc (ix2 n d) = acc (ix2 n d) + addendAt m c n d t.val := by
  have ht : t.val < 16 := t.isLt
  set q : Fin 4 := ⟨t.val / 4 % 4, Nat.mod_lt _ (by decide)⟩ with hq
  set i : Fin 4 := ⟨t.val % 4, Nat.mod_lt _ (by decide)⟩ with hi
  have hl : (lane q i).val = t.val := by show 4 * (t.val / 4 % 4) + t.val % 4 = t.val; omega
  have he : (⟨t.val, t.isLt⟩ : Fin 16) = expert q i := Fin.ext hl.symm
  refine (add_apply t xb (iblk m c 3 t) (iblk m c 4 t) (iblk m c 5 t) sh acc n d (lane q i) hl).trans ?_
  have h0 : (fun k => xb (ix2 n k)) = rowX m c n := funext fun k => hx n k
  have h3 : (fun k f => iblk m c 3 t (ix3 0 k f)) = fun k f => gateA m c (ix3 (expert q i) k f) := funext fun k => funext fun f => by rw [read_wg, ← he]
  have h4 : (fun k f => iblk m c 4 t (ix3 0 k f)) = fun k f => upA m c (ix3 (expert q i) k f) := funext fun k => funext fun f => by rw [read_wu, ← he]
  have h5 : (fun f k => iblk m c 5 t (ix3 0 f k)) = fun f k => downA m c (ix3 (expert q i) f k) := funext fun k => funext fun f => by rw [read_wd, ← he]
  rw [hsh, h0, h3, h4, h5]
  rfl

/-- The buffers after a grid point hold the tokens, their shares and the first experts' addends. -/
def Good (n : ℕ) (H : Held) : Prop :=
  (∀ r k, H.2.1 (ix2 r k) = rowX m c r k)
  ∧ (∀ r q i, H.2.2.1 (ix2 r (lane q i)) = share (prob (rowX m c r) (router m c)) (sel (rowX m c r) (router m c) (bias m c)) q i)
  ∧ ∀ r d, H.2.2.2 (ix2 r d) = ∑ e ∈ Finset.range (n + 1), addendAt m c r d e

theorem zeros_apply (r : Fin 256) (d : Fin 1024) : k0_pay22 (F := Ideal) (ix2 r d) = (0 : EReal) := by
  pointwise [k0_pay22]

theorem good : ∀ (n : ℕ) (hn : n < cfg0.N), Good m c n (outsAt0 m c n hn) := by
  intro n
  induction n with
  | zero =>
    intro hn
    rw [outsAt0_zero]
    have hx : ∀ r k, (k0_pay3 (iblk m c 0 ⟨0, hn⟩) : Vec Ideal S256x1024 .f32) (ix2 r k) = rowX m c r k := fun r k => (pay3_apply _ r k).trans (read_x m c _ r k)
    refine ⟨fun r k => ?_, fun r q i => ?_, fun r d => ?_⟩
    · exact (congrFun (first_x m c ⟨0, hn⟩ junk0 rfl (show ¬ 0 % 16 = 15 by decide)) (ix2 r k)).trans (hx r k)
    · exact (congrFun (first_share m c ⟨0, hn⟩ junk0 rfl (show ¬ 0 % 16 = 15 by decide)) (ix2 r (lane q i))).trans (share_eq m c ⟨0, hn⟩ r q i)
    · refine (congrFun (first_sum m c ⟨0, hn⟩ junk0 rfl (show ¬ 0 % 16 = 15 by decide)) (ix2 r d)).trans ?_
      refine (adds m c ⟨0, hn⟩ _ _ _ hx (fun r q i => share_eq m c ⟨0, hn⟩ r q i) r d).trans ?_
      rw [zeros_apply, Finset.sum_range_one, zero_add]
  | succ n ih =>
    intro hn
    obtain ⟨h1, h2, h3⟩ := ih (Nat.lt_of_succ_lt hn)
    rw [outsAt0_succ]
    have hN : n + 1 < 16 := hn
    have hne : ¬ (n + 1) % 16 = 0 := by omega
    refine ⟨fun r k => ?_, fun r q i => ?_, fun r d => ?_⟩
    · exact (congrFun (next_x m c ⟨n + 1, hn⟩ _ hne) (ix2 r k)).trans (h1 r k)
    · exact (congrFun (next_share m c ⟨n + 1, hn⟩ _ hne) (ix2 r (lane q i))).trans (h2 r q i)
    · refine (congrFun (next_sum m c ⟨n + 1, hn⟩ _ hne) (ix2 r d)).trans ?_
      refine (adds m c ⟨n + 1, hn⟩ _ _ _ h1 h2 r d).trans ?_
      rw [h3, Finset.sum_range_succ _ (n + 1)]

/-- The layer's output, from the arguments. -/
def outAll : Vec Ideal S256x1024 .f32 := fun y =>
  sampleLayer (rowX m c (y 0)) (router m c) (bias m c) (fun e k f => gateA m c (ix3 e k f)) (fun e k f => upA m c (ix3 e k f)) (fun e f k => downA m c (ix3 e f k))
    (fun k => scaleA m c (ix1 k)) (fun k => shiftA m c (ix1 k)) (y 1)

theorem out_apply (x acc : Vec Ideal S256x1024 .f32) (g b : Vec Ideal S1x1024 .f32) (n : Fin 256) (d : Fin 1024) :
    k0_pay2 x acc g b (ix2 n d) = norm (resid (fun k => x (ix2 n k)) fun k => acc (ix2 n k)) (fun k => g (ix2 0 k)) (fun k => b (ix2 0 k)) d := by
  pointwise [k0_pay2]
  rfl

/-- All sixteen experts' addends are the layer's mixture. -/
theorem all_addends (n : Fin 256) (d : Fin 1024) : (∑ e ∈ Finset.range 16, addendAt m c n d e)
    = blend (prob (rowX m c n) (router m c)) (sel (rowX m c n) (router m c) (bias m c)) (rowX m c n) (fun e k f => gateA m c (ix3 e k f)) (fun e k f => upA m c (ix3 e k f))
        (fun e f k => downA m c (ix3 e f k)) d := by
  show _ = ∑ q : Fin 4, ∑ i : Fin 4, addend m c n d q i
  simp only [Finset.sum_range_succ, Finset.sum_range_zero, Fin.sum_univ_four]
  show (((((((((((((((((0 : EReal) + addend m c n d 0 0) + addend m c n d 0 1) + addend m c n d 0 2) + addend m c n d 0 3)
    + addend m c n d 1 0) + addend m c n d 1 1) + addend m c n d 1 2) + addend m c n d 1 3)
    + addend m c n d 2 0) + addend m c n d 2 1) + addend m c n d 2 2) + addend m c n d 2 3)
    + addend m c n d 3 0) + addend m c n d 3 1) + addend m c n d 3 2) + addend m c n d 3 3) = _
  rw [zero_add]
  ac_rfl

/-- The array the call leaves. -/
theorem array_eq : G8 m c = outAll m c := by
  have hn : 15 < cfg0.N := by decide
  have h14 : 14 < cfg0.N := by decide
  rw [G8_last]
  refine (congrArg (·.1) (outsAt0_sweep m c 15 hn)).symm.trans ?_
  rw [outsAt0_succ m c 14 hn]
  refine (last_out m c ⟨15, hn⟩ _ rfl).trans ?_
  obtain ⟨h1, h2, h3⟩ := good m c 14 h14
  funext y
  have e : y = ix2 (n0 := 256) (n1 := 1024) (y 0) (y 1) := eq_ix2 y
  refine (congrArg _ e).trans ((out_apply _ _ _ _ (y 0) (y 1)).trans ?_)
  have hx : (fun k => iblk m c 0 ⟨15, hn⟩ (ix2 (y 0) k)) = rowX m c (y 0) := funext fun k => read_x m c _ _ k
  have hg : (fun k => iblk m c 6 ⟨15, hn⟩ (ix2 0 k)) = fun k => scaleA m c (ix1 k) := funext fun k => read_g m c _ k
  have hb : (fun k => iblk m c 7 ⟨15, hn⟩ (ix2 0 k)) = fun k => shiftA m c (ix1 k) := funext fun k => read_b m c _ k
  rw [hx, hg, hb]
  refine congrArg (fun f => norm (resid (rowX m c (y 0)) f) _ _ (y 1)) (funext fun d => ?_)
  refine (adds m c ⟨15, hn⟩ _ _ _ h1 h2 (y 0) d).trans ?_
  refine (congrArg (· + addendAt m c (y 0) d 15) (h3 (y 0) d)).trans ?_
  exact (Finset.sum_range_succ (addendAt m c (y 0) d) 15).symm.trans (all_addends m c (y 0) d)

end Cert.Kernel7Ideal.Hand

namespace Cert.Proof.MixSample

open Idealize.ShloMosaic Idealize.ShloMosaic.TcCoe Idealize.SL.Sem

/-- The printed kernel runs, keeps its arguments and leaves every counter at zero. -/
theorem frame_kernel : Cert.quiescent_Kernel7 := fun m g _ => Cert.Kernel7.Gen.frame m g
/-- So does the kernel read at the ideal instance. -/
theorem frame_kernel_ideal : Cert.quiescent_Kernel7Ideal := fun m g _ => Cert.Kernel7Ideal.Gen.frame m g
/-- So does the reference, which has no counters. -/
theorem frame_reference : Cert.quiescent_Reference7Ideal := fun m g _ =>
  (θ_run Cert.Reference7Ideal.defs _ _).mono (fun r h => ⟨fun c => (h c).2, sem_eq_zero_of_no_sems rfl r.2⟩) (Cert.Reference7Ideal.Value.run m g)

/-- The mask the ideal reading names is the printed word elsewhere. -/
theorem preserves : Cert.preserves_Kernel7_Kernel7Ideal := IdealRules.named_const.statement Cert.Kernel7Ideal.κ "mask" .f32 0xF149F2CA#32 ⊥ rfl

/-- The kernel and the reference, read at the ideal instance, end with equal results. -/
theorem algebraic : Cert.algebraic_Kernel7Ideal_Reference7Ideal := fun m g m' g' _ ha =>
  ⟨fun c => Cert.Kernel7Ideal.Hand.outAll m c,
    (θ_run Cert.Kernel7Ideal.defs _ _).mono (fun r h c => ⟨(h c).1.trans (Cert.Kernel7Ideal.Hand.array_eq m c), (h c).2⟩) (Cert.Kernel7Ideal.Value.run m g),
    (θ_run Cert.Reference7Ideal.defs _ _).mono (fun r h c => ⟨(h c).1.trans (by
        obtain ⟨h0, h1, h2, h3, h4, h5, h6, h7⟩ := ha c
        refine (Cert.Reference7Ideal.Hand.res_eq m' c).trans ?_
        rw [h0, h1, h2, h3, h4, h5, h6, h7]
        funext y
        exact (congrArg _ (eq_ix2 y)).trans (Cert.Reference7Ideal.Hand.result_apply _ _ _ _ _ _ _ _ (y 0) (y 1))), (h c).2⟩) (Cert.Reference7Ideal.Value.run m' g')⟩

end Cert.Proof.MixSample

end
-- ==== Proof.OutSample.lean ====
module

public import proofs.«01_k».proof.Defs
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.OutProj
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

/-! The output projection of the sample: all rows in one grid point, in float32 throughout. -/

namespace Cert.Kernel8Ideal.Hand

open Idealize.ShloMosaic Idealize.ShloMosaic.TcCoe Idealize.SL.Sem
open Cert.Kernel8Ideal Cert.Kernel8Ideal.Gen
open Cert.Moe (resid norm centred)
open Cert.Kernel4Ideal.Hand (mix)

variable (m : (ℓ : Loc nD τ sig) → Buf (Elt Ideal) ℓ) (c : Dev nD)

/-- One mixer's rows. -/
abbrev left : Vec Ideal S256x512 .f32 := m ((c.tc : Thread nD τ).loc main_arg0)
/-- The other mixer's. -/
abbrev right : Vec Ideal S256x512 .f32 := m ((c.tc : Thread nD τ).loc main_arg1)
/-- The weights. -/
abbrev weights : Vec Ideal S1024x1024 .f32 := m ((c.tc : Thread nD τ).loc main_arg2)
/-- The rows that go round the layer. -/
abbrev rows : Vec Ideal S256x1024 .f32 := m ((c.tc : Thread nD τ).loc main_arg3)
/-- The scale of the normalisation. -/
abbrev scale : Vec Ideal S1024 .f32 := m ((c.tc : Thread nD τ).loc main_arg4)
/-- Its shift. -/
abbrev shift : Vec Ideal S1024 .f32 := m ((c.tc : Thread nD τ).loc main_arg5)

/-- One element of the result. -/
def element (a b : Vec Ideal S256x512 .f32) (w : Vec Ideal S1024x1024 .f32) (x : Vec Ideal S256x1024 .f32) (g h : Vec Ideal S1024 .f32)
    (n : Fin 256) (j : Fin 1024) : EReal :=
  norm (resid (fun k => x (ix2 n k)) (mix (fun k => a (ix2 n k)) (fun k => b (ix2 n k)) w)) (fun k => g (ix1 k)) (fun k => h (ix1 k)) j

/-- The result. -/
def outAll : Vec Ideal S256x1024 .f32 := fun y =>
  element (left m c) (right m c) (weights m c) (rows m c) (scale m c) (shift m c) (y 0) (y 1)

theorem idx0 : ∀ t : Fin grid0.N, win0_0.index t = ![0, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![0, 0] := by decide +kernel

theorem read_left (t : Fin cfg0.N) (p : Fin 256) (k : Fin 512) :
    iblk m c 0 t (ix2 p k) = left m c (ix2 p k) := by
  blk_ext [iblk, V, idx0 t]
theorem read_right (t : Fin cfg0.N) (p : Fin 256) (k : Fin 512) :
    iblk m c 1 t (ix2 p k) = right m c (ix2 p k) := by
  blk_ext [iblk, V, idx1 t]
theorem read_w (t : Fin cfg0.N) (k : Fin 1024) (j : Fin 1024) :
    iblk m c 2 t (ix2 k j) = weights m c (ix2 k j) := by
  blk_ext [iblk, V, idx2 t]
theorem read_x (t : Fin cfg0.N) (p : Fin 256) (k : Fin 1024) :
    iblk m c 3 t (ix2 p k) = rows m c (ix2 p k) := by
  blk_ext [iblk, V, idx3 t]

theorem V_g : (V m c main_v0 : Vec Ideal S1x1024 .f32) = shapeCast S1x1024 (scale m c) shapeCasts_S1024_S1x1024 := by
  show StableHlo.after hostOps0 _ _ = _
  entry_read
  rfl
theorem V_b : (V m c main_v1 : Vec Ideal S1x1024 .f32) = shapeCast S1x1024 (shift m c) shapeCasts_S1024_S1x1024 := by
  show StableHlo.after hostOps0 _ _ = _
  entry_read
  rfl

theorem whole_4 (t : Fin cfg0.N) (A : Vec Ideal S1x1024 .f32) (q : Fin 1024) :
    ((cfg0.win 4).blk t).view.read (Elt Ideal) A (ix2 0 q) = A (ix2 0 q) := by
  blk_ext [idx4 t]
theorem whole_5 (t : Fin cfg0.N) (A : Vec Ideal S1x1024 .f32) (q : Fin 1024) :
    ((cfg0.win 5).blk t).view.read (Elt Ideal) A (ix2 0 q) = A (ix2 0 q) := by
  blk_ext [idx5 t]

theorem flat (A : Vec Ideal S1024 .f32) (q : Fin 1024) : shapeCast S1x1024 A shapeCasts_S1024_S1x1024 (ix2 0 q) = A (ix1 q) := by
  pointwise

theorem read_g (t : Fin cfg0.N) (q : Fin 1024) : iblk m c 4 t (ix2 0 q) = scale m c (ix1 q) :=
  (whole_4 t (V m c main_v0) q).trans ((congrFun (V_g m c) _).trans (flat _ q))
theorem read_b (t : Fin cfg0.N) (q : Fin 1024) : iblk m c 5 t (ix2 0 q) = shift m c (ix1 q) :=
  (whole_5 t (V m c main_v1) q).trans ((congrFun (V_b m c) _).trans (flat _ q))

theorem upper (A : Vec Ideal S1024x1024 .f32) (k : Fin 512) (j : Fin 1024) :
    View.ld A r0_1 (ix2 k j) = A (ix2 ⟨k.val, by omega⟩ j) := by
  pointwise
theorem lower (A : Vec Ideal S1024x1024 .f32) (k : Fin 512) (j : Fin 1024) :
    View.ld A r0_2 (ix2 k j) = A (ix2 ⟨512 + k.val, by omega⟩ j) := by
  pointwise

theorem body_apply (a : Vec Ideal S256x512 .f32) (u : Vec Ideal S512x1024 .f32) (b : Vec Ideal S256x512 .f32) (l : Vec Ideal S512x1024 .f32) (x : Vec Ideal S256x1024 .f32) (g h : Vec Ideal S1x1024 .f32)
    (p : Fin 256) (j : Fin 1024) :
    k0_pay1 a u b l x g h (ix2 p j)
      = norm (resid (fun k => x (ix2 p k)) fun d => (∑ k : Fin 512, a (ix2 p k) * u (ix2 k d)) + ∑ k : Fin 512, b (ix2 p k) * l (ix2 k d))
        (fun k => g (ix2 0 k)) (fun k => h (ix2 0 k)) j := by
  pointwise [k0_pay1]
  rfl

/-- The same over what the blocks hold. -/
theorem body_eq (a : Vec Ideal S256x512 .f32) (u : Vec Ideal S512x1024 .f32) (b : Vec Ideal S256x512 .f32) (l : Vec Ideal S512x1024 .f32) (x : Vec Ideal S256x1024 .f32) (g h : Vec Ideal S1x1024 .f32)
    (p : Fin 256) (j : Fin 1024) (A B : Fin 512 → EReal) (W : Vec Ideal S1024x1024 .f32) (X G H : Fin 1024 → EReal)
    (ha : ∀ k, a (ix2 p k) = A k) (hb : ∀ k, b (ix2 p k) = B k) (hu : ∀ (k : Fin 512) (d : Fin 1024), u (ix2 k d) = W (ix2 ⟨k.val, by omega⟩ d))
    (hl : ∀ (k : Fin 512) (d : Fin 1024), l (ix2 k d) = W (ix2 ⟨512 + k.val, by omega⟩ d)) (hx : ∀ k, x (ix2 p k) = X k)
    (hg : ∀ k, g (ix2 0 k) = G k) (hh : ∀ k, h (ix2 0 k) = H k) :
    k0_pay1 a u b l x g h (ix2 p j) = norm (resid X (mix A B W)) G H j := by
  rw [body_apply]
  simp only [ha, hb, hu, hl, hx, hg, hh]
  rfl

theorem block_out (t : Fin cfg0.N) (p : Fin 256) (j : Fin 1024) :
    k0_pay1 (iblk m c 0 t) (View.ld (iblk m c 2 t) r0_1) (iblk m c 1 t) (View.ld (iblk m c 2 t) r0_2) (iblk m c 3 t) (iblk m c 4 t) (iblk m c 5 t) (ix2 p j)
      = element (left m c) (right m c) (weights m c) (rows m c) (scale m c) (shift m c) p j :=
  body_eq _ _ _ _ _ _ _ p j _ _ (weights m c) _ _ _ (fun k => read_left m c t p k) (fun k => read_right m c t p k)
    (fun k d => (upper _ k d).trans (read_w m c t _ d)) (fun k d => (lower _ k d).trans (read_w m c t _ d))
    (fun k => read_x m c t p k) (fun k => read_g m c t k) (fun k => read_b m c t k)

theorem array_eq : (dats m 0 c).arrAt 6 cfg0.N = outAll m c := by
  refine (dats m 0 c).arrAt_eq_of_covers 6 _ (by decide +kernel) fun t hf y => ?_
  blk_simp
  rw [after0_6]
  frame_out
  have e : y = ix2 (n0 := 256) (n1 := 1024) (y 0) (y 1) := eq_ix2 y
  refine (congrArg (k0_pay1 (iblk m c 0 t) (View.ld (iblk m c 2 t) r0_1) (iblk m c 1 t) (View.ld (iblk m c 2 t) r0_2) (iblk m c 3 t) (iblk m c 4 t) (iblk m c 5 t)) e).trans ((block_out m c t (y 0) (y 1)).trans ?_)
  refine congrArg₂ (element (left m c) (right m c) (weights m c) (rows m c) (scale m c) (shift m c)) (Fin.ext ?_) (Fin.ext ?_)
  · blk_simp [idx6 t]
  · blk_simp [idx6 t]

end Cert.Kernel8Ideal.Hand

namespace Cert.Reference8Ideal.Hand

open Idealize.ShloMosaic Idealize.ShloMosaic.TcCoe Idealize.SL.Sem
open Cert.Reference8Ideal Cert.Reference8Ideal.Gen
open Cert.Moe (resid norm centred)
open Cert.Kernel4Ideal.Hand (mix)
open Cert.Kernel8Ideal.Hand (element)

/-- The projected rows. -/
def mixed (a b : Vec Ideal S256x512 .f32) (w : Vec Ideal S1024x1024 .f32) : FVec Ideal S256x1024 .f32 :=
  Host.dotGeneral (φ₁ := .f32) (φ₂ := .f32) dot_S256x1024_S1024x1024_S256x1024_1_0_0_1_n_n none
    (concatenate S256x1024 1 [⟨S256x512, a⟩, ⟨S256x512, b⟩] concatenates_S256x512_S256x512_S256x1024_d1) w

/-- The sum with the scaled residual. -/
def summed (x y : FVec Ideal S256x1024 .f32) : FVec Ideal S256x1024 .f32 :=
  addf (mulf (broadcastInDim S256x1024 ![] bcast_S_S256x1024 (constant S_ .f32 0x3FB504F3#32)) x) y

/-- Rows less their means. -/
def less (z : FVec Ideal S256x1024 .f32) : FVec Ideal S256x1024 .f32 :=
  subf z (broadcastInDim S256x1024 ![0, 1] bcast_S256x1_S256x1024_0_1 (Host.divf
    (broadcastInDim S256x1 ![0] bcast_S256_S256x1_0 (Host.reduceAdd z (constant S_ .f32 0x00000000#32) reducesTo_S256x1024_S256_d1 h_S_))
    (broadcastInDim S256x1 ![] bcast_S_S256x1 (constant S_ .f32 0x44800000#32))))

/-- Centred rows over their deviations, scaled and shifted. -/
def scaled (zc : FVec Ideal S256x1024 .f32) (g b : FVec Ideal S1024 .f32) : FVec Ideal S256x1024 .f32 :=
  addf (mulf (mulf zc (broadcastInDim S256x1024 ![0, 1] bcast_S256x1_S256x1024_0_1 (Host.rsqrt (addf (Host.divf
    (broadcastInDim S256x1 ![0] bcast_S256_S256x1_0 (Host.reduceAdd (mulf zc zc) (constant S_ .f32 0x00000000#32) reducesTo_S256x1024_S256_d1 h_S_))
    (broadcastInDim S256x1 ![] bcast_S_S256x1 (constant S_ .f32 0x44800000#32)))
    (broadcastInDim S256x1 ![] bcast_S_S256x1 (constant S_ .f32 0x3727C5AC#32))))))
    (broadcastInDim S256x1024 ![0, 1] bcast_S1x1024_S256x1024_0_1 (broadcastInDim S1x1024 ![1] bcast_S1024_S1x1024_1 g)))
    (broadcastInDim S256x1024 ![0, 1] bcast_S1x1024_S256x1024_0_1 (broadcastInDim S1x1024 ![1] bcast_S1024_S1x1024_1 b))

theorem mixed_apply (a b : Vec Ideal S256x512 .f32) (w : Vec Ideal S1024x1024 .f32) (n : Fin 256) (j : Fin 1024) :
    mixed a b w (ix2 n j) = mix (fun k => a (ix2 n k)) (fun k => b (ix2 n k)) w j := by
  pointwise [mixed, mix]

theorem summed_apply (x y : FVec Ideal S256x1024 .f32) (n : Fin 256) (j : Fin 1024) :
    summed x y (ix2 n j) = resid (fun k => x (ix2 n k)) (fun k => y (ix2 n k)) j := by
  pointwise [summed, resid]

theorem less_apply (z : FVec Ideal S256x1024 .f32) (n : Fin 256) (j : Fin 1024) :
    less z (ix2 n j) = centred (fun k => z (ix2 n k)) j := by
  pointwise [less, centred]

theorem scaled_apply (z : FVec Ideal S256x1024 .f32) (g b : FVec Ideal S1024 .f32) (n : Fin 256) (j : Fin 1024) :
    scaled (less z) g b (ix2 n j) = norm (fun k => z (ix2 n k)) (fun k => g (ix1 k)) (fun k => b (ix1 k)) j := by
  pointwise [scaled, less_apply]
  rfl

theorem res_apply (m : (ℓ : Loc nD τ sig) → Buf (Elt Ideal) ℓ) (c : Dev nD) (n : Fin 256) (j : Fin 1024) :
    (Cert.Reference8Ideal.Value.res_main_v28 m c : Vec Ideal S256x1024 .f32) (ix2 n j)
      = element (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) n j := by
  refine (scaled_apply (summed _ (mixed _ _ _)) _ _ n j).trans ?_
  refine congrArg (fun z => norm z _ _ j) (funext fun d => (summed_apply _ _ n d).trans ?_)
  exact congrArg (fun y => resid _ y d) (funext fun k => mixed_apply _ _ _ n k)

end Cert.Reference8Ideal.Hand

namespace Cert.Proof.OutSample

open Idealize.ShloMosaic Idealize.ShloMosaic.TcCoe Idealize.SL.Sem

/-- The printed kernel runs, keeps its arguments and leaves every counter at zero. -/
theorem frame_kernel : Cert.quiescent_Kernel8 := fun m g _ => Cert.Kernel8.Gen.frame m g
/-- So does the kernel read at the ideal instance. -/
theorem frame_kernel_ideal : Cert.quiescent_Kernel8Ideal := fun m g _ => Cert.Kernel8Ideal.Gen.frame m g
/-- So does the reference, which has no counters. -/
theorem frame_reference : Cert.quiescent_Reference8Ideal := fun m g _ =>
  (θ_run Cert.Reference8Ideal.defs _ _).mono (fun r h => ⟨fun c => (h c).2, sem_eq_zero_of_no_sems rfl r.2⟩) (Cert.Reference8Ideal.Value.run m g)

/-- The kernel and the reference, read at the ideal instance, end with equal results. -/
theorem algebraic : Cert.algebraic_Kernel8Ideal_Reference8Ideal := fun m g m' g' _ ha =>
  ⟨fun c => Cert.Kernel8Ideal.Hand.outAll m c,
    (θ_run Cert.Kernel8Ideal.defs _ _).mono (fun r h c => ⟨(h c).1.trans (Cert.Kernel8Ideal.Hand.array_eq m c), (h c).2⟩)
      (Cert.Kernel8Ideal.Value.run_blocks m g),
    (θ_run Cert.Reference8Ideal.defs _ _).mono (fun r h c => ⟨(h c).1.trans (by
        obtain ⟨h0, h1, h2, h3, h4, h5⟩ := ha c
        funext y
        refine (congrArg _ (eq_ix2 y)).trans ((Cert.Reference8Ideal.Hand.res_apply m' c (y 0) (y 1)).trans ?_)
        rw [h0, h1, h2, h3, h4, h5]
        rfl), (h c).2⟩) (Cert.Reference8Ideal.Value.run m' g')⟩

end Cert.Proof.OutSample

end
-- ==== Proof.LruScan.lean ====
module

public import Idealize.ShloMosaic.PureOps.Ideal

@[expose] public section

noncomputable section

/-! The gated linear recurrence over eight steps: by doubling, and one step after another. -/

namespace Cert.Lru

open Idealize.ShloMosaic

/-- A factor that distributes over every sum. -/
def Good (a : EReal) : Prop := 0 ≤ a ∧ a ≠ ⊤

theorem Good.mul {a b : EReal} (ha : Good a) (hb : Good b) : Good (a * b) := by
  refine ⟨mul_nonneg ha.1 hb.1, ?_⟩
  lift a to ℝ using ⟨ha.2, fun h => by simp [h, Good] at ha⟩
  lift b to ℝ using ⟨hb.2, fun h => by simp [h, Good] at hb⟩
  exact_mod_cast EReal.coe_ne_top (a * b)

/-- The state after so many steps. -/
def after (A U : Fin 8 → EReal) (h : EReal) : ℕ → EReal
  | 0 => h
  | n + 1 => A (Fin.ofNat 8 n) * after A U h n + U (Fin.ofNat 8 n)

/-- The step `d` rows before, cyclically. -/
def back (p : Fin 8) (d : ℕ) : Fin 8 := ⟨(p.val + 8 - d) % 8, Nat.mod_lt _ (by decide)⟩

/-- One doubling of the inputs. -/
def wideU (d : ℕ) (A U : Fin 8 → EReal) (p : Fin 8) : EReal := if d ≤ p.val then U p + A p * U (back p d) else U p
/-- One doubling of the factors. -/
def wideA (d : ℕ) (A : Fin 8 → EReal) (p : Fin 8) : EReal := if d ≤ p.val then A p * A (back p d) else A p

theorem join {a : EReal} (ha : Good a) (u a' u' h : EReal) : (u + a * u') + (a * a') * h = a * (u' + a' * h) + u := by
  rw [EReal.left_distrib_of_nonneg_of_ne_top ha.1 ha.2, mul_assoc, add_comm u, add_assoc, add_assoc, add_comm u]

/-- One doubling and then the start is the later part after the earlier. -/
theorem wide (d : ℕ) (A U : Fin 8 → EReal) (hA : ∀ p, Good (A p)) (h : EReal) (p : Fin 8) :
    wideU d A U p + wideA d A p * h = if d ≤ p.val then A p * (U (back p d) + A (back p d) * h) + U p else U p + A p * h := by
  unfold wideU wideA
  split
  · exact join (hA p) ..
  · rfl

theorem wide_good (d : ℕ) (A : Fin 8 → EReal) (hA : ∀ p, Good (A p)) (p : Fin 8) : Good (wideA d A p) := by
  unfold wideA
  split
  · exact (hA p).mul (hA _)
  · exact hA p

/-- A doubling with any later value in the start's place. -/
theorem wide_sum (d : ℕ) (A U : Fin 8 → EReal) (hA : ∀ p, Good (A p)) (h : EReal) (p : Fin 8) :
    wideA d A p * h + wideU d A U p = if d ≤ p.val then A p * (A (back p d) * h + U (back p d)) + U p else A p * h + U p := by
  rw [add_comm, wide d A U hA]
  simp only [add_comm]

theorem scan (A U : Fin 8 → EReal) (hA : ∀ p, Good (A p)) (h : EReal) (p : Fin 8) :
    wideU 4 (wideA 2 (wideA 1 A)) (wideU 2 (wideA 1 A) (wideU 1 A U)) p + wideA 4 (wideA 2 (wideA 1 A)) p * h = after A U h (p.val + 1) := by
  have h1 := wide_good 1 A hA
  have h2 := wide_good 2 _ h1
  rw [add_comm, wide_sum 4 _ _ h2]
  fin_cases p <;> simp [back, wide_sum _ _ _ h1, wide_sum _ _ _ hA, after] <;> rfl

/-- The doubled exponent by a hyperbolic tangent. -/
theorem by_tanh (x : EReal) (hx : x ≤ 0) : Ideal.div (-2 * Ideal.tanh x) (1 - Ideal.tanh x) = -(Ideal.exp (2 * x) - 1) := by
  induction x with
  | top => simp at hx
  | bot =>
    have h2 : (2 : EReal) * ⊥ = ⊥ := by
      exact EReal.coe_mul_bot_of_pos (x := 2) (by norm_num)
    have n : (1 : EReal) - -1 = ((2 : ℝ) : EReal) := by
      rw [show (-1 : EReal) = ((-1 : ℝ) : EReal) from rfl, show (1 : EReal) = ((1 : ℝ) : EReal) from rfl, ← EReal.coe_sub]; norm_num
    have k : (-2 * -1) * (2 : ℝ)⁻¹ = -((0 : ℝ) - 1) := by norm_num
    rw [h2, show Ideal.tanh ⊥ = -1 from rfl, show Ideal.exp ⊥ = 0 from rfl, n]
    unfold Ideal.div
    rw [if_neg (by exact_mod_cast (two_ne_zero : (2 : ℝ) ≠ 0)), ← EReal.coe_inv]
    exact congrArg (fun z : ℝ => (z : EReal)) k
  | coe r =>
    have h2 : (2 : EReal) * (r : EReal) = ((2 * r : ℝ) : EReal) := by norm_cast
    rw [h2, show Ideal.tanh (r : EReal) = ((Real.tanh r : ℝ) : EReal) from rfl, show Ideal.exp ((2 * r : ℝ) : EReal) = ((Real.exp (2 * r) : ℝ) : EReal) from rfl]
    have e : Real.exp (2 * r) = Real.exp r * Real.exp r := by rw [← Real.exp_add]; ring_nf
    have p := Real.exp_pos r
    have t : Real.tanh r = (Real.exp r * Real.exp r - 1) / (Real.exp r * Real.exp r + 1) := by
      rw [Real.tanh_eq_sinh_div_cosh, Real.sinh_eq, Real.cosh_eq, Real.exp_neg]
      field_simp
    have n : 1 - Real.tanh r = 2 / (Real.exp r * Real.exp r + 1) := by
      rw [t]; field_simp; ring_nf
    have n0 : 1 - Real.tanh r ≠ 0 := by rw [n]; positivity
    have k : (-2 * Real.tanh r) * (1 - Real.tanh r)⁻¹ = -(Real.exp (2 * r) - 1) := by
      rw [n, t, e]; field_simp
    unfold Ideal.div
    rw [show (1 : EReal) - (Real.tanh r : EReal) = ((1 - Real.tanh r : ℝ) : EReal) from rfl, if_neg (by exact_mod_cast n0), ← EReal.coe_inv]
    exact congrArg (fun z : ℝ => (z : EReal)) k

/-- The softened positive part. -/
def soft (l : EReal) : EReal := max l 0 + Ideal.log1p (Ideal.exp (-(max l (-l))))

theorem exp_nonneg (x : EReal) : 0 ≤ Ideal.exp x := by
  induction x with
  | top => exact le_top
  | bot => exact le_rfl
  | coe r => exact EReal.coe_nonneg.mpr (Real.exp_pos r).le

theorem log1p_nonneg (x : EReal) (h : 0 ≤ x) : 0 ≤ Ideal.log1p x := by
  induction x with
  | top => exact le_top
  | bot => simp at h
  | coe r =>
    have hr : 0 ≤ r := EReal.coe_nonneg.mp h
    have e : Ideal.log1p (r : EReal) = if 1 + r ≤ 0 then ⊥ else ((Real.log (1 + r) : ℝ) : EReal) := rfl
    rw [e, if_neg (by linarith)]
    exact EReal.coe_nonneg.mpr (Real.log_nonneg (by linarith))

theorem soft_nonneg (l : EReal) : 0 ≤ soft l := add_nonneg (le_max_right _ _) (log1p_nonneg _ (exp_nonneg _))

theorem logistic_nonneg (x : EReal) : 0 ≤ Ideal.logistic x := by
  induction x with
  | top => rw [Ideal.logistic_top]; exact zero_le_one
  | bot => rw [Ideal.logistic_bot]
  | coe r =>
    rw [Ideal.logistic_coe]
    exact EReal.coe_nonneg.mpr (by positivity)

/-- The exponent of a step's factor. -/
def rate (r l : EReal) : EReal := -8 * Ideal.logistic r * soft l

theorem rate_nonpos (r l : EReal) : rate r l ≤ 0 := by
  unfold rate
  rw [mul_assoc, EReal.neg_mul]
  rw [← neg_zero, EReal.neg_le_neg_iff]
  exact (mul_nonneg (by norm_num) (mul_nonneg (logistic_nonneg r) (soft_nonneg l)))

/-- A step's factor. -/
def factor (r l : EReal) : EReal := Ideal.exp (rate r l)

theorem factor_good (r l : EReal) : Good (factor r l) := by
  refine ⟨exp_nonneg _, ?_⟩
  have h := rate_nonpos r l
  unfold factor
  generalize rate r l = z at h ⊢
  induction z with
  | top => simp at h
  | bot => exact EReal.zero_ne_top
  | coe x => exact EReal.coe_ne_top _

/-- A step's input. -/
def feed (r l i x : EReal) : EReal := Ideal.sqrt (-(Ideal.exp (2 * rate r l) - 1)) * (Ideal.logistic i * x)

/-- One step's row, mixed with the three before it. -/
def mixed (w : Fin 4 → EReal) (b : EReal) (e : Fin 11 → EReal) (p : Fin 8) : EReal :=
  b + (w 0 * e ⟨p.val, by omega⟩ + w 1 * e ⟨p.val + 1, by omega⟩ + w 2 * e ⟨p.val + 2, by omega⟩ + w 3 * e ⟨p.val + 3, by omega⟩)

end Cert.Lru

end
-- ==== Proof.LruBody.lean ====
module

public import proofs.«01_k».proof.Proof.Gen.Kernel9Ideal.Skeleton
public import Idealize.ShloMosaic.Lib.Pointwise
public import proofs.«01_k».proof.Proof.LruScan

@[expose] public section

set_option maxRecDepth 16384

noncomputable section

/-! One sequence's eight steps in the call, row by row. -/

namespace Cert.Kernel9Ideal.Hand

open Idealize.ShloMosaic Idealize.ShloMosaic.TcCoe Idealize.SL.Sem
open Cert.Kernel9Ideal Cert.Kernel9Ideal.Gen Cert.Lru

abbrev Rows := FVec Ideal S8x512 .f32
abbrev One := FVec Ideal S1x512 .f32

/-- The rows mixed with those before. -/
def mixV (x prev : Rows) (w0 w1 w2 w3 cb : One) : Rows := k0_pay9 prev (k0_pay7 x prev w3 cb w2 w1) (k0_pay8 x) w0

theorem lt1 : ∀ p : Fin 8, IntOp.cmpi CmpIPredicate.slt (BitVec.ofNat 32 p.val) 1#32 = BitVec.ofBool (decide (p.val < 1)) := by decide +kernel
theorem lt2 : ∀ p : Fin 8, IntOp.cmpi CmpIPredicate.slt (BitVec.ofNat 32 p.val) 2#32 = BitVec.ofBool (decide (p.val < 2)) := by decide +kernel
theorem lt3 : ∀ p : Fin 8, IntOp.cmpi CmpIPredicate.slt (BitVec.ofNat 32 p.val) 3#32 = BitVec.ofBool (decide (p.val < 3)) := by decide +kernel
theorem ge1 : ∀ p : Fin 8, IntOp.cmpi CmpIPredicate.sge (BitVec.ofNat 32 p.val) 1#32 = BitVec.ofBool (decide (1 ≤ p.val)) := by decide +kernel
theorem ge2 : ∀ p : Fin 8, IntOp.cmpi CmpIPredicate.sge (BitVec.ofNat 32 p.val) 2#32 = BitVec.ofBool (decide (2 ≤ p.val)) := by decide +kernel
theorem ge4 : ∀ p : Fin 8, IntOp.cmpi CmpIPredicate.sge (BitVec.ofNat 32 p.val) 4#32 = BitVec.ofBool (decide (4 ≤ p.val)) := by decide +kernel

theorem mix_apply (x prev : Rows) (w0 w1 w2 w3 cb : One) (p : Fin 8) (j : Fin 512) (e : Fin 11 → EReal)
    (hx : ∀ q : Fin 8, x (ix2 q j) = e ⟨q.val + 3, by omega⟩) (hp : ∀ k : Fin 3, prev (ix2 ⟨k.val + 5, by omega⟩ j) = e ⟨k.val, by omega⟩) :
    mixV x prev w0 w1 w2 w3 cb (ix2 p j) = mixed ![w0 (ix2 0 j), w1 (ix2 0 j), w2 (ix2 0 j), w3 (ix2 0 j)] (cb (ix2 0 j)) e p := by
  have p5 : prev (ix2 5 j) = e 0 := hp 0
  have p6 : prev (ix2 6 j) = e 1 := hp 1
  have p7 : prev (ix2 7 j) = e 2 := hp 2
  pointwise [mixV, k0_pay9, k0_pay7, k0_pay8]
  simp only [lt1, lt2, lt3]
  fin_cases p <;> simp [Scalar.select, hx, p5, p6, p7, mixed] <;> ac_rfl

/-- A doubling of the inputs on the rows. -/
def fwdU (b : IVec S8x512 1) (d : BitVec 32) (A U : Rows) : Rows := select b (addf U (mulf A (dynamicRotate 0 d none U rotates_S8x512_d0))) U
/-- And of the factors. -/
def fwdA (b : IVec S8x512 1) (d : BitVec 32) (A : Rows) : Rows := select b (mulf A (dynamicRotate 0 d none A rotates_S8x512_d0)) A

theorem select_bool (b : Prop) [Decidable b] (x y : EReal) : Scalar.select (BitVec.ofBool (decide b)) x y = if b then x else y := by
  by_cases h : b <;> simp [Scalar.select, h]

theorem fwdU1 (A U : Rows) (p : Fin 8) (j : Fin 512) : fwdU k0_pay18 1#32 A U (ix2 p j) = wideU 1 (fun q => A (ix2 q j)) (fun q => U (ix2 q j)) p := by
  pointwise [fwdU, k0_pay18]
  rw [ge1, select_bool]
  rfl
theorem fwdU2 (A U : Rows) (p : Fin 8) (j : Fin 512) : fwdU k0_pay20 2#32 A U (ix2 p j) = wideU 2 (fun q => A (ix2 q j)) (fun q => U (ix2 q j)) p := by
  pointwise [fwdU, k0_pay20]
  rw [ge2, select_bool]
  rfl
theorem fwdU4 (A U : Rows) (p : Fin 8) (j : Fin 512) : fwdU k0_pay22 4#32 A U (ix2 p j) = wideU 4 (fun q => A (ix2 q j)) (fun q => U (ix2 q j)) p := by
  pointwise [fwdU, k0_pay22]
  rw [ge4, select_bool]
  rfl
theorem fwdA1 (A : Rows) (p : Fin 8) (j : Fin 512) : fwdA k0_pay18 1#32 A (ix2 p j) = wideA 1 (fun q => A (ix2 q j)) p := by
  pointwise [fwdA, k0_pay18]
  rw [ge1, select_bool]
  rfl
theorem fwdA2 (A : Rows) (p : Fin 8) (j : Fin 512) : fwdA k0_pay20 2#32 A (ix2 p j) = wideA 2 (fun q => A (ix2 q j)) p := by
  pointwise [fwdA, k0_pay20]
  rw [ge2, select_bool]
  rfl
theorem fwdA4 (A : Rows) (p : Fin 8) (j : Fin 512) : fwdA k0_pay22 4#32 A (ix2 p j) = wideA 4 (fun q => A (ix2 q j)) p := by
  pointwise [fwdA, k0_pay22]
  rw [ge4, select_bool]
  rfl

/-- The scan of the rows, and the start carried along. -/
def scanV (A U : Rows) (h : One) : Rows :=
  addf (fwdU k0_pay22 4#32 (fwdA k0_pay20 2#32 (fwdA k0_pay18 1#32 A)) (fwdU k0_pay20 2#32 (fwdA k0_pay18 1#32 A) (fwdU k0_pay18 1#32 A U)))
    (mulf (fwdA k0_pay22 4#32 (fwdA k0_pay20 2#32 (fwdA k0_pay18 1#32 A))) (broadcastTo S8x512 h broadcasts_S1x512_S8x512))

theorem scan_apply (A U : Rows) (h : One) (p : Fin 8) (j : Fin 512) (hA : ∀ q, Good (A (ix2 q j))) :
    scanV A U h (ix2 p j) = after (fun q => A (ix2 q j)) (fun q => U (ix2 q j)) (h (ix2 0 j)) (p.val + 1) := by
  rw [← scan _ _ hA]
  pointwise [scanV]
  simp only [fwdU4, fwdA4, fwdU2, fwdA2, fwdU1, fwdA1]

theorem two : Ideal.ofBits FTy.f32 1073741824#32 = 2 := by
  have h : Ideal.ofBits FTy.f32 1073741824#32 = ((2 : ℝ) : EReal) := by
    simp [Ideal.ofBits, Ideal.ieee, -EReal.coe_mul]; norm_num
  exact h
theorem neg2 : Ideal.ofBits FTy.f32 3221225472#32 = -2 := by
  have h : Ideal.ofBits FTy.f32 3221225472#32 = ((-2 : ℝ) : EReal) := by
    simp [Ideal.ofBits, Ideal.ieee, -EReal.coe_mul]; norm_num
  exact h
theorem neg8 : Ideal.ofBits FTy.f32 3238002688#32 = -8 := by
  have h : Ideal.ofBits FTy.f32 3238002688#32 = ((-8 : ℝ) : EReal) := by
    simp [Ideal.ofBits, Ideal.ieee, -EReal.coe_mul]; norm_num
  exact h

/-- The exponents of the factors. -/
def rateV (pre : Rows) (lam : Vec Ideal S1x512 .f32) : Rows :=
  k0_pay16 (mulf (broadcast S8x512 (Scalar.ofBits .f32 0xC1000000#32)) (logistic pre)) (k0_pay13 lam) (Scalar.ofBits .f32 0x00000000#32) (k0_pay14 lam) (k0_pay15 lam)

theorem rate_apply (pre : Rows) (lam : Vec Ideal S1x512 .f32) (p : Fin 8) (j : Fin 512) :
    rateV pre lam (ix2 p j) = rate (pre (ix2 p j)) (-(lam (ix2 0 j))) := by
  pointwise [rateV, k0_pay16, k0_pay13, k0_pay14, k0_pay15]
  rw [neg8]
  simp only [ne_eq, not_true_eq_false, if_false, sub_zero, zero_sub]
  rfl

/-- A gate's sum. -/
def preV (mx : Rows) (w : Vec Ideal S512x512 .f32) (b : Vec Ideal S1x512 .f32) : Rows :=
  addf (matmul (φ₁ := .f32) (φ₂ := .f32) dot_S8x512_S512x512_S8x512_1_0_0_1_n_n (some .fp32) mx (shapeCast S512x512 w shapeCasts_S512x512_S512x512) (constant S8x512 .f32 0x00000000#32))
    (broadcastTo S8x512 (shapeCast S1x512 b shapeCasts_S1x512_S1x512) broadcasts_S1x512_S8x512)

theorem pre_apply (mx : Rows) (w : Vec Ideal S512x512 .f32) (b : Vec Ideal S1x512 .f32) (p : Fin 8) (j : Fin 512) :
    preV mx w b (ix2 p j) = (∑ x, mx (ix2 p x) * w (ix2 x j)) + b (ix2 0 j) := by
  pointwise [preV]

/-- The inputs of the steps. -/
def feedV (xc gi rt : Rows) : Rows := mulf (sqrt (divf (mulf (broadcast S8x512 (Scalar.ofBits .f32 0xC0000000#32)) (tanh rt)) (subf (broadcast S8x512 (Scalar.ofBits .f32 0x3F800000#32)) (tanh rt)))) (mulf (logistic gi) xc)

theorem feed_apply (xc gi pre : Rows) (lam : Vec Ideal S1x512 .f32) (p : Fin 8) (j : Fin 512) :
    feedV xc gi (rateV pre lam) (ix2 p j) = feed (pre (ix2 p j)) (-(lam (ix2 0 j))) (gi (ix2 p j)) (xc (ix2 p j)) := by
  pointwise [feedV]
  rw [neg2, rate_apply, by_tanh _ (rate_nonpos _ _)]
  rfl

/-- The states of the steps. -/
def stateV (mx : Rows) (wa : Vec Ideal S512x512 .f32) (ba : Vec Ideal S1x512 .f32) (wx : Vec Ideal S512x512 .f32) (bx lam : Vec Ideal S1x512 .f32) (h : One) : Rows :=
  scanV (exp (rateV (preV mx wa ba) lam)) (feedV mx (preV mx wx bx) (rateV (preV mx wa ba) lam)) h

theorem state_apply (mx : Rows) (wa : Vec Ideal S512x512 .f32) (ba : Vec Ideal S1x512 .f32) (wx : Vec Ideal S512x512 .f32) (bx lam : Vec Ideal S1x512 .f32) (h : One)
    (p : Fin 8) (j : Fin 512) :
    stateV mx wa ba wx bx lam h (ix2 p j)
      = after (fun q => factor ((∑ x, mx (ix2 q x) * wa (ix2 x j)) + ba (ix2 0 j)) (-(lam (ix2 0 j))))
          (fun q => feed ((∑ x, mx (ix2 q x) * wa (ix2 x j)) + ba (ix2 0 j)) (-(lam (ix2 0 j))) ((∑ x, mx (ix2 q x) * wx (ix2 x j)) + bx (ix2 0 j)) (mx (ix2 q j)))
          (h (ix2 0 j)) (p.val + 1) := by
  have e : ∀ q, (exp (rateV (preV mx wa ba) lam) : Rows) (ix2 q j) = factor ((∑ x, mx (ix2 q x) * wa (ix2 x j)) + ba (ix2 0 j)) (-(lam (ix2 0 j))) := fun q =>
    congrArg Ideal.exp ((rate_apply _ _ q j).trans (congrArg (fun z => rate z _) (pre_apply mx wa ba q j)))
  unfold stateV
  rw [scan_apply _ _ _ _ _ fun q => by rw [e]; exact factor_good _ _]
  simp only [e, feed_apply, pre_apply]

theorem body_state (x prev : Rows) (w0 w1 w2 w3 cb : One) (wa : Vec Ideal S512x512 .f32) (ba : Vec Ideal S1x512 .f32) (wx : Vec Ideal S512x512 .f32) (bx lam : Vec Ideal S1x512 .f32) (h : One) :
    k0_pay1
      (k0_pay21 (k0_pay12 prev (k0_pay7 x prev w3 cb w2 w1) (k0_pay8 x) w0 wa ba) (k0_pay13 lam) (FloatOps.ofBits FTy.f32 0#32) (k0_pay14 lam) (k0_pay15 lam))
      k0_pay22
      (k0_pay23 (k0_pay9 prev (k0_pay7 x prev w3 cb w2 w1) (k0_pay8 x) w0) (k0_pay11 prev (k0_pay7 x prev w3 cb w2 w1) (k0_pay8 x) w0 wx bx)
        (k0_pay12 prev (k0_pay7 x prev w3 cb w2 w1) (k0_pay8 x) w0 wa ba) (k0_pay13 lam) (FloatOps.ofBits FTy.f32 0#32) (k0_pay14 lam) (k0_pay15 lam))
      (k0_pay24 (k0_pay12 prev (k0_pay7 x prev w3 cb w2 w1) (k0_pay8 x) w0 wa ba) (k0_pay13 lam) (FloatOps.ofBits FTy.f32 0#32) (k0_pay14 lam) (k0_pay15 lam)) h
      = stateV (mixV x prev w0 w1 w2 w3 cb) wa ba wx bx lam h := rfl

/-- The gate branch's factor. -/
def gelu (g : EReal) : EReal := g * (Ideal.ofBits FTy.f32 1056964608#32 * (1 + Ideal.tanh (Ideal.ofBits FTy.f32 1061962282#32 *
  (g + Ideal.ofBits FTy.f32 1027024659#32 * (g * (g * g))))))

theorem out_apply (v4 v112 v118 v119 : Rows) (v114 : IVec S8x512 1) (v122 : One) (p : Fin 8) (j : Fin 512) :
    k0_pay3 v4 v112 v114 v118 v119 v122 (ix2 p j) = k0_pay1 v112 v114 v118 v119 v122 (ix2 p j) * gelu (v4 (ix2 p j)) := by
  pointwise [k0_pay3]
  rfl

theorem last_apply (v112 v118 v119 : Rows) (v114 : IVec S8x512 1) (v122 : One) (p : Fin 8) (j : Fin 512) :
    k0_pay2 v112 v114 v118 v119 v122 (ix2 p j) = k0_pay1 v112 v114 v118 v119 v122 (ix2 7 j) := by
  pointwise [k0_pay2]

end Cert.Kernel9Ideal.Hand

end
-- ==== Proof.LruHost.lean ====
module

public import proofs.«01_k».proof.Proof.Gen.Kernel9Ideal
public import proofs.«01_k».proof.Proof.Gen.Kernel9Ideal.Frame
public import proofs.«01_k».proof.Proof.Gen.Kernel9Ideal.Value
public import Idealize.ShloMosaic.Lib.Pipeline.ValueKit
public import Idealize.ShloMosaic.Lib.Pipeline.ReadBack
public import Idealize.ShloMosaic.Lib.Pointwise
public import proofs.«01_k».proof.Proof.LruBody

@[expose] public section

set_option maxRecDepth 16384

noncomputable section

/-! What the call's blocks hold of the arguments, and its two results. -/

namespace Cert.Kernel9Ideal.Hand

open Idealize.ShloMosaic Idealize.ShloMosaic.TcCoe Idealize.SL.Sem
open Cert.Kernel9Ideal Cert.Kernel9Ideal.Gen Cert.Kernel9Ideal.Value Cert.Lru

variable (m : (ℓ : Loc nD τ sig) → Buf (Elt Ideal) ℓ) (c : Dev nD)

/-- A sum over the columns that only one group of 64 enters. -/
theorem collapse (F : Fin 512 → EReal) (g : Fin 8) (h0 : ∀ x : Fin 512, x.val / 64 ≠ g.val → F x = 0) :
    ∑ x, F x = ∑ y : Fin 64, F ⟨64 * g.val + y.val, by omega⟩ := by
  refine ((finProdFinEquiv (m := 8) (n := 64)).sum_comp (fun x : Fin (8 * 64) => F x)).symm.trans ?_
  rw [Fintype.sum_prod_type, Finset.sum_eq_single g]
  · exact Finset.sum_congr rfl fun y _ => congrArg F (Fin.ext (by simp [finProdFinEquiv]; omega))
  · intro b _ hb
    refine Finset.sum_eq_zero fun y _ => h0 _ ?_
    have := Fin.val_ne_of_ne hb
    simp [finProdFinEquiv]; omega
  · simp

/-- A diagonal of blocks. -/
def spread (w : Vec Ideal S8x64x64 .f32) : FVec Ideal S512x512 .f32 :=
  shapeCast S512x512 (mulf (F := Ideal)
    (broadcastInDim S8x64x8x64 ![0, 1, 2, 3] bcast_S8x1x8x1_S8x64x8x64_0_1_2_3 (broadcastInDim S8x1x8x1 ![0, 2] bcast_S8x8_S8x1x8x1_0_2
      (uitofp .f32 (cmpi .eq (addi (iotaInDim S8x8 32 0) (broadcastInDim S8x8 ![] bcast_S_S8x8 (constantI S_ 32 0#32))) (iotaInDim S8x8 32 1)))))
    (broadcastInDim S8x64x8x64 ![0, 1, 2, 3] bcast_S8x64x1x64_S8x64x8x64_0_1_2_3 (broadcastInDim S8x64x1x64 ![0, 1, 3] bcast_S8x64x64_S8x64x1x64_0_1_3 w))) shapeCasts_S8x64x8x64_S512x512

theorem eye : ∀ a b : Fin 8, IntOp.cmpi CmpIPredicate.eq (IntOp.addi (BitVec.ofNat 32 a.val) 0#32) (BitVec.ofNat 32 b.val) = BitVec.ofBool (decide (a.val = b.val)) := by decide +kernel

theorem spread_apply (w : Vec Ideal S8x64x64 .f32) (x j : Fin 512) :
    spread w (ix2 x j) = (if x.val / 64 = j.val / 64 then 1 else 0) * w (ix3 ⟨x.val / 64, by omega⟩ ⟨x.val % 64, by omega⟩ ⟨j.val % 64, by omega⟩) := by
  pointwise [spread]
  refine congrArg (· * _) ((congrArg (FloatOps.uitofp FTy.f32) (eye ⟨x.val / 64, by omega⟩ ⟨j.val / 64, by omega⟩)).trans ?_)
  show ((((BitVec.ofBool (decide (x.val / 64 = j.val / 64))).toNat : ℝ)) : EReal) = _
  by_cases h : x.val / 64 = j.val / 64 <;> simp [h]

theorem V_wa : (V m c main_v15 : Vec Ideal S512x512 .f32) = spread (m ((c.tc : Thread nD τ).loc main_arg3)) := by
  show StableHlo.after ((hostOps0 ++ hostOps0_1) ++ hostOps0_2) _ _ = _
  entry_read
  rfl
theorem V_wx : (V m c main_v28 : Vec Ideal S512x512 .f32) = spread (m ((c.tc : Thread nD τ).loc main_arg5)) := by
  show StableHlo.after ((hostOps0 ++ hostOps0_1) ++ hostOps0_2) _ _ = _
  entry_read
  rfl
theorem V_conv : (V m c main_v0 : Vec Ideal S32x8x512 .f32)
    = pad S32x8x512 ![0, 5, 0] ![0, 0, 0] ![0, 0, 0] (m ((c.tc : Thread nD τ).loc main_arg8) : Vec Ideal S32x3x512 .f32) (sitofp (F := Ideal) .f32 (constantI S_ 32 0#32)) pads_S32x3x512_S32x8x512_000_500_000 h_S_ := by
  show StableHlo.after ((hostOps0 ++ hostOps0_1) ++ hostOps0_2) _ _ = _
  entry_read
  rfl
theorem V_h : (V m c main_v2 : Vec Ideal S32x8x512 .f32)
    = broadcastInDim S32x8x512 ![0, 1, 2] bcast_S32x1x512_S32x8x512_0_1_2 (broadcastInDim S32x1x512 ![0, 2] bcast_S32x512_S32x1x512_0_2 (m ((c.tc : Thread nD τ).loc main_arg9) : Vec Ideal S32x512 .f32)) := by
  show StableHlo.after ((hostOps0 ++ hostOps0_1) ++ hostOps0_2) _ _ = _
  entry_read
  rfl
theorem V_cb : (V m c main_v3 : Vec Ideal S1x512 .f32) = shapeCast S1x512 (m ((c.tc : Thread nD τ).loc main_arg2) : Vec Ideal S512 .f32) shapeCasts_S512_S1x512 := by
  show StableHlo.after ((hostOps0 ++ hostOps0_1) ++ hostOps0_2) _ _ = _
  entry_read
  rfl
theorem V_ba : (V m c main_v16 : Vec Ideal S1x512 .f32) = shapeCast S1x512 (m ((c.tc : Thread nD τ).loc main_arg4) : Vec Ideal S512 .f32) shapeCasts_S512_S1x512 := by
  show StableHlo.after ((hostOps0 ++ hostOps0_1) ++ hostOps0_2) _ _ = _
  entry_read
  rfl
theorem V_bx : (V m c main_v29 : Vec Ideal S1x512 .f32) = shapeCast S1x512 (m ((c.tc : Thread nD τ).loc main_arg6) : Vec Ideal S512 .f32) shapeCasts_S512_S1x512 := by
  show StableHlo.after ((hostOps0 ++ hostOps0_1) ++ hostOps0_2) _ _ = _
  entry_read
  rfl
theorem V_lam : (V m c main_v30 : Vec Ideal S1x512 .f32) = shapeCast S1x512 (m ((c.tc : Thread nD τ).loc main_arg7) : Vec Ideal S512 .f32) shapeCasts_S512_S1x512 := by
  show StableHlo.after ((hostOps0 ++ hostOps0_1) ++ hostOps0_2) _ _ = _
  entry_read
  rfl

theorem flat (A : Vec Ideal S512 .f32) (q : Fin 512) : shapeCast S1x512 A shapeCasts_S512_S1x512 (ix2 0 q) = A (ix1 q) := by
  pointwise
theorem along (A : Vec Ideal S32x512 .f32) (b : Fin 32) (s : Fin 8) (q : Fin 512) :
    broadcastInDim S32x8x512 ![0, 1, 2] bcast_S32x1x512_S32x8x512_0_1_2 (broadcastInDim S32x1x512 ![0, 2] bcast_S32x512_S32x1x512_0_2 A) (ix3 b s q) = A (ix2 b q) := by
  pointwise
theorem padded (A : Vec Ideal S32x3x512 .f32) (z : FVec Ideal S_ .f32) (b : Fin 32) (k : Fin 3) (q : Fin 512) :
    pad S32x8x512 ![0, 5, 0] ![0, 0, 0] ![0, 0, 0] A z pads_S32x3x512_S32x8x512_000_500_000 h_S_ (ix3 b ⟨k.val + 5, by omega⟩ q) = A (ix3 b k q) := by
  unfold pad
  rw [dif_pos (by intro a; fin_cases a <;> simp [Shape.size] <;> omega)]
  refine congrArg A (funext fun a => Fin.ext ?_)
  fin_cases a <;> simp

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![0, 0] := by decide +kernel
theorem idx7 : ∀ t : Fin grid0.N, win0_7.index t = ![0, 0] := by decide +kernel
theorem idx8 : ∀ t : Fin grid0.N, win0_8.index t = ![t.val, 0, 0] := by decide +kernel
theorem idx9 : ∀ t : Fin grid0.N, win0_9.index t = ![t.val, 0, 0] := by decide +kernel
theorem idx10 : ∀ t : Fin grid0.N, win0_10.index t = ![t.val, 0] := by decide +kernel
theorem idx11 : ∀ t : Fin grid0.N, win0_11.index t = ![t.val, 0, 0] := by decide +kernel

theorem b0 (t : Fin cfg0.N) (p : Fin 8) (q : Fin 1024) (h : 8 * t.val + p.val < 256) :
    iblk m c 0 t (ix2 p q) = (m ((c.tc : Thread nD τ).loc main_arg0) : Vec Ideal S256x1024 .f32) (ix2 ⟨8 * t.val + p.val, h⟩ q) := by
  blk_ext [iblk, V, idx0 t]
theorem b1 (t : Fin cfg0.N) (k : Fin 4) (j : Fin 512) :
    iblk m c 1 t (ix2 k j) = (m ((c.tc : Thread nD τ).loc main_arg1) : Vec Ideal S4x512 .f32) (ix2 k j) := by
  blk_ext [iblk, V, idx1 t]
theorem b2 (t : Fin cfg0.N) (A : Vec Ideal S1x512 .f32) (q : Fin 512) : ((cfg0.win 2).blk t).view.read (Elt Ideal) A (ix2 0 q) = A (ix2 0 q) := by
  blk_ext [idx2 t]
theorem b3 (t : Fin cfg0.N) (A : Vec Ideal S512x512 .f32) (x q : Fin 512) : ((cfg0.win 3).blk t).view.read (Elt Ideal) A (ix2 x q) = A (ix2 x q) := by
  blk_ext [idx3 t]
theorem b4 (t : Fin cfg0.N) (A : Vec Ideal S1x512 .f32) (q : Fin 512) : ((cfg0.win 4).blk t).view.read (Elt Ideal) A (ix2 0 q) = A (ix2 0 q) := by
  blk_ext [idx4 t]
theorem b5 (t : Fin cfg0.N) (A : Vec Ideal S512x512 .f32) (x q : Fin 512) : ((cfg0.win 5).blk t).view.read (Elt Ideal) A (ix2 x q) = A (ix2 x q) := by
  blk_ext [idx5 t]
theorem b6 (t : Fin cfg0.N) (A : Vec Ideal S1x512 .f32) (q : Fin 512) : ((cfg0.win 6).blk t).view.read (Elt Ideal) A (ix2 0 q) = A (ix2 0 q) := by
  blk_ext [idx6 t]
theorem b7 (t : Fin cfg0.N) (A : Vec Ideal S1x512 .f32) (q : Fin 512) : ((cfg0.win 7).blk t).view.read (Elt Ideal) A (ix2 0 q) = A (ix2 0 q) := by
  blk_ext [idx7 t]
theorem b8 (t : Fin cfg0.N) (A : Vec Ideal S32x8x512 .f32) (s : Fin 8) (q : Fin 512) (h : t.val < 32) : ((cfg0.win 8).blk t).view.read (Elt Ideal) A (ix3 0 s q) = A (ix3 ⟨t.val, h⟩ s q) := by
  blk_ext [idx8 t]
theorem b9 (t : Fin cfg0.N) (A : Vec Ideal S32x8x512 .f32) (s : Fin 8) (q : Fin 512) (h : t.val < 32) : ((cfg0.win 9).blk t).view.read (Elt Ideal) A (ix3 0 s q) = A (ix3 ⟨t.val, h⟩ s q) := by
  blk_ext [idx9 t]

/-- The call's arguments. -/
structure Data where
  c : Vec Ideal S256x1024 .f32
  cw : Vec Ideal S4x512 .f32
  cb : Vec Ideal S512 .f32
  wa : Vec Ideal S8x64x64 .f32
  ba : Vec Ideal S512 .f32
  wx : Vec Ideal S8x64x64 .f32
  bx : Vec Ideal S512 .f32
  lam : Vec Ideal S512 .f32
  cv : Vec Ideal S32x3x512 .f32
  h : Vec Ideal S32x512 .f32

/-- A sequence's column with the three rows before it. -/
def Data.ext (D : Data) (b : Fin 32) (j : Fin 512) (q : Fin 11) : EReal :=
  if h : q.val < 3 then D.cv (ix3 b ⟨q.val, h⟩ j) else D.c (ix2 ⟨8 * b.val + (q.val - 3), by omega⟩ ⟨j.val, by omega⟩)
/-- The mixed rows. -/
def Data.mix (D : Data) (b : Fin 32) (p : Fin 8) (j : Fin 512) : EReal := mixed (fun k => D.cw (ix2 k j)) (D.cb (ix1 j)) (D.ext b j) p
/-- A gate's sum over its own group of columns. -/
def pre (w : Vec Ideal S8x64x64 .f32) (a : Vec Ideal S512 .f32) (X : Fin 512 → EReal) (j : Fin 512) : EReal :=
  (∑ y : Fin 64, X ⟨64 * (j.val / 64) + y.val, by omega⟩ * w (ix3 ⟨j.val / 64, by omega⟩ y ⟨j.val % 64, by omega⟩)) + a (ix1 j)
/-- A step's factor. -/
def Data.fac (D : Data) (b : Fin 32) (j : Fin 512) (q : Fin 8) : EReal := factor (pre D.wa D.ba (D.mix b q) j) (-(D.lam (ix1 j)))
/-- A step's input. -/
def Data.inp (D : Data) (b : Fin 32) (j : Fin 512) (q : Fin 8) : EReal :=
  feed (pre D.wa D.ba (D.mix b q) j) (-(D.lam (ix1 j))) (pre D.wx D.bx (D.mix b q) j) (D.mix b q j)
/-- The state after so many steps. -/
def Data.state (D : Data) (b : Fin 32) (j : Fin 512) (n : ℕ) : EReal := after (D.fac b j) (D.inp b j) (D.h (ix2 b j)) n
/-- The first result. -/
def Data.out (D : Data) : Vec Ideal S256x512 .f32 := fun y =>
  D.state ⟨(y 0).val / 8, by have := (y 0).isLt; simp [Shape.size] at this; omega⟩ (y 1) ((y 0).val % 8 + 1) * gelu (D.c (ix2 (y 0) ⟨512 + (y 1).val, by have := (y 1).isLt; simp [Shape.size] at this; omega⟩))
/-- The second. -/
def Data.last (D : Data) : Vec Ideal S32x8x512 .f32 := fun y => D.state (y 0) (y 2) 8

/-- The call's arguments in memory. -/
def data : Data where
  c := m ((c.tc : Thread nD τ).loc main_arg0)
  cw := m ((c.tc : Thread nD τ).loc main_arg1)
  cb := m ((c.tc : Thread nD τ).loc main_arg2)
  wa := m ((c.tc : Thread nD τ).loc main_arg3)
  ba := m ((c.tc : Thread nD τ).loc main_arg4)
  wx := m ((c.tc : Thread nD τ).loc main_arg5)
  bx := m ((c.tc : Thread nD τ).loc main_arg6)
  lam := m ((c.tc : Thread nD τ).loc main_arg7)
  cv := m ((c.tc : Thread nD τ).loc main_arg8)
  h := m ((c.tc : Thread nD τ).loc main_arg9)

theorem pre_spread (w : Vec Ideal S8x64x64 .f32) (a : Vec Ideal S512 .f32) (X : Fin 512 → EReal) (j : Fin 512) :
    (∑ x, X x * spread w (ix2 x j)) + a (ix1 j) = pre w a X j := by
  unfold pre
  refine congrArg (· + _) ((collapse _ ⟨j.val / 64, by omega⟩ fun x hx => ?_).trans (Finset.sum_congr rfl fun y _ => ?_))
  · rw [spread_apply, if_neg hx, zero_mul, mul_zero]
  · rw [spread_apply, if_pos (by show (64 * (j.val / 64) + y.val) / 64 = j.val / 64; omega), one_mul]
    refine congrArg (_ * w ·) (congrArg₂ (fun a b => ix3 a b _) (Fin.ext ?_) (Fin.ext ?_))
    · show (64 * (j.val / 64) + y.val) / 64 = j.val / 64; omega
    · show (64 * (j.val / 64) + y.val) % 64 = _; omega

/-- The states of a sequence, over what the blocks hold. -/
theorem state_eq (D : Data) (b : Fin 32) (x prev : Rows) (w0 w1 w2 w3 cb : One) (wa : Vec Ideal S512x512 .f32) (ba : Vec Ideal S1x512 .f32) (wx : Vec Ideal S512x512 .f32) (bx lam : Vec Ideal S1x512 .f32) (h : One)
    (hx : ∀ (q : Fin 8) j, x (ix2 q j) = D.c (ix2 ⟨8 * b.val + q.val, by omega⟩ ⟨j.val, by omega⟩)) (hp : ∀ (k : Fin 3) j, prev (ix2 ⟨k.val + 5, by omega⟩ j) = D.cv (ix3 b k j))
    (h0 : ∀ j, w0 (ix2 0 j) = D.cw (ix2 0 j)) (h1 : ∀ j, w1 (ix2 0 j) = D.cw (ix2 1 j)) (h2 : ∀ j, w2 (ix2 0 j) = D.cw (ix2 2 j)) (h3 : ∀ j, w3 (ix2 0 j) = D.cw (ix2 3 j))
    (hcb : ∀ j, cb (ix2 0 j) = D.cb (ix1 j)) (hwa : ∀ x j, wa (ix2 x j) = spread D.wa (ix2 x j)) (hba : ∀ j, ba (ix2 0 j) = D.ba (ix1 j))
    (hwx : ∀ x j, wx (ix2 x j) = spread D.wx (ix2 x j)) (hbx : ∀ j, bx (ix2 0 j) = D.bx (ix1 j)) (hl : ∀ j, lam (ix2 0 j) = D.lam (ix1 j)) (hh : ∀ j, h (ix2 0 j) = D.h (ix2 b j))
    (p : Fin 8) (j : Fin 512) :
    stateV (mixV x prev w0 w1 w2 w3 cb) wa ba wx bx lam h (ix2 p j) = D.state b j (p.val + 1) := by
  have e : ∀ (q : Fin 8) j, mixV x prev w0 w1 w2 w3 cb (ix2 q j) = D.mix b q j := fun q j => by
    rw [mix_apply _ _ _ _ _ _ _ q j (D.ext b j) (fun q => by rw [hx]; simp [Data.ext]) (fun k => by rw [hp]; simp [Data.ext]), h0, h1, h2, h3, hcb]
    rfl
  rw [state_apply]
  unfold Data.state Data.fac Data.inp
  simp only [e, hwa, hba, hwx, hbx, hl, hh, ← pre_spread]

/-- The first row. -/
abbrev first (A : Vec Ideal S8x512 .f32) : One := View.ld A (Rect.unit ![0, 0] ![1, 512] inb_S8x512_S1x512_0_0)

/-- One point's states. -/
def blockState (t : Fin cfg0.N) : Rows :=
  stateV (mixV (View.ld (iblk m c 0 t) (Rect.unit ![0, 0] ![8, 512] inb_S8x1024_S8x512_0_0)) (k0_pay5 (iblk m c 8 t))
      (View.ld (iblk m c 1 t) (Rect.unit ![0, 0] ![1, 512] inb_S4x512_S1x512_0_0)) (View.ld (iblk m c 1 t) (Rect.unit ![1, 0] ![1, 512] inb_S4x512_S1x512_1_0))
      (View.ld (iblk m c 1 t) (Rect.unit ![2, 0] ![1, 512] inb_S4x512_S1x512_2_0)) (View.ld (iblk m c 1 t) (Rect.unit ![3, 0] ![1, 512] inb_S4x512_S1x512_3_0)) (iblk m c 2 t))
    (iblk m c 3 t) (iblk m c 4 t) (iblk m c 5 t) (iblk m c 6 t) (iblk m c 7 t) (first (k0_pay6 (iblk m c 9 t)))

theorem filled (A : Vec Ideal S8x512 .f32) : (View.whole cc0_scratch1).readCov [⟨Rect.unit ![0, 0] ![8, 512] inb_S8x512_S8x512_0_0, A⟩] (Rect.unit ![0, 0] ![1, 512] inb_S8x512_S1x512_0_0).toLoadRect = first A :=
  View.readCov_fill (View.whole cc0_scratch1) inb_S8x512_S8x512_0_0 A [] (Rect.unit ![0, 0] ![1, 512] inb_S8x512_S1x512_0_0) (by decide)

theorem pay5_apply (A : Vec Ideal S1x8x512 .f32) (s : Fin 8) (j : Fin 512) : k0_pay5 A (ix2 s j) = A (ix3 0 s j) := by
  pointwise [k0_pay5]
theorem pay6_apply (A : Vec Ideal S1x8x512 .f32) (s : Fin 8) (j : Fin 512) : k0_pay6 A (ix2 s j) = A (ix3 0 s j) := by
  pointwise [k0_pay6]
theorem ldx (A : Vec Ideal S8x1024 .f32) (p : Fin 8) (j : Fin 512) : View.ld A (Rect.unit ![0, 0] ![8, 512] inb_S8x1024_S8x512_0_0) (ix2 p j) = A (ix2 p ⟨j.val, by omega⟩) := by
  pointwise
theorem ldg (A : Vec Ideal S8x1024 .f32) (p : Fin 8) (j : Fin 512) : View.ld A (Rect.unit ![0, 512] ![8, 512] inb_S8x1024_S8x512_0_512) (ix2 p j) = A (ix2 p ⟨512 + j.val, by omega⟩) := by
  pointwise
theorem ldh (A : Vec Ideal S8x512 .f32) (j : Fin 512) : first A (ix2 0 j) = A (ix2 0 j) := by
  unfold first
  pointwise
theorem ldw0 (A : Vec Ideal S4x512 .f32) (j : Fin 512) : View.ld A (Rect.unit ![0, 0] ![1, 512] inb_S4x512_S1x512_0_0) (ix2 0 j) = A (ix2 0 j) := by
  pointwise
theorem ldw1 (A : Vec Ideal S4x512 .f32) (j : Fin 512) : View.ld A (Rect.unit ![1, 0] ![1, 512] inb_S4x512_S1x512_1_0) (ix2 0 j) = A (ix2 1 j) := by
  pointwise
theorem ldw2 (A : Vec Ideal S4x512 .f32) (j : Fin 512) : View.ld A (Rect.unit ![2, 0] ![1, 512] inb_S4x512_S1x512_2_0) (ix2 0 j) = A (ix2 2 j) := by
  pointwise
theorem ldw3 (A : Vec Ideal S4x512 .f32) (j : Fin 512) : View.ld A (Rect.unit ![3, 0] ![1, 512] inb_S4x512_S1x512_3_0) (ix2 0 j) = A (ix2 3 j) := by
  pointwise

theorem block_state (t : Fin cfg0.N) (h : t.val < 32) (p : Fin 8) (j : Fin 512) : blockState m c t (ix2 p j) = (data m c).state ⟨t.val, h⟩ j (p.val + 1) :=
  state_eq (data m c) ⟨t.val, h⟩ _ _ _ _ _ _ _ _ _ _ _ _ _ (fun q j => (ldx _ q j).trans (b0 m c t q _ _)) (fun k j => (pay5_apply _ _ j).trans ((b8 t _ _ j h).trans ((congrFun (V_conv m c) _).trans (padded _ _ _ k j))))
    (fun j => (ldw0 _ j).trans (b1 m c t 0 j)) (fun j => (ldw1 _ j).trans (b1 m c t 1 j)) (fun j => (ldw2 _ j).trans (b1 m c t 2 j)) (fun j => (ldw3 _ j).trans (b1 m c t 3 j))
    (fun j => (b2 t _ j).trans ((congrFun (V_cb m c) _).trans (flat _ j))) (fun x j => (b3 t _ x j).trans (congrFun (V_wa m c) _)) (fun j => (b4 t _ j).trans ((congrFun (V_ba m c) _).trans (flat _ j)))
    (fun x j => (b5 t _ x j).trans (congrFun (V_wx m c) _)) (fun j => (b6 t _ j).trans ((congrFun (V_bx m c) _).trans (flat _ j))) (fun j => (b7 t _ j).trans ((congrFun (V_lam m c) _).trans (flat _ j)))
    (fun j => (ldh _ j).trans ((pay6_apply _ 0 j).trans ((b9 t _ 0 j h).trans ((congrFun (V_h m c) _).trans (along _ _ 0 j))))) p j

theorem out_0 (t : Fin cfg0.N) (h : t.val < 32) (p : Fin 8) (j : Fin 512) (hg : 8 * t.val + p.val < 256) :
    ((outsAt0 m c t).1 : Vec Ideal S8x512 .f32) (ix2 p j)
      = (data m c).state ⟨t.val, h⟩ j (p.val + 1) * gelu ((data m c).c (ix2 ⟨8 * t.val + p.val, hg⟩ ⟨512 + j.val, by omega⟩)) := by
  unfold outsAt0
  dsimp only
  frame_out
  refine (out_apply _ _ _ _ _ _ p j).trans (congrArg₂ (fun s g => s * gelu g) (Eq.trans ?_ (block_state m c t h p j)) ((ldg _ p j).trans (b0 m c t p _ hg)))
  rw [filled]
  exact congrFun (body_state _ _ _ _ _ _ _ _ _ _ _ _ _) _

theorem pay4_apply (A : FVec Ideal S8x512 .f32) (s : Fin 8) (j : Fin 512) : k0_pay4 A (ix3 0 s j) = A (ix2 s j) := by
  pointwise [k0_pay4]

theorem out_1 (t : Fin cfg0.N) (h : t.val < 32) (s : Fin 8) (j : Fin 512) :
    ((outsAt0 m c t).2 : Vec Ideal S1x8x512 .f32) (ix3 0 s j) = (data m c).state ⟨t.val, h⟩ j 8 := by
  unfold outsAt0
  dsimp only
  frame_out
  refine (pay4_apply _ s j).trans ((last_apply _ _ _ _ _ s j).trans (Eq.trans ?_ (block_state m c t h 7 j)))
  rw [filled]
  exact congrFun (body_state _ _ _ _ _ _ _ _ _ _ _ _ _) _

end Cert.Kernel9Ideal.Hand

end
-- ==== Proof.LruRef.lean ====
module

public import proofs.«01_k».proof.Proof.Gen.Reference9Ideal
public import proofs.«01_k».proof.Proof.Gen.Reference9Ideal.Run
public import proofs.«01_k».proof.Proof.LruHost

@[expose] public section

set_option maxRecDepth 16384

noncomputable section

/-! The reference's recurrence, one step after another. -/

namespace Cert.Reference9Ideal.Hand

open Idealize.ShloMosaic Idealize.ShloMosaic.TcCoe Idealize.SL.Sem
open Cert.Reference9Ideal Cert.Reference9Ideal.Gen Cert.Reference9Ideal.Value Cert.Lru
open Cert.Kernel9Ideal.Hand (Data pre gelu)
open Idealize.ShloMosaic.StableHlo (launchContents)

variable (m : (ℓ : Loc nD τ sig) → Buf (Elt Ideal) ℓ) (c : Dev nD)

/-- The arguments in memory. -/
def data : Data where
  c := m ((c.tc : Thread nD τ).loc main_arg0)
  cw := m ((c.tc : Thread nD τ).loc main_arg1)
  cb := m ((c.tc : Thread nD τ).loc main_arg2)
  wa := m ((c.tc : Thread nD τ).loc main_arg3)
  ba := m ((c.tc : Thread nD τ).loc main_arg4)
  wx := m ((c.tc : Thread nD τ).loc main_arg5)
  bx := m ((c.tc : Thread nD τ).loc main_arg6)
  lam := m ((c.tc : Thread nD τ).loc main_arg7)
  cv := m ((c.tc : Thread nD τ).loc main_arg8)
  h := m ((c.tc : Thread nD τ).loc main_arg9)

/-- The rows behind those before them. -/
def extV (x : FVec Ideal S256x1024 .f32) (cv : FVec Ideal S32x3x512 .f32) : FVec Ideal S32x11x512 .f32 :=
  concatenate S32x11x512 1 [⟨S32x3x512, cv⟩, ⟨S32x8x512, (shapeCast _ (extractStridedSlice S256x512 ![0, 0] x slices_S256x1024_S256x512_0_0) shapeCasts_S256x512_S32x8x512)⟩] concatenates_S32x3x512_S32x8x512_S32x11x512_d1

theorem ext_apply (D : Data) (b : Fin 32) (q : Fin 11) (j : Fin 512) : extV D.c D.cv (ix3 b q j) = D.ext b j q := by
  unfold Data.ext
  pointwise [extV]
  simp only [mul_comm 8 b.val]

theorem mix_apply (b : Fin 32) (p : Fin 8) (j : Fin 512) : (res_main_v34 (launchContents m c) : FVec Ideal S32x8x512 .f32) (ix3 b p j) = (data m c).mix b p j := by
  have e : ∀ q, (res_main_v2 (launchContents m c) : FVec Ideal S32x11x512 .f32) (ix3 b q j) = (data m c).ext b j q := fun q => ext_apply (data m c) b q j
  pointwise [res_main_v34]
  simp only [e, Nat.add_comm 1, Nat.add_comm 2, Nat.add_comm 3]
  rfl

/-- A gate's sum over its own group of columns. -/
def preV (X : FVec Ideal S32x8x512 .f32) (w : FVec Ideal S8x64x64 .f32) (a : FVec Ideal S512 .f32) : FVec Ideal S32x8x512 .f32 :=
  addf (shapeCast _ (transpose S32x8x8x64 [2, 3, 0, 1] (Host.dotGeneral (φ₁ := .f32) (φ₂ := .f32) dot_S8x64x64_S32x8x8x64_S8x64x32x8_1_3_2_01_0_2 none w (shapeCast S32x8x8x64 X shapeCasts_S32x8x512_S32x8x8x64)) transposes_S8x64x32x8_S32x8x8x64_2_3_0_1) shapeCasts_S32x8x8x64_S32x8x512)
    (broadcastInDim S32x8x512 ![0, 1, 2] bcast_S1x1x512_S32x8x512_0_1_2 (broadcastInDim S1x1x512 ![2] bcast_S512_S1x1x512_2 a))

theorem pre_apply (X : FVec Ideal S32x8x512 .f32) (w : FVec Ideal S8x64x64 .f32) (a : FVec Ideal S512 .f32) (b : Fin 32) (p : Fin 8) (j : Fin 512) :
    preV X w a (ix3 b p j) = pre w a (fun k => X (ix3 b p k)) j := by
  unfold pre
  pointwise [preV]
  refine congrArg (· + _) (Finset.sum_congr rfl fun x _ => (mul_comm _ _).trans ?_)
  simp only [Nat.mul_comm (j.val / 64) 64]

/-- The exponents of the factors. -/
def rateV (r : FVec Ideal S32x8x512 .f32) (lam : FVec Ideal S512 .f32) : FVec Ideal S32x8x512 .f32 :=
  mulf (mulf (broadcastInDim S32x8x512 ![] bcast_S_S32x8x512 (constant S_ .f32 0xC1000000#32)) (Host.divf (broadcastInDim S32x8x512 ![] bcast_S_S32x8x512 (constant S_ .f32 0x3F800000#32)) (addf (broadcastInDim S32x8x512 ![] bcast_S_S32x8x512 (constant S_ .f32 0x3F800000#32)) (Host.exp (Host.negf r)))))
    (broadcastInDim S32x8x512 ![0, 1, 2] bcast_S1x1x512_S32x8x512_0_1_2 (broadcastInDim S1x1x512 ![2] bcast_S512_S1x1x512_2
      (select (cmpf .une (subf (Host.negf lam) (broadcastInDim S512 ![] bcast_S_S512 (constant S_ .f32 0x00000000#32))) (subf (Host.negf lam) (broadcastInDim S512 ![] bcast_S_S512 (constant S_ .f32 0x00000000#32))))
        (addf (Host.negf lam) (broadcastInDim S512 ![] bcast_S_S512 (constant S_ .f32 0x00000000#32)))
        (addf (maximumf (Host.negf lam) (broadcastInDim S512 ![] bcast_S_S512 (constant S_ .f32 0x00000000#32))) (Host.log1p (Host.exp (Host.negf (Host.absf (subf (Host.negf lam) (broadcastInDim S512 ![] bcast_S_S512 (constant S_ .f32 0x00000000#32)))))))))))

theorem rate_apply (r : FVec Ideal S32x8x512 .f32) (lam : FVec Ideal S512 .f32) (b : Fin 32) (p : Fin 8) (j : Fin 512) :
    rateV r lam (ix3 b p j) = rate (r (ix3 b p j)) (-(lam (ix1 j))) := by
  pointwise [rateV]
  rw [Cert.Kernel9Ideal.Hand.neg8]
  simp only [ne_eq, not_true_eq_false, if_false]
  rfl

/-- The inputs of the steps. -/
def feedV (rt gi xc : FVec Ideal S32x8x512 .f32) : FVec Ideal S32x8x512 .f32 :=
  mulf (Host.sqrt (Host.negf (Host.expm1 (mulf (broadcastInDim S32x8x512 ![] bcast_S_S32x8x512 (constant S_ .f32 0x40000000#32)) rt))))
    (mulf (Host.divf (broadcastInDim S32x8x512 ![] bcast_S_S32x8x512 (constant S_ .f32 0x3F800000#32)) (addf (broadcastInDim S32x8x512 ![] bcast_S_S32x8x512 (constant S_ .f32 0x3F800000#32)) (Host.exp (Host.negf gi)))) xc)

theorem feed_apply (r gi xc : FVec Ideal S32x8x512 .f32) (lam : FVec Ideal S512 .f32) (b : Fin 32) (p : Fin 8) (j : Fin 512) :
    feedV (rateV r lam) gi xc (ix3 b p j) = feed (r (ix3 b p j)) (-(lam (ix1 j))) (gi (ix3 b p j)) (xc (ix3 b p j)) := by
  pointwise [feedV]
  rw [rate_apply, Cert.Kernel9Ideal.Hand.two]
  rfl

theorem fac_apply (b : Fin 32) (p : Fin 8) (j : Fin 512) : (res_main_v67 (launchContents m c) : FVec Ideal S32x8x512 .f32) (ix3 b p j) = (data m c).fac b j p :=
  congrArg Ideal.exp ((rate_apply (preV (res_main_v34 (launchContents m c)) (data m c).wa (data m c).ba) (data m c).lam b p j).trans
    (congrArg (fun z => rate z _) ((pre_apply _ _ _ b p j).trans (congrArg (fun X => pre _ _ X j) (funext fun k => mix_apply m c b p k)))))

theorem inp_apply (b : Fin 32) (p : Fin 8) (j : Fin 512) : (res_main_v74 (launchContents m c) : FVec Ideal S32x8x512 .f32) (ix3 b p j) = (data m c).inp b j p := by
  refine (feed_apply (preV (res_main_v34 (launchContents m c)) (data m c).wa (data m c).ba) (preV (res_main_v34 (launchContents m c)) (data m c).wx (data m c).bx) (res_main_v34 (launchContents m c)) (data m c).lam b p j).trans ?_
  simp only [pre_apply, mix_apply]
  rfl

/-- One step. -/
theorem step (n : ℕ) (hn : n < 8) (hs : S32x8x512.Slices ![0, n, 0] S32x1x512) (V : FVec Ideal S32x512 .f32) (b : Fin 32) (j : Fin 512) (hV : V (ix2 b j) = (data m c).state b j n) :
    addf (mulf (shapeCast S32x512 (extractStridedSlice S32x1x512 ![0, n, 0] (res_main_v67 (launchContents m c)) hs) shapeCasts_S32x1x512_S32x512) V)
      (shapeCast S32x512 (extractStridedSlice S32x1x512 ![0, n, 0] (res_main_v74 (launchContents m c)) hs) shapeCasts_S32x1x512_S32x512) (ix2 b j) = (data m c).state b j (n + 1) := by
  have e : (Fin.ofNat 8 n) = ⟨n, hn⟩ := Fin.ext (Nat.mod_eq_of_lt hn)
  unfold Data.state after
  rw [e, ← fac_apply m c b ⟨n, hn⟩ j, ← inp_apply m c b ⟨n, hn⟩ j]
  change _ = _ * (data m c).state b j n + _
  rw [← hV]
  pointwise

theorem s1 (b : Fin 32) (j : Fin 512) : (res_main_v80 (launchContents m c) : FVec Ideal S32x512 .f32) (ix2 b j) = (data m c).state b j 1 := step m c 0 (by decide) _ _ b j rfl
theorem s2 (b : Fin 32) (j : Fin 512) : (res_main_v86 (launchContents m c) : FVec Ideal S32x512 .f32) (ix2 b j) = (data m c).state b j 2 := step m c 1 (by decide) _ _ b j (s1 m c b j)
theorem s3 (b : Fin 32) (j : Fin 512) : (res_main_v92 (launchContents m c) : FVec Ideal S32x512 .f32) (ix2 b j) = (data m c).state b j 3 := step m c 2 (by decide) _ _ b j (s2 m c b j)
theorem s4 (b : Fin 32) (j : Fin 512) : (res_main_v98 (launchContents m c) : FVec Ideal S32x512 .f32) (ix2 b j) = (data m c).state b j 4 := step m c 3 (by decide) _ _ b j (s3 m c b j)
theorem s5 (b : Fin 32) (j : Fin 512) : (res_main_v104 (launchContents m c) : FVec Ideal S32x512 .f32) (ix2 b j) = (data m c).state b j 5 := step m c 4 (by decide) _ _ b j (s4 m c b j)
theorem s6 (b : Fin 32) (j : Fin 512) : (res_main_v110 (launchContents m c) : FVec Ideal S32x512 .f32) (ix2 b j) = (data m c).state b j 6 := step m c 5 (by decide) _ _ b j (s5 m c b j)
theorem s7 (b : Fin 32) (j : Fin 512) : (res_main_v116 (launchContents m c) : FVec Ideal S32x512 .f32) (ix2 b j) = (data m c).state b j 7 := step m c 6 (by decide) _ _ b j (s6 m c b j)
theorem s8 (b : Fin 32) (j : Fin 512) : (res_main_v122 (launchContents m c) : FVec Ideal S32x512 .f32) (ix2 b j) = (data m c).state b j 8 := step m c 7 (by decide) _ _ b j (s7 m c b j)

/-- A state as a row of its own. -/
abbrev row (V : FVec Ideal S32x512 .f32) : FVec Ideal S32x1x512 .f32 := broadcastInDim S32x1x512 ![0, 2] bcast_S32x512_S32x1x512_0_2 V
/-- Eight states one behind another. -/
def stack (V1 V2 V3 V4 V5 V6 V7 V8 : FVec Ideal S32x512 .f32) : FVec Ideal S32x8x512 .f32 :=
  concatenate S32x8x512 1 [⟨S32x1x512, row V1⟩, ⟨S32x1x512, row V2⟩, ⟨S32x1x512, row V3⟩, ⟨S32x1x512, row V4⟩, ⟨S32x1x512, row V5⟩, ⟨S32x1x512, row V6⟩, ⟨S32x1x512, row V7⟩, ⟨S32x1x512, row V8⟩]
    concatenates_S32x1x512_S32x1x512_S32x1x512_S32x1x512_S32x1x512_S32x1x512_S32x1x512_S32x1x512_S32x8x512_d1

theorem stack_apply (V1 V2 V3 V4 V5 V6 V7 V8 : FVec Ideal S32x512 .f32) (b : Fin 32) (p : Fin 8) (j : Fin 512) :
    stack V1 V2 V3 V4 V5 V6 V7 V8 (ix3 b p j) = (![V1, V2, V3, V4, V5, V6, V7, V8] p) (ix2 b j) := by
  fin_cases p <;> pointwise [stack, row] <;> rfl

/-- The stacked states times the gate branch. -/
def outV (x : FVec Ideal S32x8x512 .f32) (g : FVec Ideal S256x512 .f32) : FVec Ideal S256x512 .f32 :=
  mulf (shapeCast _ x shapeCasts_S32x8x512_S256x512) (mulf g (mulf (broadcastInDim S256x512 ![] bcast_S_S256x512 (constant S_ .f32 0x3F000000#32)) (addf (broadcastInDim S256x512 ![] bcast_S_S256x512 (constant S_ .f32 0x3F800000#32))
    (Host.tanh (mulf (broadcastInDim S256x512 ![] bcast_S_S256x512 (constant S_ .f32 0x3F4C422A#32)) (addf g (mulf (broadcastInDim S256x512 ![] bcast_S_S256x512 (constant S_ .f32 0x3D372713#32)) (mulf (mulf g g) g))))))))

theorem out_apply (x : FVec Ideal S32x8x512 .f32) (g : FVec Ideal S256x512 .f32) (n : Fin 256) (j : Fin 512) :
    outV x g (ix2 n j) = x (ix3 ⟨n.val / 8, by omega⟩ ⟨n.val % 8, by omega⟩ j) * gelu (g (ix2 n j)) := by
  unfold gelu
  pointwise [outV]
  simp only [mul_assoc]

theorem gate_apply (n : Fin 256) (j : Fin 512) : (res_main_v133 (launchContents m c) : FVec Ideal S256x512 .f32) (ix2 n j) = (data m c).c (ix2 n ⟨512 + j.val, by omega⟩) := by
  pointwise [res_main_v133]
  rfl

theorem res_0 : outV (stack (res_main_v80 (launchContents m c)) (res_main_v86 (launchContents m c)) (res_main_v92 (launchContents m c)) (res_main_v98 (launchContents m c)) (res_main_v104 (launchContents m c))
    (res_main_v110 (launchContents m c)) (res_main_v116 (launchContents m c)) (res_main_v122 (launchContents m c))) (res_main_v133 (launchContents m c)) = (data m c).out := by
  funext y
  refine (congrArg _ (eq_ix2 (n0 := 256) (n1 := 512) y)).trans ((out_apply _ _ (y 0) (y 1)).trans ?_)
  refine congrArg₂ (· * ·) ((stack_apply _ _ _ _ _ _ _ _ _ _ _).trans ?_) (congrArg gelu (gate_apply m c (y 0) (y 1)))
  have hb : (y 0).val / 8 < 32 := by have : (y 0).val < 256 := (y 0).isLt; omega
  change _ = (data m c).state ⟨(y 0).val / 8, hb⟩ (y 1) ((y 0).val % 8 + 1)
  have all : ∀ (p : Fin 8) b j, (![res_main_v80 (launchContents m c), res_main_v86 (launchContents m c), res_main_v92 (launchContents m c), res_main_v98 (launchContents m c), res_main_v104 (launchContents m c),
      res_main_v110 (launchContents m c), res_main_v116 (launchContents m c), res_main_v122 (launchContents m c)] p : FVec Ideal S32x512 .f32) (ix2 b j) = (data m c).state b j (p.val + 1) := by
    intro p b j
    fin_cases p
    · exact s1 m c b j
    · exact s2 m c b j
    · exact s3 m c b j
    · exact s4 m c b j
    · exact s5 m c b j
    · exact s6 m c b j
    · exact s7 m c b j
    · exact s8 m c b j
  exact all _ _ _

theorem last_apply (V : FVec Ideal S32x512 .f32) (b : Fin 32) (s : Fin 8) (j : Fin 512) :
    broadcastInDim S32x8x512 ![0, 1, 2] bcast_S32x1x512_S32x8x512_0_1_2 (row V) (ix3 b s j) = V (ix2 b j) := by
  pointwise [row]

theorem res_1 : broadcastInDim S32x8x512 ![0, 1, 2] bcast_S32x1x512_S32x8x512_0_1_2 (row (res_main_v122 (launchContents m c))) = (data m c).last := by
  funext y
  exact (congrArg _ (eq_ix3 (n0 := 32) (n1 := 8) (n2 := 512) y)).trans ((last_apply _ (y 0) (y 1) (y 2)).trans (s8 m c (y 0) (y 2)))

end Cert.Reference9Ideal.Hand

end
-- ==== Proof.LruSample.lean ====
module

public import proofs.«01_k».proof.Defs
public import proofs.«01_k».proof.Proof.Gen.Kernel9
public import proofs.«01_k».proof.Proof.Gen.Kernel9.Frame
public import proofs.«01_k».proof.Proof.LruRef
public import Idealize.ShloMosaic.Lib.Claim
public import Idealize.ShloMosaic.Lib.Quiescent

@[expose] public section

set_option maxRecDepth 16384

noncomputable section

/-! The gated linear recurrence of the sample: the call's two results, and the claims. -/

namespace Cert.Kernel9Ideal.Hand

open Idealize.ShloMosaic Idealize.ShloMosaic.TcCoe Idealize.SL.Sem
open Cert.Kernel9Ideal Cert.Kernel9Ideal.Gen Cert.Kernel9Ideal.Value Cert.Lru

variable (m : (ℓ : Loc nD τ sig) → Buf (Elt Ideal) ℓ) (c : Dev nD)

theorem Data.out_apply (D : Data) (t : Fin 32) (p : Fin 8) (n : Fin 256) (j : Fin 512) (h : 8 * t.val + p.val < 256) (e : n.val = 8 * t.val + p.val) :
    D.out (ix2 n j) = D.state t j (p.val + 1) * gelu (D.c (ix2 ⟨8 * t.val + p.val, h⟩ ⟨512 + j.val, by omega⟩)) := by
  obtain rfl : n = ⟨8 * t.val + p.val, h⟩ := Fin.ext e
  have a : (8 * t.val + p.val) / 8 = t.val := by omega
  have b : (8 * t.val + p.val) % 8 = p.val := by omega
  exact congrArg₂ (fun (x : Fin 32) y => D.state x j (y + 1) * _) (Fin.ext a) b

theorem array_0 : (dats m 0 c).arrAt 10 cfg0.N = (data m c).out := by
  refine (dats m 0 c).arrAt_eq_of_covers 10 _ (by decide +kernel) fun t hf y => ?_
  have ht : t.val < 32 := t.isLt
  have hp : (y 0).val < 8 := (y 0).isLt
  blk_simp
  rw [after0_10]
  have e : y = ix2 (n0 := 8) (n1 := 512) (y 0) (y 1) := eq_ix2 y
  refine (congrArg (outsAt0 m c t).1 e).trans ((out_0 m c t ht (y 0) (y 1) (by omega)).trans ?_)
  refine (Data.out_apply (data m c) ⟨t.val, ht⟩ (y 0) ⟨8 * t.val + (y 0).val, by omega⟩ (y 1) (by show 8 * t.val + _ < 256; omega) rfl).symm.trans ?_
  refine congrArg (data m c).out (funext fun a => Fin.ext ?_)
  fin_cases a <;> blk_simp [idx10 t]
  · show 8 * t.val + (y 0).val = t.val * 8 + (y 0).val
    omega
  · rfl

theorem array_1 : (dats m 0 c).arrAt 11 cfg0.N = (data m c).last := by
  refine (dats m 0 c).arrAt_eq_of_covers 11 _ (by decide +kernel) fun t hf y => ?_
  have ht : t.val < 32 := t.isLt
  blk_simp
  rw [after0_11]
  have h0 : y 0 = (0 : Fin 1) := Subsingleton.elim (α := Fin 1) _ _
  have e : y = ix3 (n0 := 1) (n1 := 8) (n2 := 512) (y 0) (y 1) (y 2) := eq_ix3 y
  rw [h0] at e
  refine (congrArg (outsAt0 m c t).2 e).trans ((out_1 m c t ht (y 1) (y 2)).trans ?_)
  refine congrArg₂ (fun a b => (data m c).state a b 8) (Fin.ext ?_) (Fin.ext ?_)
  · blk_simp [idx11 t]
  · blk_simp [idx11 t]

end Cert.Kernel9Ideal.Hand

namespace Cert.Proof.LruSample

open Idealize.ShloMosaic Idealize.ShloMosaic.TcCoe Idealize.SL.Sem

/-- The printed kernel runs, keeps its arguments and leaves every counter at zero. -/
theorem frame_kernel : Cert.quiescent_Kernel9 := fun m g _ => Cert.Kernel9.Gen.frame m g
/-- So does the kernel read at the ideal instance. -/
theorem frame_kernel_ideal : Cert.quiescent_Kernel9Ideal := fun m g _ => Cert.Kernel9Ideal.Gen.frame m g
/-- So does the reference, which has no counters. -/
theorem frame_reference : Cert.quiescent_Reference9Ideal := fun m g _ =>
  (θ_run Cert.Reference9Ideal.defs _ _).mono (fun r h => ⟨fun c => (h c).2.2, sem_eq_zero_of_no_sems rfl r.2⟩) (Cert.Reference9Ideal.Value.run m g)

/-- The kernel and the reference, read at the ideal instance, end with equal results. -/
theorem algebraic : Cert.algebraic_Kernel9Ideal_Reference9Ideal := fun m g m' g' _ ha =>
  ⟨fun c => (Cert.Kernel9Ideal.Hand.data m c).out, fun c => (Cert.Kernel9Ideal.Hand.data m c).last,
    (θ_run Cert.Kernel9Ideal.defs _ _).mono (fun r h c => ⟨(h c).1.trans (Cert.Kernel9Ideal.Hand.array_0 m c), (h c).2.1.trans (Cert.Kernel9Ideal.Hand.array_1 m c), (h c).2.2⟩)
      (Cert.Kernel9Ideal.Value.run_blocks m g),
    (θ_run Cert.Reference9Ideal.defs _ _).mono (fun r h c => by
        have e : Cert.Reference9Ideal.Hand.data m' c = Cert.Kernel9Ideal.Hand.data m c := by
          obtain ⟨h0, h1, h2, h3, h4, h5, h6, h7, h8, h9⟩ := ha c
          unfold Cert.Reference9Ideal.Hand.data Cert.Kernel9Ideal.Hand.data
          rw [h0, h1, h2, h3, h4, h5, h6, h7, h8, h9]
        refine ⟨(h c).1.trans ((Cert.Reference9Ideal.Hand.res_0 m' c).trans (congrArg _ e)), (h c).2.1.trans ((Cert.Reference9Ideal.Hand.res_1 m' c).trans (congrArg _ e)), (h c).2.2⟩)
      (Cert.Reference9Ideal.Value.run m' g')⟩

end Cert.Proof.LruSample

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.FrameKernel
public import proofs.«01_k».proof.Proof.FrameKernelIdeal
public import proofs.«01_k».proof.Proof.Layer
public import proofs.«01_k».proof.Proof.RefRead
public import proofs.«01_k».proof.Proof.InEven
public import proofs.«01_k».proof.Proof.InOdd
public import proofs.«01_k».proof.Proof.InOddSample
public import proofs.«01_k».proof.Proof.InEvenSample
public import proofs.«01_k».proof.Proof.OutProj
public import proofs.«01_k».proof.Proof.SampleLayer
public import proofs.«01_k».proof.Proof.OutSample
public import proofs.«01_k».proof.Proof.LruSample
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The printed kernel runs, keeps its arguments and leaves every counter at zero. -/
theorem frame_kernel : Cert.quiescent_Kernel := fun m g _ => Cert.Kernel.Hand.frame m g

/-- So does the kernel read at the ideal instance. -/
theorem frame_kernel_ideal : Cert.quiescent_KernelIdeal := fun m g _ => Cert.KernelIdeal.Hand.frame m g

/-- So does the reference, which has no counters. -/
theorem frame_reference_ideal : Cert.quiescent_ReferenceIdeal := fun m g _ =>
  (θ_run Cert.ReferenceIdeal.defs _ _).mono (fun r h => ⟨fun c => (h c).2, sem_eq_zero_of_no_sems rfl r.2⟩) (Cert.ReferenceIdeal.Value.run m g)

/-- The reference's result, from arguments that agree with the kernel's, is the array the kernel leaves. -/
theorem results_agree (m : (ℓ : Loc Cert.KernelIdeal.nD Cert.KernelIdeal.τ Cert.KernelIdeal.sig) → Buf (Elt Ideal) ℓ) (c : Dev Cert.KernelIdeal.nD) :
    Cert.ReferenceIdeal.Hand.result (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      = Cert.KernelIdeal.Hand.outAll m c := by
  funext y
  have e : y = ix2 (n0 := 32768) (n1 := 1024) (y 0) (y 1) := eq_ix2 y
  rw [e]
  exact Cert.ReferenceIdeal.Hand.result_apply _ _ _ _ _ _ _ _ (y 0) (y 1)

/-- The kernel and the reference, read at the ideal instance, end with equal results. -/
theorem algebraic : Cert.algebraic_KernelIdeal_ReferenceIdeal := fun m g m' g' _ ha =>
  ⟨fun c => Cert.KernelIdeal.Hand.outAll m c,
    (θ_run Cert.KernelIdeal.defs _ _).mono (fun r h c => ⟨((h.1 c).1 9).trans (Cert.KernelIdeal.Hand.array_eq m c), h.2.1 c⟩)
      (θ_run_and (Cert.KernelIdeal.Hand.run_arrays m g) (Cert.KernelIdeal.Hand.frame m g)),
    (θ_run Cert.ReferenceIdeal.defs _ _).mono (fun r h c => ⟨(h c).1.trans (by
        obtain ⟨h0, h1, h2, h3, h4, h5, h6, h7⟩ := ha c
        refine (Cert.ReferenceIdeal.Hand.res_eq m' c).trans ?_
        rw [h0, h1, h2, h3, h4, h5, h6, h7]
        exact results_agree m c), (h c).2⟩) (Cert.ReferenceIdeal.Value.run m' g')⟩

/-- All the claims, call by call. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts,
  Cert.Kernel8.Gen.facts, Cert.Kernel8Ideal.Gen.facts, Cert.Reference8Ideal.Gen.facts, Cert.Kernel9.Gen.facts, Cert.Kernel9Ideal.Gen.facts, Cert.Reference9Ideal.Gen.facts,
  frame_kernel, frame_kernel_ideal, frame_reference_ideal, InEven.frame_kernel, InEven.frame_kernel_ideal, InEven.frame_reference,
  InOdd.frame_kernel, InOdd.frame_kernel_ideal, InOdd.frame_reference, OutProj.frame_kernel, OutProj.frame_kernel_ideal, OutProj.frame_reference,
  InEvenSample.frame_kernel, InEvenSample.frame_kernel_ideal, InEvenSample.frame_reference, InOddSample.frame_kernel, InOddSample.frame_kernel_ideal, InOddSample.frame_reference,
  MixSample.frame_kernel, MixSample.frame_kernel_ideal, MixSample.frame_reference, OutSample.frame_kernel, OutSample.frame_kernel_ideal, OutSample.frame_reference,
  LruSample.frame_kernel, LruSample.frame_kernel_ideal, LruSample.frame_reference,
  trivial, algebraic, trivial, InEven.algebraic, trivial, InOdd.algebraic, trivial, OutProj.algebraic, trivial, InEvenSample.algebraic, trivial, InOddSample.algebraic, MixSample.preserves, MixSample.algebraic, trivial, OutSample.algebraic, trivial, LruSample.algebraic⟩

end Cert.Proof

end
